-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v208)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v208) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v9)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v9) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v50) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v56) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeReferenceIdeal : Cert.MergeReferenceIdeal.Facts) (hFfn : Cert.Ffn.Facts) (hFfnIdeal : Cert.FfnIdeal.Facts) (hFfnReferenceIdeal : Cert.FfnReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ quiescent_Merge (hMerge := hMerge)
    ∧ quiescent_MergeIdeal (hMergeIdeal := hMergeIdeal)
    ∧ quiescent_MergeReferenceIdeal (hMergeReferenceIdeal := hMergeReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ preserves_Kernel_KernelIdeal
    ∧ algebraic_KernelIdeal_ReferenceIdeal_pre_tame (hKernelIdeal := hKernelIdeal) (hReferenceIdeal := hReferenceIdeal) (hPre_tame := hPre_tame)
    ∧ preserves_Merge_MergeIdeal
    ∧ algebraic_MergeIdeal_MergeReferenceIdeal (hMergeIdeal := hMergeIdeal) (hMergeReferenceIdeal := hMergeReferenceIdeal)
    ∧ preserves_Ffn_FfnIdeal
    ∧ algebraic_FfnIdeal_FfnReferenceIdeal (hFfnIdeal := hFfnIdeal) (hFfnReferenceIdeal := hFfnReferenceIdeal)
-- ==== Pre_tame.lean ====
abbrev S2x2x4x8192x64 : Shape := ⟨5, ![2, 2, 4, 8192, 64]⟩
abbrev S2x2x511x64 : Shape := ⟨4, ![2, 2, 511, 64]⟩
abbrev S2x2x8192x64 : Shape := ⟨4, ![2, 2, 8192, 64]⟩
abbrev S2x2x4x8192x3 : Shape := ⟨5, ![2, 2, 4, 8192, 3]⟩
abbrev S32x8 : Shape := ⟨2, ![32, 8]⟩
abbrev S_ : Shape := ⟨0, ![]⟩

class Facts : Prop where
  bcast_S_S2x2x4x8192x64 : S_.BroadcastsInDim S2x2x4x8192x64 (![] : Fin 0 → Fin S2x2x4x8192x64.rank)
  reducesTo_S2x2x4x8192x64_S_d0_1_2_3_4 : S2x2x4x8192x64.ReducesTo [0, 1, 2, 3, 4] S_
  h_S_ : 0 < S_.numel
  bcast_S_S2x2x511x64 : S_.BroadcastsInDim S2x2x511x64 (![] : Fin 0 → Fin S2x2x511x64.rank)
  reducesTo_S2x2x511x64_S_d0_1_2_3 : S2x2x511x64.ReducesTo [0, 1, 2, 3] S_
  bcast_S_S32x8 : S_.BroadcastsInDim S32x8 (![] : Fin 0 → Fin S32x8.rank)
  reducesTo_S32x8_S_d0_1 : S32x8.ReducesTo [0, 1] S_

variable [Facts]

def fn_part1 {F : FTy → Type} [FloatOps F] (main_v15 : IVec S_ 1) (main_v16 : FVec F S32x8 .f32) : IVec S_ 1 :=
  let main_cst_5 : FVec F S_ .f32 := constant S_ .f32 0x7F800000#32
  let main_v17 : FVec F S32x8 .f32 := broadcastInDim S32x8 ![] bcast_S_S32x8 main_cst_5
  let main_v18 : IVec S32x8 1 := cmpf .olt main_v16 main_v17
  let main_c_6 : IVec S_ 1 := constantI S_ 1 1#1
  let main_v19 : IVec S_ 1 := (fun x v => Host.reduce IntOp.andi x v reducesTo_S32x8_S_d0_1 h_S_) main_v18 main_c_6
  let main_v20 : IVec S_ 1 := andi main_v15 main_v19
  main_v20

def fn {F : FTy → Type} [FloatOps F] (main_arg0 : FVec F S2x2x4x8192x64 .f32) (main_arg1 : FVec F S2x2x511x64 .f32) (main_arg2 : FVec F S2x2x511x64 .f32) (main_arg3 : FVec F S2x2x8192x64 .f32) (main_arg4 : FVec F S2x2x8192x64 .f32) (main_arg5 : FVec F S2x2x8192x64 .f32) (main_arg6 : FVec F S2x2x8192x64 .f32) (main_arg7 : FVec F S2x2x4x8192x3 .f32) (main_arg8 : FVec F S32x8 .f32) (main_arg9 : FVec F S_ .f32) : IVec S_ 1 :=
  let main_cst : FVec F S_ .f32 := constant S_ .f32 0xFF800000#32
  let main_v0 : IVec S_ 1 := cmpf .oeq main_arg9 main_cst
  let main_v1 : FVec F S2x2x4x8192x64 .f32 := Host.absf main_arg0
  let main_cst_0 : FVec F S_ .f32 := constant S_ .f32 0x7F800000#32
  let main_v2 : FVec F S2x2x4x8192x64 .f32 := broadcastInDim S2x2x4x8192x64 ![] bcast_S_S2x2x4x8192x64 main_cst_0
  let main_v3 : IVec S2x2x4x8192x64 1 := cmpf .olt main_v1 main_v2
  let main_c : IVec S_ 1 := constantI S_ 1 1#1
  let main_v4 : IVec S_ 1 := (fun x v => Host.reduce IntOp.andi x v reducesTo_S2x2x4x8192x64_S_d0_1_2_3_4 h_S_) main_v3 main_c
  let main_v5 : IVec S_ 1 := andi main_v0 main_v4
  let main_v6 : FVec F S2x2x511x64 .f32 := Host.absf main_arg1
  let main_cst_1 : FVec F S_ .f32 := constant S_ .f32 0x7F800000#32
  let main_v7 : FVec F S2x2x511x64 .f32 := broadcastInDim S2x2x511x64 ![] bcast_S_S2x2x511x64 main_cst_1
  let main_v8 : IVec S2x2x511x64 1 := cmpf .olt main_v6 main_v7
  let main_c_2 : IVec S_ 1 := constantI S_ 1 1#1
  let main_v9 : IVec S_ 1 := (fun x v => Host.reduce IntOp.andi x v reducesTo_S2x2x511x64_S_d0_1_2_3 h_S_) main_v8 main_c_2
  let main_v10 : IVec S_ 1 := andi main_v5 main_v9
  let main_v11 : FVec F S2x2x511x64 .f32 := Host.absf main_arg2
  let main_cst_3 : FVec F S_ .f32 := constant S_ .f32 0x7F800000#32
  let main_v12 : FVec F S2x2x511x64 .f32 := broadcastInDim S2x2x511x64 ![] bcast_S_S2x2x511x64 main_cst_3
  let main_v13 : IVec S2x2x511x64 1 := cmpf .olt main_v11 main_v12
  let main_c_4 : IVec S_ 1 := constantI S_ 1 1#1
  let main_v14 : IVec S_ 1 := (fun x v => Host.reduce IntOp.andi x v reducesTo_S2x2x511x64_S_d0_1_2_3 h_S_) main_v13 main_c_4
  let main_v15 : IVec S_ 1 := andi main_v10 main_v14
  let main_v16 : FVec F S32x8 .f32 := Host.absf main_arg8
  fn_part1 (F := F) main_v15 main_v16
-- ==== Kernel.lean ====
abbrev S2x2x4x8192x64 : Shape := ⟨5, ![2, 2, 4, 8192, 64]⟩
abbrev S2x2x511x64 : Shape := ⟨4, ![2, 2, 511, 64]⟩
abbrev S2x2x8192x64 : Shape := ⟨4, ![2, 2, 8192, 64]⟩
abbrev S2x2x4x8192x3 : Shape := ⟨5, ![2, 2, 4, 8192, 3]⟩
abbrev S32x8 : Shape := ⟨2, ![32, 8]⟩
abbrev S_ : Shape := ⟨0, ![]⟩
abbrev S128x640 : Shape := ⟨2, ![128, 640]⟩
abbrev S128x128 : Shape := ⟨2, ![128, 128]⟩
abbrev S128x128x1 : Shape := ⟨3, ![128, 128, 1]⟩
abbrev S128x128x8 : Shape := ⟨3, ![128, 128, 8]⟩
abbrev S1x8 : Shape := ⟨2, ![1, 8]⟩
abbrev S8 : Shape := ⟨1, ![8]⟩
abbrev S1x1x8 : Shape := ⟨3, ![1, 1, 8]⟩
abbrev S128x128x2x4 : Shape := ⟨4, ![128, 128, 2, 4]⟩
abbrev S2x128x4x128 : Shape := ⟨4, ![2, 128, 4, 128]⟩
abbrev S2x128x512 : Shape := ⟨3, ![2, 128, 512]⟩
abbrev S16x128 : Shape := ⟨2, ![16, 128]⟩
abbrev S16x128x1 : Shape := ⟨3, ![16, 128, 1]⟩
abbrev S16x128x8 : Shape := ⟨3, ![16, 128, 8]⟩
abbrev S16x128x2x4 : Shape := ⟨4, ![16, 128, 2, 4]⟩
abbrev S2x16x4x128 : Shape := ⟨4, ![2, 16, 4, 128]⟩
abbrev S2x16x512 : Shape := ⟨3, ![2, 16, 512]⟩
abbrev S2x2x4x64x8192 : Shape := ⟨5, ![2, 2, 4, 64, 8192]⟩
abbrev S2x8x64x8192 : Shape := ⟨4, ![2, 8, 64, 8192]⟩
abbrev S2x8x1x8192 : Shape := ⟨4, ![2, 8, 1, 8192]⟩
abbrev S2x8x63x8192 : Shape := ⟨4, ![2, 8, 63, 8192]⟩
abbrev S2x8x128x8192 : Shape := ⟨4, ![2, 8, 128, 8192]⟩
abbrev S2x2x4x8192x1 : Shape := ⟨5, ![2, 2, 4, 8192, 1]⟩
abbrev S2x2x4x8192x2 : Shape := ⟨5, ![2, 2, 4, 8192, 2]⟩
abbrev S2x2x4x3x8192 : Shape := ⟨5, ![2, 2, 4, 3, 8192]⟩
abbrev S2x24x8192 : Shape := ⟨3, ![2, 24, 8192]⟩
abbrev S2x128x8192 : Shape := ⟨3, ![2, 128, 8192]⟩
abbrev S128 : Shape := ⟨1, ![128]⟩
abbrev S2x2x8x128 : Shape := ⟨4, ![2, 2, 8, 128]⟩
abbrev S2x2x511x128 : Shape := ⟨4, ![2, 2, 511, 128]⟩
abbrev S2x2x121x128 : Shape := ⟨4, ![2, 2, 121, 128]⟩
abbrev S2x2x640x128 : Shape := ⟨4, ![2, 2, 640, 128]⟩
abbrev S2x2x64x511 : Shape := ⟨4, ![2, 2, 64, 511]⟩
abbrev S2x2x80x640 : Shape := ⟨4, ![2, 2, 80, 640]⟩
abbrev S1x128 : Shape := ⟨2, ![1, 128]⟩
abbrev S8192 : Shape := ⟨1, ![8192]⟩
abbrev S8192x1 : Shape := ⟨2, ![8192, 1]⟩
abbrev S8192x128 : Shape := ⟨2, ![8192, 128]⟩
abbrev S2x2x8192x128 : Shape := ⟨4, ![2, 2, 8192, 128]⟩
abbrev S2x2x8192x256 : Shape := ⟨4, ![2, 2, 8192, 256]⟩
abbrev S2x2x64x8192 : Shape := ⟨4, ![2, 2, 64, 8192]⟩
abbrev S2x2x1x8192 : Shape := ⟨4, ![2, 2, 1, 8192]⟩
abbrev S2x2x15x8192 : Shape := ⟨4, ![2, 2, 15, 8192]⟩
abbrev S2x2x80x8192 : Shape := ⟨4, ![2, 2, 80, 8192]⟩
abbrev S2x2x80x64x128 : Shape := ⟨5, ![2, 2, 80, 64, 128]⟩
abbrev S2x2x64x80x128 : Shape := ⟨5, ![2, 2, 64, 80, 128]⟩
abbrev S2x2x80x32x256 : Shape := ⟨5, ![2, 2, 80, 32, 256]⟩
abbrev S2x2x32x80x256 : Shape := ⟨5, ![2, 2, 32, 80, 256]⟩
abbrev S2x8192x512 : Shape := ⟨3, ![2, 8192, 512]⟩
abbrev S1x8x128x128 : Shape := ⟨4, ![1, 8, 128, 128]⟩
abbrev S1x128x128 : Shape := ⟨3, ![1, 128, 128]⟩
abbrev S1x2x640x128 : Shape := ⟨4, ![1, 2, 640, 128]⟩
abbrev S1x2x80x640 : Shape := ⟨4, ![1, 2, 80, 640]⟩
abbrev S1x2x8192x256 : Shape := ⟨4, ![1, 2, 8192, 256]⟩
abbrev S1x2x64x80x128 : Shape := ⟨5, ![1, 2, 64, 80, 128]⟩
abbrev S1x2x32x80x256 : Shape := ⟨5, ![1, 2, 32, 80, 256]⟩
abbrev S1x2x8192x128 : Shape := ⟨4, ![1, 2, 8192, 128]⟩
abbrev S1x128x512 : Shape := ⟨3, ![1, 128, 512]⟩
abbrev S2x640x512 : Shape := ⟨3, ![2, 640, 512]⟩
abbrev S2x256x512 : Shape := ⟨3, ![2, 256, 512]⟩
abbrev S2x1x512 : Shape := ⟨3, ![2, 1, 512]⟩
abbrev S2x80x512 : Shape := ⟨3, ![2, 80, 512]⟩
abbrev S512x512 : Shape := ⟨2, ![512, 512]⟩
abbrev S8x512 : Shape := ⟨2, ![8, 512]⟩
abbrev S1x1x128x128 : Shape := ⟨4, ![1, 1, 128, 128]⟩
abbrev S128x512 : Shape := ⟨2, ![128, 512]⟩
abbrev S64x512 : Shape := ⟨2, ![64, 512]⟩
abbrev S1x1x640x128 : Shape := ⟨4, ![1, 1, 640, 128]⟩
abbrev S640x128 : Shape := ⟨2, ![640, 128]⟩
abbrev S640x512 : Shape := ⟨2, ![640, 512]⟩
abbrev S1x640x512 : Shape := ⟨3, ![1, 640, 512]⟩
abbrev S1x16x512 : Shape := ⟨3, ![1, 16, 512]⟩
abbrev S16x512 : Shape := ⟨2, ![16, 512]⟩
abbrev S1x1x512x128 : Shape := ⟨4, ![1, 1, 512, 128]⟩
abbrev S512x128 : Shape := ⟨2, ![512, 128]⟩
abbrev S8x64x512 : Shape := ⟨3, ![8, 64, 512]⟩
abbrev S1x512x512 : Shape := ⟨3, ![1, 512, 512]⟩
abbrev S512 : Shape := ⟨1, ![512]⟩
abbrev S1x512 : Shape := ⟨2, ![1, 512]⟩
abbrev S1x1x80x640 : Shape := ⟨4, ![1, 1, 80, 640]⟩
abbrev S80x640 : Shape := ⟨2, ![80, 640]⟩
abbrev S80x512 : Shape := ⟨2, ![80, 512]⟩
abbrev S1x384x512 : Shape := ⟨3, ![1, 384, 512]⟩
abbrev S384x512 : Shape := ⟨2, ![384, 512]⟩
abbrev S1x1x80x512 : Shape := ⟨4, ![1, 1, 80, 512]⟩
abbrev S1x1x384x128 : Shape := ⟨4, ![1, 1, 384, 128]⟩
abbrev S384x128 : Shape := ⟨2, ![384, 128]⟩
abbrev S1x256x512 : Shape := ⟨3, ![1, 256, 512]⟩
abbrev S256x512 : Shape := ⟨2, ![256, 512]⟩
abbrev S1x1x80x384 : Shape := ⟨4, ![1, 1, 80, 384]⟩
abbrev S80x384 : Shape := ⟨2, ![80, 384]⟩
abbrev S128x384 : Shape := ⟨2, ![128, 384]⟩
abbrev S1x1x256x128 : Shape := ⟨4, ![1, 1, 256, 128]⟩
abbrev S256x128 : Shape := ⟨2, ![256, 128]⟩
abbrev S1x1x80x256 : Shape := ⟨4, ![1, 1, 80, 256]⟩
abbrev S80x256 : Shape := ⟨2, ![80, 256]⟩
abbrev S128x256 : Shape := ⟨2, ![128, 256]⟩
abbrev S1x1x80x128 : Shape := ⟨4, ![1, 1, 80, 128]⟩
abbrev S80x128 : Shape := ⟨2, ![80, 128]⟩
abbrev S96x128 : Shape := ⟨2, ![96, 128]⟩
abbrev S32x128 : Shape := ⟨2, ![32, 128]⟩
abbrev S64x128 : Shape := ⟨2, ![64, 128]⟩
abbrev S1x1x512 : Shape := ⟨3, ![1, 1, 512]⟩
abbrev S1x80x512 : Shape := ⟨3, ![1, 80, 512]⟩
abbrev S1x1x1x80x128 : Shape := ⟨5, ![1, 1, 1, 80, 128]⟩
abbrev S1x8x512 : Shape := ⟨3, ![1, 8, 512]⟩
abbrev S1x1x1x80x256 : Shape := ⟨5, ![1, 1, 1, 80, 256]⟩
abbrev S1x1x128x256 : Shape := ⟨4, ![1, 1, 128, 256]⟩
abbrev S1x1x128 : Shape := ⟨3, ![1, 1, 128]⟩
abbrev S1x128x256 : Shape := ⟨3, ![1, 128, 256]⟩

abbrev nBuf : Space → Nat
  | .hbm => 304
  | .vmem => 30
  | .smem => 0
  | _ => 0

abbrev hbmTy0_0 (i : Nat) : BufTy := match i % 128 with
  | 0 => ⟨S2x2x4x8192x64, .f32⟩
  | 1 => ⟨S2x2x511x64, .f32⟩
  | 2 => ⟨S2x2x511x64, .f32⟩
  | 3 => ⟨S2x2x8192x64, .f32⟩
  | 4 => ⟨S2x2x8192x64, .f32⟩
  | 5 => ⟨S2x2x8192x64, .f32⟩
  | 6 => ⟨S2x2x8192x64, .f32⟩
  | 7 => ⟨S2x2x4x8192x3, .f32⟩
  | 8 => ⟨S32x8, .f32⟩
  | 9 => ⟨S_, .f32⟩
  | 10 => ⟨S128x640, .bf16⟩
  | 11 => ⟨S_, .f32⟩
  | 12 => ⟨S_, .f32⟩
  | 13 => ⟨S_, .f32⟩
  | 14 => ⟨S_, .f32⟩
  | 15 => ⟨S128x128, .i32⟩
  | 16 => ⟨S128x128, .i32⟩
  | 17 => ⟨S_, .i32⟩
  | 18 => ⟨S128x128, .i32⟩
  | 19 => ⟨S128x128, .i32⟩
  | 20 => ⟨S_, .i32⟩
  | 21 => ⟨S128x128, .i32⟩
  | 22 => ⟨S128x128, .i32⟩
  | 23 => ⟨S128x128, .i32⟩
  | 24 => ⟨S_, .i32⟩
  | 25 => ⟨S128x128, .i32⟩
  | 26 => ⟨S128x128, .i32⟩
  | 27 => ⟨S_, .i32⟩
  | 28 => ⟨S128x128, .i32⟩
  | 29 => ⟨S128x128, .i32⟩
  | 30 => ⟨S128x128, .f32⟩
  | 31 => ⟨S_, .f32⟩
  | 32 => ⟨S128x128, .f32⟩
  | 33 => ⟨S128x128, .f32⟩
  | 34 => ⟨S128x128, .f32⟩
  | 35 => ⟨S_, .f32⟩
  | 36 => ⟨S128x128, .f32⟩
  | 37 => ⟨S128x128, .f32⟩
  | 38 => ⟨S_, .f32⟩
  | 39 => ⟨S128x128, .f32⟩
  | 40 => ⟨S128x128, .f32⟩
  | 41 => ⟨S128x128, .i32⟩
  | 42 => ⟨S_, .i32⟩
  | 43 => ⟨S128x128, .i32⟩
  | 44 => ⟨S128x128, .i32⟩
  | 45 => ⟨S_, .i32⟩
  | 46 => ⟨S128x128, .i32⟩
  | 47 => ⟨S128x128, .i32⟩
  | 48 => ⟨S_, .i32⟩
  | 49 => ⟨S128x128, .i32⟩
  | 50 => ⟨S128x128, .i1⟩
  | 51 => ⟨S128x128, .i32⟩
  | 52 => ⟨S_, .i32⟩
  | 53 => ⟨S128x128, .i32⟩
  | 54 => ⟨S128x128, .i1⟩
  | 55 => ⟨S_, .i32⟩
  | 56 => ⟨S128x128, .i32⟩
  | 57 => ⟨S128x128, .i32⟩
  | 58 => ⟨S128x128, .i32⟩
  | 59 => ⟨S128x128x1, .i32⟩
  | 60 => ⟨S128x128x8, .f32⟩
  | 61 => ⟨S1x8, .f32⟩
  | 62 => ⟨S8, .f32⟩
  | 63 => ⟨S1x1x8, .f32⟩
  | 64 => ⟨S128x128x8, .f32⟩
  | 65 => ⟨S128x128x8, .f32⟩
  | 66 => ⟨S128x128x8, .f32⟩
  | 67 => ⟨S128x128x8, .f32⟩
  | 68 => ⟨S_, .i32⟩
  | 69 => ⟨S128x128, .i32⟩
  | 70 => ⟨S128x128, .i1⟩
  | 71 => ⟨S128x128x1, .i1⟩
  | 72 => ⟨S128x128x8, .i1⟩
  | 73 => ⟨S128x128x8, .f32⟩
  | 74 => ⟨S128x128x8, .f32⟩
  | 75 => ⟨S128x128x2x4, .f32⟩
  | 76 => ⟨S2x128x4x128, .f32⟩
  | 77 => ⟨S2x128x512, .f32⟩
  | 78 => ⟨S128x128, .i32⟩
  | 79 => ⟨S128x128, .i32⟩
  | 80 => ⟨S_, .i32⟩
  | 81 => ⟨S128x128, .i32⟩
  | 82 => ⟨S128x128, .i32⟩
  | 83 => ⟨S_, .i32⟩
  | 84 => ⟨S128x128, .i32⟩
  | 85 => ⟨S128x128, .i32⟩
  | 86 => ⟨S128x128, .i32⟩
  | 87 => ⟨S_, .i32⟩
  | 88 => ⟨S128x128, .i32⟩
  | 89 => ⟨S128x128, .i32⟩
  | 90 => ⟨S_, .i32⟩
  | 91 => ⟨S128x128, .i32⟩
  | 92 => ⟨S128x128, .i32⟩
  | 93 => ⟨S128x128, .f32⟩
  | 94 => ⟨S_, .f32⟩
  | 95 => ⟨S128x128, .f32⟩
  | 96 => ⟨S128x128, .f32⟩
  | 97 => ⟨S128x128, .f32⟩
  | 98 => ⟨S_, .f32⟩
  | 99 => ⟨S128x128, .f32⟩
  | 100 => ⟨S128x128, .f32⟩
  | 101 => ⟨S_, .f32⟩
  | 102 => ⟨S128x128, .f32⟩
  | 103 => ⟨S128x128, .f32⟩
  | 104 => ⟨S128x128, .i32⟩
  | 105 => ⟨S_, .i32⟩
  | 106 => ⟨S128x128, .i32⟩
  | 107 => ⟨S128x128, .i32⟩
  | 108 => ⟨S_, .i32⟩
  | 109 => ⟨S128x128, .i32⟩
  | 110 => ⟨S128x128, .i32⟩
  | 111 => ⟨S_, .i32⟩
  | 112 => ⟨S128x128, .i32⟩
  | 113 => ⟨S128x128, .i1⟩
  | 114 => ⟨S128x128, .i32⟩
  | 115 => ⟨S_, .i32⟩
  | 116 => ⟨S128x128, .i32⟩
  | 117 => ⟨S128x128, .i1⟩
  | 118 => ⟨S_, .i32⟩
  | 119 => ⟨S128x128, .i32⟩
  | 120 => ⟨S128x128, .i32⟩
  | 121 => ⟨S128x128, .i32⟩
  | 122 => ⟨S128x128x1, .i32⟩
  | 123 => ⟨S128x128x8, .f32⟩
  | 124 => ⟨S1x8, .f32⟩
  | 125 => ⟨S8, .f32⟩
  | 126 => ⟨S1x1x8, .f32⟩
  | 127 => ⟨S128x128x8, .f32⟩
  | _ => ⟨S2x2x4x8192x64, .f32⟩

abbrev hbmTy0_1 (i : Nat) : BufTy := match i % 128 with
  | 0 => ⟨S128x128x8, .f32⟩
  | 1 => ⟨S128x128x8, .f32⟩
  | 2 => ⟨S128x128x8, .f32⟩
  | 3 => ⟨S_, .i32⟩
  | 4 => ⟨S128x128, .i32⟩
  | 5 => ⟨S128x128, .i1⟩
  | 6 => ⟨S128x128x1, .i1⟩
  | 7 => ⟨S128x128x8, .i1⟩
  | 8 => ⟨S128x128x8, .f32⟩
  | 9 => ⟨S128x128x8, .f32⟩
  | 10 => ⟨S128x128x2x4, .f32⟩
  | 11 => ⟨S2x128x4x128, .f32⟩
  | 12 => ⟨S2x128x512, .f32⟩
  | 13 => ⟨S16x128, .i32⟩
  | 14 => ⟨S16x128, .i32⟩
  | 15 => ⟨S_, .i32⟩
  | 16 => ⟨S16x128, .i32⟩
  | 17 => ⟨S16x128, .i32⟩
  | 18 => ⟨S_, .i32⟩
  | 19 => ⟨S16x128, .i32⟩
  | 20 => ⟨S16x128, .i32⟩
  | 21 => ⟨S16x128, .i32⟩
  | 22 => ⟨S_, .i32⟩
  | 23 => ⟨S16x128, .i32⟩
  | 24 => ⟨S16x128, .i32⟩
  | 25 => ⟨S_, .i32⟩
  | 26 => ⟨S16x128, .i32⟩
  | 27 => ⟨S16x128, .i32⟩
  | 28 => ⟨S16x128, .f32⟩
  | 29 => ⟨S_, .f32⟩
  | 30 => ⟨S16x128, .f32⟩
  | 31 => ⟨S16x128, .f32⟩
  | 32 => ⟨S16x128, .f32⟩
  | 33 => ⟨S_, .f32⟩
  | 34 => ⟨S16x128, .f32⟩
  | 35 => ⟨S16x128, .f32⟩
  | 36 => ⟨S_, .f32⟩
  | 37 => ⟨S16x128, .f32⟩
  | 38 => ⟨S16x128, .f32⟩
  | 39 => ⟨S16x128, .i32⟩
  | 40 => ⟨S_, .i32⟩
  | 41 => ⟨S16x128, .i32⟩
  | 42 => ⟨S16x128, .i32⟩
  | 43 => ⟨S_, .i32⟩
  | 44 => ⟨S16x128, .i32⟩
  | 45 => ⟨S16x128, .i32⟩
  | 46 => ⟨S_, .i32⟩
  | 47 => ⟨S16x128, .i32⟩
  | 48 => ⟨S16x128, .i1⟩
  | 49 => ⟨S16x128, .i32⟩
  | 50 => ⟨S_, .i32⟩
  | 51 => ⟨S16x128, .i32⟩
  | 52 => ⟨S16x128, .i1⟩
  | 53 => ⟨S_, .i32⟩
  | 54 => ⟨S16x128, .i32⟩
  | 55 => ⟨S16x128, .i32⟩
  | 56 => ⟨S16x128, .i32⟩
  | 57 => ⟨S16x128x1, .i32⟩
  | 58 => ⟨S16x128x8, .f32⟩
  | 59 => ⟨S1x8, .f32⟩
  | 60 => ⟨S8, .f32⟩
  | 61 => ⟨S1x1x8, .f32⟩
  | 62 => ⟨S16x128x8, .f32⟩
  | 63 => ⟨S16x128x8, .f32⟩
  | 64 => ⟨S16x128x8, .f32⟩
  | 65 => ⟨S16x128x8, .f32⟩
  | 66 => ⟨S_, .i32⟩
  | 67 => ⟨S16x128, .i32⟩
  | 68 => ⟨S16x128, .i1⟩
  | 69 => ⟨S16x128x1, .i1⟩
  | 70 => ⟨S16x128x8, .i1⟩
  | 71 => ⟨S16x128x8, .f32⟩
  | 72 => ⟨S16x128x8, .f32⟩
  | 73 => ⟨S16x128x2x4, .f32⟩
  | 74 => ⟨S2x16x4x128, .f32⟩
  | 75 => ⟨S2x16x512, .f32⟩
  | 76 => ⟨S_, .f32⟩
  | 77 => ⟨S_, .f32⟩
  | 78 => ⟨S2x2x4x8192x64, .f32⟩
  | 79 => ⟨S2x2x4x8192x64, .f32⟩
  | 80 => ⟨S2x2x4x64x8192, .f32⟩
  | 81 => ⟨S2x8x64x8192, .f32⟩
  | 82 => ⟨S2x8x1x8192, .f32⟩
  | 83 => ⟨S_, .f32⟩
  | 84 => ⟨S2x8x63x8192, .f32⟩
  | 85 => ⟨S2x8x128x8192, .f32⟩
  | 86 => ⟨S2x8x128x8192, .bf16⟩
  | 87 => ⟨S2x2x4x8192x1, .f32⟩
  | 88 => ⟨S_, .f32⟩
  | 89 => ⟨S2x2x4x8192x2, .f32⟩
  | 90 => ⟨S2x2x4x8192x3, .f32⟩
  | 91 => ⟨S2x2x4x3x8192, .f32⟩
  | 92 => ⟨S2x24x8192, .f32⟩
  | 93 => ⟨S_, .i32⟩
  | 94 => ⟨S_, .f32⟩
  | 95 => ⟨S2x128x8192, .f32⟩
  | 96 => ⟨S128, .i32⟩
  | 97 => ⟨S_, .i32⟩
  | 98 => ⟨S128, .i32⟩
  | 99 => ⟨S128, .i1⟩
  | 100 => ⟨S128, .f32⟩
  | 101 => ⟨S2x2x8x128, .f32⟩
  | 102 => ⟨S_, .i32⟩
  | 103 => ⟨S_, .f32⟩
  | 104 => ⟨S2x2x511x128, .f32⟩
  | 105 => ⟨S2x2x121x128, .f32⟩
  | 106 => ⟨S2x2x640x128, .f32⟩
  | 107 => ⟨S2x2x640x128, .bf16⟩
  | 108 => ⟨S2x2x64x511, .f32⟩
  | 109 => ⟨S_, .i32⟩
  | 110 => ⟨S_, .f32⟩
  | 111 => ⟨S2x2x80x640, .f32⟩
  | 112 => ⟨S2x2x80x640, .bf16⟩
  | 113 => ⟨S1x128, .i32⟩
  | 114 => ⟨S8192, .i32⟩
  | 115 => ⟨S_, .i32⟩
  | 116 => ⟨S_, .i32⟩
  | 117 => ⟨S8192, .i32⟩
  | 118 => ⟨S8192, .i32⟩
  | 119 => ⟨S8192, .i32⟩
  | 120 => ⟨S_, .i32⟩
  | 121 => ⟨S8192, .i32⟩
  | 122 => ⟨S8192, .i1⟩
  | 123 => ⟨S8192, .i32⟩
  | 124 => ⟨S8192, .i32⟩
  | 125 => ⟨S_, .i32⟩
  | 126 => ⟨S8192, .i32⟩
  | 127 => ⟨S8192, .i1⟩
  | _ => ⟨S2x2x4x8192x64, .f32⟩

abbrev hbmTy0_2 (i : Nat) : BufTy := match i % 128 with
  | 0 => ⟨S8192, .i1⟩
  | 1 => ⟨S_, .i32⟩
  | 2 => ⟨S8192, .i32⟩
  | 3 => ⟨S8192, .i32⟩
  | 4 => ⟨S8192, .i32⟩
  | 5 => ⟨S8192x1, .i32⟩
  | 6 => ⟨S8192x128, .i32⟩
  | 7 => ⟨S8192x128, .i32⟩
  | 8 => ⟨S8192x128, .i1⟩
  | 9 => ⟨S8192x128, .f32⟩
  | 10 => ⟨S2x2x8192x128, .f32⟩
  | 11 => ⟨S_, .i32⟩
  | 12 => ⟨S_, .f32⟩
  | 13 => ⟨S2x2x8192x128, .f32⟩
  | 14 => ⟨S2x2x8192x256, .f32⟩
  | 15 => ⟨S2x2x8192x256, .bf16⟩
  | 16 => ⟨S_, .i32⟩
  | 17 => ⟨S_, .f32⟩
  | 18 => ⟨S2x2x8192x128, .f32⟩
  | 19 => ⟨S2x2x8192x128, .bf16⟩
  | 20 => ⟨S2x2x64x8192, .f32⟩
  | 21 => ⟨S_, .f32⟩
  | 22 => ⟨S2x2x1x8192, .f32⟩
  | 23 => ⟨S_, .f32⟩
  | 24 => ⟨S2x2x15x8192, .f32⟩
  | 25 => ⟨S2x2x80x8192, .f32⟩
  | 26 => ⟨S2x2x80x64x128, .f32⟩
  | 27 => ⟨S2x2x64x80x128, .f32⟩
  | 28 => ⟨S2x2x64x80x128, .bf16⟩
  | 29 => ⟨S2x2x64x8192, .f32⟩
  | 30 => ⟨S_, .f32⟩
  | 31 => ⟨S2x2x1x8192, .f32⟩
  | 32 => ⟨S_, .f32⟩
  | 33 => ⟨S2x2x15x8192, .f32⟩
  | 34 => ⟨S2x2x80x8192, .f32⟩
  | 35 => ⟨S2x2x80x32x256, .f32⟩
  | 36 => ⟨S2x2x32x80x256, .f32⟩
  | 37 => ⟨S2x2x32x80x256, .bf16⟩
  | 38 => ⟨S2x2x64x8192, .f32⟩
  | 39 => ⟨S_, .f32⟩
  | 40 => ⟨S2x2x1x8192, .f32⟩
  | 41 => ⟨S_, .f32⟩
  | 42 => ⟨S2x2x15x8192, .f32⟩
  | 43 => ⟨S2x2x80x8192, .f32⟩
  | 44 => ⟨S2x2x80x64x128, .f32⟩
  | 45 => ⟨S2x2x64x80x128, .f32⟩
  | 46 => ⟨S2x2x64x80x128, .bf16⟩
  | 47 => ⟨S2x8192x512, .bf16⟩
  | _ => ⟨S2x2x4x8192x64, .f32⟩

abbrev hbmTy (i : Nat) : BufTy := match i / 128 with
  | 0 => hbmTy0_0 i
  | 1 => hbmTy0_1 i
  | 2 => hbmTy0_2 i
  | _ => ⟨S2x2x4x8192x64, .f32⟩

abbrev bufTy : (tb : Table) → Fin (tcTables nBuf tb) → BufTy
  | .hbm, ⟨i, _⟩ => hbmTy i
  | .local _ .vmem, ⟨0, _⟩ => ⟨S1x8x128x128, .bf16⟩
  | .local _ .vmem, ⟨1, _⟩ => ⟨S1x8x128x128, .bf16⟩
  | .local _ .vmem, ⟨2, _⟩ => ⟨S1x128x128, .f32⟩
  | .local _ .vmem, ⟨3, _⟩ => ⟨S1x128x128, .f32⟩
  | .local _ .vmem, ⟨4, _⟩ => ⟨S128x640, .bf16⟩
  | .local _ .vmem, ⟨5, _⟩ => ⟨S1x2x640x128, .bf16⟩
  | .local _ .vmem, ⟨6, _⟩ => ⟨S1x2x80x640, .bf16⟩
  | .local _ .vmem, ⟨7, _⟩ => ⟨S2x16x512, .f32⟩
  | .local _ .vmem, ⟨8, _⟩ => ⟨S1x2x8192x256, .bf16⟩
  | .local _ .vmem, ⟨9, _⟩ => ⟨S1x2x64x80x128, .bf16⟩
  | .local _ .vmem, ⟨10, _⟩ => ⟨S1x2x32x80x256, .bf16⟩
  | .local _ .vmem, ⟨11, _⟩ => ⟨S1x2x8192x128, .bf16⟩
  | .local _ .vmem, ⟨12, _⟩ => ⟨S1x2x64x80x128, .bf16⟩
  | .local _ .vmem, ⟨13, _⟩ => ⟨S2x128x512, .f32⟩
  | .local _ .vmem, ⟨14, _⟩ => ⟨S2x128x512, .f32⟩
  | .local _ .vmem, ⟨15, _⟩ => ⟨S1x128x512, .bf16⟩
  | .local _ .vmem, ⟨16, _⟩ => ⟨S1x128x512, .bf16⟩
  | .local _ .vmem, ⟨17, _⟩ => ⟨S2x640x512, .f32⟩
  | .local _ .vmem, ⟨18, _⟩ => ⟨S2x256x512, .bf16⟩
  | .local _ .vmem, ⟨19, _⟩ => ⟨S2x1x512, .f32⟩
  | .local _ .vmem, ⟨20, _⟩ => ⟨S2x80x512, .f32⟩
  | .local _ .vmem, ⟨21, _⟩ => ⟨S2x128x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S8x512, .f32⟩
  | .local _ .vmem, ⟨27, _⟩ => ⟨S8x512, .f32⟩
  | .local _ .vmem, ⟨28, _⟩ => ⟨S8x512, .f32⟩
  | .local _ .vmem, ⟨29, _⟩ => ⟨S8x512, .f32⟩
  | _, _ => ⟨S2x2x4x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_cst_0 : Ref sig .tc := ⟨.hbm, 11, rfl⟩
abbrev main_v0 : Ref sig .tc := ⟨.hbm, 12, rfl⟩
abbrev main_cst_1 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c_3 : Ref sig .tc := ⟨.hbm, 24, rfl⟩
abbrev main_v9 : Ref sig .tc := ⟨.hbm, 25, rfl⟩
abbrev main_v10 : Ref sig .tc := ⟨.hbm, 26, rfl⟩
abbrev main_c_4 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_5 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_6 : Ref sig .tc := ⟨.hbm, 35, rfl⟩
abbrev main_v17 : Ref sig .tc := ⟨.hbm, 36, rfl⟩
abbrev main_v18 : Ref sig .tc := ⟨.hbm, 37, rfl⟩
abbrev main_cst_7 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_8 : Ref sig .tc := ⟨.hbm, 42, rfl⟩
abbrev main_v22 : Ref sig .tc := ⟨.hbm, 43, rfl⟩
abbrev main_v23 : Ref sig .tc := ⟨.hbm, 44, rfl⟩
abbrev main_c_9 : Ref sig .tc := ⟨.hbm, 45, rfl⟩
abbrev main_v24 : Ref sig .tc := ⟨.hbm, 46, rfl⟩
abbrev main_v25 : Ref sig .tc := ⟨.hbm, 47, rfl⟩
abbrev main_c_10 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_11 : Ref sig .tc := ⟨.hbm, 52, rfl⟩
abbrev main_v29 : Ref sig .tc := ⟨.hbm, 53, rfl⟩
abbrev main_v30 : Ref sig .tc := ⟨.hbm, 54, rfl⟩
abbrev main_c_12 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_13 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_call1_v0 : Ref sig .tc := ⟨.hbm, 72, rfl⟩
abbrev main_call1_v1 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c_14 : Ref sig .tc := ⟨.hbm, 80, rfl⟩
abbrev main_v52 : Ref sig .tc := ⟨.hbm, 81, rfl⟩
abbrev main_v53 : Ref sig .tc := ⟨.hbm, 82, rfl⟩
abbrev main_c_15 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_c_16 : Ref sig .tc := ⟨.hbm, 87, rfl⟩
abbrev main_v57 : Ref sig .tc := ⟨.hbm, 88, rfl⟩
abbrev main_v58 : Ref sig .tc := ⟨.hbm, 89, rfl⟩
abbrev main_c_17 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_18 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_19 : Ref sig .tc := ⟨.hbm, 98, rfl⟩
abbrev main_v65 : Ref sig .tc := ⟨.hbm, 99, rfl⟩
abbrev main_v66 : Ref sig .tc := ⟨.hbm, 100, rfl⟩
abbrev main_cst_20 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_c_21 : Ref sig .tc := ⟨.hbm, 105, rfl⟩
abbrev main_v70 : Ref sig .tc := ⟨.hbm, 106, rfl⟩
abbrev main_v71 : Ref sig .tc := ⟨.hbm, 107, rfl⟩
abbrev main_c_22 : Ref sig .tc := ⟨.hbm, 108, rfl⟩
abbrev main_v72 : Ref sig .tc := ⟨.hbm, 109, rfl⟩
abbrev main_v73 : Ref sig .tc := ⟨.hbm, 110, rfl⟩
abbrev main_c_23 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_c_24 : Ref sig .tc := ⟨.hbm, 115, rfl⟩
abbrev main_v77 : Ref sig .tc := ⟨.hbm, 116, rfl⟩
abbrev main_v78 : Ref sig .tc := ⟨.hbm, 117, rfl⟩
abbrev main_c_25 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_c_26 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_call3_v0 : Ref sig .tc := ⟨.hbm, 135, rfl⟩
abbrev main_call3_v1 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_c_27 : Ref sig .tc := ⟨.hbm, 143, rfl⟩
abbrev main_v100 : Ref sig .tc := ⟨.hbm, 144, rfl⟩
abbrev main_v101 : Ref sig .tc := ⟨.hbm, 145, rfl⟩
abbrev main_c_28 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_c_29 : Ref sig .tc := ⟨.hbm, 150, rfl⟩
abbrev main_v105 : Ref sig .tc := ⟨.hbm, 151, rfl⟩
abbrev main_v106 : Ref sig .tc := ⟨.hbm, 152, rfl⟩
abbrev main_c_30 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_cst_31 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_cst_32 : Ref sig .tc := ⟨.hbm, 161, rfl⟩
abbrev main_v113 : Ref sig .tc := ⟨.hbm, 162, rfl⟩
abbrev main_v114 : Ref sig .tc := ⟨.hbm, 163, rfl⟩
abbrev main_cst_33 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_c_34 : Ref sig .tc := ⟨.hbm, 168, rfl⟩
abbrev main_v118 : Ref sig .tc := ⟨.hbm, 169, rfl⟩
abbrev main_v119 : Ref sig .tc := ⟨.hbm, 170, rfl⟩
abbrev main_c_35 : Ref sig .tc := ⟨.hbm, 171, rfl⟩
abbrev main_v120 : Ref sig .tc := ⟨.hbm, 172, rfl⟩
abbrev main_v121 : Ref sig .tc := ⟨.hbm, 173, rfl⟩
abbrev main_c_36 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_c_37 : Ref sig .tc := ⟨.hbm, 178, rfl⟩
abbrev main_v125 : Ref sig .tc := ⟨.hbm, 179, rfl⟩
abbrev main_v126 : Ref sig .tc := ⟨.hbm, 180, rfl⟩
abbrev main_c_38 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_c_39 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_call5_v0 : Ref sig .tc := ⟨.hbm, 198, rfl⟩
abbrev main_call5_v1 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_cst_40 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_cst_41 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_cst_42 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_c_43 : Ref sig .tc := ⟨.hbm, 221, rfl⟩
abbrev main_call6_v0 : Ref sig .tc := ⟨.hbm, 222, rfl⟩
abbrev main_v160 : Ref sig .tc := ⟨.hbm, 223, rfl⟩
abbrev main_v161 : Ref sig .tc := ⟨.hbm, 224, rfl⟩
abbrev main_c_44 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_c_45 : Ref sig .tc := ⟨.hbm, 230, rfl⟩
abbrev main_call7_v0 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_c_46 : Ref sig .tc := ⟨.hbm, 237, rfl⟩
abbrev main_call8_v0 : Ref sig .tc := ⟨.hbm, 238, rfl⟩
abbrev main_v171 : Ref sig .tc := ⟨.hbm, 239, rfl⟩
abbrev main_v172 : Ref sig .tc := ⟨.hbm, 240, rfl⟩
abbrev main_v173 : Ref sig .tc := ⟨.hbm, 241, rfl⟩
abbrev main_v174 : Ref sig .tc := ⟨.hbm, 242, rfl⟩
abbrev main_c_47 : Ref sig .tc := ⟨.hbm, 243, rfl⟩
abbrev main_call9_v0 : Ref sig .tc := ⟨.hbm, 244, rfl⟩
abbrev main_call9_v1 : Ref sig .tc := ⟨.hbm, 245, rfl⟩
abbrev main_call9_v2 : Ref sig .tc := ⟨.hbm, 246, rfl⟩
abbrev main_call9_v3 : Ref sig .tc := ⟨.hbm, 247, rfl⟩
abbrev main_call9_v4 : Ref sig .tc := ⟨.hbm, 248, rfl⟩
abbrev main_call9_v5 : Ref sig .tc := ⟨.hbm, 249, rfl⟩
abbrev main_call9_v6 : Ref sig .tc := ⟨.hbm, 250, rfl⟩
abbrev main_call9_v7 : Ref sig .tc := ⟨.hbm, 251, rfl⟩
abbrev main_call9_v8 : Ref sig .tc := ⟨.hbm, 252, rfl⟩
abbrev main_call9_c : Ref sig .tc := ⟨.hbm, 253, rfl⟩
abbrev main_call9_v9 : Ref sig .tc := ⟨.hbm, 254, rfl⟩
abbrev main_call9_v10 : Ref sig .tc := ⟨.hbm, 255, rfl⟩
abbrev main_call9_v11 : Ref sig .tc := ⟨.hbm, 256, rfl⟩
abbrev main_call9_c_0 : Ref sig .tc := ⟨.hbm, 257, rfl⟩
abbrev main_call9_v12 : Ref sig .tc := ⟨.hbm, 258, rfl⟩
abbrev main_call9_v13 : Ref sig .tc := ⟨.hbm, 259, rfl⟩
abbrev main_v175 : Ref sig .tc := ⟨.hbm, 260, rfl⟩
abbrev main_v176 : Ref sig .tc := ⟨.hbm, 261, rfl⟩
abbrev main_v177 : Ref sig .tc := ⟨.hbm, 262, rfl⟩
abbrev main_v178 : Ref sig .tc := ⟨.hbm, 263, rfl⟩
abbrev main_v179 : Ref sig .tc := ⟨.hbm, 264, rfl⟩
abbrev main_v180 : Ref sig .tc := ⟨.hbm, 265, rfl⟩
abbrev main_v181 : Ref sig .tc := ⟨.hbm, 266, rfl⟩
abbrev main_c_48 : Ref sig .tc := ⟨.hbm, 267, rfl⟩
abbrev main_call10_v0 : Ref sig .tc := ⟨.hbm, 268, rfl⟩
abbrev main_v182 : Ref sig .tc := ⟨.hbm, 269, rfl⟩
abbrev main_v183 : Ref sig .tc := ⟨.hbm, 270, rfl⟩
abbrev main_v184 : Ref sig .tc := ⟨.hbm, 271, rfl⟩
abbrev main_c_49 : Ref sig .tc := ⟨.hbm, 272, rfl⟩
abbrev main_call11_v0 : Ref sig .tc := ⟨.hbm, 273, rfl⟩
abbrev main_v185 : Ref sig .tc := ⟨.hbm, 274, rfl⟩
abbrev main_v186 : Ref sig .tc := ⟨.hbm, 275, rfl⟩
abbrev main_v187 : Ref sig .tc := ⟨.hbm, 276, rfl⟩
abbrev main_cst_50 : Ref sig .tc := ⟨.hbm, 277, rfl⟩
abbrev main_v188 : Ref sig .tc := ⟨.hbm, 278, rfl⟩
abbrev main_cst_51 : Ref sig .tc := ⟨.hbm, 279, rfl⟩
abbrev main_v189 : Ref sig .tc := ⟨.hbm, 280, rfl⟩
abbrev main_v190 : Ref sig .tc := ⟨.hbm, 281, rfl⟩
abbrev main_v191 : Ref sig .tc := ⟨.hbm, 282, rfl⟩
abbrev main_v192 : Ref sig .tc := ⟨.hbm, 283, rfl⟩
abbrev main_v193 : Ref sig .tc := ⟨.hbm, 284, rfl⟩
abbrev main_v194 : Ref sig .tc := ⟨.hbm, 285, rfl⟩
abbrev main_cst_52 : Ref sig .tc := ⟨.hbm, 286, rfl⟩
abbrev main_v195 : Ref sig .tc := ⟨.hbm, 287, rfl⟩
abbrev main_cst_53 : Ref sig .tc := ⟨.hbm, 288, rfl⟩
abbrev main_v196 : Ref sig .tc := ⟨.hbm, 289, rfl⟩
abbrev main_v197 : Ref sig .tc := ⟨.hbm, 290, rfl⟩
abbrev main_v198 : Ref sig .tc := ⟨.hbm, 291, rfl⟩
abbrev main_v199 : Ref sig .tc := ⟨.hbm, 292, rfl⟩
abbrev main_v200 : Ref sig .tc := ⟨.hbm, 293, rfl⟩
abbrev main_v201 : Ref sig .tc := ⟨.hbm, 294, rfl⟩
abbrev main_cst_54 : Ref sig .tc := ⟨.hbm, 295, rfl⟩
abbrev main_v202 : Ref sig .tc := ⟨.hbm, 296, rfl⟩
abbrev main_cst_55 : Ref sig .tc := ⟨.hbm, 297, rfl⟩
abbrev main_v203 : Ref sig .tc := ⟨.hbm, 298, rfl⟩
abbrev main_v204 : Ref sig .tc := ⟨.hbm, 299, rfl⟩
abbrev main_v205 : Ref sig .tc := ⟨.hbm, 300, rfl⟩
abbrev main_v206 : Ref sig .tc := ⟨.hbm, 301, rfl⟩
abbrev main_v207 : Ref sig .tc := ⟨.hbm, 302, rfl⟩
abbrev main_v208 : Ref sig .tc := ⟨.hbm, 303, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_scratch7 : Ref sig .tc := ⟨.vmem, 24, rfl⟩
abbrev cc0_scratch8 : Ref sig .tc := ⟨.vmem, 25, rfl⟩
abbrev cc0_scratch9 : Ref sig .tc := ⟨.vmem, 26, rfl⟩
abbrev cc0_scratch10 : Ref sig .tc := ⟨.vmem, 27, rfl⟩
abbrev cc0_scratch11 : Ref sig .tc := ⟨.vmem, 28, rfl⟩
abbrev cc0_scratch12 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16

abbrev nD : Nat := 1
abbrev τ : Topo := Topo.v7x

variable {F : FTy → Type} [FloatOps F]

abbrev grid0 : Pipeline.Grid := ⟨2, ![2, 64], ![false, false]⟩

def k0_mult1 (i : grid0.Coords) : BitVec 32 :=
  let c8_i32 : BitVec 32 := 8#32
  let arg1 : BitVec 32 := BitVec.ofNat 32 (i 1).val
  let v32 : BitVec 32 := Scalar.muli c8_i32 arg1
  v32
def k0_cond1 (i : grid0.Coords) : BitVec 1 :=
  let c8_i32_36 : BitVec 32 := 8#32
  let arg1 : BitVec 32 := BitVec.ofNat 32 (i 1).val
  let v34 : BitVec 32 := Scalar.muli c8_i32_36 arg1
  let c16_i32 : BitVec 32 := 16#32
  let v35 : BitVec 32 := Scalar.addi v34 c16_i32
  let c128_i32 : BitVec 32 := 128#32
  let v57 : BitVec 32 := Scalar.addi v35 c128_i32
  let c1_i32_45 : BitVec 32 := 1#32
  let v58 : BitVec 32 := Scalar.subi v57 c1_i32_45
  let c0_i32_47 : BitVec 32 := 0#32
  let v60 : BitVec 1 := Scalar.cmpi .sgt v58 c0_i32_47
  let v61 : BitVec 32 := Scalar.extui v60
  let c0_i32_48 : BitVec 32 := 0#32
  let v62 : BitVec 1 := Scalar.cmpi .slt v58 c0_i32_48
  let v63 : BitVec 32 := Scalar.extui v62
  let v64 : BitVec 32 := Scalar.subi v61 v63
  let c128_i32_46 : BitVec 32 := 128#32
  let c0_i32_49 : BitVec 32 := 0#32
  let v65 : BitVec 1 := Scalar.cmpi .sgt c128_i32_46 c0_i32_49
  let v66 : BitVec 32 := Scalar.extui v65
  let c0_i32_50 : BitVec 32 := 0#32
  let v67 : BitVec 1 := Scalar.cmpi .slt c128_i32_46 c0_i32_50
  let v68 : BitVec 32 := Scalar.extui v67
  let v69 : BitVec 32 := Scalar.subi v66 v68
  let v70 : BitVec 1 := Scalar.cmpi .ne v64 v69
  let v71 : BitVec 32 := Scalar.remsi v58 c128_i32_46
  let c0_i32_51 : BitVec 32 := 0#32
  let v72 : BitVec 1 := Scalar.cmpi .ne v71 c0_i32_51
  let v73 : BitVec 1 := Scalar.andi v70 v72
  let v59 : BitVec 32 := Scalar.divsi v58 c128_i32_46
  let c1_i32_52 : BitVec 32 := 1#32
  let v74 : BitVec 32 := Scalar.subi v59 c1_i32_52
  let v75 : BitVec 32 := Scalar.select v73 v74 v59
  let c1_i32_53 : BitVec 32 := 1#32
  let v76 : BitVec 32 := Scalar.subi v75 c1_i32_53
  let c0_i32_54 : BitVec 32 := 0#32
  let v77 : BitVec 32 := Scalar.maxsi v76 c0_i32_54
  let c4_i32_55 : BitVec 32 := 4#32
  let v78 : BitVec 32 := Scalar.minsi v77 c4_i32_55
  let c0_i32_56 : BitVec 32 := 0#32
  let v79 : BitVec 1 := Scalar.cmpi .ne v78 c0_i32_56
  v79

def k0_cond2 (i : grid0.Coords) : BitVec 1 :=
  let c8_i32_36 : BitVec 32 := 8#32
  let arg1 : BitVec 32 := BitVec.ofNat 32 (i 1).val
  let v34 : BitVec 32 := Scalar.muli c8_i32_36 arg1
  let c16_i32 : BitVec 32 := 16#32
  let v35 : BitVec 32 := Scalar.addi v34 c16_i32
  let c128_i32 : BitVec 32 := 128#32
  let v57 : BitVec 32 := Scalar.addi v35 c128_i32
  let c1_i32_45 : BitVec 32 := 1#32
  let v58 : BitVec 32 := Scalar.subi v57 c1_i32_45
  let c0_i32_47 : BitVec 32 := 0#32
  let v60 : BitVec 1 := Scalar.cmpi .sgt v58 c0_i32_47
  let v61 : BitVec 32 := Scalar.extui v60
  let c0_i32_48 : BitVec 32 := 0#32
  let v62 : BitVec 1 := Scalar.cmpi .slt v58 c0_i32_48
  let v63 : BitVec 32 := Scalar.extui v62
  let v64 : BitVec 32 := Scalar.subi v61 v63
  let c128_i32_46 : BitVec 32 := 128#32
  let c0_i32_49 : BitVec 32 := 0#32
  let v65 : BitVec 1 := Scalar.cmpi .sgt c128_i32_46 c0_i32_49
  let v66 : BitVec 32 := Scalar.extui v65
  let c0_i32_50 : BitVec 32 := 0#32
  let v67 : BitVec 1 := Scalar.cmpi .slt c128_i32_46 c0_i32_50
  let v68 : BitVec 32 := Scalar.extui v67
  let v69 : BitVec 32 := Scalar.subi v66 v68
  let v70 : BitVec 1 := Scalar.cmpi .ne v64 v69
  let v71 : BitVec 32 := Scalar.remsi v58 c128_i32_46
  let c0_i32_51 : BitVec 32 := 0#32
  let v72 : BitVec 1 := Scalar.cmpi .ne v71 c0_i32_51
  let v73 : BitVec 1 := Scalar.andi v70 v72
  let v59 : BitVec 32 := Scalar.divsi v58 c128_i32_46
  let c1_i32_52 : BitVec 32 := 1#32
  let v74 : BitVec 32 := Scalar.subi v59 c1_i32_52
  let v75 : BitVec 32 := Scalar.select v73 v74 v59
  let c1_i32_53 : BitVec 32 := 1#32
  let v76 : BitVec 32 := Scalar.subi v75 c1_i32_53
  let c0_i32_54 : BitVec 32 := 0#32
  let v77 : BitVec 32 := Scalar.maxsi v76 c0_i32_54
  let c4_i32_55 : BitVec 32 := 4#32
  let v78 : BitVec 32 := Scalar.minsi v77 c4_i32_55
  let c1_i32_820 : BitVec 32 := 1#32
  let v1398 : BitVec 32 := Scalar.subi v78 c1_i32_820
  let c0_i32_821 : BitVec 32 := 0#32
  let v1399 : BitVec 1 := Scalar.cmpi .ne v1398 c0_i32_821
  v1399

def k0_cond3 (i : grid0.Coords) : BitVec 1 :=
  let c8_i32_36 : BitVec 32 := 8#32
  let arg1 : BitVec 32 := BitVec.ofNat 32 (i 1).val
  let v34 : BitVec 32 := Scalar.muli c8_i32_36 arg1
  let c16_i32 : BitVec 32 := 16#32
  let v35 : BitVec 32 := Scalar.addi v34 c16_i32
  let c128_i32 : BitVec 32 := 128#32
  let v57 : BitVec 32 := Scalar.addi v35 c128_i32
  let c1_i32_45 : BitVec 32 := 1#32
  let v58 : BitVec 32 := Scalar.subi v57 c1_i32_45
  let c0_i32_47 : BitVec 32 := 0#32
  let v60 : BitVec 1 := Scalar.cmpi .sgt v58 c0_i32_47
  let v61 : BitVec 32 := Scalar.extui v60
  let c0_i32_48 : BitVec 32 := 0#32
  let v62 : BitVec 1 := Scalar.cmpi .slt v58 c0_i32_48
  let v63 : BitVec 32 := Scalar.extui v62
  let v64 : BitVec 32 := Scalar.subi v61 v63
  let c128_i32_46 : BitVec 32 := 128#32
  let c0_i32_49 : BitVec 32 := 0#32
  let v65 : BitVec 1 := Scalar.cmpi .sgt c128_i32_46 c0_i32_49
  let v66 : BitVec 32 := Scalar.extui v65
  let c0_i32_50 : BitVec 32 := 0#32
  let v67 : BitVec 1 := Scalar.cmpi .slt c128_i32_46 c0_i32_50
  let v68 : BitVec 32 := Scalar.extui v67
  let v69 : BitVec 32 := Scalar.subi v66 v68
  let v70 : BitVec 1 := Scalar.cmpi .ne v64 v69
  let v71 : BitVec 32 := Scalar.remsi v58 c128_i32_46
  let c0_i32_51 : BitVec 32 := 0#32
  let v72 : BitVec 1 := Scalar.cmpi .ne v71 c0_i32_51
  let v73 : BitVec 1 := Scalar.andi v70 v72
  let v59 : BitVec 32 := Scalar.divsi v58 c128_i32_46
  let c1_i32_52 : BitVec 32 := 1#32
  let v74 : BitVec 32 := Scalar.subi v59 c1_i32_52
  let v75 : BitVec 32 := Scalar.select v73 v74 v59
  let c1_i32_53 : BitVec 32 := 1#32
  let v76 : BitVec 32 := Scalar.subi v75 c1_i32_53
  let c0_i32_54 : BitVec 32 := 0#32
  let v77 : BitVec 32 := Scalar.maxsi v76 c0_i32_54
  let c4_i32_55 : BitVec 32 := 4#32
  let v78 : BitVec 32 := Scalar.minsi v77 c4_i32_55
  let c1_i32_820 : BitVec 32 := 1#32
  let v1398 : BitVec 32 := Scalar.subi v78 c1_i32_820
  let c1_i32_822 : BitVec 32 := 1#32
  let v1401 : BitVec 32 := Scalar.subi v1398 c1_i32_822
  let c0_i32_823 : BitVec 32 := 0#32
  let v1402 : BitVec 1 := Scalar.cmpi .ne v1401 c0_i32_823
  v1402

def k0_cond4 (i : grid0.Coords) : BitVec 1 :=
  let c8_i32_36 : BitVec 32 := 8#32
  let arg1 : BitVec 32 := BitVec.ofNat 32 (i 1).val
  let v34 : BitVec 32 := Scalar.muli c8_i32_36 arg1
  let c16_i32 : BitVec 32 := 16#32
  let v35 : BitVec 32 := Scalar.addi v34 c16_i32
  let c128_i32 : BitVec 32 := 128#32
  let v57 : BitVec 32 := Scalar.addi v35 c128_i32
  let c1_i32_45 : BitVec 32 := 1#32
  let v58 : BitVec 32 := Scalar.subi v57 c1_i32_45
  let c0_i32_47 : BitVec 32 := 0#32
  let v60 : BitVec 1 := Scalar.cmpi .sgt v58 c0_i32_47
  let v61 : BitVec 32 := Scalar.extui v60
  let c0_i32_48 : BitVec 32 := 0#32
  let v62 : BitVec 1 := Scalar.cmpi .slt v58 c0_i32_48
  let v63 : BitVec 32 := Scalar.extui v62
  let v64 : BitVec 32 := Scalar.subi v61 v63
  let c128_i32_46 : BitVec 32 := 128#32
  let c0_i32_49 : BitVec 32 := 0#32
  let v65 : BitVec 1 := Scalar.cmpi .sgt c128_i32_46 c0_i32_49
  let v66 : BitVec 32 := Scalar.extui v65
  let c0_i32_50 : BitVec 32 := 0#32
  let v67 : BitVec 1 := Scalar.cmpi .slt c128_i32_46 c0_i32_50
  let v68 : BitVec 32 := Scalar.extui v67
  let v69 : BitVec 32 := Scalar.subi v66 v68
  let v70 : BitVec 1 := Scalar.cmpi .ne v64 v69
  let v71 : BitVec 32 := Scalar.remsi v58 c128_i32_46
  let c0_i32_51 : BitVec 32 := 0#32
  let v72 : BitVec 1 := Scalar.cmpi .ne v71 c0_i32_51
  let v73 : BitVec 1 := Scalar.andi v70 v72
  let v59 : BitVec 32 := Scalar.divsi v58 c128_i32_46
  let c1_i32_52 : BitVec 32 := 1#32
  let v74 : BitVec 32 := Scalar.subi v59 c1_i32_52
  let v75 : BitVec 32 := Scalar.select v73 v74 v59
  let c1_i32_53 : BitVec 32 := 1#32
  let v76 : BitVec 32 := Scalar.subi v75 c1_i32_53
  let c0_i32_54 : BitVec 32 := 0#32
  let v77 : BitVec 32 := Scalar.maxsi v76 c0_i32_54
  let c4_i32_55 : BitVec 32 := 4#32
  let v78 : BitVec 32 := Scalar.minsi v77 c4_i32_55
  let c1_i32_820 : BitVec 32 := 1#32
  let v1398 : BitVec 32 := Scalar.subi v78 c1_i32_820
  let c1_i32_822 : BitVec 32 := 1#32
  let v1401 : BitVec 32 := Scalar.subi v1398 c1_i32_822
  let c1_i32_824 : BitVec 32 := 1#32
  let v1404 : BitVec 32 := Scalar.subi v1401 c1_i32_824
  let c0_i32_825 : BitVec 32 := 0#32
  let v1405 : BitVec 1 := Scalar.cmpi .ne v1404 c0_i32_825
  v1405

def k0_off1 (i : grid0.Coords) : Fin 3 → Nat :=
  let c0_834 : Index := 0#32
  let c8_i32 : BitVec 32 := 8#32
  let arg1 : BitVec 32 := BitVec.ofNat 32 (i 1).val
  let v32 : BitVec 32 := Scalar.muli c8_i32 arg1
  let v33 : BitVec 32 := v32
  let v1413 : Index := Scalar.indexCast v33
  let c0_835 : Index := 0#32
  ![0, v1413.toNat, 0]
def k0_off2 (i : grid0.Coords) : Fin 3 → Nat :=
  let c1_849 : Index := 1#32
  let c8_i32 : BitVec 32 := 8#32
  let arg1 : BitVec 32 := BitVec.ofNat 32 (i 1).val
  let v32 : BitVec 32 := Scalar.muli c8_i32 arg1
  let v33 : BitVec 32 := v32
  let v1429 : Index := Scalar.indexCast v33
  let c0_850 : Index := 0#32
  ![1, v1429.toNat, 0]
def k0_mult2 (i : grid0.Coords) : BitVec 32 :=
  let c512_i32 : BitVec 32 := 512#32
  let c0_i32_856 : BitVec 32 := 0#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1439 : BitVec 32 := Scalar.minsi c0_i32_856 v56
  let v1440 : BitVec 32 := Scalar.muli c512_i32 v1439
  v1440
def k0_off3 (i : grid0.Coords) (c0_i32_856 : BitVec 32) : Fin 4 → Nat :=
  let c0_857 : Index := 0#32
  let c0_858 : Index := 0#32
  let c512_i32 : BitVec 32 := 512#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1439 : BitVec 32 := Scalar.minsi c0_i32_856 v56
  let v1440 : BitVec 32 := Scalar.muli c512_i32 v1439
  let v1441 : BitVec 32 := v1440
  let v1442 : Index := Scalar.indexCast v1441
  let c128_859 : Index := 128#32
  ![0, 0, v1442.toNat, 128]
def k0_mult3 (i : grid0.Coords) : BitVec 32 :=
  let c512_i32_867 : BitVec 32 := 512#32
  let c0_i32_866 : BitVec 32 := 0#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1454 : BitVec 32 := Scalar.minsi c0_i32_866 v56
  let v1455 : BitVec 32 := Scalar.muli c512_i32_867 v1454
  v1455
def k0_off4 (i : grid0.Coords) (c0_i32_866 : BitVec 32) : Fin 4 → Nat :=
  let c0_868 : Index := 0#32
  let c1_869 : Index := 1#32
  let c512_i32_867 : BitVec 32 := 512#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1454 : BitVec 32 := Scalar.minsi c0_i32_866 v56
  let v1455 : BitVec 32 := Scalar.muli c512_i32_867 v1454
  let v1456 : BitVec 32 := v1455
  let v1457 : Index := Scalar.indexCast v1456
  let c128_870 : Index := 128#32
  ![0, 1, v1457.toNat, 128]
def k0_mult4 (i : grid0.Coords) : BitVec 32 :=
  let c512_i32_878 : BitVec 32 := 512#32
  let c1_i32_877 : BitVec 32 := 1#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1469 : BitVec 32 := Scalar.minsi c1_i32_877 v56
  let v1470 : BitVec 32 := Scalar.muli c512_i32_878 v1469
  v1470
def k0_mult5 (i : grid0.Coords) : BitVec 32 :=
  let c512_i32_889 : BitVec 32 := 512#32
  let c1_i32_888 : BitVec 32 := 1#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1484 : BitVec 32 := Scalar.minsi c1_i32_888 v56
  let v1485 : BitVec 32 := Scalar.muli c512_i32_889 v1484
  v1485
def k0_off5 (i : grid0.Coords) : Fin 3 → Nat :=
  let c0_834 : Index := 0#32
  let c8_i32 : BitVec 32 := 8#32
  let arg1 : BitVec 32 := BitVec.ofNat 32 (i 1).val
  let v32 : BitVec 32 := Scalar.muli c8_i32 arg1
  let v33 : BitVec 32 := v32
  let v1413 : Index := Scalar.indexCast v33
  let c0_835 : Index := 0#32
  ![0, v1413.toNat, 0]
def k0_off6 (i : grid0.Coords) : Fin 3 → Nat :=
  let c1_849 : Index := 1#32
  let c8_i32 : BitVec 32 := 8#32
  let arg1 : BitVec 32 := BitVec.ofNat 32 (i 1).val
  let v32 : BitVec 32 := Scalar.muli c8_i32 arg1
  let v33 : BitVec 32 := v32
  let v1429 : Index := Scalar.indexCast v33
  let c0_850 : Index := 0#32
  ![1, v1429.toNat, 0]
def k0_mult6 (i : grid0.Coords) : BitVec 32 :=
  let c512_i32 : BitVec 32 := 512#32
  let c0_i32_856 : BitVec 32 := 0#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1439 : BitVec 32 := Scalar.minsi c0_i32_856 v56
  let v1440 : BitVec 32 := Scalar.muli c512_i32 v1439
  v1440
def k0_off7 (i : grid0.Coords) (c0_i32_856 : BitVec 32) : Fin 4 → Nat :=
  let c0_857 : Index := 0#32
  let c0_858 : Index := 0#32
  let c512_i32 : BitVec 32 := 512#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1439 : BitVec 32 := Scalar.minsi c0_i32_856 v56
  let v1440 : BitVec 32 := Scalar.muli c512_i32 v1439
  let v1441 : BitVec 32 := v1440
  let v1442 : Index := Scalar.indexCast v1441
  let c128_859 : Index := 128#32
  ![0, 0, v1442.toNat, 128]
def k0_mult7 (i : grid0.Coords) : BitVec 32 :=
  let c512_i32_867 : BitVec 32 := 512#32
  let c0_i32_866 : BitVec 32 := 0#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1454 : BitVec 32 := Scalar.minsi c0_i32_866 v56
  let v1455 : BitVec 32 := Scalar.muli c512_i32_867 v1454
  v1455
def k0_off8 (i : grid0.Coords) (c0_i32_866 : BitVec 32) : Fin 4 → Nat :=
  let c0_868 : Index := 0#32
  let c1_869 : Index := 1#32
  let c512_i32_867 : BitVec 32 := 512#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1454 : BitVec 32 := Scalar.minsi c0_i32_866 v56
  let v1455 : BitVec 32 := Scalar.muli c512_i32_867 v1454
  let v1456 : BitVec 32 := v1455
  let v1457 : Index := Scalar.indexCast v1456
  let c128_870 : Index := 128#32
  ![0, 1, v1457.toNat, 128]
def k0_mult8 (i : grid0.Coords) : BitVec 32 :=
  let c512_i32_878 : BitVec 32 := 512#32
  let c1_i32_877 : BitVec 32 := 1#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1469 : BitVec 32 := Scalar.minsi c1_i32_877 v56
  let v1470 : BitVec 32 := Scalar.muli c512_i32_878 v1469
  v1470
def k0_mult9 (i : grid0.Coords) : BitVec 32 :=
  let c512_i32_889 : BitVec 32 := 512#32
  let c1_i32_888 : BitVec 32 := 1#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1484 : BitVec 32 := Scalar.minsi c1_i32_888 v56
  let v1485 : BitVec 32 := Scalar.muli c512_i32_889 v1484
  v1485
def k0_off9 (i : grid0.Coords) : Fin 3 → Nat :=
  let c0_832 : Index := 0#32
  let c8_i32 : BitVec 32 := 8#32
  let arg1 : BitVec 32 := BitVec.ofNat 32 (i 1).val
  let v32 : BitVec 32 := Scalar.muli c8_i32 arg1
  let v33 : BitVec 32 := v32
  let v1410 : Index := Scalar.indexCast v33
  let c0_833 : Index := 0#32
  ![0, v1410.toNat, 0]
def k0_off10 (i : grid0.Coords) : Fin 3 → Nat :=
  let c1_847 : Index := 1#32
  let c8_i32 : BitVec 32 := 8#32
  let arg1 : BitVec 32 := BitVec.ofNat 32 (i 1).val
  let v32 : BitVec 32 := Scalar.muli c8_i32 arg1
  let v33 : BitVec 32 := v32
  let v1426 : Index := Scalar.indexCast v33
  let c0_848 : Index := 0#32
  ![1, v1426.toNat, 0]
def k0_mult10 (i : grid0.Coords) : BitVec 32 :=
  let c512_i32 : BitVec 32 := 512#32
  let c0_i32_854 : BitVec 32 := 0#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1436 : BitVec 32 := Scalar.minsi c0_i32_854 v56
  let v1437 : BitVec 32 := Scalar.muli c512_i32 v1436
  v1437
def k0_off11 (i : grid0.Coords) (c0_i32_854 : BitVec 32) : Fin 4 → Nat :=
  let c0_855 : Index := 0#32
  let c0_856 : Index := 0#32
  let c512_i32 : BitVec 32 := 512#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1436 : BitVec 32 := Scalar.minsi c0_i32_854 v56
  let v1437 : BitVec 32 := Scalar.muli c512_i32 v1436
  let v1438 : BitVec 32 := v1437
  let v1439 : Index := Scalar.indexCast v1438
  let c128_857 : Index := 128#32
  ![0, 0, v1439.toNat, 128]
def k0_mult11 (i : grid0.Coords) : BitVec 32 :=
  let c512_i32_865 : BitVec 32 := 512#32
  let c0_i32_864 : BitVec 32 := 0#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1451 : BitVec 32 := Scalar.minsi c0_i32_864 v56
  let v1452 : BitVec 32 := Scalar.muli c512_i32_865 v1451
  v1452
def k0_off12 (i : grid0.Coords) (c0_i32_864 : BitVec 32) : Fin 4 → Nat :=
  let c0_866 : Index := 0#32
  let c1_867 : Index := 1#32
  let c512_i32_865 : BitVec 32 := 512#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1451 : BitVec 32 := Scalar.minsi c0_i32_864 v56
  let v1452 : BitVec 32 := Scalar.muli c512_i32_865 v1451
  let v1453 : BitVec 32 := v1452
  let v1454 : Index := Scalar.indexCast v1453
  let c128_868 : Index := 128#32
  ![0, 1, v1454.toNat, 128]
def k0_mult12 (i : grid0.Coords) : BitVec 32 :=
  let c512_i32_876 : BitVec 32 := 512#32
  let c1_i32_875 : BitVec 32 := 1#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1466 : BitVec 32 := Scalar.minsi c1_i32_875 v56
  let v1467 : BitVec 32 := Scalar.muli c512_i32_876 v1466
  v1467
def k0_mult13 (i : grid0.Coords) : BitVec 32 :=
  let c512_i32_887 : BitVec 32 := 512#32
  let c1_i32_886 : BitVec 32 := 1#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1481 : BitVec 32 := Scalar.minsi c1_i32_886 v56
  let v1482 : BitVec 32 := Scalar.muli c512_i32_887 v1481
  v1482
def k0_off13 (i : grid0.Coords) : Fin 3 → Nat :=
  let c0_830 : Index := 0#32
  let c8_i32 : BitVec 32 := 8#32
  let arg1 : BitVec 32 := BitVec.ofNat 32 (i 1).val
  let v32 : BitVec 32 := Scalar.muli c8_i32 arg1
  let v33 : BitVec 32 := v32
  let v1407 : Index := Scalar.indexCast v33
  let c0_831 : Index := 0#32
  ![0, v1407.toNat, 0]
def k0_off14 (i : grid0.Coords) : Fin 3 → Nat :=
  let c1_845 : Index := 1#32
  let c8_i32 : BitVec 32 := 8#32
  let arg1 : BitVec 32 := BitVec.ofNat 32 (i 1).val
  let v32 : BitVec 32 := Scalar.muli c8_i32 arg1
  let v33 : BitVec 32 := v32
  let v1423 : Index := Scalar.indexCast v33
  let c0_846 : Index := 0#32
  ![1, v1423.toNat, 0]
def k0_mult14 (i : grid0.Coords) : BitVec 32 :=
  let c512_i32 : BitVec 32 := 512#32
  let c0_i32_852 : BitVec 32 := 0#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1433 : BitVec 32 := Scalar.minsi c0_i32_852 v56
  let v1434 : BitVec 32 := Scalar.muli c512_i32 v1433
  v1434
def k0_off15 (i : grid0.Coords) (c0_i32_852 : BitVec 32) : Fin 4 → Nat :=
  let c0_853 : Index := 0#32
  let c0_854 : Index := 0#32
  let c512_i32 : BitVec 32 := 512#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1433 : BitVec 32 := Scalar.minsi c0_i32_852 v56
  let v1434 : BitVec 32 := Scalar.muli c512_i32 v1433
  let v1435 : BitVec 32 := v1434
  let v1436 : Index := Scalar.indexCast v1435
  let c128_855 : Index := 128#32
  ![0, 0, v1436.toNat, 128]
def k0_mult15 (i : grid0.Coords) : BitVec 32 :=
  let c512_i32_863 : BitVec 32 := 512#32
  let c0_i32_862 : BitVec 32 := 0#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1448 : BitVec 32 := Scalar.minsi c0_i32_862 v56
  let v1449 : BitVec 32 := Scalar.muli c512_i32_863 v1448
  v1449
def k0_off16 (i : grid0.Coords) (c0_i32_862 : BitVec 32) : Fin 4 → Nat :=
  let c0_864 : Index := 0#32
  let c1_865 : Index := 1#32
  let c512_i32_863 : BitVec 32 := 512#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1448 : BitVec 32 := Scalar.minsi c0_i32_862 v56
  let v1449 : BitVec 32 := Scalar.muli c512_i32_863 v1448
  let v1450 : BitVec 32 := v1449
  let v1451 : Index := Scalar.indexCast v1450
  let c128_866 : Index := 128#32
  ![0, 1, v1451.toNat, 128]
def k0_mult16 (i : grid0.Coords) : BitVec 32 :=
  let c512_i32_874 : BitVec 32 := 512#32
  let c1_i32_873 : BitVec 32 := 1#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1463 : BitVec 32 := Scalar.minsi c1_i32_873 v56
  let v1464 : BitVec 32 := Scalar.muli c512_i32_874 v1463
  v1464
def k0_mult17 (i : grid0.Coords) : BitVec 32 :=
  let c512_i32_885 : BitVec 32 := 512#32
  let c1_i32_884 : BitVec 32 := 1#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1478 : BitVec 32 := Scalar.minsi c1_i32_884 v56
  let v1479 : BitVec 32 := Scalar.muli c512_i32_885 v1478
  v1479
def k0_off17 (i : grid0.Coords) : Fin 3 → Nat :=
  let c0_828 : Index := 0#32
  let c8_i32 : BitVec 32 := 8#32
  let arg1 : BitVec 32 := BitVec.ofNat 32 (i 1).val
  let v32 : BitVec 32 := Scalar.muli c8_i32 arg1
  let v33 : BitVec 32 := v32
  let v1404 : Index := Scalar.indexCast v33
  let c0_829 : Index := 0#32
  ![0, v1404.toNat, 0]
def k0_off18 (i : grid0.Coords) : Fin 3 → Nat :=
  let c1_843 : Index := 1#32
  let c8_i32 : BitVec 32 := 8#32
  let arg1 : BitVec 32 := BitVec.ofNat 32 (i 1).val
  let v32 : BitVec 32 := Scalar.muli c8_i32 arg1
  let v33 : BitVec 32 := v32
  let v1420 : Index := Scalar.indexCast v33
  let c0_844 : Index := 0#32
  ![1, v1420.toNat, 0]
def k0_mult18 (i : grid0.Coords) : BitVec 32 :=
  let c512_i32 : BitVec 32 := 512#32
  let c0_i32_850 : BitVec 32 := 0#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1430 : BitVec 32 := Scalar.minsi c0_i32_850 v56
  let v1431 : BitVec 32 := Scalar.muli c512_i32 v1430
  v1431
def k0_off19 (i : grid0.Coords) (c0_i32_850 : BitVec 32) : Fin 4 → Nat :=
  let c0_851 : Index := 0#32
  let c0_852 : Index := 0#32
  let c512_i32 : BitVec 32 := 512#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1430 : BitVec 32 := Scalar.minsi c0_i32_850 v56
  let v1431 : BitVec 32 := Scalar.muli c512_i32 v1430
  let v1432 : BitVec 32 := v1431
  let v1433 : Index := Scalar.indexCast v1432
  let c128_853 : Index := 128#32
  ![0, 0, v1433.toNat, 128]
def k0_mult19 (i : grid0.Coords) : BitVec 32 :=
  let c512_i32_861 : BitVec 32 := 512#32
  let c0_i32_860 : BitVec 32 := 0#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1445 : BitVec 32 := Scalar.minsi c0_i32_860 v56
  let v1446 : BitVec 32 := Scalar.muli c512_i32_861 v1445
  v1446
def k0_off20 (i : grid0.Coords) (c0_i32_860 : BitVec 32) : Fin 4 → Nat :=
  let c0_862 : Index := 0#32
  let c1_863 : Index := 1#32
  let c512_i32_861 : BitVec 32 := 512#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1445 : BitVec 32 := Scalar.minsi c0_i32_860 v56
  let v1446 : BitVec 32 := Scalar.muli c512_i32_861 v1445
  let v1447 : BitVec 32 := v1446
  let v1448 : Index := Scalar.indexCast v1447
  let c128_864 : Index := 128#32
  ![0, 1, v1448.toNat, 128]
def k0_mult20 (i : grid0.Coords) : BitVec 32 :=
  let c512_i32_872 : BitVec 32 := 512#32
  let c1_i32_871 : BitVec 32 := 1#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1460 : BitVec 32 := Scalar.minsi c1_i32_871 v56
  let v1461 : BitVec 32 := Scalar.muli c512_i32_872 v1460
  v1461
def k0_mult21 (i : grid0.Coords) : BitVec 32 :=
  let c512_i32_883 : BitVec 32 := 512#32
  let c1_i32_882 : BitVec 32 := 1#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1475 : BitVec 32 := Scalar.minsi c1_i32_882 v56
  let v1476 : BitVec 32 := Scalar.muli c512_i32_883 v1475
  v1476
def k0_cond5 (i : grid0.Coords) : BitVec 1 :=
  let c2_i32_63 : BitVec 32 := 2#32
  let arg1 : BitVec 32 := BitVec.ofNat 32 (i 1).val
  let c1_i32_62 : BitVec 32 := 1#32
  let v106 : BitVec 32 := Scalar.addi arg1 c1_i32_62
  let v107 : BitVec 32 := Scalar.muli c2_i32_63 v106
  let c32_i32 : BitVec 32 := 32#32
  let v108 : BitVec 32 := Scalar.addi v107 c32_i32
  let c1_i32_64 : BitVec 32 := 1#32
  let v109 : BitVec 32 := Scalar.subi v108 c1_i32_64
  let c0_i32_66 : BitVec 32 := 0#32
  let v111 : BitVec 1 := Scalar.cmpi .sgt v109 c0_i32_66
  let v112 : BitVec 32 := Scalar.extui v111
  let c0_i32_67 : BitVec 32 := 0#32
  let v113 : BitVec 1 := Scalar.cmpi .slt v109 c0_i32_67
  let v114 : BitVec 32 := Scalar.extui v113
  let v115 : BitVec 32 := Scalar.subi v112 v114
  let c32_i32_65 : BitVec 32 := 32#32
  let c0_i32_68 : BitVec 32 := 0#32
  let v116 : BitVec 1 := Scalar.cmpi .sgt c32_i32_65 c0_i32_68
  let v117 : BitVec 32 := Scalar.extui v116
  let c0_i32_69 : BitVec 32 := 0#32
  let v118 : BitVec 1 := Scalar.cmpi .slt c32_i32_65 c0_i32_69
  let v119 : BitVec 32 := Scalar.extui v118
  let v120 : BitVec 32 := Scalar.subi v117 v119
  let v121 : BitVec 1 := Scalar.cmpi .ne v115 v120
  let v122 : BitVec 32 := Scalar.remsi v109 c32_i32_65
  let c0_i32_70 : BitVec 32 := 0#32
  let v123 : BitVec 1 := Scalar.cmpi .ne v122 c0_i32_70
  let v124 : BitVec 1 := Scalar.andi v121 v123
  let v110 : BitVec 32 := Scalar.divsi v109 c32_i32_65
  let c1_i32_71 : BitVec 32 := 1#32
  let v125 : BitVec 32 := Scalar.subi v110 c1_i32_71
  let v126 : BitVec 32 := Scalar.select v124 v125 v110
  let c1_i32_72 : BitVec 32 := 1#32
  let v127 : BitVec 32 := Scalar.subi v126 c1_i32_72
  let c0_i32_73 : BitVec 32 := 0#32
  let v128 : BitVec 32 := Scalar.maxsi v127 c0_i32_73
  let c3_i32 : BitVec 32 := 3#32
  let v129 : BitVec 32 := Scalar.minsi v128 c3_i32
  let c0_i32_74 : BitVec 32 := 0#32
  let v130 : BitVec 1 := Scalar.cmpi .ne v129 c0_i32_74
  v130

def k0_cond6 (i : grid0.Coords) : BitVec 1 :=
  let c2_i32_63 : BitVec 32 := 2#32
  let arg1 : BitVec 32 := BitVec.ofNat 32 (i 1).val
  let c1_i32_62 : BitVec 32 := 1#32
  let v106 : BitVec 32 := Scalar.addi arg1 c1_i32_62
  let v107 : BitVec 32 := Scalar.muli c2_i32_63 v106
  let c32_i32 : BitVec 32 := 32#32
  let v108 : BitVec 32 := Scalar.addi v107 c32_i32
  let c1_i32_64 : BitVec 32 := 1#32
  let v109 : BitVec 32 := Scalar.subi v108 c1_i32_64
  let c0_i32_66 : BitVec 32 := 0#32
  let v111 : BitVec 1 := Scalar.cmpi .sgt v109 c0_i32_66
  let v112 : BitVec 32 := Scalar.extui v111
  let c0_i32_67 : BitVec 32 := 0#32
  let v113 : BitVec 1 := Scalar.cmpi .slt v109 c0_i32_67
  let v114 : BitVec 32 := Scalar.extui v113
  let v115 : BitVec 32 := Scalar.subi v112 v114
  let c32_i32_65 : BitVec 32 := 32#32
  let c0_i32_68 : BitVec 32 := 0#32
  let v116 : BitVec 1 := Scalar.cmpi .sgt c32_i32_65 c0_i32_68
  let v117 : BitVec 32 := Scalar.extui v116
  let c0_i32_69 : BitVec 32 := 0#32
  let v118 : BitVec 1 := Scalar.cmpi .slt c32_i32_65 c0_i32_69
  let v119 : BitVec 32 := Scalar.extui v118
  let v120 : BitVec 32 := Scalar.subi v117 v119
  let v121 : BitVec 1 := Scalar.cmpi .ne v115 v120
  let v122 : BitVec 32 := Scalar.remsi v109 c32_i32_65
  let c0_i32_70 : BitVec 32 := 0#32
  let v123 : BitVec 1 := Scalar.cmpi .ne v122 c0_i32_70
  let v124 : BitVec 1 := Scalar.andi v121 v123
  let v110 : BitVec 32 := Scalar.divsi v109 c32_i32_65
  let c1_i32_71 : BitVec 32 := 1#32
  let v125 : BitVec 32 := Scalar.subi v110 c1_i32_71
  let v126 : BitVec 32 := Scalar.select v124 v125 v110
  let c1_i32_72 : BitVec 32 := 1#32
  let v127 : BitVec 32 := Scalar.subi v126 c1_i32_72
  let c0_i32_73 : BitVec 32 := 0#32
  let v128 : BitVec 32 := Scalar.maxsi v127 c0_i32_73
  let c3_i32 : BitVec 32 := 3#32
  let v129 : BitVec 32 := Scalar.minsi v128 c3_i32
  let c1_i32_820 : BitVec 32 := 1#32
  let v1398 : BitVec 32 := Scalar.subi v129 c1_i32_820
  let c0_i32_821 : BitVec 32 := 0#32
  let v1399 : BitVec 1 := Scalar.cmpi .ne v1398 c0_i32_821
  v1399

def k0_cond7 (i : grid0.Coords) : BitVec 1 :=
  let c2_i32_63 : BitVec 32 := 2#32
  let arg1 : BitVec 32 := BitVec.ofNat 32 (i 1).val
  let c1_i32_62 : BitVec 32 := 1#32
  let v106 : BitVec 32 := Scalar.addi arg1 c1_i32_62
  let v107 : BitVec 32 := Scalar.muli c2_i32_63 v106
  let c32_i32 : BitVec 32 := 32#32
  let v108 : BitVec 32 := Scalar.addi v107 c32_i32
  let c1_i32_64 : BitVec 32 := 1#32
  let v109 : BitVec 32 := Scalar.subi v108 c1_i32_64
  let c0_i32_66 : BitVec 32 := 0#32
  let v111 : BitVec 1 := Scalar.cmpi .sgt v109 c0_i32_66
  let v112 : BitVec 32 := Scalar.extui v111
  let c0_i32_67 : BitVec 32 := 0#32
  let v113 : BitVec 1 := Scalar.cmpi .slt v109 c0_i32_67
  let v114 : BitVec 32 := Scalar.extui v113
  let v115 : BitVec 32 := Scalar.subi v112 v114
  let c32_i32_65 : BitVec 32 := 32#32
  let c0_i32_68 : BitVec 32 := 0#32
  let v116 : BitVec 1 := Scalar.cmpi .sgt c32_i32_65 c0_i32_68
  let v117 : BitVec 32 := Scalar.extui v116
  let c0_i32_69 : BitVec 32 := 0#32
  let v118 : BitVec 1 := Scalar.cmpi .slt c32_i32_65 c0_i32_69
  let v119 : BitVec 32 := Scalar.extui v118
  let v120 : BitVec 32 := Scalar.subi v117 v119
  let v121 : BitVec 1 := Scalar.cmpi .ne v115 v120
  let v122 : BitVec 32 := Scalar.remsi v109 c32_i32_65
  let c0_i32_70 : BitVec 32 := 0#32
  let v123 : BitVec 1 := Scalar.cmpi .ne v122 c0_i32_70
  let v124 : BitVec 1 := Scalar.andi v121 v123
  let v110 : BitVec 32 := Scalar.divsi v109 c32_i32_65
  let c1_i32_71 : BitVec 32 := 1#32
  let v125 : BitVec 32 := Scalar.subi v110 c1_i32_71
  let v126 : BitVec 32 := Scalar.select v124 v125 v110
  let c1_i32_72 : BitVec 32 := 1#32
  let v127 : BitVec 32 := Scalar.subi v126 c1_i32_72
  let c0_i32_73 : BitVec 32 := 0#32
  let v128 : BitVec 32 := Scalar.maxsi v127 c0_i32_73
  let c3_i32 : BitVec 32 := 3#32
  let v129 : BitVec 32 := Scalar.minsi v128 c3_i32
  let c1_i32_820 : BitVec 32 := 1#32
  let v1398 : BitVec 32 := Scalar.subi v129 c1_i32_820
  let c1_i32_822 : BitVec 32 := 1#32
  let v1401 : BitVec 32 := Scalar.subi v1398 c1_i32_822
  let c0_i32_823 : BitVec 32 := 0#32
  let v1402 : BitVec 1 := Scalar.cmpi .ne v1401 c0_i32_823
  v1402

@[reducible] def k0_t1_loop : Scf.Loop 32 :=
  let c0_i32_824 : BitVec 32 := 0#32
  let c13_i32 : BitVec 32 := 13#32
  let v1404 : BitVec 32 := Scalar.addi c0_i32_824 c13_i32
  let c1_i32_825 : BitVec 32 := 1#32
  ⟨c0_i32_824, v1404, c1_i32_825⟩
@[reducible] def k0_t2_loop : Scf.Loop 32 :=
  let c0_i32_824 : BitVec 32 := 0#32
  let c13_i32 : BitVec 32 := 13#32
  let v1406 : BitVec 32 := Scalar.addi c0_i32_824 c13_i32
  let c1_i32_825 : BitVec 32 := 1#32
  ⟨c0_i32_824, v1406, c1_i32_825⟩
@[reducible] def k0_t3_loop : Scf.Loop 32 :=
  let c0_i32_822 : BitVec 32 := 0#32
  let c13_i32 : BitVec 32 := 13#32
  let v1403 : BitVec 32 := Scalar.addi c0_i32_822 c13_i32
  let c1_i32_823 : BitVec 32 := 1#32
  ⟨c0_i32_822, v1403, c1_i32_823⟩
@[reducible] def k0_t4_loop : Scf.Loop 32 :=
  let c0_i32_820 : BitVec 32 := 0#32
  let c13_i32 : BitVec 32 := 13#32
  let v1400 : BitVec 32 := Scalar.addi c0_i32_820 c13_i32
  let c1_i32_821 : BitVec 32 := 1#32
  ⟨c0_i32_820, v1400, c1_i32_821⟩
def k0_mult22 (i : grid0.Coords) : BitVec 32 :=
  let arg1 : BitVec 32 := BitVec.ofNat 32 (i 1).val
  let c4_i32_121 : BitVec 32 := 4#32
  let v210 : BitVec 32 := Scalar.subi arg1 c4_i32_121
  let c0_i32_122 : BitVec 32 := 0#32
  let v211 : BitVec 32 := Scalar.addi v210 c0_i32_122
  let c0_i32_123 : BitVec 32 := 0#32
  let v212 : BitVec 32 := Scalar.maxsi v211 c0_i32_123
  let c128_i32_124 : BitVec 32 := 128#32
  let v213 : BitVec 32 := Scalar.muli v212 c128_i32_124
  v213
def k0_off21 (i : grid0.Coords) (c0_i32_122 : BitVec 32) : Fin 4 → Nat :=
  let c0_125 : Index := 0#32
  let c0_126 : Index := 0#32
  let arg1 : BitVec 32 := BitVec.ofNat 32 (i 1).val
  let c4_i32_121 : BitVec 32 := 4#32
  let v210 : BitVec 32 := Scalar.subi arg1 c4_i32_121
  let v211 : BitVec 32 := Scalar.addi v210 c0_i32_122
  let c0_i32_123 : BitVec 32 := 0#32
  let v212 : BitVec 32 := Scalar.maxsi v211 c0_i32_123
  let c128_i32_124 : BitVec 32 := 128#32
  let v213 : BitVec 32 := Scalar.muli v212 c128_i32_124
  let v214 : BitVec 32 := v213
  let v215 : Index := Scalar.indexCast v214
  let c0_127 : Index := 0#32
  ![0, 0, v215.toNat, 0]
def k0_mult23 (i : grid0.Coords) : BitVec 32 :=
  let arg1 : BitVec 32 := BitVec.ofNat 32 (i 1).val
  let c4_i32_130 : BitVec 32 := 4#32
  let v224 : BitVec 32 := Scalar.subi arg1 c4_i32_130
  let c1_i32_131 : BitVec 32 := 1#32
  let v225 : BitVec 32 := Scalar.addi v224 c1_i32_131
  let c0_i32_132 : BitVec 32 := 0#32
  let v226 : BitVec 32 := Scalar.maxsi v225 c0_i32_132
  let c128_i32_133 : BitVec 32 := 128#32
  let v227 : BitVec 32 := Scalar.muli v226 c128_i32_133
  v227
def k0_mult24 (i : grid0.Coords) : BitVec 32 :=
  let arg1 : BitVec 32 := BitVec.ofNat 32 (i 1).val
  let c4_i32_139 : BitVec 32 := 4#32
  let v237 : BitVec 32 := Scalar.subi arg1 c4_i32_139
  let c2_i32_140 : BitVec 32 := 2#32
  let v238 : BitVec 32 := Scalar.addi v237 c2_i32_140
  let c0_i32_141 : BitVec 32 := 0#32
  let v239 : BitVec 32 := Scalar.maxsi v238 c0_i32_141
  let c128_i32_142 : BitVec 32 := 128#32
  let v240 : BitVec 32 := Scalar.muli v239 c128_i32_142
  v240
def k0_mult25 (i : grid0.Coords) : BitVec 32 :=
  let arg1 : BitVec 32 := BitVec.ofNat 32 (i 1).val
  let c4_i32_148 : BitVec 32 := 4#32
  let v250 : BitVec 32 := Scalar.subi arg1 c4_i32_148
  let c3_i32_149 : BitVec 32 := 3#32
  let v251 : BitVec 32 := Scalar.addi v250 c3_i32_149
  let c0_i32_150 : BitVec 32 := 0#32
  let v252 : BitVec 32 := Scalar.maxsi v251 c0_i32_150
  let c128_i32_151 : BitVec 32 := 128#32
  let v253 : BitVec 32 := Scalar.muli v252 c128_i32_151
  v253
def k0_mult26 (i : grid0.Coords) : BitVec 32 :=
  let arg1 : BitVec 32 := BitVec.ofNat 32 (i 1).val
  let c4_i32_157 : BitVec 32 := 4#32
  let v264 : BitVec 32 := Scalar.subi arg1 c4_i32_157
  let c4_i32_158 : BitVec 32 := 4#32
  let v265 : BitVec 32 := Scalar.addi v264 c4_i32_158
  let c0_i32_159 : BitVec 32 := 0#32
  let v266 : BitVec 32 := Scalar.maxsi v265 c0_i32_159
  let c128_i32_160 : BitVec 32 := 128#32
  let v267 : BitVec 32 := Scalar.muli v266 c128_i32_160
  v267
def k0_mult27 (i : grid0.Coords) : BitVec 32 :=
  let arg1 : BitVec 32 := BitVec.ofNat 32 (i 1).val
  let c4_i32_166 : BitVec 32 := 4#32
  let v280 : BitVec 32 := Scalar.subi arg1 c4_i32_166
  let c0_i32_167 : BitVec 32 := 0#32
  let v281 : BitVec 32 := Scalar.addi v280 c0_i32_167
  let c0_i32_168 : BitVec 32 := 0#32
  let v282 : BitVec 32 := Scalar.maxsi v281 c0_i32_168
  let c128_i32_169 : BitVec 32 := 128#32
  let v283 : BitVec 32 := Scalar.muli v282 c128_i32_169
  v283
def k0_off22 (i : grid0.Coords) (c0_i32_167 : BitVec 32) : Fin 4 → Nat :=
  let c0_170 : Index := 0#32
  let c1_171 : Index := 1#32
  let arg1 : BitVec 32 := BitVec.ofNat 32 (i 1).val
  let c4_i32_166 : BitVec 32 := 4#32
  let v280 : BitVec 32 := Scalar.subi arg1 c4_i32_166
  let v281 : BitVec 32 := Scalar.addi v280 c0_i32_167
  let c0_i32_168 : BitVec 32 := 0#32
  let v282 : BitVec 32 := Scalar.maxsi v281 c0_i32_168
  let c128_i32_169 : BitVec 32 := 128#32
  let v283 : BitVec 32 := Scalar.muli v282 c128_i32_169
  let v284 : BitVec 32 := v283
  let v285 : Index := Scalar.indexCast v284
  let c0_172 : Index := 0#32
  ![0, 1, v285.toNat, 0]
def k0_mult28 (i : grid0.Coords) : BitVec 32 :=
  let arg1 : BitVec 32 := BitVec.ofNat 32 (i 1).val
  let c4_i32_175 : BitVec 32 := 4#32
  let v294 : BitVec 32 := Scalar.subi arg1 c4_i32_175
  let c1_i32_176 : BitVec 32 := 1#32
  let v295 : BitVec 32 := Scalar.addi v294 c1_i32_176
  let c0_i32_177 : BitVec 32 := 0#32
  let v296 : BitVec 32 := Scalar.maxsi v295 c0_i32_177
  let c128_i32_178 : BitVec 32 := 128#32
  let v297 : BitVec 32 := Scalar.muli v296 c128_i32_178
  v297
def k0_mult29 (i : grid0.Coords) : BitVec 32 :=
  let arg1 : BitVec 32 := BitVec.ofNat 32 (i 1).val
  let c4_i32_184 : BitVec 32 := 4#32
  let v307 : BitVec 32 := Scalar.subi arg1 c4_i32_184
  let c2_i32_185 : BitVec 32 := 2#32
  let v308 : BitVec 32 := Scalar.addi v307 c2_i32_185
  let c0_i32_186 : BitVec 32 := 0#32
  let v309 : BitVec 32 := Scalar.maxsi v308 c0_i32_186
  let c128_i32_187 : BitVec 32 := 128#32
  let v310 : BitVec 32 := Scalar.muli v309 c128_i32_187
  v310
def k0_mult30 (i : grid0.Coords) : BitVec 32 :=
  let arg1 : BitVec 32 := BitVec.ofNat 32 (i 1).val
  let c4_i32_193 : BitVec 32 := 4#32
  let v320 : BitVec 32 := Scalar.subi arg1 c4_i32_193
  let c3_i32_194 : BitVec 32 := 3#32
  let v321 : BitVec 32 := Scalar.addi v320 c3_i32_194
  let c0_i32_195 : BitVec 32 := 0#32
  let v322 : BitVec 32 := Scalar.maxsi v321 c0_i32_195
  let c128_i32_196 : BitVec 32 := 128#32
  let v323 : BitVec 32 := Scalar.muli v322 c128_i32_196
  v323
def k0_mult31 (i : grid0.Coords) : BitVec 32 :=
  let arg1 : BitVec 32 := BitVec.ofNat 32 (i 1).val
  let c4_i32_202 : BitVec 32 := 4#32
  let v334 : BitVec 32 := Scalar.subi arg1 c4_i32_202
  let c4_i32_203 : BitVec 32 := 4#32
  let v335 : BitVec 32 := Scalar.addi v334 c4_i32_203
  let c0_i32_204 : BitVec 32 := 0#32
  let v336 : BitVec 32 := Scalar.maxsi v335 c0_i32_204
  let c128_i32_205 : BitVec 32 := 128#32
  let v337 : BitVec 32 := Scalar.muli v336 c128_i32_205
  v337
def k0_off23 (i : grid0.Coords) (c0_i32_218 : BitVec 32) : Fin 5 → Nat :=
  let c0_220 : Index := 0#32
  let c0_221 : Index := 0#32
  let arg1 : BitVec 32 := BitVec.ofNat 32 (i 1).val
  let c4_i32_217 : BitVec 32 := 4#32
  let v365 : BitVec 32 := Scalar.subi arg1 c4_i32_217
  let v366 : BitVec 32 := Scalar.addi v365 c0_i32_218
  let c0_i32_219 : BitVec 32 := 0#32
  let v367 : BitVec 32 := Scalar.maxsi v366 c0_i32_219
  let v368 : Index := Scalar.indexCast v367
  let c0_222 : Index := 0#32
  let c0_223 : Index := 0#32
  ![0, 0, v368.toNat, 0, 0]
def k0_off24 (i : grid0.Coords) (c0_i32_265 : BitVec 32) : Fin 5 → Nat :=
  let c0_267 : Index := 0#32
  let c1_268 : Index := 1#32
  let arg1 : BitVec 32 := BitVec.ofNat 32 (i 1).val
  let c4_i32_264 : BitVec 32 := 4#32
  let v450 : BitVec 32 := Scalar.subi arg1 c4_i32_264
  let v451 : BitVec 32 := Scalar.addi v450 c0_i32_265
  let c0_i32_266 : BitVec 32 := 0#32
  let v452 : BitVec 32 := Scalar.maxsi v451 c0_i32_266
  let v453 : Index := Scalar.indexCast v452
  let c0_269 : Index := 0#32
  let c0_270 : Index := 0#32
  ![0, 1, v453.toNat, 0, 0]
@[reducible] def k0_t5_loop (i : grid0.Coords) : Scf.Loop 32 :=
  let c0_i32_323 : BitVec 32 := 0#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_316 : BitVec 32 := 0#32
  let v536 : BitVec 1 := Scalar.cmpi .sgt v534 c0_i32_316
  let v537 : BitVec 32 := Scalar.extui v536
  let c0_i32_317 : BitVec 32 := 0#32
  let v538 : BitVec 1 := Scalar.cmpi .slt v534 c0_i32_317
  let v539 : BitVec 32 := Scalar.extui v538
  let v540 : BitVec 32 := Scalar.subi v537 v539
  let c2_i32_315 : BitVec 32 := 2#32
  let c0_i32_318 : BitVec 32 := 0#32
  let v541 : BitVec 1 := Scalar.cmpi .sgt c2_i32_315 c0_i32_318
  let v542 : BitVec 32 := Scalar.extui v541
  let c0_i32_319 : BitVec 32 := 0#32
  let v543 : BitVec 1 := Scalar.cmpi .slt c2_i32_315 c0_i32_319
  let v544 : BitVec 32 := Scalar.extui v543
  let v545 : BitVec 32 := Scalar.subi v542 v544
  let v546 : BitVec 1 := Scalar.cmpi .ne v540 v545
  let v547 : BitVec 32 := Scalar.remsi v534 c2_i32_315
  let c0_i32_320 : BitVec 32 := 0#32
  let v548 : BitVec 1 := Scalar.cmpi .ne v547 c0_i32_320
  let v549 : BitVec 1 := Scalar.andi v546 v548
  let v535 : BitVec 32 := Scalar.divsi v534 c2_i32_315
  let c1_i32_321 : BitVec 32 := 1#32
  let v550 : BitVec 32 := Scalar.subi v535 c1_i32_321
  let v551 : BitVec 32 := Scalar.select v549 v550 v535
  let v552 : BitVec 32 := Scalar.subi v551 c0_i32_323
  let c1_i32_324 : BitVec 32 := 1#32
  let v554 : BitVec 32 := Scalar.divsi v552 c1_i32_324
  let v555 : BitVec 32 := Scalar.muli v554 c1_i32_324
  let v556 : BitVec 32 := Scalar.addi c0_i32_323 v555
  let c1_i32_325 : BitVec 32 := 1#32
  ⟨c0_i32_323, v556, c1_i32_325⟩
def k0_mult32 (i : grid0.Coords) (k0_t5 : Fin (k0_t5_loop i).trips) : BitVec 32 :=
  let c512_i32 : BitVec 32 := 512#32
  let c2_i32_823 : BitVec 32 := 2#32
  let c2_i32_822 : BitVec 32 := 2#32
  let c0_i32_323 : BitVec 32 := 0#32
  let c1_i32_325 : BitVec 32 := 1#32
  let arg29 : BitVec 32 := Scf.iv c0_i32_323 c1_i32_325 k0_t5
  let v1400 : BitVec 32 := Scalar.muli c2_i32_822 arg29
  let v1401 : BitVec 32 := Scalar.muli c2_i32_823 v1400
  let c0_i32_824 : BitVec 32 := 0#32
  let v1402 : BitVec 32 := Scalar.addi v1401 c0_i32_824
  let c2_i32_825 : BitVec 32 := 2#32
  let v1403 : BitVec 32 := Scalar.addi v1402 c2_i32_825
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1404 : BitVec 32 := Scalar.minsi v1403 v56
  let v1405 : BitVec 32 := Scalar.muli c512_i32 v1404
  v1405
def k0_off25 (i : grid0.Coords) (k0_t5 : Fin (k0_t5_loop i).trips) (c0_i32_824 : BitVec 32) : Fin 4 → Nat :=
  let c0_826 : Index := 0#32
  let c0_827 : Index := 0#32
  let c512_i32 : BitVec 32 := 512#32
  let c2_i32_823 : BitVec 32 := 2#32
  let c2_i32_822 : BitVec 32 := 2#32
  let c0_i32_323 : BitVec 32 := 0#32
  let c1_i32_325 : BitVec 32 := 1#32
  let arg29 : BitVec 32 := Scf.iv c0_i32_323 c1_i32_325 k0_t5
  let v1400 : BitVec 32 := Scalar.muli c2_i32_822 arg29
  let v1401 : BitVec 32 := Scalar.muli c2_i32_823 v1400
  let v1402 : BitVec 32 := Scalar.addi v1401 c0_i32_824
  let c2_i32_825 : BitVec 32 := 2#32
  let v1403 : BitVec 32 := Scalar.addi v1402 c2_i32_825
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1404 : BitVec 32 := Scalar.minsi v1403 v56
  let v1405 : BitVec 32 := Scalar.muli c512_i32 v1404
  let v1406 : BitVec 32 := v1405
  let v1407 : Index := Scalar.indexCast v1406
  let c128_828 : Index := 128#32
  ![0, 0, v1407.toNat, 128]
def k0_mult33 (i : grid0.Coords) (k0_t5 : Fin (k0_t5_loop i).trips) : BitVec 32 :=
  let c512_i32_832 : BitVec 32 := 512#32
  let c2_i32_823 : BitVec 32 := 2#32
  let c2_i32_822 : BitVec 32 := 2#32
  let c0_i32_323 : BitVec 32 := 0#32
  let c1_i32_325 : BitVec 32 := 1#32
  let arg29 : BitVec 32 := Scf.iv c0_i32_323 c1_i32_325 k0_t5
  let v1400 : BitVec 32 := Scalar.muli c2_i32_822 arg29
  let v1401 : BitVec 32 := Scalar.muli c2_i32_823 v1400
  let c0_i32_824 : BitVec 32 := 0#32
  let v1402 : BitVec 32 := Scalar.addi v1401 c0_i32_824
  let c2_i32_831 : BitVec 32 := 2#32
  let v1413 : BitVec 32 := Scalar.addi v1402 c2_i32_831
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1414 : BitVec 32 := Scalar.minsi v1413 v56
  let v1415 : BitVec 32 := Scalar.muli c512_i32_832 v1414
  v1415
def k0_off26 (i : grid0.Coords) (k0_t5 : Fin (k0_t5_loop i).trips) (c0_i32_824 : BitVec 32) : Fin 4 → Nat :=
  let c0_833 : Index := 0#32
  let c1_834 : Index := 1#32
  let c512_i32_832 : BitVec 32 := 512#32
  let c2_i32_823 : BitVec 32 := 2#32
  let c2_i32_822 : BitVec 32 := 2#32
  let c0_i32_323 : BitVec 32 := 0#32
  let c1_i32_325 : BitVec 32 := 1#32
  let arg29 : BitVec 32 := Scf.iv c0_i32_323 c1_i32_325 k0_t5
  let v1400 : BitVec 32 := Scalar.muli c2_i32_822 arg29
  let v1401 : BitVec 32 := Scalar.muli c2_i32_823 v1400
  let v1402 : BitVec 32 := Scalar.addi v1401 c0_i32_824
  let c2_i32_831 : BitVec 32 := 2#32
  let v1413 : BitVec 32 := Scalar.addi v1402 c2_i32_831
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1414 : BitVec 32 := Scalar.minsi v1413 v56
  let v1415 : BitVec 32 := Scalar.muli c512_i32_832 v1414
  let v1416 : BitVec 32 := v1415
  let v1417 : Index := Scalar.indexCast v1416
  let c128_835 : Index := 128#32
  ![0, 1, v1417.toNat, 128]
def k0_mult34 (i : grid0.Coords) (k0_t5 : Fin (k0_t5_loop i).trips) : BitVec 32 :=
  let c8_i32_838 : BitVec 32 := 8#32
  let c2_i32_823 : BitVec 32 := 2#32
  let c2_i32_822 : BitVec 32 := 2#32
  let c0_i32_323 : BitVec 32 := 0#32
  let c1_i32_325 : BitVec 32 := 1#32
  let arg29 : BitVec 32 := Scf.iv c0_i32_323 c1_i32_325 k0_t5
  let v1400 : BitVec 32 := Scalar.muli c2_i32_822 arg29
  let v1401 : BitVec 32 := Scalar.muli c2_i32_823 v1400
  let c0_i32_824 : BitVec 32 := 0#32
  let v1402 : BitVec 32 := Scalar.addi v1401 c0_i32_824
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1423 : BitVec 32 := Scalar.minsi v1402 v56
  let v1424 : BitVec 32 := Scalar.muli c8_i32_838 v1423
  v1424
def k0_off27 (i : grid0.Coords) (k0_t5 : Fin (k0_t5_loop i).trips) (c0_i32_824 : BitVec 32) : Fin 3 → Nat :=
  let c0_839 : Index := 0#32
  let c8_i32_838 : BitVec 32 := 8#32
  let c2_i32_823 : BitVec 32 := 2#32
  let c2_i32_822 : BitVec 32 := 2#32
  let c0_i32_323 : BitVec 32 := 0#32
  let c1_i32_325 : BitVec 32 := 1#32
  let arg29 : BitVec 32 := Scf.iv c0_i32_323 c1_i32_325 k0_t5
  let v1400 : BitVec 32 := Scalar.muli c2_i32_822 arg29
  let v1401 : BitVec 32 := Scalar.muli c2_i32_823 v1400
  let v1402 : BitVec 32 := Scalar.addi v1401 c0_i32_824
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1423 : BitVec 32 := Scalar.minsi v1402 v56
  let v1424 : BitVec 32 := Scalar.muli c8_i32_838 v1423
  let v1425 : BitVec 32 := v1424
  let v1426 : Index := Scalar.indexCast v1425
  let c0_840 : Index := 0#32
  ![0, v1426.toNat, 0]
def k0_off28 (i : grid0.Coords) (k0_t5 : Fin (k0_t5_loop i).trips) (c0_i32_824 : BitVec 32) (c0_i32_866 : BitVec 32) : Fin 5 → Nat :=
  let c0_867 : Index := 0#32
  let c0_868 : Index := 0#32
  let c2_i32_865 : BitVec 32 := 2#32
  let c2_i32_823 : BitVec 32 := 2#32
  let c2_i32_822 : BitVec 32 := 2#32
  let c0_i32_323 : BitVec 32 := 0#32
  let c1_i32_325 : BitVec 32 := 1#32
  let arg29 : BitVec 32 := Scf.iv c0_i32_323 c1_i32_325 k0_t5
  let v1400 : BitVec 32 := Scalar.muli c2_i32_822 arg29
  let v1401 : BitVec 32 := Scalar.muli c2_i32_823 v1400
  let v1402 : BitVec 32 := Scalar.addi v1401 c0_i32_824
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1423 : BitVec 32 := Scalar.minsi v1402 v56
  let v1484 : BitVec 32 := Scalar.muli c2_i32_865 v1423
  let v1485 : BitVec 32 := Scalar.addi v1484 c0_i32_866
  let v1486 : Index := Scalar.indexCast v1485
  let c0_869 : Index := 0#32
  let c0_870 : Index := 0#32
  ![0, 0, v1486.toNat, 0, 0]
def k0_mult35 (i : grid0.Coords) (k0_t5 : Fin (k0_t5_loop i).trips) : BitVec 32 :=
  let c8_i32_888 : BitVec 32 := 8#32
  let c2_i32_823 : BitVec 32 := 2#32
  let c2_i32_822 : BitVec 32 := 2#32
  let c0_i32_323 : BitVec 32 := 0#32
  let c1_i32_325 : BitVec 32 := 1#32
  let arg29 : BitVec 32 := Scf.iv c0_i32_323 c1_i32_325 k0_t5
  let v1400 : BitVec 32 := Scalar.muli c2_i32_822 arg29
  let v1401 : BitVec 32 := Scalar.muli c2_i32_823 v1400
  let c0_i32_824 : BitVec 32 := 0#32
  let v1402 : BitVec 32 := Scalar.addi v1401 c0_i32_824
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1513 : BitVec 32 := Scalar.minsi v1402 v56
  let v1514 : BitVec 32 := Scalar.muli c8_i32_888 v1513
  v1514
def k0_off29 (i : grid0.Coords) (k0_t5 : Fin (k0_t5_loop i).trips) (c0_i32_824 : BitVec 32) : Fin 3 → Nat :=
  let c1_889 : Index := 1#32
  let c8_i32_888 : BitVec 32 := 8#32
  let c2_i32_823 : BitVec 32 := 2#32
  let c2_i32_822 : BitVec 32 := 2#32
  let c0_i32_323 : BitVec 32 := 0#32
  let c1_i32_325 : BitVec 32 := 1#32
  let arg29 : BitVec 32 := Scf.iv c0_i32_323 c1_i32_325 k0_t5
  let v1400 : BitVec 32 := Scalar.muli c2_i32_822 arg29
  let v1401 : BitVec 32 := Scalar.muli c2_i32_823 v1400
  let v1402 : BitVec 32 := Scalar.addi v1401 c0_i32_824
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1513 : BitVec 32 := Scalar.minsi v1402 v56
  let v1514 : BitVec 32 := Scalar.muli c8_i32_888 v1513
  let v1515 : BitVec 32 := v1514
  let v1516 : Index := Scalar.indexCast v1515
  let c0_890 : Index := 0#32
  ![1, v1516.toNat, 0]
def k0_off30 (i : grid0.Coords) (k0_t5 : Fin (k0_t5_loop i).trips) (c0_i32_824 : BitVec 32) (c0_i32_916 : BitVec 32) : Fin 5 → Nat :=
  let c0_917 : Index := 0#32
  let c1_918 : Index := 1#32
  let c2_i32_915 : BitVec 32 := 2#32
  let c2_i32_823 : BitVec 32 := 2#32
  let c2_i32_822 : BitVec 32 := 2#32
  let c0_i32_323 : BitVec 32 := 0#32
  let c1_i32_325 : BitVec 32 := 1#32
  let arg29 : BitVec 32 := Scf.iv c0_i32_323 c1_i32_325 k0_t5
  let v1400 : BitVec 32 := Scalar.muli c2_i32_822 arg29
  let v1401 : BitVec 32 := Scalar.muli c2_i32_823 v1400
  let v1402 : BitVec 32 := Scalar.addi v1401 c0_i32_824
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1513 : BitVec 32 := Scalar.minsi v1402 v56
  let v1574 : BitVec 32 := Scalar.muli c2_i32_915 v1513
  let v1575 : BitVec 32 := Scalar.addi v1574 c0_i32_916
  let v1576 : Index := Scalar.indexCast v1575
  let c0_919 : Index := 0#32
  let c0_920 : Index := 0#32
  ![0, 1, v1576.toNat, 0, 0]
def k0_mult36 (i : grid0.Coords) (k0_t5 : Fin (k0_t5_loop i).trips) : BitVec 32 :=
  let c512_i32_949 : BitVec 32 := 512#32
  let c2_i32_946 : BitVec 32 := 2#32
  let c2_i32_822 : BitVec 32 := 2#32
  let c0_i32_323 : BitVec 32 := 0#32
  let c1_i32_325 : BitVec 32 := 1#32
  let arg29 : BitVec 32 := Scf.iv c0_i32_323 c1_i32_325 k0_t5
  let v1400 : BitVec 32 := Scalar.muli c2_i32_822 arg29
  let v1615 : BitVec 32 := Scalar.muli c2_i32_946 v1400
  let c1_i32_947 : BitVec 32 := 1#32
  let v1616 : BitVec 32 := Scalar.addi v1615 c1_i32_947
  let c2_i32_948 : BitVec 32 := 2#32
  let v1617 : BitVec 32 := Scalar.addi v1616 c2_i32_948
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1618 : BitVec 32 := Scalar.minsi v1617 v56
  let v1619 : BitVec 32 := Scalar.muli c512_i32_949 v1618
  v1619
def k0_mult37 (i : grid0.Coords) (k0_t5 : Fin (k0_t5_loop i).trips) : BitVec 32 :=
  let c512_i32_956 : BitVec 32 := 512#32
  let c2_i32_946 : BitVec 32 := 2#32
  let c2_i32_822 : BitVec 32 := 2#32
  let c0_i32_323 : BitVec 32 := 0#32
  let c1_i32_325 : BitVec 32 := 1#32
  let arg29 : BitVec 32 := Scf.iv c0_i32_323 c1_i32_325 k0_t5
  let v1400 : BitVec 32 := Scalar.muli c2_i32_822 arg29
  let v1615 : BitVec 32 := Scalar.muli c2_i32_946 v1400
  let c1_i32_947 : BitVec 32 := 1#32
  let v1616 : BitVec 32 := Scalar.addi v1615 c1_i32_947
  let c2_i32_955 : BitVec 32 := 2#32
  let v1627 : BitVec 32 := Scalar.addi v1616 c2_i32_955
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1628 : BitVec 32 := Scalar.minsi v1627 v56
  let v1629 : BitVec 32 := Scalar.muli c512_i32_956 v1628
  v1629
def k0_mult38 (i : grid0.Coords) (k0_t5 : Fin (k0_t5_loop i).trips) : BitVec 32 :=
  let c8_i32_962 : BitVec 32 := 8#32
  let c2_i32_946 : BitVec 32 := 2#32
  let c2_i32_822 : BitVec 32 := 2#32
  let c0_i32_323 : BitVec 32 := 0#32
  let c1_i32_325 : BitVec 32 := 1#32
  let arg29 : BitVec 32 := Scf.iv c0_i32_323 c1_i32_325 k0_t5
  let v1400 : BitVec 32 := Scalar.muli c2_i32_822 arg29
  let v1615 : BitVec 32 := Scalar.muli c2_i32_946 v1400
  let c1_i32_947 : BitVec 32 := 1#32
  let v1616 : BitVec 32 := Scalar.addi v1615 c1_i32_947
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1637 : BitVec 32 := Scalar.minsi v1616 v56
  let v1638 : BitVec 32 := Scalar.muli c8_i32_962 v1637
  v1638
def k0_mult39 (i : grid0.Coords) (k0_t5 : Fin (k0_t5_loop i).trips) : BitVec 32 :=
  let c8_i32_1012 : BitVec 32 := 8#32
  let c2_i32_946 : BitVec 32 := 2#32
  let c2_i32_822 : BitVec 32 := 2#32
  let c0_i32_323 : BitVec 32 := 0#32
  let c1_i32_325 : BitVec 32 := 1#32
  let arg29 : BitVec 32 := Scf.iv c0_i32_323 c1_i32_325 k0_t5
  let v1400 : BitVec 32 := Scalar.muli c2_i32_822 arg29
  let v1615 : BitVec 32 := Scalar.muli c2_i32_946 v1400
  let c1_i32_947 : BitVec 32 := 1#32
  let v1616 : BitVec 32 := Scalar.addi v1615 c1_i32_947
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1727 : BitVec 32 := Scalar.minsi v1616 v56
  let v1728 : BitVec 32 := Scalar.muli c8_i32_1012 v1727
  v1728
def k0_mult40 (i : grid0.Coords) (k0_t5 : Fin (k0_t5_loop i).trips) : BitVec 32 :=
  let c512_i32_1073 : BitVec 32 := 512#32
  let c2_i32_1070 : BitVec 32 := 2#32
  let c2_i32_820 : BitVec 32 := 2#32
  let c0_i32_323 : BitVec 32 := 0#32
  let c1_i32_325 : BitVec 32 := 1#32
  let arg29 : BitVec 32 := Scf.iv c0_i32_323 c1_i32_325 k0_t5
  let v1398 : BitVec 32 := Scalar.muli c2_i32_820 arg29
  let c1_i32_821 : BitVec 32 := 1#32
  let v1399 : BitVec 32 := Scalar.addi v1398 c1_i32_821
  let v1829 : BitVec 32 := Scalar.muli c2_i32_1070 v1399
  let c0_i32_1071 : BitVec 32 := 0#32
  let v1830 : BitVec 32 := Scalar.addi v1829 c0_i32_1071
  let c2_i32_1072 : BitVec 32 := 2#32
  let v1831 : BitVec 32 := Scalar.addi v1830 c2_i32_1072
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1832 : BitVec 32 := Scalar.minsi v1831 v56
  let v1833 : BitVec 32 := Scalar.muli c512_i32_1073 v1832
  v1833
def k0_off31 (i : grid0.Coords) (k0_t5 : Fin (k0_t5_loop i).trips) (c0_i32_1071 : BitVec 32) : Fin 4 → Nat :=
  let c0_1074 : Index := 0#32
  let c0_1075 : Index := 0#32
  let c512_i32_1073 : BitVec 32 := 512#32
  let c2_i32_1070 : BitVec 32 := 2#32
  let c2_i32_820 : BitVec 32 := 2#32
  let c0_i32_323 : BitVec 32 := 0#32
  let c1_i32_325 : BitVec 32 := 1#32
  let arg29 : BitVec 32 := Scf.iv c0_i32_323 c1_i32_325 k0_t5
  let v1398 : BitVec 32 := Scalar.muli c2_i32_820 arg29
  let c1_i32_821 : BitVec 32 := 1#32
  let v1399 : BitVec 32 := Scalar.addi v1398 c1_i32_821
  let v1829 : BitVec 32 := Scalar.muli c2_i32_1070 v1399
  let v1830 : BitVec 32 := Scalar.addi v1829 c0_i32_1071
  let c2_i32_1072 : BitVec 32 := 2#32
  let v1831 : BitVec 32 := Scalar.addi v1830 c2_i32_1072
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1832 : BitVec 32 := Scalar.minsi v1831 v56
  let v1833 : BitVec 32 := Scalar.muli c512_i32_1073 v1832
  let v1834 : BitVec 32 := v1833
  let v1835 : Index := Scalar.indexCast v1834
  let c128_1076 : Index := 128#32
  ![0, 0, v1835.toNat, 128]
def k0_mult41 (i : grid0.Coords) (k0_t5 : Fin (k0_t5_loop i).trips) : BitVec 32 :=
  let c512_i32_1080 : BitVec 32 := 512#32
  let c2_i32_1070 : BitVec 32 := 2#32
  let c2_i32_820 : BitVec 32 := 2#32
  let c0_i32_323 : BitVec 32 := 0#32
  let c1_i32_325 : BitVec 32 := 1#32
  let arg29 : BitVec 32 := Scf.iv c0_i32_323 c1_i32_325 k0_t5
  let v1398 : BitVec 32 := Scalar.muli c2_i32_820 arg29
  let c1_i32_821 : BitVec 32 := 1#32
  let v1399 : BitVec 32 := Scalar.addi v1398 c1_i32_821
  let v1829 : BitVec 32 := Scalar.muli c2_i32_1070 v1399
  let c0_i32_1071 : BitVec 32 := 0#32
  let v1830 : BitVec 32 := Scalar.addi v1829 c0_i32_1071
  let c2_i32_1079 : BitVec 32 := 2#32
  let v1841 : BitVec 32 := Scalar.addi v1830 c2_i32_1079
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1842 : BitVec 32 := Scalar.minsi v1841 v56
  let v1843 : BitVec 32 := Scalar.muli c512_i32_1080 v1842
  v1843
def k0_off32 (i : grid0.Coords) (k0_t5 : Fin (k0_t5_loop i).trips) (c0_i32_1071 : BitVec 32) : Fin 4 → Nat :=
  let c0_1081 : Index := 0#32
  let c1_1082 : Index := 1#32
  let c512_i32_1080 : BitVec 32 := 512#32
  let c2_i32_1070 : BitVec 32 := 2#32
  let c2_i32_820 : BitVec 32 := 2#32
  let c0_i32_323 : BitVec 32 := 0#32
  let c1_i32_325 : BitVec 32 := 1#32
  let arg29 : BitVec 32 := Scf.iv c0_i32_323 c1_i32_325 k0_t5
  let v1398 : BitVec 32 := Scalar.muli c2_i32_820 arg29
  let c1_i32_821 : BitVec 32 := 1#32
  let v1399 : BitVec 32 := Scalar.addi v1398 c1_i32_821
  let v1829 : BitVec 32 := Scalar.muli c2_i32_1070 v1399
  let v1830 : BitVec 32 := Scalar.addi v1829 c0_i32_1071
  let c2_i32_1079 : BitVec 32 := 2#32
  let v1841 : BitVec 32 := Scalar.addi v1830 c2_i32_1079
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1842 : BitVec 32 := Scalar.minsi v1841 v56
  let v1843 : BitVec 32 := Scalar.muli c512_i32_1080 v1842
  let v1844 : BitVec 32 := v1843
  let v1845 : Index := Scalar.indexCast v1844
  let c128_1083 : Index := 128#32
  ![0, 1, v1845.toNat, 128]
def k0_mult42 (i : grid0.Coords) (k0_t5 : Fin (k0_t5_loop i).trips) : BitVec 32 :=
  let c8_i32_1086 : BitVec 32 := 8#32
  let c2_i32_1070 : BitVec 32 := 2#32
  let c2_i32_820 : BitVec 32 := 2#32
  let c0_i32_323 : BitVec 32 := 0#32
  let c1_i32_325 : BitVec 32 := 1#32
  let arg29 : BitVec 32 := Scf.iv c0_i32_323 c1_i32_325 k0_t5
  let v1398 : BitVec 32 := Scalar.muli c2_i32_820 arg29
  let c1_i32_821 : BitVec 32 := 1#32
  let v1399 : BitVec 32 := Scalar.addi v1398 c1_i32_821
  let v1829 : BitVec 32 := Scalar.muli c2_i32_1070 v1399
  let c0_i32_1071 : BitVec 32 := 0#32
  let v1830 : BitVec 32 := Scalar.addi v1829 c0_i32_1071
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1851 : BitVec 32 := Scalar.minsi v1830 v56
  let v1852 : BitVec 32 := Scalar.muli c8_i32_1086 v1851
  v1852
def k0_off33 (i : grid0.Coords) (k0_t5 : Fin (k0_t5_loop i).trips) (c0_i32_1071 : BitVec 32) : Fin 3 → Nat :=
  let c0_1087 : Index := 0#32
  let c8_i32_1086 : BitVec 32 := 8#32
  let c2_i32_1070 : BitVec 32 := 2#32
  let c2_i32_820 : BitVec 32 := 2#32
  let c0_i32_323 : BitVec 32 := 0#32
  let c1_i32_325 : BitVec 32 := 1#32
  let arg29 : BitVec 32 := Scf.iv c0_i32_323 c1_i32_325 k0_t5
  let v1398 : BitVec 32 := Scalar.muli c2_i32_820 arg29
  let c1_i32_821 : BitVec 32 := 1#32
  let v1399 : BitVec 32 := Scalar.addi v1398 c1_i32_821
  let v1829 : BitVec 32 := Scalar.muli c2_i32_1070 v1399
  let v1830 : BitVec 32 := Scalar.addi v1829 c0_i32_1071
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1851 : BitVec 32 := Scalar.minsi v1830 v56
  let v1852 : BitVec 32 := Scalar.muli c8_i32_1086 v1851
  let v1853 : BitVec 32 := v1852
  let v1854 : Index := Scalar.indexCast v1853
  let c0_1088 : Index := 0#32
  ![0, v1854.toNat, 0]
def k0_off34 (i : grid0.Coords) (k0_t5 : Fin (k0_t5_loop i).trips) (c0_i32_1071 : BitVec 32) (c0_i32_1114 : BitVec 32) : Fin 5 → Nat :=
  let c0_1115 : Index := 0#32
  let c0_1116 : Index := 0#32
  let c2_i32_1113 : BitVec 32 := 2#32
  let c2_i32_1070 : BitVec 32 := 2#32
  let c2_i32_820 : BitVec 32 := 2#32
  let c0_i32_323 : BitVec 32 := 0#32
  let c1_i32_325 : BitVec 32 := 1#32
  let arg29 : BitVec 32 := Scf.iv c0_i32_323 c1_i32_325 k0_t5
  let v1398 : BitVec 32 := Scalar.muli c2_i32_820 arg29
  let c1_i32_821 : BitVec 32 := 1#32
  let v1399 : BitVec 32 := Scalar.addi v1398 c1_i32_821
  let v1829 : BitVec 32 := Scalar.muli c2_i32_1070 v1399
  let v1830 : BitVec 32 := Scalar.addi v1829 c0_i32_1071
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1851 : BitVec 32 := Scalar.minsi v1830 v56
  let v1912 : BitVec 32 := Scalar.muli c2_i32_1113 v1851
  let v1913 : BitVec 32 := Scalar.addi v1912 c0_i32_1114
  let v1914 : Index := Scalar.indexCast v1913
  let c0_1117 : Index := 0#32
  let c0_1118 : Index := 0#32
  ![0, 0, v1914.toNat, 0, 0]
def k0_mult43 (i : grid0.Coords) (k0_t5 : Fin (k0_t5_loop i).trips) : BitVec 32 :=
  let c8_i32_1136 : BitVec 32 := 8#32
  let c2_i32_1070 : BitVec 32 := 2#32
  let c2_i32_820 : BitVec 32 := 2#32
  let c0_i32_323 : BitVec 32 := 0#32
  let c1_i32_325 : BitVec 32 := 1#32
  let arg29 : BitVec 32 := Scf.iv c0_i32_323 c1_i32_325 k0_t5
  let v1398 : BitVec 32 := Scalar.muli c2_i32_820 arg29
  let c1_i32_821 : BitVec 32 := 1#32
  let v1399 : BitVec 32 := Scalar.addi v1398 c1_i32_821
  let v1829 : BitVec 32 := Scalar.muli c2_i32_1070 v1399
  let c0_i32_1071 : BitVec 32 := 0#32
  let v1830 : BitVec 32 := Scalar.addi v1829 c0_i32_1071
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1941 : BitVec 32 := Scalar.minsi v1830 v56
  let v1942 : BitVec 32 := Scalar.muli c8_i32_1136 v1941
  v1942
def k0_off35 (i : grid0.Coords) (k0_t5 : Fin (k0_t5_loop i).trips) (c0_i32_1071 : BitVec 32) : Fin 3 → Nat :=
  let c1_1137 : Index := 1#32
  let c8_i32_1136 : BitVec 32 := 8#32
  let c2_i32_1070 : BitVec 32 := 2#32
  let c2_i32_820 : BitVec 32 := 2#32
  let c0_i32_323 : BitVec 32 := 0#32
  let c1_i32_325 : BitVec 32 := 1#32
  let arg29 : BitVec 32 := Scf.iv c0_i32_323 c1_i32_325 k0_t5
  let v1398 : BitVec 32 := Scalar.muli c2_i32_820 arg29
  let c1_i32_821 : BitVec 32 := 1#32
  let v1399 : BitVec 32 := Scalar.addi v1398 c1_i32_821
  let v1829 : BitVec 32 := Scalar.muli c2_i32_1070 v1399
  let v1830 : BitVec 32 := Scalar.addi v1829 c0_i32_1071
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1941 : BitVec 32 := Scalar.minsi v1830 v56
  let v1942 : BitVec 32 := Scalar.muli c8_i32_1136 v1941
  let v1943 : BitVec 32 := v1942
  let v1944 : Index := Scalar.indexCast v1943
  let c0_1138 : Index := 0#32
  ![1, v1944.toNat, 0]
def k0_off36 (i : grid0.Coords) (k0_t5 : Fin (k0_t5_loop i).trips) (c0_i32_1071 : BitVec 32) (c0_i32_1164 : BitVec 32) : Fin 5 → Nat :=
  let c0_1165 : Index := 0#32
  let c1_1166 : Index := 1#32
  let c2_i32_1163 : BitVec 32 := 2#32
  let c2_i32_1070 : BitVec 32 := 2#32
  let c2_i32_820 : BitVec 32 := 2#32
  let c0_i32_323 : BitVec 32 := 0#32
  let c1_i32_325 : BitVec 32 := 1#32
  let arg29 : BitVec 32 := Scf.iv c0_i32_323 c1_i32_325 k0_t5
  let v1398 : BitVec 32 := Scalar.muli c2_i32_820 arg29
  let c1_i32_821 : BitVec 32 := 1#32
  let v1399 : BitVec 32 := Scalar.addi v1398 c1_i32_821
  let v1829 : BitVec 32 := Scalar.muli c2_i32_1070 v1399
  let v1830 : BitVec 32 := Scalar.addi v1829 c0_i32_1071
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v1941 : BitVec 32 := Scalar.minsi v1830 v56
  let v2002 : BitVec 32 := Scalar.muli c2_i32_1163 v1941
  let v2003 : BitVec 32 := Scalar.addi v2002 c0_i32_1164
  let v2004 : Index := Scalar.indexCast v2003
  let c0_1167 : Index := 0#32
  let c0_1168 : Index := 0#32
  ![0, 1, v2004.toNat, 0, 0]
def k0_mult44 (i : grid0.Coords) (k0_t5 : Fin (k0_t5_loop i).trips) : BitVec 32 :=
  let c512_i32_1197 : BitVec 32 := 512#32
  let c2_i32_1194 : BitVec 32 := 2#32
  let c2_i32_820 : BitVec 32 := 2#32
  let c0_i32_323 : BitVec 32 := 0#32
  let c1_i32_325 : BitVec 32 := 1#32
  let arg29 : BitVec 32 := Scf.iv c0_i32_323 c1_i32_325 k0_t5
  let v1398 : BitVec 32 := Scalar.muli c2_i32_820 arg29
  let c1_i32_821 : BitVec 32 := 1#32
  let v1399 : BitVec 32 := Scalar.addi v1398 c1_i32_821
  let v2043 : BitVec 32 := Scalar.muli c2_i32_1194 v1399
  let c1_i32_1195 : BitVec 32 := 1#32
  let v2044 : BitVec 32 := Scalar.addi v2043 c1_i32_1195
  let c2_i32_1196 : BitVec 32 := 2#32
  let v2045 : BitVec 32 := Scalar.addi v2044 c2_i32_1196
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v2046 : BitVec 32 := Scalar.minsi v2045 v56
  let v2047 : BitVec 32 := Scalar.muli c512_i32_1197 v2046
  v2047
def k0_mult45 (i : grid0.Coords) (k0_t5 : Fin (k0_t5_loop i).trips) : BitVec 32 :=
  let c512_i32_1204 : BitVec 32 := 512#32
  let c2_i32_1194 : BitVec 32 := 2#32
  let c2_i32_820 : BitVec 32 := 2#32
  let c0_i32_323 : BitVec 32 := 0#32
  let c1_i32_325 : BitVec 32 := 1#32
  let arg29 : BitVec 32 := Scf.iv c0_i32_323 c1_i32_325 k0_t5
  let v1398 : BitVec 32 := Scalar.muli c2_i32_820 arg29
  let c1_i32_821 : BitVec 32 := 1#32
  let v1399 : BitVec 32 := Scalar.addi v1398 c1_i32_821
  let v2043 : BitVec 32 := Scalar.muli c2_i32_1194 v1399
  let c1_i32_1195 : BitVec 32 := 1#32
  let v2044 : BitVec 32 := Scalar.addi v2043 c1_i32_1195
  let c2_i32_1203 : BitVec 32 := 2#32
  let v2055 : BitVec 32 := Scalar.addi v2044 c2_i32_1203
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v2056 : BitVec 32 := Scalar.minsi v2055 v56
  let v2057 : BitVec 32 := Scalar.muli c512_i32_1204 v2056
  v2057
def k0_mult46 (i : grid0.Coords) (k0_t5 : Fin (k0_t5_loop i).trips) : BitVec 32 :=
  let c8_i32_1210 : BitVec 32 := 8#32
  let c2_i32_1194 : BitVec 32 := 2#32
  let c2_i32_820 : BitVec 32 := 2#32
  let c0_i32_323 : BitVec 32 := 0#32
  let c1_i32_325 : BitVec 32 := 1#32
  let arg29 : BitVec 32 := Scf.iv c0_i32_323 c1_i32_325 k0_t5
  let v1398 : BitVec 32 := Scalar.muli c2_i32_820 arg29
  let c1_i32_821 : BitVec 32 := 1#32
  let v1399 : BitVec 32 := Scalar.addi v1398 c1_i32_821
  let v2043 : BitVec 32 := Scalar.muli c2_i32_1194 v1399
  let c1_i32_1195 : BitVec 32 := 1#32
  let v2044 : BitVec 32 := Scalar.addi v2043 c1_i32_1195
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v2065 : BitVec 32 := Scalar.minsi v2044 v56
  let v2066 : BitVec 32 := Scalar.muli c8_i32_1210 v2065
  v2066
def k0_mult47 (i : grid0.Coords) (k0_t5 : Fin (k0_t5_loop i).trips) : BitVec 32 :=
  let c8_i32_1260 : BitVec 32 := 8#32
  let c2_i32_1194 : BitVec 32 := 2#32
  let c2_i32_820 : BitVec 32 := 2#32
  let c0_i32_323 : BitVec 32 := 0#32
  let c1_i32_325 : BitVec 32 := 1#32
  let arg29 : BitVec 32 := Scf.iv c0_i32_323 c1_i32_325 k0_t5
  let v1398 : BitVec 32 := Scalar.muli c2_i32_820 arg29
  let c1_i32_821 : BitVec 32 := 1#32
  let v1399 : BitVec 32 := Scalar.addi v1398 c1_i32_821
  let v2043 : BitVec 32 := Scalar.muli c2_i32_1194 v1399
  let c1_i32_1195 : BitVec 32 := 1#32
  let v2044 : BitVec 32 := Scalar.addi v2043 c1_i32_1195
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c1_i32_43 : BitVec 32 := 1#32
  let v55 : BitVec 32 := Scalar.subi v54 c1_i32_43
  let c0_i32_44 : BitVec 32 := 0#32
  let v56 : BitVec 32 := Scalar.maxsi v55 c0_i32_44
  let v2155 : BitVec 32 := Scalar.minsi v2044 v56
  let v2156 : BitVec 32 := Scalar.muli c8_i32_1260 v2155
  v2156
@[reducible] def k0_t6_loop (i : grid0.Coords) : Scf.Loop 32 :=
  let c0_i32_323 : BitVec 32 := 0#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_316 : BitVec 32 := 0#32
  let v536 : BitVec 1 := Scalar.cmpi .sgt v534 c0_i32_316
  let v537 : BitVec 32 := Scalar.extui v536
  let c0_i32_317 : BitVec 32 := 0#32
  let v538 : BitVec 1 := Scalar.cmpi .slt v534 c0_i32_317
  let v539 : BitVec 32 := Scalar.extui v538
  let v540 : BitVec 32 := Scalar.subi v537 v539
  let c2_i32_315 : BitVec 32 := 2#32
  let c0_i32_318 : BitVec 32 := 0#32
  let v541 : BitVec 1 := Scalar.cmpi .sgt c2_i32_315 c0_i32_318
  let v542 : BitVec 32 := Scalar.extui v541
  let c0_i32_319 : BitVec 32 := 0#32
  let v543 : BitVec 1 := Scalar.cmpi .slt c2_i32_315 c0_i32_319
  let v544 : BitVec 32 := Scalar.extui v543
  let v545 : BitVec 32 := Scalar.subi v542 v544
  let v546 : BitVec 1 := Scalar.cmpi .ne v540 v545
  let v547 : BitVec 32 := Scalar.remsi v534 c2_i32_315
  let c0_i32_320 : BitVec 32 := 0#32
  let v548 : BitVec 1 := Scalar.cmpi .ne v547 c0_i32_320
  let v549 : BitVec 1 := Scalar.andi v546 v548
  let v535 : BitVec 32 := Scalar.divsi v534 c2_i32_315
  let c1_i32_321 : BitVec 32 := 1#32
  let v550 : BitVec 32 := Scalar.subi v535 c1_i32_321
  let v551 : BitVec 32 := Scalar.select v549 v550 v535
  let v552 : BitVec 32 := Scalar.subi v551 c0_i32_323
  let c1_i32_324 : BitVec 32 := 1#32
  let v554 : BitVec 32 := Scalar.divsi v552 c1_i32_324
  let v555 : BitVec 32 := Scalar.muli v554 c1_i32_324
  let v556 : BitVec 32 := Scalar.addi c0_i32_323 v555
  let v553 : BitVec 32 := Scalar.addi c0_i32_323 v552
  let c1_i32_326 : BitVec 32 := 1#32
  ⟨v556, v553, c1_i32_326⟩
def k0_mult48 (i : grid0.Coords) (k0_t6 : Fin (k0_t6_loop i).trips) : BitVec 32 :=
  let c512_i32 : BitVec 32 := 512#32
  let c2_i32_823 : BitVec 32 := 2#32
  let c2_i32_822 : BitVec 32 := 2#32
  let c0_i32_323 : BitVec 32 := 0#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_316 : BitVec 32 := 0#32
  let v536 : BitVec 1 := Scalar.cmpi .sgt v534 c0_i32_316
  let v537 : BitVec 32 := Scalar.extui v536
  let c0_i32_317 : BitVec 32 := 0#32
  let v538 : BitVec 1 := Scalar.cmpi .slt v534 c0_i32_317
  let v539 : BitVec 32 := Scalar.extui v538
  let v540 : BitVec 32 := Scalar.subi v537 v539
  let c2_i32_315 : BitVec 32 := 2#32
  let c0_i32_318 : BitVec 32 := 0#32
  let v541 : BitVec 1 := Scalar.cmpi .sgt c2_i32_315 c0_i32_318
  let v542 : BitVec 32 := Scalar.extui v541
  let c0_i32_319 : BitVec 32 := 0#32
  let v543 : BitVec 1 := Scalar.cmpi .slt c2_i32_315 c0_i32_319
  let v544 : BitVec 32 := Scalar.extui v543
  let v545 : BitVec 32 := Scalar.subi v542 v544
  let v546 : BitVec 1 := Scalar.cmpi .ne v540 v545
  let v547 : BitVec 32 := Scalar.remsi v534 c2_i32_315
  let c0_i32_320 : BitVec 32 := 0#32
  let v548 : BitVec 1 := Scalar.cmpi .ne v547 c0_i32_320
  let v549 : BitVec 1 := Scalar.andi v546 v548
  let v535 : BitVec 32 := Scalar.divsi v534 c2_i32_315
  let c1_i32_321 : BitVec 32 := 1#32
  let v550 : BitVec 32 := Scalar.subi v535 c1_i32_321
  let v551 : BitVec 32 := Scalar.select v549 v550 v535
  let v552 : BitVec 32 := Scalar.subi v551 c0_i32_323
  let c1_i32_324 : BitVec 32 := 1#32
  let v554 : BitVec 32 := Scalar.divsi v552 c1_i32_324
  let v555 : BitVec 32 := Scalar.muli v554 c1_i32_324
  let v556 : BitVec 32 := Scalar.addi c0_i32_323 v555
  let c1_i32_326 : BitVec 32 := 1#32
  let arg29 : BitVec 32 := Scf.iv v556 c1_i32_326 k0_t6
  let v1400 : BitVec 32 := Scalar.muli c2_i32_822 arg29
  let v1401 : BitVec 32 := Scalar.muli c2_i32_823 v1400
  let c0_i32_824 : BitVec 32 := 0#32
  let v1402 : BitVec 32 := Scalar.addi v1401 c0_i32_824
  let c2_i32_825 : BitVec 32 := 2#32
  let v1403 : BitVec 32 := Scalar.addi v1402 c2_i32_825
  let c1_i32_43 : BitVec 32 := 1#32
  let v55 : BitVec 32 := Scalar.subi v54 c1_i32_43
  let c0_i32_44 : BitVec 32 := 0#32
  let v56 : BitVec 32 := Scalar.maxsi v55 c0_i32_44
  let v1404 : BitVec 32 := Scalar.minsi v1403 v56
  let v1405 : BitVec 32 := Scalar.muli c512_i32 v1404
  v1405
def k0_off37 (i : grid0.Coords) (k0_t6 : Fin (k0_t6_loop i).trips) (c0_i32_824 : BitVec 32) : Fin 4 → Nat :=
  let c0_826 : Index := 0#32
  let c0_827 : Index := 0#32
  let c512_i32 : BitVec 32 := 512#32
  let c2_i32_823 : BitVec 32 := 2#32
  let c2_i32_822 : BitVec 32 := 2#32
  let c0_i32_323 : BitVec 32 := 0#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_316 : BitVec 32 := 0#32
  let v536 : BitVec 1 := Scalar.cmpi .sgt v534 c0_i32_316
  let v537 : BitVec 32 := Scalar.extui v536
  let c0_i32_317 : BitVec 32 := 0#32
  let v538 : BitVec 1 := Scalar.cmpi .slt v534 c0_i32_317
  let v539 : BitVec 32 := Scalar.extui v538
  let v540 : BitVec 32 := Scalar.subi v537 v539
  let c2_i32_315 : BitVec 32 := 2#32
  let c0_i32_318 : BitVec 32 := 0#32
  let v541 : BitVec 1 := Scalar.cmpi .sgt c2_i32_315 c0_i32_318
  let v542 : BitVec 32 := Scalar.extui v541
  let c0_i32_319 : BitVec 32 := 0#32
  let v543 : BitVec 1 := Scalar.cmpi .slt c2_i32_315 c0_i32_319
  let v544 : BitVec 32 := Scalar.extui v543
  let v545 : BitVec 32 := Scalar.subi v542 v544
  let v546 : BitVec 1 := Scalar.cmpi .ne v540 v545
  let v547 : BitVec 32 := Scalar.remsi v534 c2_i32_315
  let c0_i32_320 : BitVec 32 := 0#32
  let v548 : BitVec 1 := Scalar.cmpi .ne v547 c0_i32_320
  let v549 : BitVec 1 := Scalar.andi v546 v548
  let v535 : BitVec 32 := Scalar.divsi v534 c2_i32_315
  let c1_i32_321 : BitVec 32 := 1#32
  let v550 : BitVec 32 := Scalar.subi v535 c1_i32_321
  let v551 : BitVec 32 := Scalar.select v549 v550 v535
  let v552 : BitVec 32 := Scalar.subi v551 c0_i32_323
  let c1_i32_324 : BitVec 32 := 1#32
  let v554 : BitVec 32 := Scalar.divsi v552 c1_i32_324
  let v555 : BitVec 32 := Scalar.muli v554 c1_i32_324
  let v556 : BitVec 32 := Scalar.addi c0_i32_323 v555
  let c1_i32_326 : BitVec 32 := 1#32
  let arg29 : BitVec 32 := Scf.iv v556 c1_i32_326 k0_t6
  let v1400 : BitVec 32 := Scalar.muli c2_i32_822 arg29
  let v1401 : BitVec 32 := Scalar.muli c2_i32_823 v1400
  let v1402 : BitVec 32 := Scalar.addi v1401 c0_i32_824
  let c2_i32_825 : BitVec 32 := 2#32
  let v1403 : BitVec 32 := Scalar.addi v1402 c2_i32_825
  let c1_i32_43 : BitVec 32 := 1#32
  let v55 : BitVec 32 := Scalar.subi v54 c1_i32_43
  let c0_i32_44 : BitVec 32 := 0#32
  let v56 : BitVec 32 := Scalar.maxsi v55 c0_i32_44
  let v1404 : BitVec 32 := Scalar.minsi v1403 v56
  let v1405 : BitVec 32 := Scalar.muli c512_i32 v1404
  let v1406 : BitVec 32 := v1405
  let v1407 : Index := Scalar.indexCast v1406
  let c128_828 : Index := 128#32
  ![0, 0, v1407.toNat, 128]
def k0_mult49 (i : grid0.Coords) (k0_t6 : Fin (k0_t6_loop i).trips) : BitVec 32 :=
  let c512_i32_832 : BitVec 32 := 512#32
  let c2_i32_823 : BitVec 32 := 2#32
  let c2_i32_822 : BitVec 32 := 2#32
  let c0_i32_323 : BitVec 32 := 0#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_316 : BitVec 32 := 0#32
  let v536 : BitVec 1 := Scalar.cmpi .sgt v534 c0_i32_316
  let v537 : BitVec 32 := Scalar.extui v536
  let c0_i32_317 : BitVec 32 := 0#32
  let v538 : BitVec 1 := Scalar.cmpi .slt v534 c0_i32_317
  let v539 : BitVec 32 := Scalar.extui v538
  let v540 : BitVec 32 := Scalar.subi v537 v539
  let c2_i32_315 : BitVec 32 := 2#32
  let c0_i32_318 : BitVec 32 := 0#32
  let v541 : BitVec 1 := Scalar.cmpi .sgt c2_i32_315 c0_i32_318
  let v542 : BitVec 32 := Scalar.extui v541
  let c0_i32_319 : BitVec 32 := 0#32
  let v543 : BitVec 1 := Scalar.cmpi .slt c2_i32_315 c0_i32_319
  let v544 : BitVec 32 := Scalar.extui v543
  let v545 : BitVec 32 := Scalar.subi v542 v544
  let v546 : BitVec 1 := Scalar.cmpi .ne v540 v545
  let v547 : BitVec 32 := Scalar.remsi v534 c2_i32_315
  let c0_i32_320 : BitVec 32 := 0#32
  let v548 : BitVec 1 := Scalar.cmpi .ne v547 c0_i32_320
  let v549 : BitVec 1 := Scalar.andi v546 v548
  let v535 : BitVec 32 := Scalar.divsi v534 c2_i32_315
  let c1_i32_321 : BitVec 32 := 1#32
  let v550 : BitVec 32 := Scalar.subi v535 c1_i32_321
  let v551 : BitVec 32 := Scalar.select v549 v550 v535
  let v552 : BitVec 32 := Scalar.subi v551 c0_i32_323
  let c1_i32_324 : BitVec 32 := 1#32
  let v554 : BitVec 32 := Scalar.divsi v552 c1_i32_324
  let v555 : BitVec 32 := Scalar.muli v554 c1_i32_324
  let v556 : BitVec 32 := Scalar.addi c0_i32_323 v555
  let c1_i32_326 : BitVec 32 := 1#32
  let arg29 : BitVec 32 := Scf.iv v556 c1_i32_326 k0_t6
  let v1400 : BitVec 32 := Scalar.muli c2_i32_822 arg29
  let v1401 : BitVec 32 := Scalar.muli c2_i32_823 v1400
  let c0_i32_824 : BitVec 32 := 0#32
  let v1402 : BitVec 32 := Scalar.addi v1401 c0_i32_824
  let c2_i32_831 : BitVec 32 := 2#32
  let v1413 : BitVec 32 := Scalar.addi v1402 c2_i32_831
  let c1_i32_43 : BitVec 32 := 1#32
  let v55 : BitVec 32 := Scalar.subi v54 c1_i32_43
  let c0_i32_44 : BitVec 32 := 0#32
  let v56 : BitVec 32 := Scalar.maxsi v55 c0_i32_44
  let v1414 : BitVec 32 := Scalar.minsi v1413 v56
  let v1415 : BitVec 32 := Scalar.muli c512_i32_832 v1414
  v1415
def k0_off38 (i : grid0.Coords) (k0_t6 : Fin (k0_t6_loop i).trips) (c0_i32_824 : BitVec 32) : Fin 4 → Nat :=
  let c0_833 : Index := 0#32
  let c1_834 : Index := 1#32
  let c512_i32_832 : BitVec 32 := 512#32
  let c2_i32_823 : BitVec 32 := 2#32
  let c2_i32_822 : BitVec 32 := 2#32
  let c0_i32_323 : BitVec 32 := 0#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_316 : BitVec 32 := 0#32
  let v536 : BitVec 1 := Scalar.cmpi .sgt v534 c0_i32_316
  let v537 : BitVec 32 := Scalar.extui v536
  let c0_i32_317 : BitVec 32 := 0#32
  let v538 : BitVec 1 := Scalar.cmpi .slt v534 c0_i32_317
  let v539 : BitVec 32 := Scalar.extui v538
  let v540 : BitVec 32 := Scalar.subi v537 v539
  let c2_i32_315 : BitVec 32 := 2#32
  let c0_i32_318 : BitVec 32 := 0#32
  let v541 : BitVec 1 := Scalar.cmpi .sgt c2_i32_315 c0_i32_318
  let v542 : BitVec 32 := Scalar.extui v541
  let c0_i32_319 : BitVec 32 := 0#32
  let v543 : BitVec 1 := Scalar.cmpi .slt c2_i32_315 c0_i32_319
  let v544 : BitVec 32 := Scalar.extui v543
  let v545 : BitVec 32 := Scalar.subi v542 v544
  let v546 : BitVec 1 := Scalar.cmpi .ne v540 v545
  let v547 : BitVec 32 := Scalar.remsi v534 c2_i32_315
  let c0_i32_320 : BitVec 32 := 0#32
  let v548 : BitVec 1 := Scalar.cmpi .ne v547 c0_i32_320
  let v549 : BitVec 1 := Scalar.andi v546 v548
  let v535 : BitVec 32 := Scalar.divsi v534 c2_i32_315
  let c1_i32_321 : BitVec 32 := 1#32
  let v550 : BitVec 32 := Scalar.subi v535 c1_i32_321
  let v551 : BitVec 32 := Scalar.select v549 v550 v535
  let v552 : BitVec 32 := Scalar.subi v551 c0_i32_323
  let c1_i32_324 : BitVec 32 := 1#32
  let v554 : BitVec 32 := Scalar.divsi v552 c1_i32_324
  let v555 : BitVec 32 := Scalar.muli v554 c1_i32_324
  let v556 : BitVec 32 := Scalar.addi c0_i32_323 v555
  let c1_i32_326 : BitVec 32 := 1#32
  let arg29 : BitVec 32 := Scf.iv v556 c1_i32_326 k0_t6
  let v1400 : BitVec 32 := Scalar.muli c2_i32_822 arg29
  let v1401 : BitVec 32 := Scalar.muli c2_i32_823 v1400
  let v1402 : BitVec 32 := Scalar.addi v1401 c0_i32_824
  let c2_i32_831 : BitVec 32 := 2#32
  let v1413 : BitVec 32 := Scalar.addi v1402 c2_i32_831
  let c1_i32_43 : BitVec 32 := 1#32
  let v55 : BitVec 32 := Scalar.subi v54 c1_i32_43
  let c0_i32_44 : BitVec 32 := 0#32
  let v56 : BitVec 32 := Scalar.maxsi v55 c0_i32_44
  let v1414 : BitVec 32 := Scalar.minsi v1413 v56
  let v1415 : BitVec 32 := Scalar.muli c512_i32_832 v1414
  let v1416 : BitVec 32 := v1415
  let v1417 : Index := Scalar.indexCast v1416
  let c128_835 : Index := 128#32
  ![0, 1, v1417.toNat, 128]
def k0_mult50 (i : grid0.Coords) (k0_t6 : Fin (k0_t6_loop i).trips) : BitVec 32 :=
  let c8_i32_838 : BitVec 32 := 8#32
  let c2_i32_823 : BitVec 32 := 2#32
  let c2_i32_822 : BitVec 32 := 2#32
  let c0_i32_323 : BitVec 32 := 0#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_316 : BitVec 32 := 0#32
  let v536 : BitVec 1 := Scalar.cmpi .sgt v534 c0_i32_316
  let v537 : BitVec 32 := Scalar.extui v536
  let c0_i32_317 : BitVec 32 := 0#32
  let v538 : BitVec 1 := Scalar.cmpi .slt v534 c0_i32_317
  let v539 : BitVec 32 := Scalar.extui v538
  let v540 : BitVec 32 := Scalar.subi v537 v539
  let c2_i32_315 : BitVec 32 := 2#32
  let c0_i32_318 : BitVec 32 := 0#32
  let v541 : BitVec 1 := Scalar.cmpi .sgt c2_i32_315 c0_i32_318
  let v542 : BitVec 32 := Scalar.extui v541
  let c0_i32_319 : BitVec 32 := 0#32
  let v543 : BitVec 1 := Scalar.cmpi .slt c2_i32_315 c0_i32_319
  let v544 : BitVec 32 := Scalar.extui v543
  let v545 : BitVec 32 := Scalar.subi v542 v544
  let v546 : BitVec 1 := Scalar.cmpi .ne v540 v545
  let v547 : BitVec 32 := Scalar.remsi v534 c2_i32_315
  let c0_i32_320 : BitVec 32 := 0#32
  let v548 : BitVec 1 := Scalar.cmpi .ne v547 c0_i32_320
  let v549 : BitVec 1 := Scalar.andi v546 v548
  let v535 : BitVec 32 := Scalar.divsi v534 c2_i32_315
  let c1_i32_321 : BitVec 32 := 1#32
  let v550 : BitVec 32 := Scalar.subi v535 c1_i32_321
  let v551 : BitVec 32 := Scalar.select v549 v550 v535
  let v552 : BitVec 32 := Scalar.subi v551 c0_i32_323
  let c1_i32_324 : BitVec 32 := 1#32
  let v554 : BitVec 32 := Scalar.divsi v552 c1_i32_324
  let v555 : BitVec 32 := Scalar.muli v554 c1_i32_324
  let v556 : BitVec 32 := Scalar.addi c0_i32_323 v555
  let c1_i32_326 : BitVec 32 := 1#32
  let arg29 : BitVec 32 := Scf.iv v556 c1_i32_326 k0_t6
  let v1400 : BitVec 32 := Scalar.muli c2_i32_822 arg29
  let v1401 : BitVec 32 := Scalar.muli c2_i32_823 v1400
  let c0_i32_824 : BitVec 32 := 0#32
  let v1402 : BitVec 32 := Scalar.addi v1401 c0_i32_824
  let c1_i32_43 : BitVec 32 := 1#32
  let v55 : BitVec 32 := Scalar.subi v54 c1_i32_43
  let c0_i32_44 : BitVec 32 := 0#32
  let v56 : BitVec 32 := Scalar.maxsi v55 c0_i32_44
  let v1423 : BitVec 32 := Scalar.minsi v1402 v56
  let v1424 : BitVec 32 := Scalar.muli c8_i32_838 v1423
  v1424
def k0_off39 (i : grid0.Coords) (k0_t6 : Fin (k0_t6_loop i).trips) (c0_i32_824 : BitVec 32) : Fin 3 → Nat :=
  let c0_839 : Index := 0#32
  let c8_i32_838 : BitVec 32 := 8#32
  let c2_i32_823 : BitVec 32 := 2#32
  let c2_i32_822 : BitVec 32 := 2#32
  let c0_i32_323 : BitVec 32 := 0#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_316 : BitVec 32 := 0#32
  let v536 : BitVec 1 := Scalar.cmpi .sgt v534 c0_i32_316
  let v537 : BitVec 32 := Scalar.extui v536
  let c0_i32_317 : BitVec 32 := 0#32
  let v538 : BitVec 1 := Scalar.cmpi .slt v534 c0_i32_317
  let v539 : BitVec 32 := Scalar.extui v538
  let v540 : BitVec 32 := Scalar.subi v537 v539
  let c2_i32_315 : BitVec 32 := 2#32
  let c0_i32_318 : BitVec 32 := 0#32
  let v541 : BitVec 1 := Scalar.cmpi .sgt c2_i32_315 c0_i32_318
  let v542 : BitVec 32 := Scalar.extui v541
  let c0_i32_319 : BitVec 32 := 0#32
  let v543 : BitVec 1 := Scalar.cmpi .slt c2_i32_315 c0_i32_319
  let v544 : BitVec 32 := Scalar.extui v543
  let v545 : BitVec 32 := Scalar.subi v542 v544
  let v546 : BitVec 1 := Scalar.cmpi .ne v540 v545
  let v547 : BitVec 32 := Scalar.remsi v534 c2_i32_315
  let c0_i32_320 : BitVec 32 := 0#32
  let v548 : BitVec 1 := Scalar.cmpi .ne v547 c0_i32_320
  let v549 : BitVec 1 := Scalar.andi v546 v548
  let v535 : BitVec 32 := Scalar.divsi v534 c2_i32_315
  let c1_i32_321 : BitVec 32 := 1#32
  let v550 : BitVec 32 := Scalar.subi v535 c1_i32_321
  let v551 : BitVec 32 := Scalar.select v549 v550 v535
  let v552 : BitVec 32 := Scalar.subi v551 c0_i32_323
  let c1_i32_324 : BitVec 32 := 1#32
  let v554 : BitVec 32 := Scalar.divsi v552 c1_i32_324
  let v555 : BitVec 32 := Scalar.muli v554 c1_i32_324
  let v556 : BitVec 32 := Scalar.addi c0_i32_323 v555
  let c1_i32_326 : BitVec 32 := 1#32
  let arg29 : BitVec 32 := Scf.iv v556 c1_i32_326 k0_t6
  let v1400 : BitVec 32 := Scalar.muli c2_i32_822 arg29
  let v1401 : BitVec 32 := Scalar.muli c2_i32_823 v1400
  let v1402 : BitVec 32 := Scalar.addi v1401 c0_i32_824
  let c1_i32_43 : BitVec 32 := 1#32
  let v55 : BitVec 32 := Scalar.subi v54 c1_i32_43
  let c0_i32_44 : BitVec 32 := 0#32
  let v56 : BitVec 32 := Scalar.maxsi v55 c0_i32_44
  let v1423 : BitVec 32 := Scalar.minsi v1402 v56
  let v1424 : BitVec 32 := Scalar.muli c8_i32_838 v1423
  let v1425 : BitVec 32 := v1424
  let v1426 : Index := Scalar.indexCast v1425
  let c0_840 : Index := 0#32
  ![0, v1426.toNat, 0]
def k0_off40 (i : grid0.Coords) (k0_t6 : Fin (k0_t6_loop i).trips) (c0_i32_824 : BitVec 32) (c0_i32_866 : BitVec 32) : Fin 5 → Nat :=
  let c0_867 : Index := 0#32
  let c0_868 : Index := 0#32
  let c2_i32_865 : BitVec 32 := 2#32
  let c2_i32_823 : BitVec 32 := 2#32
  let c2_i32_822 : BitVec 32 := 2#32
  let c0_i32_323 : BitVec 32 := 0#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_316 : BitVec 32 := 0#32
  let v536 : BitVec 1 := Scalar.cmpi .sgt v534 c0_i32_316
  let v537 : BitVec 32 := Scalar.extui v536
  let c0_i32_317 : BitVec 32 := 0#32
  let v538 : BitVec 1 := Scalar.cmpi .slt v534 c0_i32_317
  let v539 : BitVec 32 := Scalar.extui v538
  let v540 : BitVec 32 := Scalar.subi v537 v539
  let c2_i32_315 : BitVec 32 := 2#32
  let c0_i32_318 : BitVec 32 := 0#32
  let v541 : BitVec 1 := Scalar.cmpi .sgt c2_i32_315 c0_i32_318
  let v542 : BitVec 32 := Scalar.extui v541
  let c0_i32_319 : BitVec 32 := 0#32
  let v543 : BitVec 1 := Scalar.cmpi .slt c2_i32_315 c0_i32_319
  let v544 : BitVec 32 := Scalar.extui v543
  let v545 : BitVec 32 := Scalar.subi v542 v544
  let v546 : BitVec 1 := Scalar.cmpi .ne v540 v545
  let v547 : BitVec 32 := Scalar.remsi v534 c2_i32_315
  let c0_i32_320 : BitVec 32 := 0#32
  let v548 : BitVec 1 := Scalar.cmpi .ne v547 c0_i32_320
  let v549 : BitVec 1 := Scalar.andi v546 v548
  let v535 : BitVec 32 := Scalar.divsi v534 c2_i32_315
  let c1_i32_321 : BitVec 32 := 1#32
  let v550 : BitVec 32 := Scalar.subi v535 c1_i32_321
  let v551 : BitVec 32 := Scalar.select v549 v550 v535
  let v552 : BitVec 32 := Scalar.subi v551 c0_i32_323
  let c1_i32_324 : BitVec 32 := 1#32
  let v554 : BitVec 32 := Scalar.divsi v552 c1_i32_324
  let v555 : BitVec 32 := Scalar.muli v554 c1_i32_324
  let v556 : BitVec 32 := Scalar.addi c0_i32_323 v555
  let c1_i32_326 : BitVec 32 := 1#32
  let arg29 : BitVec 32 := Scf.iv v556 c1_i32_326 k0_t6
  let v1400 : BitVec 32 := Scalar.muli c2_i32_822 arg29
  let v1401 : BitVec 32 := Scalar.muli c2_i32_823 v1400
  let v1402 : BitVec 32 := Scalar.addi v1401 c0_i32_824
  let c1_i32_43 : BitVec 32 := 1#32
  let v55 : BitVec 32 := Scalar.subi v54 c1_i32_43
  let c0_i32_44 : BitVec 32 := 0#32
  let v56 : BitVec 32 := Scalar.maxsi v55 c0_i32_44
  let v1423 : BitVec 32 := Scalar.minsi v1402 v56
  let v1484 : BitVec 32 := Scalar.muli c2_i32_865 v1423
  let v1485 : BitVec 32 := Scalar.addi v1484 c0_i32_866
  let v1486 : Index := Scalar.indexCast v1485
  let c0_869 : Index := 0#32
  let c0_870 : Index := 0#32
  ![0, 0, v1486.toNat, 0, 0]
def k0_mult51 (i : grid0.Coords) (k0_t6 : Fin (k0_t6_loop i).trips) : BitVec 32 :=
  let c8_i32_888 : BitVec 32 := 8#32
  let c2_i32_823 : BitVec 32 := 2#32
  let c2_i32_822 : BitVec 32 := 2#32
  let c0_i32_323 : BitVec 32 := 0#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_316 : BitVec 32 := 0#32
  let v536 : BitVec 1 := Scalar.cmpi .sgt v534 c0_i32_316
  let v537 : BitVec 32 := Scalar.extui v536
  let c0_i32_317 : BitVec 32 := 0#32
  let v538 : BitVec 1 := Scalar.cmpi .slt v534 c0_i32_317
  let v539 : BitVec 32 := Scalar.extui v538
  let v540 : BitVec 32 := Scalar.subi v537 v539
  let c2_i32_315 : BitVec 32 := 2#32
  let c0_i32_318 : BitVec 32 := 0#32
  let v541 : BitVec 1 := Scalar.cmpi .sgt c2_i32_315 c0_i32_318
  let v542 : BitVec 32 := Scalar.extui v541
  let c0_i32_319 : BitVec 32 := 0#32
  let v543 : BitVec 1 := Scalar.cmpi .slt c2_i32_315 c0_i32_319
  let v544 : BitVec 32 := Scalar.extui v543
  let v545 : BitVec 32 := Scalar.subi v542 v544
  let v546 : BitVec 1 := Scalar.cmpi .ne v540 v545
  let v547 : BitVec 32 := Scalar.remsi v534 c2_i32_315
  let c0_i32_320 : BitVec 32 := 0#32
  let v548 : BitVec 1 := Scalar.cmpi .ne v547 c0_i32_320
  let v549 : BitVec 1 := Scalar.andi v546 v548
  let v535 : BitVec 32 := Scalar.divsi v534 c2_i32_315
  let c1_i32_321 : BitVec 32 := 1#32
  let v550 : BitVec 32 := Scalar.subi v535 c1_i32_321
  let v551 : BitVec 32 := Scalar.select v549 v550 v535
  let v552 : BitVec 32 := Scalar.subi v551 c0_i32_323
  let c1_i32_324 : BitVec 32 := 1#32
  let v554 : BitVec 32 := Scalar.divsi v552 c1_i32_324
  let v555 : BitVec 32 := Scalar.muli v554 c1_i32_324
  let v556 : BitVec 32 := Scalar.addi c0_i32_323 v555
  let c1_i32_326 : BitVec 32 := 1#32
  let arg29 : BitVec 32 := Scf.iv v556 c1_i32_326 k0_t6
  let v1400 : BitVec 32 := Scalar.muli c2_i32_822 arg29
  let v1401 : BitVec 32 := Scalar.muli c2_i32_823 v1400
  let c0_i32_824 : BitVec 32 := 0#32
  let v1402 : BitVec 32 := Scalar.addi v1401 c0_i32_824
  let c1_i32_43 : BitVec 32 := 1#32
  let v55 : BitVec 32 := Scalar.subi v54 c1_i32_43
  let c0_i32_44 : BitVec 32 := 0#32
  let v56 : BitVec 32 := Scalar.maxsi v55 c0_i32_44
  let v1513 : BitVec 32 := Scalar.minsi v1402 v56
  let v1514 : BitVec 32 := Scalar.muli c8_i32_888 v1513
  v1514
def k0_off41 (i : grid0.Coords) (k0_t6 : Fin (k0_t6_loop i).trips) (c0_i32_824 : BitVec 32) : Fin 3 → Nat :=
  let c1_889 : Index := 1#32
  let c8_i32_888 : BitVec 32 := 8#32
  let c2_i32_823 : BitVec 32 := 2#32
  let c2_i32_822 : BitVec 32 := 2#32
  let c0_i32_323 : BitVec 32 := 0#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_316 : BitVec 32 := 0#32
  let v536 : BitVec 1 := Scalar.cmpi .sgt v534 c0_i32_316
  let v537 : BitVec 32 := Scalar.extui v536
  let c0_i32_317 : BitVec 32 := 0#32
  let v538 : BitVec 1 := Scalar.cmpi .slt v534 c0_i32_317
  let v539 : BitVec 32 := Scalar.extui v538
  let v540 : BitVec 32 := Scalar.subi v537 v539
  let c2_i32_315 : BitVec 32 := 2#32
  let c0_i32_318 : BitVec 32 := 0#32
  let v541 : BitVec 1 := Scalar.cmpi .sgt c2_i32_315 c0_i32_318
  let v542 : BitVec 32 := Scalar.extui v541
  let c0_i32_319 : BitVec 32 := 0#32
  let v543 : BitVec 1 := Scalar.cmpi .slt c2_i32_315 c0_i32_319
  let v544 : BitVec 32 := Scalar.extui v543
  let v545 : BitVec 32 := Scalar.subi v542 v544
  let v546 : BitVec 1 := Scalar.cmpi .ne v540 v545
  let v547 : BitVec 32 := Scalar.remsi v534 c2_i32_315
  let c0_i32_320 : BitVec 32 := 0#32
  let v548 : BitVec 1 := Scalar.cmpi .ne v547 c0_i32_320
  let v549 : BitVec 1 := Scalar.andi v546 v548
  let v535 : BitVec 32 := Scalar.divsi v534 c2_i32_315
  let c1_i32_321 : BitVec 32 := 1#32
  let v550 : BitVec 32 := Scalar.subi v535 c1_i32_321
  let v551 : BitVec 32 := Scalar.select v549 v550 v535
  let v552 : BitVec 32 := Scalar.subi v551 c0_i32_323
  let c1_i32_324 : BitVec 32 := 1#32
  let v554 : BitVec 32 := Scalar.divsi v552 c1_i32_324
  let v555 : BitVec 32 := Scalar.muli v554 c1_i32_324
  let v556 : BitVec 32 := Scalar.addi c0_i32_323 v555
  let c1_i32_326 : BitVec 32 := 1#32
  let arg29 : BitVec 32 := Scf.iv v556 c1_i32_326 k0_t6
  let v1400 : BitVec 32 := Scalar.muli c2_i32_822 arg29
  let v1401 : BitVec 32 := Scalar.muli c2_i32_823 v1400
  let v1402 : BitVec 32 := Scalar.addi v1401 c0_i32_824
  let c1_i32_43 : BitVec 32 := 1#32
  let v55 : BitVec 32 := Scalar.subi v54 c1_i32_43
  let c0_i32_44 : BitVec 32 := 0#32
  let v56 : BitVec 32 := Scalar.maxsi v55 c0_i32_44
  let v1513 : BitVec 32 := Scalar.minsi v1402 v56
  let v1514 : BitVec 32 := Scalar.muli c8_i32_888 v1513
  let v1515 : BitVec 32 := v1514
  let v1516 : Index := Scalar.indexCast v1515
  let c0_890 : Index := 0#32
  ![1, v1516.toNat, 0]
def k0_off42 (i : grid0.Coords) (k0_t6 : Fin (k0_t6_loop i).trips) (c0_i32_824 : BitVec 32) (c0_i32_916 : BitVec 32) : Fin 5 → Nat :=
  let c0_917 : Index := 0#32
  let c1_918 : Index := 1#32
  let c2_i32_915 : BitVec 32 := 2#32
  let c2_i32_823 : BitVec 32 := 2#32
  let c2_i32_822 : BitVec 32 := 2#32
  let c0_i32_323 : BitVec 32 := 0#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_316 : BitVec 32 := 0#32
  let v536 : BitVec 1 := Scalar.cmpi .sgt v534 c0_i32_316
  let v537 : BitVec 32 := Scalar.extui v536
  let c0_i32_317 : BitVec 32 := 0#32
  let v538 : BitVec 1 := Scalar.cmpi .slt v534 c0_i32_317
  let v539 : BitVec 32 := Scalar.extui v538
  let v540 : BitVec 32 := Scalar.subi v537 v539
  let c2_i32_315 : BitVec 32 := 2#32
  let c0_i32_318 : BitVec 32 := 0#32
  let v541 : BitVec 1 := Scalar.cmpi .sgt c2_i32_315 c0_i32_318
  let v542 : BitVec 32 := Scalar.extui v541
  let c0_i32_319 : BitVec 32 := 0#32
  let v543 : BitVec 1 := Scalar.cmpi .slt c2_i32_315 c0_i32_319
  let v544 : BitVec 32 := Scalar.extui v543
  let v545 : BitVec 32 := Scalar.subi v542 v544
  let v546 : BitVec 1 := Scalar.cmpi .ne v540 v545
  let v547 : BitVec 32 := Scalar.remsi v534 c2_i32_315
  let c0_i32_320 : BitVec 32 := 0#32
  let v548 : BitVec 1 := Scalar.cmpi .ne v547 c0_i32_320
  let v549 : BitVec 1 := Scalar.andi v546 v548
  let v535 : BitVec 32 := Scalar.divsi v534 c2_i32_315
  let c1_i32_321 : BitVec 32 := 1#32
  let v550 : BitVec 32 := Scalar.subi v535 c1_i32_321
  let v551 : BitVec 32 := Scalar.select v549 v550 v535
  let v552 : BitVec 32 := Scalar.subi v551 c0_i32_323
  let c1_i32_324 : BitVec 32 := 1#32
  let v554 : BitVec 32 := Scalar.divsi v552 c1_i32_324
  let v555 : BitVec 32 := Scalar.muli v554 c1_i32_324
  let v556 : BitVec 32 := Scalar.addi c0_i32_323 v555
  let c1_i32_326 : BitVec 32 := 1#32
  let arg29 : BitVec 32 := Scf.iv v556 c1_i32_326 k0_t6
  let v1400 : BitVec 32 := Scalar.muli c2_i32_822 arg29
  let v1401 : BitVec 32 := Scalar.muli c2_i32_823 v1400
  let v1402 : BitVec 32 := Scalar.addi v1401 c0_i32_824
  let c1_i32_43 : BitVec 32 := 1#32
  let v55 : BitVec 32 := Scalar.subi v54 c1_i32_43
  let c0_i32_44 : BitVec 32 := 0#32
  let v56 : BitVec 32 := Scalar.maxsi v55 c0_i32_44
  let v1513 : BitVec 32 := Scalar.minsi v1402 v56
  let v1574 : BitVec 32 := Scalar.muli c2_i32_915 v1513
  let v1575 : BitVec 32 := Scalar.addi v1574 c0_i32_916
  let v1576 : Index := Scalar.indexCast v1575
  let c0_919 : Index := 0#32
  let c0_920 : Index := 0#32
  ![0, 1, v1576.toNat, 0, 0]
def k0_mult52 (i : grid0.Coords) (k0_t6 : Fin (k0_t6_loop i).trips) : BitVec 32 :=
  let c512_i32_949 : BitVec 32 := 512#32
  let c2_i32_946 : BitVec 32 := 2#32
  let c2_i32_822 : BitVec 32 := 2#32
  let c0_i32_323 : BitVec 32 := 0#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_316 : BitVec 32 := 0#32
  let v536 : BitVec 1 := Scalar.cmpi .sgt v534 c0_i32_316
  let v537 : BitVec 32 := Scalar.extui v536
  let c0_i32_317 : BitVec 32 := 0#32
  let v538 : BitVec 1 := Scalar.cmpi .slt v534 c0_i32_317
  let v539 : BitVec 32 := Scalar.extui v538
  let v540 : BitVec 32 := Scalar.subi v537 v539
  let c2_i32_315 : BitVec 32 := 2#32
  let c0_i32_318 : BitVec 32 := 0#32
  let v541 : BitVec 1 := Scalar.cmpi .sgt c2_i32_315 c0_i32_318
  let v542 : BitVec 32 := Scalar.extui v541
  let c0_i32_319 : BitVec 32 := 0#32
  let v543 : BitVec 1 := Scalar.cmpi .slt c2_i32_315 c0_i32_319
  let v544 : BitVec 32 := Scalar.extui v543
  let v545 : BitVec 32 := Scalar.subi v542 v544
  let v546 : BitVec 1 := Scalar.cmpi .ne v540 v545
  let v547 : BitVec 32 := Scalar.remsi v534 c2_i32_315
  let c0_i32_320 : BitVec 32 := 0#32
  let v548 : BitVec 1 := Scalar.cmpi .ne v547 c0_i32_320
  let v549 : BitVec 1 := Scalar.andi v546 v548
  let v535 : BitVec 32 := Scalar.divsi v534 c2_i32_315
  let c1_i32_321 : BitVec 32 := 1#32
  let v550 : BitVec 32 := Scalar.subi v535 c1_i32_321
  let v551 : BitVec 32 := Scalar.select v549 v550 v535
  let v552 : BitVec 32 := Scalar.subi v551 c0_i32_323
  let c1_i32_324 : BitVec 32 := 1#32
  let v554 : BitVec 32 := Scalar.divsi v552 c1_i32_324
  let v555 : BitVec 32 := Scalar.muli v554 c1_i32_324
  let v556 : BitVec 32 := Scalar.addi c0_i32_323 v555
  let c1_i32_326 : BitVec 32 := 1#32
  let arg29 : BitVec 32 := Scf.iv v556 c1_i32_326 k0_t6
  let v1400 : BitVec 32 := Scalar.muli c2_i32_822 arg29
  let v1615 : BitVec 32 := Scalar.muli c2_i32_946 v1400
  let c1_i32_947 : BitVec 32 := 1#32
  let v1616 : BitVec 32 := Scalar.addi v1615 c1_i32_947
  let c2_i32_948 : BitVec 32 := 2#32
  let v1617 : BitVec 32 := Scalar.addi v1616 c2_i32_948
  let c1_i32_43 : BitVec 32 := 1#32
  let v55 : BitVec 32 := Scalar.subi v54 c1_i32_43
  let c0_i32_44 : BitVec 32 := 0#32
  let v56 : BitVec 32 := Scalar.maxsi v55 c0_i32_44
  let v1618 : BitVec 32 := Scalar.minsi v1617 v56
  let v1619 : BitVec 32 := Scalar.muli c512_i32_949 v1618
  v1619
def k0_mult53 (i : grid0.Coords) (k0_t6 : Fin (k0_t6_loop i).trips) : BitVec 32 :=
  let c512_i32_956 : BitVec 32 := 512#32
  let c2_i32_946 : BitVec 32 := 2#32
  let c2_i32_822 : BitVec 32 := 2#32
  let c0_i32_323 : BitVec 32 := 0#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_316 : BitVec 32 := 0#32
  let v536 : BitVec 1 := Scalar.cmpi .sgt v534 c0_i32_316
  let v537 : BitVec 32 := Scalar.extui v536
  let c0_i32_317 : BitVec 32 := 0#32
  let v538 : BitVec 1 := Scalar.cmpi .slt v534 c0_i32_317
  let v539 : BitVec 32 := Scalar.extui v538
  let v540 : BitVec 32 := Scalar.subi v537 v539
  let c2_i32_315 : BitVec 32 := 2#32
  let c0_i32_318 : BitVec 32 := 0#32
  let v541 : BitVec 1 := Scalar.cmpi .sgt c2_i32_315 c0_i32_318
  let v542 : BitVec 32 := Scalar.extui v541
  let c0_i32_319 : BitVec 32 := 0#32
  let v543 : BitVec 1 := Scalar.cmpi .slt c2_i32_315 c0_i32_319
  let v544 : BitVec 32 := Scalar.extui v543
  let v545 : BitVec 32 := Scalar.subi v542 v544
  let v546 : BitVec 1 := Scalar.cmpi .ne v540 v545
  let v547 : BitVec 32 := Scalar.remsi v534 c2_i32_315
  let c0_i32_320 : BitVec 32 := 0#32
  let v548 : BitVec 1 := Scalar.cmpi .ne v547 c0_i32_320
  let v549 : BitVec 1 := Scalar.andi v546 v548
  let v535 : BitVec 32 := Scalar.divsi v534 c2_i32_315
  let c1_i32_321 : BitVec 32 := 1#32
  let v550 : BitVec 32 := Scalar.subi v535 c1_i32_321
  let v551 : BitVec 32 := Scalar.select v549 v550 v535
  let v552 : BitVec 32 := Scalar.subi v551 c0_i32_323
  let c1_i32_324 : BitVec 32 := 1#32
  let v554 : BitVec 32 := Scalar.divsi v552 c1_i32_324
  let v555 : BitVec 32 := Scalar.muli v554 c1_i32_324
  let v556 : BitVec 32 := Scalar.addi c0_i32_323 v555
  let c1_i32_326 : BitVec 32 := 1#32
  let arg29 : BitVec 32 := Scf.iv v556 c1_i32_326 k0_t6
  let v1400 : BitVec 32 := Scalar.muli c2_i32_822 arg29
  let v1615 : BitVec 32 := Scalar.muli c2_i32_946 v1400
  let c1_i32_947 : BitVec 32 := 1#32
  let v1616 : BitVec 32 := Scalar.addi v1615 c1_i32_947
  let c2_i32_955 : BitVec 32 := 2#32
  let v1627 : BitVec 32 := Scalar.addi v1616 c2_i32_955
  let c1_i32_43 : BitVec 32 := 1#32
  let v55 : BitVec 32 := Scalar.subi v54 c1_i32_43
  let c0_i32_44 : BitVec 32 := 0#32
  let v56 : BitVec 32 := Scalar.maxsi v55 c0_i32_44
  let v1628 : BitVec 32 := Scalar.minsi v1627 v56
  let v1629 : BitVec 32 := Scalar.muli c512_i32_956 v1628
  v1629
def k0_mult54 (i : grid0.Coords) (k0_t6 : Fin (k0_t6_loop i).trips) : BitVec 32 :=
  let c8_i32_962 : BitVec 32 := 8#32
  let c2_i32_946 : BitVec 32 := 2#32
  let c2_i32_822 : BitVec 32 := 2#32
  let c0_i32_323 : BitVec 32 := 0#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_316 : BitVec 32 := 0#32
  let v536 : BitVec 1 := Scalar.cmpi .sgt v534 c0_i32_316
  let v537 : BitVec 32 := Scalar.extui v536
  let c0_i32_317 : BitVec 32 := 0#32
  let v538 : BitVec 1 := Scalar.cmpi .slt v534 c0_i32_317
  let v539 : BitVec 32 := Scalar.extui v538
  let v540 : BitVec 32 := Scalar.subi v537 v539
  let c2_i32_315 : BitVec 32 := 2#32
  let c0_i32_318 : BitVec 32 := 0#32
  let v541 : BitVec 1 := Scalar.cmpi .sgt c2_i32_315 c0_i32_318
  let v542 : BitVec 32 := Scalar.extui v541
  let c0_i32_319 : BitVec 32 := 0#32
  let v543 : BitVec 1 := Scalar.cmpi .slt c2_i32_315 c0_i32_319
  let v544 : BitVec 32 := Scalar.extui v543
  let v545 : BitVec 32 := Scalar.subi v542 v544
  let v546 : BitVec 1 := Scalar.cmpi .ne v540 v545
  let v547 : BitVec 32 := Scalar.remsi v534 c2_i32_315
  let c0_i32_320 : BitVec 32 := 0#32
  let v548 : BitVec 1 := Scalar.cmpi .ne v547 c0_i32_320
  let v549 : BitVec 1 := Scalar.andi v546 v548
  let v535 : BitVec 32 := Scalar.divsi v534 c2_i32_315
  let c1_i32_321 : BitVec 32 := 1#32
  let v550 : BitVec 32 := Scalar.subi v535 c1_i32_321
  let v551 : BitVec 32 := Scalar.select v549 v550 v535
  let v552 : BitVec 32 := Scalar.subi v551 c0_i32_323
  let c1_i32_324 : BitVec 32 := 1#32
  let v554 : BitVec 32 := Scalar.divsi v552 c1_i32_324
  let v555 : BitVec 32 := Scalar.muli v554 c1_i32_324
  let v556 : BitVec 32 := Scalar.addi c0_i32_323 v555
  let c1_i32_326 : BitVec 32 := 1#32
  let arg29 : BitVec 32 := Scf.iv v556 c1_i32_326 k0_t6
  let v1400 : BitVec 32 := Scalar.muli c2_i32_822 arg29
  let v1615 : BitVec 32 := Scalar.muli c2_i32_946 v1400
  let c1_i32_947 : BitVec 32 := 1#32
  let v1616 : BitVec 32 := Scalar.addi v1615 c1_i32_947
  let c1_i32_43 : BitVec 32 := 1#32
  let v55 : BitVec 32 := Scalar.subi v54 c1_i32_43
  let c0_i32_44 : BitVec 32 := 0#32
  let v56 : BitVec 32 := Scalar.maxsi v55 c0_i32_44
  let v1637 : BitVec 32 := Scalar.minsi v1616 v56
  let v1638 : BitVec 32 := Scalar.muli c8_i32_962 v1637
  v1638
def k0_mult55 (i : grid0.Coords) (k0_t6 : Fin (k0_t6_loop i).trips) : BitVec 32 :=
  let c8_i32_1012 : BitVec 32 := 8#32
  let c2_i32_946 : BitVec 32 := 2#32
  let c2_i32_822 : BitVec 32 := 2#32
  let c0_i32_323 : BitVec 32 := 0#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_316 : BitVec 32 := 0#32
  let v536 : BitVec 1 := Scalar.cmpi .sgt v534 c0_i32_316
  let v537 : BitVec 32 := Scalar.extui v536
  let c0_i32_317 : BitVec 32 := 0#32
  let v538 : BitVec 1 := Scalar.cmpi .slt v534 c0_i32_317
  let v539 : BitVec 32 := Scalar.extui v538
  let v540 : BitVec 32 := Scalar.subi v537 v539
  let c2_i32_315 : BitVec 32 := 2#32
  let c0_i32_318 : BitVec 32 := 0#32
  let v541 : BitVec 1 := Scalar.cmpi .sgt c2_i32_315 c0_i32_318
  let v542 : BitVec 32 := Scalar.extui v541
  let c0_i32_319 : BitVec 32 := 0#32
  let v543 : BitVec 1 := Scalar.cmpi .slt c2_i32_315 c0_i32_319
  let v544 : BitVec 32 := Scalar.extui v543
  let v545 : BitVec 32 := Scalar.subi v542 v544
  let v546 : BitVec 1 := Scalar.cmpi .ne v540 v545
  let v547 : BitVec 32 := Scalar.remsi v534 c2_i32_315
  let c0_i32_320 : BitVec 32 := 0#32
  let v548 : BitVec 1 := Scalar.cmpi .ne v547 c0_i32_320
  let v549 : BitVec 1 := Scalar.andi v546 v548
  let v535 : BitVec 32 := Scalar.divsi v534 c2_i32_315
  let c1_i32_321 : BitVec 32 := 1#32
  let v550 : BitVec 32 := Scalar.subi v535 c1_i32_321
  let v551 : BitVec 32 := Scalar.select v549 v550 v535
  let v552 : BitVec 32 := Scalar.subi v551 c0_i32_323
  let c1_i32_324 : BitVec 32 := 1#32
  let v554 : BitVec 32 := Scalar.divsi v552 c1_i32_324
  let v555 : BitVec 32 := Scalar.muli v554 c1_i32_324
  let v556 : BitVec 32 := Scalar.addi c0_i32_323 v555
  let c1_i32_326 : BitVec 32 := 1#32
  let arg29 : BitVec 32 := Scf.iv v556 c1_i32_326 k0_t6
  let v1400 : BitVec 32 := Scalar.muli c2_i32_822 arg29
  let v1615 : BitVec 32 := Scalar.muli c2_i32_946 v1400
  let c1_i32_947 : BitVec 32 := 1#32
  let v1616 : BitVec 32 := Scalar.addi v1615 c1_i32_947
  let c1_i32_43 : BitVec 32 := 1#32
  let v55 : BitVec 32 := Scalar.subi v54 c1_i32_43
  let c0_i32_44 : BitVec 32 := 0#32
  let v56 : BitVec 32 := Scalar.maxsi v55 c0_i32_44
  let v1727 : BitVec 32 := Scalar.minsi v1616 v56
  let v1728 : BitVec 32 := Scalar.muli c8_i32_1012 v1727
  v1728
def k0_mult56 (i : grid0.Coords) (k0_t6 : Fin (k0_t6_loop i).trips) : BitVec 32 :=
  let c512_i32_1073 : BitVec 32 := 512#32
  let c2_i32_1070 : BitVec 32 := 2#32
  let c2_i32_820 : BitVec 32 := 2#32
  let c0_i32_323 : BitVec 32 := 0#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_316 : BitVec 32 := 0#32
  let v536 : BitVec 1 := Scalar.cmpi .sgt v534 c0_i32_316
  let v537 : BitVec 32 := Scalar.extui v536
  let c0_i32_317 : BitVec 32 := 0#32
  let v538 : BitVec 1 := Scalar.cmpi .slt v534 c0_i32_317
  let v539 : BitVec 32 := Scalar.extui v538
  let v540 : BitVec 32 := Scalar.subi v537 v539
  let c2_i32_315 : BitVec 32 := 2#32
  let c0_i32_318 : BitVec 32 := 0#32
  let v541 : BitVec 1 := Scalar.cmpi .sgt c2_i32_315 c0_i32_318
  let v542 : BitVec 32 := Scalar.extui v541
  let c0_i32_319 : BitVec 32 := 0#32
  let v543 : BitVec 1 := Scalar.cmpi .slt c2_i32_315 c0_i32_319
  let v544 : BitVec 32 := Scalar.extui v543
  let v545 : BitVec 32 := Scalar.subi v542 v544
  let v546 : BitVec 1 := Scalar.cmpi .ne v540 v545
  let v547 : BitVec 32 := Scalar.remsi v534 c2_i32_315
  let c0_i32_320 : BitVec 32 := 0#32
  let v548 : BitVec 1 := Scalar.cmpi .ne v547 c0_i32_320
  let v549 : BitVec 1 := Scalar.andi v546 v548
  let v535 : BitVec 32 := Scalar.divsi v534 c2_i32_315
  let c1_i32_321 : BitVec 32 := 1#32
  let v550 : BitVec 32 := Scalar.subi v535 c1_i32_321
  let v551 : BitVec 32 := Scalar.select v549 v550 v535
  let v552 : BitVec 32 := Scalar.subi v551 c0_i32_323
  let c1_i32_324 : BitVec 32 := 1#32
  let v554 : BitVec 32 := Scalar.divsi v552 c1_i32_324
  let v555 : BitVec 32 := Scalar.muli v554 c1_i32_324
  let v556 : BitVec 32 := Scalar.addi c0_i32_323 v555
  let c1_i32_326 : BitVec 32 := 1#32
  let arg29 : BitVec 32 := Scf.iv v556 c1_i32_326 k0_t6
  let v1398 : BitVec 32 := Scalar.muli c2_i32_820 arg29
  let c1_i32_821 : BitVec 32 := 1#32
  let v1399 : BitVec 32 := Scalar.addi v1398 c1_i32_821
  let v1829 : BitVec 32 := Scalar.muli c2_i32_1070 v1399
  let c0_i32_1071 : BitVec 32 := 0#32
  let v1830 : BitVec 32 := Scalar.addi v1829 c0_i32_1071
  let c2_i32_1072 : BitVec 32 := 2#32
  let v1831 : BitVec 32 := Scalar.addi v1830 c2_i32_1072
  let c1_i32_43 : BitVec 32 := 1#32
  let v55 : BitVec 32 := Scalar.subi v54 c1_i32_43
  let c0_i32_44 : BitVec 32 := 0#32
  let v56 : BitVec 32 := Scalar.maxsi v55 c0_i32_44
  let v1832 : BitVec 32 := Scalar.minsi v1831 v56
  let v1833 : BitVec 32 := Scalar.muli c512_i32_1073 v1832
  v1833
def k0_off43 (i : grid0.Coords) (k0_t6 : Fin (k0_t6_loop i).trips) (c0_i32_1071 : BitVec 32) : Fin 4 → Nat :=
  let c0_1074 : Index := 0#32
  let c0_1075 : Index := 0#32
  let c512_i32_1073 : BitVec 32 := 512#32
  let c2_i32_1070 : BitVec 32 := 2#32
  let c2_i32_820 : BitVec 32 := 2#32
  let c0_i32_323 : BitVec 32 := 0#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_316 : BitVec 32 := 0#32
  let v536 : BitVec 1 := Scalar.cmpi .sgt v534 c0_i32_316
  let v537 : BitVec 32 := Scalar.extui v536
  let c0_i32_317 : BitVec 32 := 0#32
  let v538 : BitVec 1 := Scalar.cmpi .slt v534 c0_i32_317
  let v539 : BitVec 32 := Scalar.extui v538
  let v540 : BitVec 32 := Scalar.subi v537 v539
  let c2_i32_315 : BitVec 32 := 2#32
  let c0_i32_318 : BitVec 32 := 0#32
  let v541 : BitVec 1 := Scalar.cmpi .sgt c2_i32_315 c0_i32_318
  let v542 : BitVec 32 := Scalar.extui v541
  let c0_i32_319 : BitVec 32 := 0#32
  let v543 : BitVec 1 := Scalar.cmpi .slt c2_i32_315 c0_i32_319
  let v544 : BitVec 32 := Scalar.extui v543
  let v545 : BitVec 32 := Scalar.subi v542 v544
  let v546 : BitVec 1 := Scalar.cmpi .ne v540 v545
  let v547 : BitVec 32 := Scalar.remsi v534 c2_i32_315
  let c0_i32_320 : BitVec 32 := 0#32
  let v548 : BitVec 1 := Scalar.cmpi .ne v547 c0_i32_320
  let v549 : BitVec 1 := Scalar.andi v546 v548
  let v535 : BitVec 32 := Scalar.divsi v534 c2_i32_315
  let c1_i32_321 : BitVec 32 := 1#32
  let v550 : BitVec 32 := Scalar.subi v535 c1_i32_321
  let v551 : BitVec 32 := Scalar.select v549 v550 v535
  let v552 : BitVec 32 := Scalar.subi v551 c0_i32_323
  let c1_i32_324 : BitVec 32 := 1#32
  let v554 : BitVec 32 := Scalar.divsi v552 c1_i32_324
  let v555 : BitVec 32 := Scalar.muli v554 c1_i32_324
  let v556 : BitVec 32 := Scalar.addi c0_i32_323 v555
  let c1_i32_326 : BitVec 32 := 1#32
  let arg29 : BitVec 32 := Scf.iv v556 c1_i32_326 k0_t6
  let v1398 : BitVec 32 := Scalar.muli c2_i32_820 arg29
  let c1_i32_821 : BitVec 32 := 1#32
  let v1399 : BitVec 32 := Scalar.addi v1398 c1_i32_821
  let v1829 : BitVec 32 := Scalar.muli c2_i32_1070 v1399
  let v1830 : BitVec 32 := Scalar.addi v1829 c0_i32_1071
  let c2_i32_1072 : BitVec 32 := 2#32
  let v1831 : BitVec 32 := Scalar.addi v1830 c2_i32_1072
  let c1_i32_43 : BitVec 32 := 1#32
  let v55 : BitVec 32 := Scalar.subi v54 c1_i32_43
  let c0_i32_44 : BitVec 32 := 0#32
  let v56 : BitVec 32 := Scalar.maxsi v55 c0_i32_44
  let v1832 : BitVec 32 := Scalar.minsi v1831 v56
  let v1833 : BitVec 32 := Scalar.muli c512_i32_1073 v1832
  let v1834 : BitVec 32 := v1833
  let v1835 : Index := Scalar.indexCast v1834
  let c128_1076 : Index := 128#32
  ![0, 0, v1835.toNat, 128]
def k0_mult57 (i : grid0.Coords) (k0_t6 : Fin (k0_t6_loop i).trips) : BitVec 32 :=
  let c512_i32_1080 : BitVec 32 := 512#32
  let c2_i32_1070 : BitVec 32 := 2#32
  let c2_i32_820 : BitVec 32 := 2#32
  let c0_i32_323 : BitVec 32 := 0#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_316 : BitVec 32 := 0#32
  let v536 : BitVec 1 := Scalar.cmpi .sgt v534 c0_i32_316
  let v537 : BitVec 32 := Scalar.extui v536
  let c0_i32_317 : BitVec 32 := 0#32
  let v538 : BitVec 1 := Scalar.cmpi .slt v534 c0_i32_317
  let v539 : BitVec 32 := Scalar.extui v538
  let v540 : BitVec 32 := Scalar.subi v537 v539
  let c2_i32_315 : BitVec 32 := 2#32
  let c0_i32_318 : BitVec 32 := 0#32
  let v541 : BitVec 1 := Scalar.cmpi .sgt c2_i32_315 c0_i32_318
  let v542 : BitVec 32 := Scalar.extui v541
  let c0_i32_319 : BitVec 32 := 0#32
  let v543 : BitVec 1 := Scalar.cmpi .slt c2_i32_315 c0_i32_319
  let v544 : BitVec 32 := Scalar.extui v543
  let v545 : BitVec 32 := Scalar.subi v542 v544
  let v546 : BitVec 1 := Scalar.cmpi .ne v540 v545
  let v547 : BitVec 32 := Scalar.remsi v534 c2_i32_315
  let c0_i32_320 : BitVec 32 := 0#32
  let v548 : BitVec 1 := Scalar.cmpi .ne v547 c0_i32_320
  let v549 : BitVec 1 := Scalar.andi v546 v548
  let v535 : BitVec 32 := Scalar.divsi v534 c2_i32_315
  let c1_i32_321 : BitVec 32 := 1#32
  let v550 : BitVec 32 := Scalar.subi v535 c1_i32_321
  let v551 : BitVec 32 := Scalar.select v549 v550 v535
  let v552 : BitVec 32 := Scalar.subi v551 c0_i32_323
  let c1_i32_324 : BitVec 32 := 1#32
  let v554 : BitVec 32 := Scalar.divsi v552 c1_i32_324
  let v555 : BitVec 32 := Scalar.muli v554 c1_i32_324
  let v556 : BitVec 32 := Scalar.addi c0_i32_323 v555
  let c1_i32_326 : BitVec 32 := 1#32
  let arg29 : BitVec 32 := Scf.iv v556 c1_i32_326 k0_t6
  let v1398 : BitVec 32 := Scalar.muli c2_i32_820 arg29
  let c1_i32_821 : BitVec 32 := 1#32
  let v1399 : BitVec 32 := Scalar.addi v1398 c1_i32_821
  let v1829 : BitVec 32 := Scalar.muli c2_i32_1070 v1399
  let c0_i32_1071 : BitVec 32 := 0#32
  let v1830 : BitVec 32 := Scalar.addi v1829 c0_i32_1071
  let c2_i32_1079 : BitVec 32 := 2#32
  let v1841 : BitVec 32 := Scalar.addi v1830 c2_i32_1079
  let c1_i32_43 : BitVec 32 := 1#32
  let v55 : BitVec 32 := Scalar.subi v54 c1_i32_43
  let c0_i32_44 : BitVec 32 := 0#32
  let v56 : BitVec 32 := Scalar.maxsi v55 c0_i32_44
  let v1842 : BitVec 32 := Scalar.minsi v1841 v56
  let v1843 : BitVec 32 := Scalar.muli c512_i32_1080 v1842
  v1843
def k0_off44 (i : grid0.Coords) (k0_t6 : Fin (k0_t6_loop i).trips) (c0_i32_1071 : BitVec 32) : Fin 4 → Nat :=
  let c0_1081 : Index := 0#32
  let c1_1082 : Index := 1#32
  let c512_i32_1080 : BitVec 32 := 512#32
  let c2_i32_1070 : BitVec 32 := 2#32
  let c2_i32_820 : BitVec 32 := 2#32
  let c0_i32_323 : BitVec 32 := 0#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_316 : BitVec 32 := 0#32
  let v536 : BitVec 1 := Scalar.cmpi .sgt v534 c0_i32_316
  let v537 : BitVec 32 := Scalar.extui v536
  let c0_i32_317 : BitVec 32 := 0#32
  let v538 : BitVec 1 := Scalar.cmpi .slt v534 c0_i32_317
  let v539 : BitVec 32 := Scalar.extui v538
  let v540 : BitVec 32 := Scalar.subi v537 v539
  let c2_i32_315 : BitVec 32 := 2#32
  let c0_i32_318 : BitVec 32 := 0#32
  let v541 : BitVec 1 := Scalar.cmpi .sgt c2_i32_315 c0_i32_318
  let v542 : BitVec 32 := Scalar.extui v541
  let c0_i32_319 : BitVec 32 := 0#32
  let v543 : BitVec 1 := Scalar.cmpi .slt c2_i32_315 c0_i32_319
  let v544 : BitVec 32 := Scalar.extui v543
  let v545 : BitVec 32 := Scalar.subi v542 v544
  let v546 : BitVec 1 := Scalar.cmpi .ne v540 v545
  let v547 : BitVec 32 := Scalar.remsi v534 c2_i32_315
  let c0_i32_320 : BitVec 32 := 0#32
  let v548 : BitVec 1 := Scalar.cmpi .ne v547 c0_i32_320
  let v549 : BitVec 1 := Scalar.andi v546 v548
  let v535 : BitVec 32 := Scalar.divsi v534 c2_i32_315
  let c1_i32_321 : BitVec 32 := 1#32
  let v550 : BitVec 32 := Scalar.subi v535 c1_i32_321
  let v551 : BitVec 32 := Scalar.select v549 v550 v535
  let v552 : BitVec 32 := Scalar.subi v551 c0_i32_323
  let c1_i32_324 : BitVec 32 := 1#32
  let v554 : BitVec 32 := Scalar.divsi v552 c1_i32_324
  let v555 : BitVec 32 := Scalar.muli v554 c1_i32_324
  let v556 : BitVec 32 := Scalar.addi c0_i32_323 v555
  let c1_i32_326 : BitVec 32 := 1#32
  let arg29 : BitVec 32 := Scf.iv v556 c1_i32_326 k0_t6
  let v1398 : BitVec 32 := Scalar.muli c2_i32_820 arg29
  let c1_i32_821 : BitVec 32 := 1#32
  let v1399 : BitVec 32 := Scalar.addi v1398 c1_i32_821
  let v1829 : BitVec 32 := Scalar.muli c2_i32_1070 v1399
  let v1830 : BitVec 32 := Scalar.addi v1829 c0_i32_1071
  let c2_i32_1079 : BitVec 32 := 2#32
  let v1841 : BitVec 32 := Scalar.addi v1830 c2_i32_1079
  let c1_i32_43 : BitVec 32 := 1#32
  let v55 : BitVec 32 := Scalar.subi v54 c1_i32_43
  let c0_i32_44 : BitVec 32 := 0#32
  let v56 : BitVec 32 := Scalar.maxsi v55 c0_i32_44
  let v1842 : BitVec 32 := Scalar.minsi v1841 v56
  let v1843 : BitVec 32 := Scalar.muli c512_i32_1080 v1842
  let v1844 : BitVec 32 := v1843
  let v1845 : Index := Scalar.indexCast v1844
  let c128_1083 : Index := 128#32
  ![0, 1, v1845.toNat, 128]
def k0_mult58 (i : grid0.Coords) (k0_t6 : Fin (k0_t6_loop i).trips) : BitVec 32 :=
  let c8_i32_1086 : BitVec 32 := 8#32
  let c2_i32_1070 : BitVec 32 := 2#32
  let c2_i32_820 : BitVec 32 := 2#32
  let c0_i32_323 : BitVec 32 := 0#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_316 : BitVec 32 := 0#32
  let v536 : BitVec 1 := Scalar.cmpi .sgt v534 c0_i32_316
  let v537 : BitVec 32 := Scalar.extui v536
  let c0_i32_317 : BitVec 32 := 0#32
  let v538 : BitVec 1 := Scalar.cmpi .slt v534 c0_i32_317
  let v539 : BitVec 32 := Scalar.extui v538
  let v540 : BitVec 32 := Scalar.subi v537 v539
  let c2_i32_315 : BitVec 32 := 2#32
  let c0_i32_318 : BitVec 32 := 0#32
  let v541 : BitVec 1 := Scalar.cmpi .sgt c2_i32_315 c0_i32_318
  let v542 : BitVec 32 := Scalar.extui v541
  let c0_i32_319 : BitVec 32 := 0#32
  let v543 : BitVec 1 := Scalar.cmpi .slt c2_i32_315 c0_i32_319
  let v544 : BitVec 32 := Scalar.extui v543
  let v545 : BitVec 32 := Scalar.subi v542 v544
  let v546 : BitVec 1 := Scalar.cmpi .ne v540 v545
  let v547 : BitVec 32 := Scalar.remsi v534 c2_i32_315
  let c0_i32_320 : BitVec 32 := 0#32
  let v548 : BitVec 1 := Scalar.cmpi .ne v547 c0_i32_320
  let v549 : BitVec 1 := Scalar.andi v546 v548
  let v535 : BitVec 32 := Scalar.divsi v534 c2_i32_315
  let c1_i32_321 : BitVec 32 := 1#32
  let v550 : BitVec 32 := Scalar.subi v535 c1_i32_321
  let v551 : BitVec 32 := Scalar.select v549 v550 v535
  let v552 : BitVec 32 := Scalar.subi v551 c0_i32_323
  let c1_i32_324 : BitVec 32 := 1#32
  let v554 : BitVec 32 := Scalar.divsi v552 c1_i32_324
  let v555 : BitVec 32 := Scalar.muli v554 c1_i32_324
  let v556 : BitVec 32 := Scalar.addi c0_i32_323 v555
  let c1_i32_326 : BitVec 32 := 1#32
  let arg29 : BitVec 32 := Scf.iv v556 c1_i32_326 k0_t6
  let v1398 : BitVec 32 := Scalar.muli c2_i32_820 arg29
  let c1_i32_821 : BitVec 32 := 1#32
  let v1399 : BitVec 32 := Scalar.addi v1398 c1_i32_821
  let v1829 : BitVec 32 := Scalar.muli c2_i32_1070 v1399
  let c0_i32_1071 : BitVec 32 := 0#32
  let v1830 : BitVec 32 := Scalar.addi v1829 c0_i32_1071
  let c1_i32_43 : BitVec 32 := 1#32
  let v55 : BitVec 32 := Scalar.subi v54 c1_i32_43
  let c0_i32_44 : BitVec 32 := 0#32
  let v56 : BitVec 32 := Scalar.maxsi v55 c0_i32_44
  let v1851 : BitVec 32 := Scalar.minsi v1830 v56
  let v1852 : BitVec 32 := Scalar.muli c8_i32_1086 v1851
  v1852
def k0_off45 (i : grid0.Coords) (k0_t6 : Fin (k0_t6_loop i).trips) (c0_i32_1071 : BitVec 32) : Fin 3 → Nat :=
  let c0_1087 : Index := 0#32
  let c8_i32_1086 : BitVec 32 := 8#32
  let c2_i32_1070 : BitVec 32 := 2#32
  let c2_i32_820 : BitVec 32 := 2#32
  let c0_i32_323 : BitVec 32 := 0#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_316 : BitVec 32 := 0#32
  let v536 : BitVec 1 := Scalar.cmpi .sgt v534 c0_i32_316
  let v537 : BitVec 32 := Scalar.extui v536
  let c0_i32_317 : BitVec 32 := 0#32
  let v538 : BitVec 1 := Scalar.cmpi .slt v534 c0_i32_317
  let v539 : BitVec 32 := Scalar.extui v538
  let v540 : BitVec 32 := Scalar.subi v537 v539
  let c2_i32_315 : BitVec 32 := 2#32
  let c0_i32_318 : BitVec 32 := 0#32
  let v541 : BitVec 1 := Scalar.cmpi .sgt c2_i32_315 c0_i32_318
  let v542 : BitVec 32 := Scalar.extui v541
  let c0_i32_319 : BitVec 32 := 0#32
  let v543 : BitVec 1 := Scalar.cmpi .slt c2_i32_315 c0_i32_319
  let v544 : BitVec 32 := Scalar.extui v543
  let v545 : BitVec 32 := Scalar.subi v542 v544
  let v546 : BitVec 1 := Scalar.cmpi .ne v540 v545
  let v547 : BitVec 32 := Scalar.remsi v534 c2_i32_315
  let c0_i32_320 : BitVec 32 := 0#32
  let v548 : BitVec 1 := Scalar.cmpi .ne v547 c0_i32_320
  let v549 : BitVec 1 := Scalar.andi v546 v548
  let v535 : BitVec 32 := Scalar.divsi v534 c2_i32_315
  let c1_i32_321 : BitVec 32 := 1#32
  let v550 : BitVec 32 := Scalar.subi v535 c1_i32_321
  let v551 : BitVec 32 := Scalar.select v549 v550 v535
  let v552 : BitVec 32 := Scalar.subi v551 c0_i32_323
  let c1_i32_324 : BitVec 32 := 1#32
  let v554 : BitVec 32 := Scalar.divsi v552 c1_i32_324
  let v555 : BitVec 32 := Scalar.muli v554 c1_i32_324
  let v556 : BitVec 32 := Scalar.addi c0_i32_323 v555
  let c1_i32_326 : BitVec 32 := 1#32
  let arg29 : BitVec 32 := Scf.iv v556 c1_i32_326 k0_t6
  let v1398 : BitVec 32 := Scalar.muli c2_i32_820 arg29
  let c1_i32_821 : BitVec 32 := 1#32
  let v1399 : BitVec 32 := Scalar.addi v1398 c1_i32_821
  let v1829 : BitVec 32 := Scalar.muli c2_i32_1070 v1399
  let v1830 : BitVec 32 := Scalar.addi v1829 c0_i32_1071
  let c1_i32_43 : BitVec 32 := 1#32
  let v55 : BitVec 32 := Scalar.subi v54 c1_i32_43
  let c0_i32_44 : BitVec 32 := 0#32
  let v56 : BitVec 32 := Scalar.maxsi v55 c0_i32_44
  let v1851 : BitVec 32 := Scalar.minsi v1830 v56
  let v1852 : BitVec 32 := Scalar.muli c8_i32_1086 v1851
  let v1853 : BitVec 32 := v1852
  let v1854 : Index := Scalar.indexCast v1853
  let c0_1088 : Index := 0#32
  ![0, v1854.toNat, 0]
def k0_off46 (i : grid0.Coords) (k0_t6 : Fin (k0_t6_loop i).trips) (c0_i32_1071 : BitVec 32) (c0_i32_1114 : BitVec 32) : Fin 5 → Nat :=
  let c0_1115 : Index := 0#32
  let c0_1116 : Index := 0#32
  let c2_i32_1113 : BitVec 32 := 2#32
  let c2_i32_1070 : BitVec 32 := 2#32
  let c2_i32_820 : BitVec 32 := 2#32
  let c0_i32_323 : BitVec 32 := 0#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_316 : BitVec 32 := 0#32
  let v536 : BitVec 1 := Scalar.cmpi .sgt v534 c0_i32_316
  let v537 : BitVec 32 := Scalar.extui v536
  let c0_i32_317 : BitVec 32 := 0#32
  let v538 : BitVec 1 := Scalar.cmpi .slt v534 c0_i32_317
  let v539 : BitVec 32 := Scalar.extui v538
  let v540 : BitVec 32 := Scalar.subi v537 v539
  let c2_i32_315 : BitVec 32 := 2#32
  let c0_i32_318 : BitVec 32 := 0#32
  let v541 : BitVec 1 := Scalar.cmpi .sgt c2_i32_315 c0_i32_318
  let v542 : BitVec 32 := Scalar.extui v541
  let c0_i32_319 : BitVec 32 := 0#32
  let v543 : BitVec 1 := Scalar.cmpi .slt c2_i32_315 c0_i32_319
  let v544 : BitVec 32 := Scalar.extui v543
  let v545 : BitVec 32 := Scalar.subi v542 v544
  let v546 : BitVec 1 := Scalar.cmpi .ne v540 v545
  let v547 : BitVec 32 := Scalar.remsi v534 c2_i32_315
  let c0_i32_320 : BitVec 32 := 0#32
  let v548 : BitVec 1 := Scalar.cmpi .ne v547 c0_i32_320
  let v549 : BitVec 1 := Scalar.andi v546 v548
  let v535 : BitVec 32 := Scalar.divsi v534 c2_i32_315
  let c1_i32_321 : BitVec 32 := 1#32
  let v550 : BitVec 32 := Scalar.subi v535 c1_i32_321
  let v551 : BitVec 32 := Scalar.select v549 v550 v535
  let v552 : BitVec 32 := Scalar.subi v551 c0_i32_323
  let c1_i32_324 : BitVec 32 := 1#32
  let v554 : BitVec 32 := Scalar.divsi v552 c1_i32_324
  let v555 : BitVec 32 := Scalar.muli v554 c1_i32_324
  let v556 : BitVec 32 := Scalar.addi c0_i32_323 v555
  let c1_i32_326 : BitVec 32 := 1#32
  let arg29 : BitVec 32 := Scf.iv v556 c1_i32_326 k0_t6
  let v1398 : BitVec 32 := Scalar.muli c2_i32_820 arg29
  let c1_i32_821 : BitVec 32 := 1#32
  let v1399 : BitVec 32 := Scalar.addi v1398 c1_i32_821
  let v1829 : BitVec 32 := Scalar.muli c2_i32_1070 v1399
  let v1830 : BitVec 32 := Scalar.addi v1829 c0_i32_1071
  let c1_i32_43 : BitVec 32 := 1#32
  let v55 : BitVec 32 := Scalar.subi v54 c1_i32_43
  let c0_i32_44 : BitVec 32 := 0#32
  let v56 : BitVec 32 := Scalar.maxsi v55 c0_i32_44
  let v1851 : BitVec 32 := Scalar.minsi v1830 v56
  let v1912 : BitVec 32 := Scalar.muli c2_i32_1113 v1851
  let v1913 : BitVec 32 := Scalar.addi v1912 c0_i32_1114
  let v1914 : Index := Scalar.indexCast v1913
  let c0_1117 : Index := 0#32
  let c0_1118 : Index := 0#32
  ![0, 0, v1914.toNat, 0, 0]
def k0_mult59 (i : grid0.Coords) (k0_t6 : Fin (k0_t6_loop i).trips) : BitVec 32 :=
  let c8_i32_1136 : BitVec 32 := 8#32
  let c2_i32_1070 : BitVec 32 := 2#32
  let c2_i32_820 : BitVec 32 := 2#32
  let c0_i32_323 : BitVec 32 := 0#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_316 : BitVec 32 := 0#32
  let v536 : BitVec 1 := Scalar.cmpi .sgt v534 c0_i32_316
  let v537 : BitVec 32 := Scalar.extui v536
  let c0_i32_317 : BitVec 32 := 0#32
  let v538 : BitVec 1 := Scalar.cmpi .slt v534 c0_i32_317
  let v539 : BitVec 32 := Scalar.extui v538
  let v540 : BitVec 32 := Scalar.subi v537 v539
  let c2_i32_315 : BitVec 32 := 2#32
  let c0_i32_318 : BitVec 32 := 0#32
  let v541 : BitVec 1 := Scalar.cmpi .sgt c2_i32_315 c0_i32_318
  let v542 : BitVec 32 := Scalar.extui v541
  let c0_i32_319 : BitVec 32 := 0#32
  let v543 : BitVec 1 := Scalar.cmpi .slt c2_i32_315 c0_i32_319
  let v544 : BitVec 32 := Scalar.extui v543
  let v545 : BitVec 32 := Scalar.subi v542 v544
  let v546 : BitVec 1 := Scalar.cmpi .ne v540 v545
  let v547 : BitVec 32 := Scalar.remsi v534 c2_i32_315
  let c0_i32_320 : BitVec 32 := 0#32
  let v548 : BitVec 1 := Scalar.cmpi .ne v547 c0_i32_320
  let v549 : BitVec 1 := Scalar.andi v546 v548
  let v535 : BitVec 32 := Scalar.divsi v534 c2_i32_315
  let c1_i32_321 : BitVec 32 := 1#32
  let v550 : BitVec 32 := Scalar.subi v535 c1_i32_321
  let v551 : BitVec 32 := Scalar.select v549 v550 v535
  let v552 : BitVec 32 := Scalar.subi v551 c0_i32_323
  let c1_i32_324 : BitVec 32 := 1#32
  let v554 : BitVec 32 := Scalar.divsi v552 c1_i32_324
  let v555 : BitVec 32 := Scalar.muli v554 c1_i32_324
  let v556 : BitVec 32 := Scalar.addi c0_i32_323 v555
  let c1_i32_326 : BitVec 32 := 1#32
  let arg29 : BitVec 32 := Scf.iv v556 c1_i32_326 k0_t6
  let v1398 : BitVec 32 := Scalar.muli c2_i32_820 arg29
  let c1_i32_821 : BitVec 32 := 1#32
  let v1399 : BitVec 32 := Scalar.addi v1398 c1_i32_821
  let v1829 : BitVec 32 := Scalar.muli c2_i32_1070 v1399
  let c0_i32_1071 : BitVec 32 := 0#32
  let v1830 : BitVec 32 := Scalar.addi v1829 c0_i32_1071
  let c1_i32_43 : BitVec 32 := 1#32
  let v55 : BitVec 32 := Scalar.subi v54 c1_i32_43
  let c0_i32_44 : BitVec 32 := 0#32
  let v56 : BitVec 32 := Scalar.maxsi v55 c0_i32_44
  let v1941 : BitVec 32 := Scalar.minsi v1830 v56
  let v1942 : BitVec 32 := Scalar.muli c8_i32_1136 v1941
  v1942
def k0_off47 (i : grid0.Coords) (k0_t6 : Fin (k0_t6_loop i).trips) (c0_i32_1071 : BitVec 32) : Fin 3 → Nat :=
  let c1_1137 : Index := 1#32
  let c8_i32_1136 : BitVec 32 := 8#32
  let c2_i32_1070 : BitVec 32 := 2#32
  let c2_i32_820 : BitVec 32 := 2#32
  let c0_i32_323 : BitVec 32 := 0#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_316 : BitVec 32 := 0#32
  let v536 : BitVec 1 := Scalar.cmpi .sgt v534 c0_i32_316
  let v537 : BitVec 32 := Scalar.extui v536
  let c0_i32_317 : BitVec 32 := 0#32
  let v538 : BitVec 1 := Scalar.cmpi .slt v534 c0_i32_317
  let v539 : BitVec 32 := Scalar.extui v538
  let v540 : BitVec 32 := Scalar.subi v537 v539
  let c2_i32_315 : BitVec 32 := 2#32
  let c0_i32_318 : BitVec 32 := 0#32
  let v541 : BitVec 1 := Scalar.cmpi .sgt c2_i32_315 c0_i32_318
  let v542 : BitVec 32 := Scalar.extui v541
  let c0_i32_319 : BitVec 32 := 0#32
  let v543 : BitVec 1 := Scalar.cmpi .slt c2_i32_315 c0_i32_319
  let v544 : BitVec 32 := Scalar.extui v543
  let v545 : BitVec 32 := Scalar.subi v542 v544
  let v546 : BitVec 1 := Scalar.cmpi .ne v540 v545
  let v547 : BitVec 32 := Scalar.remsi v534 c2_i32_315
  let c0_i32_320 : BitVec 32 := 0#32
  let v548 : BitVec 1 := Scalar.cmpi .ne v547 c0_i32_320
  let v549 : BitVec 1 := Scalar.andi v546 v548
  let v535 : BitVec 32 := Scalar.divsi v534 c2_i32_315
  let c1_i32_321 : BitVec 32 := 1#32
  let v550 : BitVec 32 := Scalar.subi v535 c1_i32_321
  let v551 : BitVec 32 := Scalar.select v549 v550 v535
  let v552 : BitVec 32 := Scalar.subi v551 c0_i32_323
  let c1_i32_324 : BitVec 32 := 1#32
  let v554 : BitVec 32 := Scalar.divsi v552 c1_i32_324
  let v555 : BitVec 32 := Scalar.muli v554 c1_i32_324
  let v556 : BitVec 32 := Scalar.addi c0_i32_323 v555
  let c1_i32_326 : BitVec 32 := 1#32
  let arg29 : BitVec 32 := Scf.iv v556 c1_i32_326 k0_t6
  let v1398 : BitVec 32 := Scalar.muli c2_i32_820 arg29
  let c1_i32_821 : BitVec 32 := 1#32
  let v1399 : BitVec 32 := Scalar.addi v1398 c1_i32_821
  let v1829 : BitVec 32 := Scalar.muli c2_i32_1070 v1399
  let v1830 : BitVec 32 := Scalar.addi v1829 c0_i32_1071
  let c1_i32_43 : BitVec 32 := 1#32
  let v55 : BitVec 32 := Scalar.subi v54 c1_i32_43
  let c0_i32_44 : BitVec 32 := 0#32
  let v56 : BitVec 32 := Scalar.maxsi v55 c0_i32_44
  let v1941 : BitVec 32 := Scalar.minsi v1830 v56
  let v1942 : BitVec 32 := Scalar.muli c8_i32_1136 v1941
  let v1943 : BitVec 32 := v1942
  let v1944 : Index := Scalar.indexCast v1943
  let c0_1138 : Index := 0#32
  ![1, v1944.toNat, 0]
def k0_off48 (i : grid0.Coords) (k0_t6 : Fin (k0_t6_loop i).trips) (c0_i32_1071 : BitVec 32) (c0_i32_1164 : BitVec 32) : Fin 5 → Nat :=
  let c0_1165 : Index := 0#32
  let c1_1166 : Index := 1#32
  let c2_i32_1163 : BitVec 32 := 2#32
  let c2_i32_1070 : BitVec 32 := 2#32
  let c2_i32_820 : BitVec 32 := 2#32
  let c0_i32_323 : BitVec 32 := 0#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_316 : BitVec 32 := 0#32
  let v536 : BitVec 1 := Scalar.cmpi .sgt v534 c0_i32_316
  let v537 : BitVec 32 := Scalar.extui v536
  let c0_i32_317 : BitVec 32 := 0#32
  let v538 : BitVec 1 := Scalar.cmpi .slt v534 c0_i32_317
  let v539 : BitVec 32 := Scalar.extui v538
  let v540 : BitVec 32 := Scalar.subi v537 v539
  let c2_i32_315 : BitVec 32 := 2#32
  let c0_i32_318 : BitVec 32 := 0#32
  let v541 : BitVec 1 := Scalar.cmpi .sgt c2_i32_315 c0_i32_318
  let v542 : BitVec 32 := Scalar.extui v541
  let c0_i32_319 : BitVec 32 := 0#32
  let v543 : BitVec 1 := Scalar.cmpi .slt c2_i32_315 c0_i32_319
  let v544 : BitVec 32 := Scalar.extui v543
  let v545 : BitVec 32 := Scalar.subi v542 v544
  let v546 : BitVec 1 := Scalar.cmpi .ne v540 v545
  let v547 : BitVec 32 := Scalar.remsi v534 c2_i32_315
  let c0_i32_320 : BitVec 32 := 0#32
  let v548 : BitVec 1 := Scalar.cmpi .ne v547 c0_i32_320
  let v549 : BitVec 1 := Scalar.andi v546 v548
  let v535 : BitVec 32 := Scalar.divsi v534 c2_i32_315
  let c1_i32_321 : BitVec 32 := 1#32
  let v550 : BitVec 32 := Scalar.subi v535 c1_i32_321
  let v551 : BitVec 32 := Scalar.select v549 v550 v535
  let v552 : BitVec 32 := Scalar.subi v551 c0_i32_323
  let c1_i32_324 : BitVec 32 := 1#32
  let v554 : BitVec 32 := Scalar.divsi v552 c1_i32_324
  let v555 : BitVec 32 := Scalar.muli v554 c1_i32_324
  let v556 : BitVec 32 := Scalar.addi c0_i32_323 v555
  let c1_i32_326 : BitVec 32 := 1#32
  let arg29 : BitVec 32 := Scf.iv v556 c1_i32_326 k0_t6
  let v1398 : BitVec 32 := Scalar.muli c2_i32_820 arg29
  let c1_i32_821 : BitVec 32 := 1#32
  let v1399 : BitVec 32 := Scalar.addi v1398 c1_i32_821
  let v1829 : BitVec 32 := Scalar.muli c2_i32_1070 v1399
  let v1830 : BitVec 32 := Scalar.addi v1829 c0_i32_1071
  let c1_i32_43 : BitVec 32 := 1#32
  let v55 : BitVec 32 := Scalar.subi v54 c1_i32_43
  let c0_i32_44 : BitVec 32 := 0#32
  let v56 : BitVec 32 := Scalar.maxsi v55 c0_i32_44
  let v1941 : BitVec 32 := Scalar.minsi v1830 v56
  let v2002 : BitVec 32 := Scalar.muli c2_i32_1163 v1941
  let v2003 : BitVec 32 := Scalar.addi v2002 c0_i32_1164
  let v2004 : Index := Scalar.indexCast v2003
  let c0_1167 : Index := 0#32
  let c0_1168 : Index := 0#32
  ![0, 1, v2004.toNat, 0, 0]
def k0_mult60 (i : grid0.Coords) (k0_t6 : Fin (k0_t6_loop i).trips) : BitVec 32 :=
  let c512_i32_1197 : BitVec 32 := 512#32
  let c2_i32_1194 : BitVec 32 := 2#32
  let c2_i32_820 : BitVec 32 := 2#32
  let c0_i32_323 : BitVec 32 := 0#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_316 : BitVec 32 := 0#32
  let v536 : BitVec 1 := Scalar.cmpi .sgt v534 c0_i32_316
  let v537 : BitVec 32 := Scalar.extui v536
  let c0_i32_317 : BitVec 32 := 0#32
  let v538 : BitVec 1 := Scalar.cmpi .slt v534 c0_i32_317
  let v539 : BitVec 32 := Scalar.extui v538
  let v540 : BitVec 32 := Scalar.subi v537 v539
  let c2_i32_315 : BitVec 32 := 2#32
  let c0_i32_318 : BitVec 32 := 0#32
  let v541 : BitVec 1 := Scalar.cmpi .sgt c2_i32_315 c0_i32_318
  let v542 : BitVec 32 := Scalar.extui v541
  let c0_i32_319 : BitVec 32 := 0#32
  let v543 : BitVec 1 := Scalar.cmpi .slt c2_i32_315 c0_i32_319
  let v544 : BitVec 32 := Scalar.extui v543
  let v545 : BitVec 32 := Scalar.subi v542 v544
  let v546 : BitVec 1 := Scalar.cmpi .ne v540 v545
  let v547 : BitVec 32 := Scalar.remsi v534 c2_i32_315
  let c0_i32_320 : BitVec 32 := 0#32
  let v548 : BitVec 1 := Scalar.cmpi .ne v547 c0_i32_320
  let v549 : BitVec 1 := Scalar.andi v546 v548
  let v535 : BitVec 32 := Scalar.divsi v534 c2_i32_315
  let c1_i32_321 : BitVec 32 := 1#32
  let v550 : BitVec 32 := Scalar.subi v535 c1_i32_321
  let v551 : BitVec 32 := Scalar.select v549 v550 v535
  let v552 : BitVec 32 := Scalar.subi v551 c0_i32_323
  let c1_i32_324 : BitVec 32 := 1#32
  let v554 : BitVec 32 := Scalar.divsi v552 c1_i32_324
  let v555 : BitVec 32 := Scalar.muli v554 c1_i32_324
  let v556 : BitVec 32 := Scalar.addi c0_i32_323 v555
  let c1_i32_326 : BitVec 32 := 1#32
  let arg29 : BitVec 32 := Scf.iv v556 c1_i32_326 k0_t6
  let v1398 : BitVec 32 := Scalar.muli c2_i32_820 arg29
  let c1_i32_821 : BitVec 32 := 1#32
  let v1399 : BitVec 32 := Scalar.addi v1398 c1_i32_821
  let v2043 : BitVec 32 := Scalar.muli c2_i32_1194 v1399
  let c1_i32_1195 : BitVec 32 := 1#32
  let v2044 : BitVec 32 := Scalar.addi v2043 c1_i32_1195
  let c2_i32_1196 : BitVec 32 := 2#32
  let v2045 : BitVec 32 := Scalar.addi v2044 c2_i32_1196
  let c1_i32_43 : BitVec 32 := 1#32
  let v55 : BitVec 32 := Scalar.subi v54 c1_i32_43
  let c0_i32_44 : BitVec 32 := 0#32
  let v56 : BitVec 32 := Scalar.maxsi v55 c0_i32_44
  let v2046 : BitVec 32 := Scalar.minsi v2045 v56
  let v2047 : BitVec 32 := Scalar.muli c512_i32_1197 v2046
  v2047
def k0_mult61 (i : grid0.Coords) (k0_t6 : Fin (k0_t6_loop i).trips) : BitVec 32 :=
  let c512_i32_1204 : BitVec 32 := 512#32
  let c2_i32_1194 : BitVec 32 := 2#32
  let c2_i32_820 : BitVec 32 := 2#32
  let c0_i32_323 : BitVec 32 := 0#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_316 : BitVec 32 := 0#32
  let v536 : BitVec 1 := Scalar.cmpi .sgt v534 c0_i32_316
  let v537 : BitVec 32 := Scalar.extui v536
  let c0_i32_317 : BitVec 32 := 0#32
  let v538 : BitVec 1 := Scalar.cmpi .slt v534 c0_i32_317
  let v539 : BitVec 32 := Scalar.extui v538
  let v540 : BitVec 32 := Scalar.subi v537 v539
  let c2_i32_315 : BitVec 32 := 2#32
  let c0_i32_318 : BitVec 32 := 0#32
  let v541 : BitVec 1 := Scalar.cmpi .sgt c2_i32_315 c0_i32_318
  let v542 : BitVec 32 := Scalar.extui v541
  let c0_i32_319 : BitVec 32 := 0#32
  let v543 : BitVec 1 := Scalar.cmpi .slt c2_i32_315 c0_i32_319
  let v544 : BitVec 32 := Scalar.extui v543
  let v545 : BitVec 32 := Scalar.subi v542 v544
  let v546 : BitVec 1 := Scalar.cmpi .ne v540 v545
  let v547 : BitVec 32 := Scalar.remsi v534 c2_i32_315
  let c0_i32_320 : BitVec 32 := 0#32
  let v548 : BitVec 1 := Scalar.cmpi .ne v547 c0_i32_320
  let v549 : BitVec 1 := Scalar.andi v546 v548
  let v535 : BitVec 32 := Scalar.divsi v534 c2_i32_315
  let c1_i32_321 : BitVec 32 := 1#32
  let v550 : BitVec 32 := Scalar.subi v535 c1_i32_321
  let v551 : BitVec 32 := Scalar.select v549 v550 v535
  let v552 : BitVec 32 := Scalar.subi v551 c0_i32_323
  let c1_i32_324 : BitVec 32 := 1#32
  let v554 : BitVec 32 := Scalar.divsi v552 c1_i32_324
  let v555 : BitVec 32 := Scalar.muli v554 c1_i32_324
  let v556 : BitVec 32 := Scalar.addi c0_i32_323 v555
  let c1_i32_326 : BitVec 32 := 1#32
  let arg29 : BitVec 32 := Scf.iv v556 c1_i32_326 k0_t6
  let v1398 : BitVec 32 := Scalar.muli c2_i32_820 arg29
  let c1_i32_821 : BitVec 32 := 1#32
  let v1399 : BitVec 32 := Scalar.addi v1398 c1_i32_821
  let v2043 : BitVec 32 := Scalar.muli c2_i32_1194 v1399
  let c1_i32_1195 : BitVec 32 := 1#32
  let v2044 : BitVec 32 := Scalar.addi v2043 c1_i32_1195
  let c2_i32_1203 : BitVec 32 := 2#32
  let v2055 : BitVec 32 := Scalar.addi v2044 c2_i32_1203
  let c1_i32_43 : BitVec 32 := 1#32
  let v55 : BitVec 32 := Scalar.subi v54 c1_i32_43
  let c0_i32_44 : BitVec 32 := 0#32
  let v56 : BitVec 32 := Scalar.maxsi v55 c0_i32_44
  let v2056 : BitVec 32 := Scalar.minsi v2055 v56
  let v2057 : BitVec 32 := Scalar.muli c512_i32_1204 v2056
  v2057
def k0_mult62 (i : grid0.Coords) (k0_t6 : Fin (k0_t6_loop i).trips) : BitVec 32 :=
  let c8_i32_1210 : BitVec 32 := 8#32
  let c2_i32_1194 : BitVec 32 := 2#32
  let c2_i32_820 : BitVec 32 := 2#32
  let c0_i32_323 : BitVec 32 := 0#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_316 : BitVec 32 := 0#32
  let v536 : BitVec 1 := Scalar.cmpi .sgt v534 c0_i32_316
  let v537 : BitVec 32 := Scalar.extui v536
  let c0_i32_317 : BitVec 32 := 0#32
  let v538 : BitVec 1 := Scalar.cmpi .slt v534 c0_i32_317
  let v539 : BitVec 32 := Scalar.extui v538
  let v540 : BitVec 32 := Scalar.subi v537 v539
  let c2_i32_315 : BitVec 32 := 2#32
  let c0_i32_318 : BitVec 32 := 0#32
  let v541 : BitVec 1 := Scalar.cmpi .sgt c2_i32_315 c0_i32_318
  let v542 : BitVec 32 := Scalar.extui v541
  let c0_i32_319 : BitVec 32 := 0#32
  let v543 : BitVec 1 := Scalar.cmpi .slt c2_i32_315 c0_i32_319
  let v544 : BitVec 32 := Scalar.extui v543
  let v545 : BitVec 32 := Scalar.subi v542 v544
  let v546 : BitVec 1 := Scalar.cmpi .ne v540 v545
  let v547 : BitVec 32 := Scalar.remsi v534 c2_i32_315
  let c0_i32_320 : BitVec 32 := 0#32
  let v548 : BitVec 1 := Scalar.cmpi .ne v547 c0_i32_320
  let v549 : BitVec 1 := Scalar.andi v546 v548
  let v535 : BitVec 32 := Scalar.divsi v534 c2_i32_315
  let c1_i32_321 : BitVec 32 := 1#32
  let v550 : BitVec 32 := Scalar.subi v535 c1_i32_321
  let v551 : BitVec 32 := Scalar.select v549 v550 v535
  let v552 : BitVec 32 := Scalar.subi v551 c0_i32_323
  let c1_i32_324 : BitVec 32 := 1#32
  let v554 : BitVec 32 := Scalar.divsi v552 c1_i32_324
  let v555 : BitVec 32 := Scalar.muli v554 c1_i32_324
  let v556 : BitVec 32 := Scalar.addi c0_i32_323 v555
  let c1_i32_326 : BitVec 32 := 1#32
  let arg29 : BitVec 32 := Scf.iv v556 c1_i32_326 k0_t6
  let v1398 : BitVec 32 := Scalar.muli c2_i32_820 arg29
  let c1_i32_821 : BitVec 32 := 1#32
  let v1399 : BitVec 32 := Scalar.addi v1398 c1_i32_821
  let v2043 : BitVec 32 := Scalar.muli c2_i32_1194 v1399
  let c1_i32_1195 : BitVec 32 := 1#32
  let v2044 : BitVec 32 := Scalar.addi v2043 c1_i32_1195
  let c1_i32_43 : BitVec 32 := 1#32
  let v55 : BitVec 32 := Scalar.subi v54 c1_i32_43
  let c0_i32_44 : BitVec 32 := 0#32
  let v56 : BitVec 32 := Scalar.maxsi v55 c0_i32_44
  let v2065 : BitVec 32 := Scalar.minsi v2044 v56
  let v2066 : BitVec 32 := Scalar.muli c8_i32_1210 v2065
  v2066
def k0_mult63 (i : grid0.Coords) (k0_t6 : Fin (k0_t6_loop i).trips) : BitVec 32 :=
  let c8_i32_1260 : BitVec 32 := 8#32
  let c2_i32_1194 : BitVec 32 := 2#32
  let c2_i32_820 : BitVec 32 := 2#32
  let c0_i32_323 : BitVec 32 := 0#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_316 : BitVec 32 := 0#32
  let v536 : BitVec 1 := Scalar.cmpi .sgt v534 c0_i32_316
  let v537 : BitVec 32 := Scalar.extui v536
  let c0_i32_317 : BitVec 32 := 0#32
  let v538 : BitVec 1 := Scalar.cmpi .slt v534 c0_i32_317
  let v539 : BitVec 32 := Scalar.extui v538
  let v540 : BitVec 32 := Scalar.subi v537 v539
  let c2_i32_315 : BitVec 32 := 2#32
  let c0_i32_318 : BitVec 32 := 0#32
  let v541 : BitVec 1 := Scalar.cmpi .sgt c2_i32_315 c0_i32_318
  let v542 : BitVec 32 := Scalar.extui v541
  let c0_i32_319 : BitVec 32 := 0#32
  let v543 : BitVec 1 := Scalar.cmpi .slt c2_i32_315 c0_i32_319
  let v544 : BitVec 32 := Scalar.extui v543
  let v545 : BitVec 32 := Scalar.subi v542 v544
  let v546 : BitVec 1 := Scalar.cmpi .ne v540 v545
  let v547 : BitVec 32 := Scalar.remsi v534 c2_i32_315
  let c0_i32_320 : BitVec 32 := 0#32
  let v548 : BitVec 1 := Scalar.cmpi .ne v547 c0_i32_320
  let v549 : BitVec 1 := Scalar.andi v546 v548
  let v535 : BitVec 32 := Scalar.divsi v534 c2_i32_315
  let c1_i32_321 : BitVec 32 := 1#32
  let v550 : BitVec 32 := Scalar.subi v535 c1_i32_321
  let v551 : BitVec 32 := Scalar.select v549 v550 v535
  let v552 : BitVec 32 := Scalar.subi v551 c0_i32_323
  let c1_i32_324 : BitVec 32 := 1#32
  let v554 : BitVec 32 := Scalar.divsi v552 c1_i32_324
  let v555 : BitVec 32 := Scalar.muli v554 c1_i32_324
  let v556 : BitVec 32 := Scalar.addi c0_i32_323 v555
  let c1_i32_326 : BitVec 32 := 1#32
  let arg29 : BitVec 32 := Scf.iv v556 c1_i32_326 k0_t6
  let v1398 : BitVec 32 := Scalar.muli c2_i32_820 arg29
  let c1_i32_821 : BitVec 32 := 1#32
  let v1399 : BitVec 32 := Scalar.addi v1398 c1_i32_821
  let v2043 : BitVec 32 := Scalar.muli c2_i32_1194 v1399
  let c1_i32_1195 : BitVec 32 := 1#32
  let v2044 : BitVec 32 := Scalar.addi v2043 c1_i32_1195
  let c1_i32_43 : BitVec 32 := 1#32
  let v55 : BitVec 32 := Scalar.subi v54 c1_i32_43
  let c0_i32_44 : BitVec 32 := 0#32
  let v56 : BitVec 32 := Scalar.maxsi v55 c0_i32_44
  let v2155 : BitVec 32 := Scalar.minsi v2044 v56
  let v2156 : BitVec 32 := Scalar.muli c8_i32_1260 v2155
  v2156
@[reducible] def k0_t7_loop (i : grid0.Coords) : Scf.Loop 32 :=
  let c2_i32_334 : BitVec 32 := 2#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_328 : BitVec 32 := 0#32
  let v558 : BitVec 1 := Scalar.cmpi .sgt v534 c0_i32_328
  let v559 : BitVec 32 := Scalar.extui v558
  let c0_i32_329 : BitVec 32 := 0#32
  let v560 : BitVec 1 := Scalar.cmpi .slt v534 c0_i32_329
  let v561 : BitVec 32 := Scalar.extui v560
  let v562 : BitVec 32 := Scalar.subi v559 v561
  let c2_i32_327 : BitVec 32 := 2#32
  let c0_i32_330 : BitVec 32 := 0#32
  let v563 : BitVec 1 := Scalar.cmpi .sgt c2_i32_327 c0_i32_330
  let v564 : BitVec 32 := Scalar.extui v563
  let c0_i32_331 : BitVec 32 := 0#32
  let v565 : BitVec 1 := Scalar.cmpi .slt c2_i32_327 c0_i32_331
  let v566 : BitVec 32 := Scalar.extui v565
  let v567 : BitVec 32 := Scalar.subi v564 v566
  let v568 : BitVec 1 := Scalar.cmpi .ne v562 v567
  let v569 : BitVec 32 := Scalar.remsi v534 c2_i32_327
  let c0_i32_332 : BitVec 32 := 0#32
  let v570 : BitVec 1 := Scalar.cmpi .ne v569 c0_i32_332
  let v571 : BitVec 1 := Scalar.andi v568 v570
  let v557 : BitVec 32 := Scalar.divsi v534 c2_i32_327
  let c1_i32_333 : BitVec 32 := 1#32
  let v572 : BitVec 32 := Scalar.subi v557 c1_i32_333
  let v573 : BitVec 32 := Scalar.select v571 v572 v557
  let v574 : BitVec 32 := Scalar.muli c2_i32_334 v573
  let v575 : BitVec 32 := Scalar.subi v534 v574
  let c1_i32_336 : BitVec 32 := 1#32
  let v577 : BitVec 32 := Scalar.divsi v575 c1_i32_336
  let v578 : BitVec 32 := Scalar.muli v577 c1_i32_336
  let v579 : BitVec 32 := Scalar.addi v574 v578
  let c1_i32_337 : BitVec 32 := 1#32
  ⟨v574, v579, c1_i32_337⟩
def k0_mult64 (i : grid0.Coords) (k0_t7 : Fin (k0_t7_loop i).trips) : BitVec 32 :=
  let c512_i32 : BitVec 32 := 512#32
  let c2_i32_820 : BitVec 32 := 2#32
  let c2_i32_334 : BitVec 32 := 2#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_328 : BitVec 32 := 0#32
  let v558 : BitVec 1 := Scalar.cmpi .sgt v534 c0_i32_328
  let v559 : BitVec 32 := Scalar.extui v558
  let c0_i32_329 : BitVec 32 := 0#32
  let v560 : BitVec 1 := Scalar.cmpi .slt v534 c0_i32_329
  let v561 : BitVec 32 := Scalar.extui v560
  let v562 : BitVec 32 := Scalar.subi v559 v561
  let c2_i32_327 : BitVec 32 := 2#32
  let c0_i32_330 : BitVec 32 := 0#32
  let v563 : BitVec 1 := Scalar.cmpi .sgt c2_i32_327 c0_i32_330
  let v564 : BitVec 32 := Scalar.extui v563
  let c0_i32_331 : BitVec 32 := 0#32
  let v565 : BitVec 1 := Scalar.cmpi .slt c2_i32_327 c0_i32_331
  let v566 : BitVec 32 := Scalar.extui v565
  let v567 : BitVec 32 := Scalar.subi v564 v566
  let v568 : BitVec 1 := Scalar.cmpi .ne v562 v567
  let v569 : BitVec 32 := Scalar.remsi v534 c2_i32_327
  let c0_i32_332 : BitVec 32 := 0#32
  let v570 : BitVec 1 := Scalar.cmpi .ne v569 c0_i32_332
  let v571 : BitVec 1 := Scalar.andi v568 v570
  let v557 : BitVec 32 := Scalar.divsi v534 c2_i32_327
  let c1_i32_333 : BitVec 32 := 1#32
  let v572 : BitVec 32 := Scalar.subi v557 c1_i32_333
  let v573 : BitVec 32 := Scalar.select v571 v572 v557
  let v574 : BitVec 32 := Scalar.muli c2_i32_334 v573
  let c1_i32_337 : BitVec 32 := 1#32
  let arg29 : BitVec 32 := Scf.iv v574 c1_i32_337 k0_t7
  let v1398 : BitVec 32 := Scalar.muli c2_i32_820 arg29
  let c0_i32_821 : BitVec 32 := 0#32
  let v1399 : BitVec 32 := Scalar.addi v1398 c0_i32_821
  let c2_i32_822 : BitVec 32 := 2#32
  let v1400 : BitVec 32 := Scalar.addi v1399 c2_i32_822
  let c1_i32_43 : BitVec 32 := 1#32
  let v55 : BitVec 32 := Scalar.subi v54 c1_i32_43
  let c0_i32_44 : BitVec 32 := 0#32
  let v56 : BitVec 32 := Scalar.maxsi v55 c0_i32_44
  let v1401 : BitVec 32 := Scalar.minsi v1400 v56
  let v1402 : BitVec 32 := Scalar.muli c512_i32 v1401
  v1402
def k0_off49 (i : grid0.Coords) (k0_t7 : Fin (k0_t7_loop i).trips) (c0_i32_821 : BitVec 32) : Fin 4 → Nat :=
  let c0_823 : Index := 0#32
  let c0_824 : Index := 0#32
  let c512_i32 : BitVec 32 := 512#32
  let c2_i32_820 : BitVec 32 := 2#32
  let c2_i32_334 : BitVec 32 := 2#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_328 : BitVec 32 := 0#32
  let v558 : BitVec 1 := Scalar.cmpi .sgt v534 c0_i32_328
  let v559 : BitVec 32 := Scalar.extui v558
  let c0_i32_329 : BitVec 32 := 0#32
  let v560 : BitVec 1 := Scalar.cmpi .slt v534 c0_i32_329
  let v561 : BitVec 32 := Scalar.extui v560
  let v562 : BitVec 32 := Scalar.subi v559 v561
  let c2_i32_327 : BitVec 32 := 2#32
  let c0_i32_330 : BitVec 32 := 0#32
  let v563 : BitVec 1 := Scalar.cmpi .sgt c2_i32_327 c0_i32_330
  let v564 : BitVec 32 := Scalar.extui v563
  let c0_i32_331 : BitVec 32 := 0#32
  let v565 : BitVec 1 := Scalar.cmpi .slt c2_i32_327 c0_i32_331
  let v566 : BitVec 32 := Scalar.extui v565
  let v567 : BitVec 32 := Scalar.subi v564 v566
  let v568 : BitVec 1 := Scalar.cmpi .ne v562 v567
  let v569 : BitVec 32 := Scalar.remsi v534 c2_i32_327
  let c0_i32_332 : BitVec 32 := 0#32
  let v570 : BitVec 1 := Scalar.cmpi .ne v569 c0_i32_332
  let v571 : BitVec 1 := Scalar.andi v568 v570
  let v557 : BitVec 32 := Scalar.divsi v534 c2_i32_327
  let c1_i32_333 : BitVec 32 := 1#32
  let v572 : BitVec 32 := Scalar.subi v557 c1_i32_333
  let v573 : BitVec 32 := Scalar.select v571 v572 v557
  let v574 : BitVec 32 := Scalar.muli c2_i32_334 v573
  let c1_i32_337 : BitVec 32 := 1#32
  let arg29 : BitVec 32 := Scf.iv v574 c1_i32_337 k0_t7
  let v1398 : BitVec 32 := Scalar.muli c2_i32_820 arg29
  let v1399 : BitVec 32 := Scalar.addi v1398 c0_i32_821
  let c2_i32_822 : BitVec 32 := 2#32
  let v1400 : BitVec 32 := Scalar.addi v1399 c2_i32_822
  let c1_i32_43 : BitVec 32 := 1#32
  let v55 : BitVec 32 := Scalar.subi v54 c1_i32_43
  let c0_i32_44 : BitVec 32 := 0#32
  let v56 : BitVec 32 := Scalar.maxsi v55 c0_i32_44
  let v1401 : BitVec 32 := Scalar.minsi v1400 v56
  let v1402 : BitVec 32 := Scalar.muli c512_i32 v1401
  let v1403 : BitVec 32 := v1402
  let v1404 : Index := Scalar.indexCast v1403
  let c128_825 : Index := 128#32
  ![0, 0, v1404.toNat, 128]
def k0_mult65 (i : grid0.Coords) (k0_t7 : Fin (k0_t7_loop i).trips) : BitVec 32 :=
  let c512_i32_829 : BitVec 32 := 512#32
  let c2_i32_820 : BitVec 32 := 2#32
  let c2_i32_334 : BitVec 32 := 2#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_328 : BitVec 32 := 0#32
  let v558 : BitVec 1 := Scalar.cmpi .sgt v534 c0_i32_328
  let v559 : BitVec 32 := Scalar.extui v558
  let c0_i32_329 : BitVec 32 := 0#32
  let v560 : BitVec 1 := Scalar.cmpi .slt v534 c0_i32_329
  let v561 : BitVec 32 := Scalar.extui v560
  let v562 : BitVec 32 := Scalar.subi v559 v561
  let c2_i32_327 : BitVec 32 := 2#32
  let c0_i32_330 : BitVec 32 := 0#32
  let v563 : BitVec 1 := Scalar.cmpi .sgt c2_i32_327 c0_i32_330
  let v564 : BitVec 32 := Scalar.extui v563
  let c0_i32_331 : BitVec 32 := 0#32
  let v565 : BitVec 1 := Scalar.cmpi .slt c2_i32_327 c0_i32_331
  let v566 : BitVec 32 := Scalar.extui v565
  let v567 : BitVec 32 := Scalar.subi v564 v566
  let v568 : BitVec 1 := Scalar.cmpi .ne v562 v567
  let v569 : BitVec 32 := Scalar.remsi v534 c2_i32_327
  let c0_i32_332 : BitVec 32 := 0#32
  let v570 : BitVec 1 := Scalar.cmpi .ne v569 c0_i32_332
  let v571 : BitVec 1 := Scalar.andi v568 v570
  let v557 : BitVec 32 := Scalar.divsi v534 c2_i32_327
  let c1_i32_333 : BitVec 32 := 1#32
  let v572 : BitVec 32 := Scalar.subi v557 c1_i32_333
  let v573 : BitVec 32 := Scalar.select v571 v572 v557
  let v574 : BitVec 32 := Scalar.muli c2_i32_334 v573
  let c1_i32_337 : BitVec 32 := 1#32
  let arg29 : BitVec 32 := Scf.iv v574 c1_i32_337 k0_t7
  let v1398 : BitVec 32 := Scalar.muli c2_i32_820 arg29
  let c0_i32_821 : BitVec 32 := 0#32
  let v1399 : BitVec 32 := Scalar.addi v1398 c0_i32_821
  let c2_i32_828 : BitVec 32 := 2#32
  let v1410 : BitVec 32 := Scalar.addi v1399 c2_i32_828
  let c1_i32_43 : BitVec 32 := 1#32
  let v55 : BitVec 32 := Scalar.subi v54 c1_i32_43
  let c0_i32_44 : BitVec 32 := 0#32
  let v56 : BitVec 32 := Scalar.maxsi v55 c0_i32_44
  let v1411 : BitVec 32 := Scalar.minsi v1410 v56
  let v1412 : BitVec 32 := Scalar.muli c512_i32_829 v1411
  v1412
def k0_off50 (i : grid0.Coords) (k0_t7 : Fin (k0_t7_loop i).trips) (c0_i32_821 : BitVec 32) : Fin 4 → Nat :=
  let c0_830 : Index := 0#32
  let c1_831 : Index := 1#32
  let c512_i32_829 : BitVec 32 := 512#32
  let c2_i32_820 : BitVec 32 := 2#32
  let c2_i32_334 : BitVec 32 := 2#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_328 : BitVec 32 := 0#32
  let v558 : BitVec 1 := Scalar.cmpi .sgt v534 c0_i32_328
  let v559 : BitVec 32 := Scalar.extui v558
  let c0_i32_329 : BitVec 32 := 0#32
  let v560 : BitVec 1 := Scalar.cmpi .slt v534 c0_i32_329
  let v561 : BitVec 32 := Scalar.extui v560
  let v562 : BitVec 32 := Scalar.subi v559 v561
  let c2_i32_327 : BitVec 32 := 2#32
  let c0_i32_330 : BitVec 32 := 0#32
  let v563 : BitVec 1 := Scalar.cmpi .sgt c2_i32_327 c0_i32_330
  let v564 : BitVec 32 := Scalar.extui v563
  let c0_i32_331 : BitVec 32 := 0#32
  let v565 : BitVec 1 := Scalar.cmpi .slt c2_i32_327 c0_i32_331
  let v566 : BitVec 32 := Scalar.extui v565
  let v567 : BitVec 32 := Scalar.subi v564 v566
  let v568 : BitVec 1 := Scalar.cmpi .ne v562 v567
  let v569 : BitVec 32 := Scalar.remsi v534 c2_i32_327
  let c0_i32_332 : BitVec 32 := 0#32
  let v570 : BitVec 1 := Scalar.cmpi .ne v569 c0_i32_332
  let v571 : BitVec 1 := Scalar.andi v568 v570
  let v557 : BitVec 32 := Scalar.divsi v534 c2_i32_327
  let c1_i32_333 : BitVec 32 := 1#32
  let v572 : BitVec 32 := Scalar.subi v557 c1_i32_333
  let v573 : BitVec 32 := Scalar.select v571 v572 v557
  let v574 : BitVec 32 := Scalar.muli c2_i32_334 v573
  let c1_i32_337 : BitVec 32 := 1#32
  let arg29 : BitVec 32 := Scf.iv v574 c1_i32_337 k0_t7
  let v1398 : BitVec 32 := Scalar.muli c2_i32_820 arg29
  let v1399 : BitVec 32 := Scalar.addi v1398 c0_i32_821
  let c2_i32_828 : BitVec 32 := 2#32
  let v1410 : BitVec 32 := Scalar.addi v1399 c2_i32_828
  let c1_i32_43 : BitVec 32 := 1#32
  let v55 : BitVec 32 := Scalar.subi v54 c1_i32_43
  let c0_i32_44 : BitVec 32 := 0#32
  let v56 : BitVec 32 := Scalar.maxsi v55 c0_i32_44
  let v1411 : BitVec 32 := Scalar.minsi v1410 v56
  let v1412 : BitVec 32 := Scalar.muli c512_i32_829 v1411
  let v1413 : BitVec 32 := v1412
  let v1414 : Index := Scalar.indexCast v1413
  let c128_832 : Index := 128#32
  ![0, 1, v1414.toNat, 128]
def k0_mult66 (i : grid0.Coords) (k0_t7 : Fin (k0_t7_loop i).trips) : BitVec 32 :=
  let c8_i32_835 : BitVec 32 := 8#32
  let c2_i32_820 : BitVec 32 := 2#32
  let c2_i32_334 : BitVec 32 := 2#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_328 : BitVec 32 := 0#32
  let v558 : BitVec 1 := Scalar.cmpi .sgt v534 c0_i32_328
  let v559 : BitVec 32 := Scalar.extui v558
  let c0_i32_329 : BitVec 32 := 0#32
  let v560 : BitVec 1 := Scalar.cmpi .slt v534 c0_i32_329
  let v561 : BitVec 32 := Scalar.extui v560
  let v562 : BitVec 32 := Scalar.subi v559 v561
  let c2_i32_327 : BitVec 32 := 2#32
  let c0_i32_330 : BitVec 32 := 0#32
  let v563 : BitVec 1 := Scalar.cmpi .sgt c2_i32_327 c0_i32_330
  let v564 : BitVec 32 := Scalar.extui v563
  let c0_i32_331 : BitVec 32 := 0#32
  let v565 : BitVec 1 := Scalar.cmpi .slt c2_i32_327 c0_i32_331
  let v566 : BitVec 32 := Scalar.extui v565
  let v567 : BitVec 32 := Scalar.subi v564 v566
  let v568 : BitVec 1 := Scalar.cmpi .ne v562 v567
  let v569 : BitVec 32 := Scalar.remsi v534 c2_i32_327
  let c0_i32_332 : BitVec 32 := 0#32
  let v570 : BitVec 1 := Scalar.cmpi .ne v569 c0_i32_332
  let v571 : BitVec 1 := Scalar.andi v568 v570
  let v557 : BitVec 32 := Scalar.divsi v534 c2_i32_327
  let c1_i32_333 : BitVec 32 := 1#32
  let v572 : BitVec 32 := Scalar.subi v557 c1_i32_333
  let v573 : BitVec 32 := Scalar.select v571 v572 v557
  let v574 : BitVec 32 := Scalar.muli c2_i32_334 v573
  let c1_i32_337 : BitVec 32 := 1#32
  let arg29 : BitVec 32 := Scf.iv v574 c1_i32_337 k0_t7
  let v1398 : BitVec 32 := Scalar.muli c2_i32_820 arg29
  let c0_i32_821 : BitVec 32 := 0#32
  let v1399 : BitVec 32 := Scalar.addi v1398 c0_i32_821
  let c1_i32_43 : BitVec 32 := 1#32
  let v55 : BitVec 32 := Scalar.subi v54 c1_i32_43
  let c0_i32_44 : BitVec 32 := 0#32
  let v56 : BitVec 32 := Scalar.maxsi v55 c0_i32_44
  let v1420 : BitVec 32 := Scalar.minsi v1399 v56
  let v1421 : BitVec 32 := Scalar.muli c8_i32_835 v1420
  v1421
def k0_off51 (i : grid0.Coords) (k0_t7 : Fin (k0_t7_loop i).trips) (c0_i32_821 : BitVec 32) : Fin 3 → Nat :=
  let c0_836 : Index := 0#32
  let c8_i32_835 : BitVec 32 := 8#32
  let c2_i32_820 : BitVec 32 := 2#32
  let c2_i32_334 : BitVec 32 := 2#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_328 : BitVec 32 := 0#32
  let v558 : BitVec 1 := Scalar.cmpi .sgt v534 c0_i32_328
  let v559 : BitVec 32 := Scalar.extui v558
  let c0_i32_329 : BitVec 32 := 0#32
  let v560 : BitVec 1 := Scalar.cmpi .slt v534 c0_i32_329
  let v561 : BitVec 32 := Scalar.extui v560
  let v562 : BitVec 32 := Scalar.subi v559 v561
  let c2_i32_327 : BitVec 32 := 2#32
  let c0_i32_330 : BitVec 32 := 0#32
  let v563 : BitVec 1 := Scalar.cmpi .sgt c2_i32_327 c0_i32_330
  let v564 : BitVec 32 := Scalar.extui v563
  let c0_i32_331 : BitVec 32 := 0#32
  let v565 : BitVec 1 := Scalar.cmpi .slt c2_i32_327 c0_i32_331
  let v566 : BitVec 32 := Scalar.extui v565
  let v567 : BitVec 32 := Scalar.subi v564 v566
  let v568 : BitVec 1 := Scalar.cmpi .ne v562 v567
  let v569 : BitVec 32 := Scalar.remsi v534 c2_i32_327
  let c0_i32_332 : BitVec 32 := 0#32
  let v570 : BitVec 1 := Scalar.cmpi .ne v569 c0_i32_332
  let v571 : BitVec 1 := Scalar.andi v568 v570
  let v557 : BitVec 32 := Scalar.divsi v534 c2_i32_327
  let c1_i32_333 : BitVec 32 := 1#32
  let v572 : BitVec 32 := Scalar.subi v557 c1_i32_333
  let v573 : BitVec 32 := Scalar.select v571 v572 v557
  let v574 : BitVec 32 := Scalar.muli c2_i32_334 v573
  let c1_i32_337 : BitVec 32 := 1#32
  let arg29 : BitVec 32 := Scf.iv v574 c1_i32_337 k0_t7
  let v1398 : BitVec 32 := Scalar.muli c2_i32_820 arg29
  let v1399 : BitVec 32 := Scalar.addi v1398 c0_i32_821
  let c1_i32_43 : BitVec 32 := 1#32
  let v55 : BitVec 32 := Scalar.subi v54 c1_i32_43
  let c0_i32_44 : BitVec 32 := 0#32
  let v56 : BitVec 32 := Scalar.maxsi v55 c0_i32_44
  let v1420 : BitVec 32 := Scalar.minsi v1399 v56
  let v1421 : BitVec 32 := Scalar.muli c8_i32_835 v1420
  let v1422 : BitVec 32 := v1421
  let v1423 : Index := Scalar.indexCast v1422
  let c0_837 : Index := 0#32
  ![0, v1423.toNat, 0]
def k0_off52 (i : grid0.Coords) (k0_t7 : Fin (k0_t7_loop i).trips) (c0_i32_821 : BitVec 32) (c0_i32_863 : BitVec 32) : Fin 5 → Nat :=
  let c0_864 : Index := 0#32
  let c0_865 : Index := 0#32
  let c2_i32_862 : BitVec 32 := 2#32
  let c2_i32_820 : BitVec 32 := 2#32
  let c2_i32_334 : BitVec 32 := 2#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_328 : BitVec 32 := 0#32
  let v558 : BitVec 1 := Scalar.cmpi .sgt v534 c0_i32_328
  let v559 : BitVec 32 := Scalar.extui v558
  let c0_i32_329 : BitVec 32 := 0#32
  let v560 : BitVec 1 := Scalar.cmpi .slt v534 c0_i32_329
  let v561 : BitVec 32 := Scalar.extui v560
  let v562 : BitVec 32 := Scalar.subi v559 v561
  let c2_i32_327 : BitVec 32 := 2#32
  let c0_i32_330 : BitVec 32 := 0#32
  let v563 : BitVec 1 := Scalar.cmpi .sgt c2_i32_327 c0_i32_330
  let v564 : BitVec 32 := Scalar.extui v563
  let c0_i32_331 : BitVec 32 := 0#32
  let v565 : BitVec 1 := Scalar.cmpi .slt c2_i32_327 c0_i32_331
  let v566 : BitVec 32 := Scalar.extui v565
  let v567 : BitVec 32 := Scalar.subi v564 v566
  let v568 : BitVec 1 := Scalar.cmpi .ne v562 v567
  let v569 : BitVec 32 := Scalar.remsi v534 c2_i32_327
  let c0_i32_332 : BitVec 32 := 0#32
  let v570 : BitVec 1 := Scalar.cmpi .ne v569 c0_i32_332
  let v571 : BitVec 1 := Scalar.andi v568 v570
  let v557 : BitVec 32 := Scalar.divsi v534 c2_i32_327
  let c1_i32_333 : BitVec 32 := 1#32
  let v572 : BitVec 32 := Scalar.subi v557 c1_i32_333
  let v573 : BitVec 32 := Scalar.select v571 v572 v557
  let v574 : BitVec 32 := Scalar.muli c2_i32_334 v573
  let c1_i32_337 : BitVec 32 := 1#32
  let arg29 : BitVec 32 := Scf.iv v574 c1_i32_337 k0_t7
  let v1398 : BitVec 32 := Scalar.muli c2_i32_820 arg29
  let v1399 : BitVec 32 := Scalar.addi v1398 c0_i32_821
  let c1_i32_43 : BitVec 32 := 1#32
  let v55 : BitVec 32 := Scalar.subi v54 c1_i32_43
  let c0_i32_44 : BitVec 32 := 0#32
  let v56 : BitVec 32 := Scalar.maxsi v55 c0_i32_44
  let v1420 : BitVec 32 := Scalar.minsi v1399 v56
  let v1481 : BitVec 32 := Scalar.muli c2_i32_862 v1420
  let v1482 : BitVec 32 := Scalar.addi v1481 c0_i32_863
  let v1483 : Index := Scalar.indexCast v1482
  let c0_866 : Index := 0#32
  let c0_867 : Index := 0#32
  ![0, 0, v1483.toNat, 0, 0]
def k0_mult67 (i : grid0.Coords) (k0_t7 : Fin (k0_t7_loop i).trips) : BitVec 32 :=
  let c8_i32_885 : BitVec 32 := 8#32
  let c2_i32_820 : BitVec 32 := 2#32
  let c2_i32_334 : BitVec 32 := 2#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_328 : BitVec 32 := 0#32
  let v558 : BitVec 1 := Scalar.cmpi .sgt v534 c0_i32_328
  let v559 : BitVec 32 := Scalar.extui v558
  let c0_i32_329 : BitVec 32 := 0#32
  let v560 : BitVec 1 := Scalar.cmpi .slt v534 c0_i32_329
  let v561 : BitVec 32 := Scalar.extui v560
  let v562 : BitVec 32 := Scalar.subi v559 v561
  let c2_i32_327 : BitVec 32 := 2#32
  let c0_i32_330 : BitVec 32 := 0#32
  let v563 : BitVec 1 := Scalar.cmpi .sgt c2_i32_327 c0_i32_330
  let v564 : BitVec 32 := Scalar.extui v563
  let c0_i32_331 : BitVec 32 := 0#32
  let v565 : BitVec 1 := Scalar.cmpi .slt c2_i32_327 c0_i32_331
  let v566 : BitVec 32 := Scalar.extui v565
  let v567 : BitVec 32 := Scalar.subi v564 v566
  let v568 : BitVec 1 := Scalar.cmpi .ne v562 v567
  let v569 : BitVec 32 := Scalar.remsi v534 c2_i32_327
  let c0_i32_332 : BitVec 32 := 0#32
  let v570 : BitVec 1 := Scalar.cmpi .ne v569 c0_i32_332
  let v571 : BitVec 1 := Scalar.andi v568 v570
  let v557 : BitVec 32 := Scalar.divsi v534 c2_i32_327
  let c1_i32_333 : BitVec 32 := 1#32
  let v572 : BitVec 32 := Scalar.subi v557 c1_i32_333
  let v573 : BitVec 32 := Scalar.select v571 v572 v557
  let v574 : BitVec 32 := Scalar.muli c2_i32_334 v573
  let c1_i32_337 : BitVec 32 := 1#32
  let arg29 : BitVec 32 := Scf.iv v574 c1_i32_337 k0_t7
  let v1398 : BitVec 32 := Scalar.muli c2_i32_820 arg29
  let c0_i32_821 : BitVec 32 := 0#32
  let v1399 : BitVec 32 := Scalar.addi v1398 c0_i32_821
  let c1_i32_43 : BitVec 32 := 1#32
  let v55 : BitVec 32 := Scalar.subi v54 c1_i32_43
  let c0_i32_44 : BitVec 32 := 0#32
  let v56 : BitVec 32 := Scalar.maxsi v55 c0_i32_44
  let v1510 : BitVec 32 := Scalar.minsi v1399 v56
  let v1511 : BitVec 32 := Scalar.muli c8_i32_885 v1510
  v1511
def k0_off53 (i : grid0.Coords) (k0_t7 : Fin (k0_t7_loop i).trips) (c0_i32_821 : BitVec 32) : Fin 3 → Nat :=
  let c1_886 : Index := 1#32
  let c8_i32_885 : BitVec 32 := 8#32
  let c2_i32_820 : BitVec 32 := 2#32
  let c2_i32_334 : BitVec 32 := 2#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_328 : BitVec 32 := 0#32
  let v558 : BitVec 1 := Scalar.cmpi .sgt v534 c0_i32_328
  let v559 : BitVec 32 := Scalar.extui v558
  let c0_i32_329 : BitVec 32 := 0#32
  let v560 : BitVec 1 := Scalar.cmpi .slt v534 c0_i32_329
  let v561 : BitVec 32 := Scalar.extui v560
  let v562 : BitVec 32 := Scalar.subi v559 v561
  let c2_i32_327 : BitVec 32 := 2#32
  let c0_i32_330 : BitVec 32 := 0#32
  let v563 : BitVec 1 := Scalar.cmpi .sgt c2_i32_327 c0_i32_330
  let v564 : BitVec 32 := Scalar.extui v563
  let c0_i32_331 : BitVec 32 := 0#32
  let v565 : BitVec 1 := Scalar.cmpi .slt c2_i32_327 c0_i32_331
  let v566 : BitVec 32 := Scalar.extui v565
  let v567 : BitVec 32 := Scalar.subi v564 v566
  let v568 : BitVec 1 := Scalar.cmpi .ne v562 v567
  let v569 : BitVec 32 := Scalar.remsi v534 c2_i32_327
  let c0_i32_332 : BitVec 32 := 0#32
  let v570 : BitVec 1 := Scalar.cmpi .ne v569 c0_i32_332
  let v571 : BitVec 1 := Scalar.andi v568 v570
  let v557 : BitVec 32 := Scalar.divsi v534 c2_i32_327
  let c1_i32_333 : BitVec 32 := 1#32
  let v572 : BitVec 32 := Scalar.subi v557 c1_i32_333
  let v573 : BitVec 32 := Scalar.select v571 v572 v557
  let v574 : BitVec 32 := Scalar.muli c2_i32_334 v573
  let c1_i32_337 : BitVec 32 := 1#32
  let arg29 : BitVec 32 := Scf.iv v574 c1_i32_337 k0_t7
  let v1398 : BitVec 32 := Scalar.muli c2_i32_820 arg29
  let v1399 : BitVec 32 := Scalar.addi v1398 c0_i32_821
  let c1_i32_43 : BitVec 32 := 1#32
  let v55 : BitVec 32 := Scalar.subi v54 c1_i32_43
  let c0_i32_44 : BitVec 32 := 0#32
  let v56 : BitVec 32 := Scalar.maxsi v55 c0_i32_44
  let v1510 : BitVec 32 := Scalar.minsi v1399 v56
  let v1511 : BitVec 32 := Scalar.muli c8_i32_885 v1510
  let v1512 : BitVec 32 := v1511
  let v1513 : Index := Scalar.indexCast v1512
  let c0_887 : Index := 0#32
  ![1, v1513.toNat, 0]
def k0_off54 (i : grid0.Coords) (k0_t7 : Fin (k0_t7_loop i).trips) (c0_i32_821 : BitVec 32) (c0_i32_913 : BitVec 32) : Fin 5 → Nat :=
  let c0_914 : Index := 0#32
  let c1_915 : Index := 1#32
  let c2_i32_912 : BitVec 32 := 2#32
  let c2_i32_820 : BitVec 32 := 2#32
  let c2_i32_334 : BitVec 32 := 2#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_328 : BitVec 32 := 0#32
  let v558 : BitVec 1 := Scalar.cmpi .sgt v534 c0_i32_328
  let v559 : BitVec 32 := Scalar.extui v558
  let c0_i32_329 : BitVec 32 := 0#32
  let v560 : BitVec 1 := Scalar.cmpi .slt v534 c0_i32_329
  let v561 : BitVec 32 := Scalar.extui v560
  let v562 : BitVec 32 := Scalar.subi v559 v561
  let c2_i32_327 : BitVec 32 := 2#32
  let c0_i32_330 : BitVec 32 := 0#32
  let v563 : BitVec 1 := Scalar.cmpi .sgt c2_i32_327 c0_i32_330
  let v564 : BitVec 32 := Scalar.extui v563
  let c0_i32_331 : BitVec 32 := 0#32
  let v565 : BitVec 1 := Scalar.cmpi .slt c2_i32_327 c0_i32_331
  let v566 : BitVec 32 := Scalar.extui v565
  let v567 : BitVec 32 := Scalar.subi v564 v566
  let v568 : BitVec 1 := Scalar.cmpi .ne v562 v567
  let v569 : BitVec 32 := Scalar.remsi v534 c2_i32_327
  let c0_i32_332 : BitVec 32 := 0#32
  let v570 : BitVec 1 := Scalar.cmpi .ne v569 c0_i32_332
  let v571 : BitVec 1 := Scalar.andi v568 v570
  let v557 : BitVec 32 := Scalar.divsi v534 c2_i32_327
  let c1_i32_333 : BitVec 32 := 1#32
  let v572 : BitVec 32 := Scalar.subi v557 c1_i32_333
  let v573 : BitVec 32 := Scalar.select v571 v572 v557
  let v574 : BitVec 32 := Scalar.muli c2_i32_334 v573
  let c1_i32_337 : BitVec 32 := 1#32
  let arg29 : BitVec 32 := Scf.iv v574 c1_i32_337 k0_t7
  let v1398 : BitVec 32 := Scalar.muli c2_i32_820 arg29
  let v1399 : BitVec 32 := Scalar.addi v1398 c0_i32_821
  let c1_i32_43 : BitVec 32 := 1#32
  let v55 : BitVec 32 := Scalar.subi v54 c1_i32_43
  let c0_i32_44 : BitVec 32 := 0#32
  let v56 : BitVec 32 := Scalar.maxsi v55 c0_i32_44
  let v1510 : BitVec 32 := Scalar.minsi v1399 v56
  let v1571 : BitVec 32 := Scalar.muli c2_i32_912 v1510
  let v1572 : BitVec 32 := Scalar.addi v1571 c0_i32_913
  let v1573 : Index := Scalar.indexCast v1572
  let c0_916 : Index := 0#32
  let c0_917 : Index := 0#32
  ![0, 1, v1573.toNat, 0, 0]
def k0_mult68 (i : grid0.Coords) (k0_t7 : Fin (k0_t7_loop i).trips) : BitVec 32 :=
  let c512_i32_946 : BitVec 32 := 512#32
  let c2_i32_943 : BitVec 32 := 2#32
  let c2_i32_334 : BitVec 32 := 2#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_328 : BitVec 32 := 0#32
  let v558 : BitVec 1 := Scalar.cmpi .sgt v534 c0_i32_328
  let v559 : BitVec 32 := Scalar.extui v558
  let c0_i32_329 : BitVec 32 := 0#32
  let v560 : BitVec 1 := Scalar.cmpi .slt v534 c0_i32_329
  let v561 : BitVec 32 := Scalar.extui v560
  let v562 : BitVec 32 := Scalar.subi v559 v561
  let c2_i32_327 : BitVec 32 := 2#32
  let c0_i32_330 : BitVec 32 := 0#32
  let v563 : BitVec 1 := Scalar.cmpi .sgt c2_i32_327 c0_i32_330
  let v564 : BitVec 32 := Scalar.extui v563
  let c0_i32_331 : BitVec 32 := 0#32
  let v565 : BitVec 1 := Scalar.cmpi .slt c2_i32_327 c0_i32_331
  let v566 : BitVec 32 := Scalar.extui v565
  let v567 : BitVec 32 := Scalar.subi v564 v566
  let v568 : BitVec 1 := Scalar.cmpi .ne v562 v567
  let v569 : BitVec 32 := Scalar.remsi v534 c2_i32_327
  let c0_i32_332 : BitVec 32 := 0#32
  let v570 : BitVec 1 := Scalar.cmpi .ne v569 c0_i32_332
  let v571 : BitVec 1 := Scalar.andi v568 v570
  let v557 : BitVec 32 := Scalar.divsi v534 c2_i32_327
  let c1_i32_333 : BitVec 32 := 1#32
  let v572 : BitVec 32 := Scalar.subi v557 c1_i32_333
  let v573 : BitVec 32 := Scalar.select v571 v572 v557
  let v574 : BitVec 32 := Scalar.muli c2_i32_334 v573
  let c1_i32_337 : BitVec 32 := 1#32
  let arg29 : BitVec 32 := Scf.iv v574 c1_i32_337 k0_t7
  let v1612 : BitVec 32 := Scalar.muli c2_i32_943 arg29
  let c1_i32_944 : BitVec 32 := 1#32
  let v1613 : BitVec 32 := Scalar.addi v1612 c1_i32_944
  let c2_i32_945 : BitVec 32 := 2#32
  let v1614 : BitVec 32 := Scalar.addi v1613 c2_i32_945
  let c1_i32_43 : BitVec 32 := 1#32
  let v55 : BitVec 32 := Scalar.subi v54 c1_i32_43
  let c0_i32_44 : BitVec 32 := 0#32
  let v56 : BitVec 32 := Scalar.maxsi v55 c0_i32_44
  let v1615 : BitVec 32 := Scalar.minsi v1614 v56
  let v1616 : BitVec 32 := Scalar.muli c512_i32_946 v1615
  v1616
def k0_mult69 (i : grid0.Coords) (k0_t7 : Fin (k0_t7_loop i).trips) : BitVec 32 :=
  let c512_i32_953 : BitVec 32 := 512#32
  let c2_i32_943 : BitVec 32 := 2#32
  let c2_i32_334 : BitVec 32 := 2#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_328 : BitVec 32 := 0#32
  let v558 : BitVec 1 := Scalar.cmpi .sgt v534 c0_i32_328
  let v559 : BitVec 32 := Scalar.extui v558
  let c0_i32_329 : BitVec 32 := 0#32
  let v560 : BitVec 1 := Scalar.cmpi .slt v534 c0_i32_329
  let v561 : BitVec 32 := Scalar.extui v560
  let v562 : BitVec 32 := Scalar.subi v559 v561
  let c2_i32_327 : BitVec 32 := 2#32
  let c0_i32_330 : BitVec 32 := 0#32
  let v563 : BitVec 1 := Scalar.cmpi .sgt c2_i32_327 c0_i32_330
  let v564 : BitVec 32 := Scalar.extui v563
  let c0_i32_331 : BitVec 32 := 0#32
  let v565 : BitVec 1 := Scalar.cmpi .slt c2_i32_327 c0_i32_331
  let v566 : BitVec 32 := Scalar.extui v565
  let v567 : BitVec 32 := Scalar.subi v564 v566
  let v568 : BitVec 1 := Scalar.cmpi .ne v562 v567
  let v569 : BitVec 32 := Scalar.remsi v534 c2_i32_327
  let c0_i32_332 : BitVec 32 := 0#32
  let v570 : BitVec 1 := Scalar.cmpi .ne v569 c0_i32_332
  let v571 : BitVec 1 := Scalar.andi v568 v570
  let v557 : BitVec 32 := Scalar.divsi v534 c2_i32_327
  let c1_i32_333 : BitVec 32 := 1#32
  let v572 : BitVec 32 := Scalar.subi v557 c1_i32_333
  let v573 : BitVec 32 := Scalar.select v571 v572 v557
  let v574 : BitVec 32 := Scalar.muli c2_i32_334 v573
  let c1_i32_337 : BitVec 32 := 1#32
  let arg29 : BitVec 32 := Scf.iv v574 c1_i32_337 k0_t7
  let v1612 : BitVec 32 := Scalar.muli c2_i32_943 arg29
  let c1_i32_944 : BitVec 32 := 1#32
  let v1613 : BitVec 32 := Scalar.addi v1612 c1_i32_944
  let c2_i32_952 : BitVec 32 := 2#32
  let v1624 : BitVec 32 := Scalar.addi v1613 c2_i32_952
  let c1_i32_43 : BitVec 32 := 1#32
  let v55 : BitVec 32 := Scalar.subi v54 c1_i32_43
  let c0_i32_44 : BitVec 32 := 0#32
  let v56 : BitVec 32 := Scalar.maxsi v55 c0_i32_44
  let v1625 : BitVec 32 := Scalar.minsi v1624 v56
  let v1626 : BitVec 32 := Scalar.muli c512_i32_953 v1625
  v1626
def k0_mult70 (i : grid0.Coords) (k0_t7 : Fin (k0_t7_loop i).trips) : BitVec 32 :=
  let c8_i32_959 : BitVec 32 := 8#32
  let c2_i32_943 : BitVec 32 := 2#32
  let c2_i32_334 : BitVec 32 := 2#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_328 : BitVec 32 := 0#32
  let v558 : BitVec 1 := Scalar.cmpi .sgt v534 c0_i32_328
  let v559 : BitVec 32 := Scalar.extui v558
  let c0_i32_329 : BitVec 32 := 0#32
  let v560 : BitVec 1 := Scalar.cmpi .slt v534 c0_i32_329
  let v561 : BitVec 32 := Scalar.extui v560
  let v562 : BitVec 32 := Scalar.subi v559 v561
  let c2_i32_327 : BitVec 32 := 2#32
  let c0_i32_330 : BitVec 32 := 0#32
  let v563 : BitVec 1 := Scalar.cmpi .sgt c2_i32_327 c0_i32_330
  let v564 : BitVec 32 := Scalar.extui v563
  let c0_i32_331 : BitVec 32 := 0#32
  let v565 : BitVec 1 := Scalar.cmpi .slt c2_i32_327 c0_i32_331
  let v566 : BitVec 32 := Scalar.extui v565
  let v567 : BitVec 32 := Scalar.subi v564 v566
  let v568 : BitVec 1 := Scalar.cmpi .ne v562 v567
  let v569 : BitVec 32 := Scalar.remsi v534 c2_i32_327
  let c0_i32_332 : BitVec 32 := 0#32
  let v570 : BitVec 1 := Scalar.cmpi .ne v569 c0_i32_332
  let v571 : BitVec 1 := Scalar.andi v568 v570
  let v557 : BitVec 32 := Scalar.divsi v534 c2_i32_327
  let c1_i32_333 : BitVec 32 := 1#32
  let v572 : BitVec 32 := Scalar.subi v557 c1_i32_333
  let v573 : BitVec 32 := Scalar.select v571 v572 v557
  let v574 : BitVec 32 := Scalar.muli c2_i32_334 v573
  let c1_i32_337 : BitVec 32 := 1#32
  let arg29 : BitVec 32 := Scf.iv v574 c1_i32_337 k0_t7
  let v1612 : BitVec 32 := Scalar.muli c2_i32_943 arg29
  let c1_i32_944 : BitVec 32 := 1#32
  let v1613 : BitVec 32 := Scalar.addi v1612 c1_i32_944
  let c1_i32_43 : BitVec 32 := 1#32
  let v55 : BitVec 32 := Scalar.subi v54 c1_i32_43
  let c0_i32_44 : BitVec 32 := 0#32
  let v56 : BitVec 32 := Scalar.maxsi v55 c0_i32_44
  let v1634 : BitVec 32 := Scalar.minsi v1613 v56
  let v1635 : BitVec 32 := Scalar.muli c8_i32_959 v1634
  v1635
def k0_mult71 (i : grid0.Coords) (k0_t7 : Fin (k0_t7_loop i).trips) : BitVec 32 :=
  let c8_i32_1009 : BitVec 32 := 8#32
  let c2_i32_943 : BitVec 32 := 2#32
  let c2_i32_334 : BitVec 32 := 2#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_328 : BitVec 32 := 0#32
  let v558 : BitVec 1 := Scalar.cmpi .sgt v534 c0_i32_328
  let v559 : BitVec 32 := Scalar.extui v558
  let c0_i32_329 : BitVec 32 := 0#32
  let v560 : BitVec 1 := Scalar.cmpi .slt v534 c0_i32_329
  let v561 : BitVec 32 := Scalar.extui v560
  let v562 : BitVec 32 := Scalar.subi v559 v561
  let c2_i32_327 : BitVec 32 := 2#32
  let c0_i32_330 : BitVec 32 := 0#32
  let v563 : BitVec 1 := Scalar.cmpi .sgt c2_i32_327 c0_i32_330
  let v564 : BitVec 32 := Scalar.extui v563
  let c0_i32_331 : BitVec 32 := 0#32
  let v565 : BitVec 1 := Scalar.cmpi .slt c2_i32_327 c0_i32_331
  let v566 : BitVec 32 := Scalar.extui v565
  let v567 : BitVec 32 := Scalar.subi v564 v566
  let v568 : BitVec 1 := Scalar.cmpi .ne v562 v567
  let v569 : BitVec 32 := Scalar.remsi v534 c2_i32_327
  let c0_i32_332 : BitVec 32 := 0#32
  let v570 : BitVec 1 := Scalar.cmpi .ne v569 c0_i32_332
  let v571 : BitVec 1 := Scalar.andi v568 v570
  let v557 : BitVec 32 := Scalar.divsi v534 c2_i32_327
  let c1_i32_333 : BitVec 32 := 1#32
  let v572 : BitVec 32 := Scalar.subi v557 c1_i32_333
  let v573 : BitVec 32 := Scalar.select v571 v572 v557
  let v574 : BitVec 32 := Scalar.muli c2_i32_334 v573
  let c1_i32_337 : BitVec 32 := 1#32
  let arg29 : BitVec 32 := Scf.iv v574 c1_i32_337 k0_t7
  let v1612 : BitVec 32 := Scalar.muli c2_i32_943 arg29
  let c1_i32_944 : BitVec 32 := 1#32
  let v1613 : BitVec 32 := Scalar.addi v1612 c1_i32_944
  let c1_i32_43 : BitVec 32 := 1#32
  let v55 : BitVec 32 := Scalar.subi v54 c1_i32_43
  let c0_i32_44 : BitVec 32 := 0#32
  let v56 : BitVec 32 := Scalar.maxsi v55 c0_i32_44
  let v1724 : BitVec 32 := Scalar.minsi v1613 v56
  let v1725 : BitVec 32 := Scalar.muli c8_i32_1009 v1724
  v1725
@[reducible] def k0_t8_loop (i : grid0.Coords) : Scf.Loop 32 :=
  let c2_i32_334 : BitVec 32 := 2#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_328 : BitVec 32 := 0#32
  let v558 : BitVec 1 := Scalar.cmpi .sgt v534 c0_i32_328
  let v559 : BitVec 32 := Scalar.extui v558
  let c0_i32_329 : BitVec 32 := 0#32
  let v560 : BitVec 1 := Scalar.cmpi .slt v534 c0_i32_329
  let v561 : BitVec 32 := Scalar.extui v560
  let v562 : BitVec 32 := Scalar.subi v559 v561
  let c2_i32_327 : BitVec 32 := 2#32
  let c0_i32_330 : BitVec 32 := 0#32
  let v563 : BitVec 1 := Scalar.cmpi .sgt c2_i32_327 c0_i32_330
  let v564 : BitVec 32 := Scalar.extui v563
  let c0_i32_331 : BitVec 32 := 0#32
  let v565 : BitVec 1 := Scalar.cmpi .slt c2_i32_327 c0_i32_331
  let v566 : BitVec 32 := Scalar.extui v565
  let v567 : BitVec 32 := Scalar.subi v564 v566
  let v568 : BitVec 1 := Scalar.cmpi .ne v562 v567
  let v569 : BitVec 32 := Scalar.remsi v534 c2_i32_327
  let c0_i32_332 : BitVec 32 := 0#32
  let v570 : BitVec 1 := Scalar.cmpi .ne v569 c0_i32_332
  let v571 : BitVec 1 := Scalar.andi v568 v570
  let v557 : BitVec 32 := Scalar.divsi v534 c2_i32_327
  let c1_i32_333 : BitVec 32 := 1#32
  let v572 : BitVec 32 := Scalar.subi v557 c1_i32_333
  let v573 : BitVec 32 := Scalar.select v571 v572 v557
  let v574 : BitVec 32 := Scalar.muli c2_i32_334 v573
  let v575 : BitVec 32 := Scalar.subi v534 v574
  let c1_i32_336 : BitVec 32 := 1#32
  let v577 : BitVec 32 := Scalar.divsi v575 c1_i32_336
  let v578 : BitVec 32 := Scalar.muli v577 c1_i32_336
  let v579 : BitVec 32 := Scalar.addi v574 v578
  let v576 : BitVec 32 := Scalar.addi v574 v575
  let c1_i32_338 : BitVec 32 := 1#32
  ⟨v579, v576, c1_i32_338⟩
def k0_mult72 (i : grid0.Coords) (k0_t8 : Fin (k0_t8_loop i).trips) : BitVec 32 :=
  let c512_i32 : BitVec 32 := 512#32
  let c2_i32_820 : BitVec 32 := 2#32
  let c2_i32_334 : BitVec 32 := 2#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_328 : BitVec 32 := 0#32
  let v558 : BitVec 1 := Scalar.cmpi .sgt v534 c0_i32_328
  let v559 : BitVec 32 := Scalar.extui v558
  let c0_i32_329 : BitVec 32 := 0#32
  let v560 : BitVec 1 := Scalar.cmpi .slt v534 c0_i32_329
  let v561 : BitVec 32 := Scalar.extui v560
  let v562 : BitVec 32 := Scalar.subi v559 v561
  let c2_i32_327 : BitVec 32 := 2#32
  let c0_i32_330 : BitVec 32 := 0#32
  let v563 : BitVec 1 := Scalar.cmpi .sgt c2_i32_327 c0_i32_330
  let v564 : BitVec 32 := Scalar.extui v563
  let c0_i32_331 : BitVec 32 := 0#32
  let v565 : BitVec 1 := Scalar.cmpi .slt c2_i32_327 c0_i32_331
  let v566 : BitVec 32 := Scalar.extui v565
  let v567 : BitVec 32 := Scalar.subi v564 v566
  let v568 : BitVec 1 := Scalar.cmpi .ne v562 v567
  let v569 : BitVec 32 := Scalar.remsi v534 c2_i32_327
  let c0_i32_332 : BitVec 32 := 0#32
  let v570 : BitVec 1 := Scalar.cmpi .ne v569 c0_i32_332
  let v571 : BitVec 1 := Scalar.andi v568 v570
  let v557 : BitVec 32 := Scalar.divsi v534 c2_i32_327
  let c1_i32_333 : BitVec 32 := 1#32
  let v572 : BitVec 32 := Scalar.subi v557 c1_i32_333
  let v573 : BitVec 32 := Scalar.select v571 v572 v557
  let v574 : BitVec 32 := Scalar.muli c2_i32_334 v573
  let v575 : BitVec 32 := Scalar.subi v534 v574
  let c1_i32_336 : BitVec 32 := 1#32
  let v577 : BitVec 32 := Scalar.divsi v575 c1_i32_336
  let v578 : BitVec 32 := Scalar.muli v577 c1_i32_336
  let v579 : BitVec 32 := Scalar.addi v574 v578
  let c1_i32_338 : BitVec 32 := 1#32
  let arg29 : BitVec 32 := Scf.iv v579 c1_i32_338 k0_t8
  let v1398 : BitVec 32 := Scalar.muli c2_i32_820 arg29
  let c0_i32_821 : BitVec 32 := 0#32
  let v1399 : BitVec 32 := Scalar.addi v1398 c0_i32_821
  let c2_i32_822 : BitVec 32 := 2#32
  let v1400 : BitVec 32 := Scalar.addi v1399 c2_i32_822
  let c1_i32_43 : BitVec 32 := 1#32
  let v55 : BitVec 32 := Scalar.subi v54 c1_i32_43
  let c0_i32_44 : BitVec 32 := 0#32
  let v56 : BitVec 32 := Scalar.maxsi v55 c0_i32_44
  let v1401 : BitVec 32 := Scalar.minsi v1400 v56
  let v1402 : BitVec 32 := Scalar.muli c512_i32 v1401
  v1402
def k0_off55 (i : grid0.Coords) (k0_t8 : Fin (k0_t8_loop i).trips) (c0_i32_821 : BitVec 32) : Fin 4 → Nat :=
  let c0_823 : Index := 0#32
  let c0_824 : Index := 0#32
  let c512_i32 : BitVec 32 := 512#32
  let c2_i32_820 : BitVec 32 := 2#32
  let c2_i32_334 : BitVec 32 := 2#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_328 : BitVec 32 := 0#32
  let v558 : BitVec 1 := Scalar.cmpi .sgt v534 c0_i32_328
  let v559 : BitVec 32 := Scalar.extui v558
  let c0_i32_329 : BitVec 32 := 0#32
  let v560 : BitVec 1 := Scalar.cmpi .slt v534 c0_i32_329
  let v561 : BitVec 32 := Scalar.extui v560
  let v562 : BitVec 32 := Scalar.subi v559 v561
  let c2_i32_327 : BitVec 32 := 2#32
  let c0_i32_330 : BitVec 32 := 0#32
  let v563 : BitVec 1 := Scalar.cmpi .sgt c2_i32_327 c0_i32_330
  let v564 : BitVec 32 := Scalar.extui v563
  let c0_i32_331 : BitVec 32 := 0#32
  let v565 : BitVec 1 := Scalar.cmpi .slt c2_i32_327 c0_i32_331
  let v566 : BitVec 32 := Scalar.extui v565
  let v567 : BitVec 32 := Scalar.subi v564 v566
  let v568 : BitVec 1 := Scalar.cmpi .ne v562 v567
  let v569 : BitVec 32 := Scalar.remsi v534 c2_i32_327
  let c0_i32_332 : BitVec 32 := 0#32
  let v570 : BitVec 1 := Scalar.cmpi .ne v569 c0_i32_332
  let v571 : BitVec 1 := Scalar.andi v568 v570
  let v557 : BitVec 32 := Scalar.divsi v534 c2_i32_327
  let c1_i32_333 : BitVec 32 := 1#32
  let v572 : BitVec 32 := Scalar.subi v557 c1_i32_333
  let v573 : BitVec 32 := Scalar.select v571 v572 v557
  let v574 : BitVec 32 := Scalar.muli c2_i32_334 v573
  let v575 : BitVec 32 := Scalar.subi v534 v574
  let c1_i32_336 : BitVec 32 := 1#32
  let v577 : BitVec 32 := Scalar.divsi v575 c1_i32_336
  let v578 : BitVec 32 := Scalar.muli v577 c1_i32_336
  let v579 : BitVec 32 := Scalar.addi v574 v578
  let c1_i32_338 : BitVec 32 := 1#32
  let arg29 : BitVec 32 := Scf.iv v579 c1_i32_338 k0_t8
  let v1398 : BitVec 32 := Scalar.muli c2_i32_820 arg29
  let v1399 : BitVec 32 := Scalar.addi v1398 c0_i32_821
  let c2_i32_822 : BitVec 32 := 2#32
  let v1400 : BitVec 32 := Scalar.addi v1399 c2_i32_822
  let c1_i32_43 : BitVec 32 := 1#32
  let v55 : BitVec 32 := Scalar.subi v54 c1_i32_43
  let c0_i32_44 : BitVec 32 := 0#32
  let v56 : BitVec 32 := Scalar.maxsi v55 c0_i32_44
  let v1401 : BitVec 32 := Scalar.minsi v1400 v56
  let v1402 : BitVec 32 := Scalar.muli c512_i32 v1401
  let v1403 : BitVec 32 := v1402
  let v1404 : Index := Scalar.indexCast v1403
  let c128_825 : Index := 128#32
  ![0, 0, v1404.toNat, 128]
def k0_mult73 (i : grid0.Coords) (k0_t8 : Fin (k0_t8_loop i).trips) : BitVec 32 :=
  let c512_i32_829 : BitVec 32 := 512#32
  let c2_i32_820 : BitVec 32 := 2#32
  let c2_i32_334 : BitVec 32 := 2#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_328 : BitVec 32 := 0#32
  let v558 : BitVec 1 := Scalar.cmpi .sgt v534 c0_i32_328
  let v559 : BitVec 32 := Scalar.extui v558
  let c0_i32_329 : BitVec 32 := 0#32
  let v560 : BitVec 1 := Scalar.cmpi .slt v534 c0_i32_329
  let v561 : BitVec 32 := Scalar.extui v560
  let v562 : BitVec 32 := Scalar.subi v559 v561
  let c2_i32_327 : BitVec 32 := 2#32
  let c0_i32_330 : BitVec 32 := 0#32
  let v563 : BitVec 1 := Scalar.cmpi .sgt c2_i32_327 c0_i32_330
  let v564 : BitVec 32 := Scalar.extui v563
  let c0_i32_331 : BitVec 32 := 0#32
  let v565 : BitVec 1 := Scalar.cmpi .slt c2_i32_327 c0_i32_331
  let v566 : BitVec 32 := Scalar.extui v565
  let v567 : BitVec 32 := Scalar.subi v564 v566
  let v568 : BitVec 1 := Scalar.cmpi .ne v562 v567
  let v569 : BitVec 32 := Scalar.remsi v534 c2_i32_327
  let c0_i32_332 : BitVec 32 := 0#32
  let v570 : BitVec 1 := Scalar.cmpi .ne v569 c0_i32_332
  let v571 : BitVec 1 := Scalar.andi v568 v570
  let v557 : BitVec 32 := Scalar.divsi v534 c2_i32_327
  let c1_i32_333 : BitVec 32 := 1#32
  let v572 : BitVec 32 := Scalar.subi v557 c1_i32_333
  let v573 : BitVec 32 := Scalar.select v571 v572 v557
  let v574 : BitVec 32 := Scalar.muli c2_i32_334 v573
  let v575 : BitVec 32 := Scalar.subi v534 v574
  let c1_i32_336 : BitVec 32 := 1#32
  let v577 : BitVec 32 := Scalar.divsi v575 c1_i32_336
  let v578 : BitVec 32 := Scalar.muli v577 c1_i32_336
  let v579 : BitVec 32 := Scalar.addi v574 v578
  let c1_i32_338 : BitVec 32 := 1#32
  let arg29 : BitVec 32 := Scf.iv v579 c1_i32_338 k0_t8
  let v1398 : BitVec 32 := Scalar.muli c2_i32_820 arg29
  let c0_i32_821 : BitVec 32 := 0#32
  let v1399 : BitVec 32 := Scalar.addi v1398 c0_i32_821
  let c2_i32_828 : BitVec 32 := 2#32
  let v1410 : BitVec 32 := Scalar.addi v1399 c2_i32_828
  let c1_i32_43 : BitVec 32 := 1#32
  let v55 : BitVec 32 := Scalar.subi v54 c1_i32_43
  let c0_i32_44 : BitVec 32 := 0#32
  let v56 : BitVec 32 := Scalar.maxsi v55 c0_i32_44
  let v1411 : BitVec 32 := Scalar.minsi v1410 v56
  let v1412 : BitVec 32 := Scalar.muli c512_i32_829 v1411
  v1412
def k0_off56 (i : grid0.Coords) (k0_t8 : Fin (k0_t8_loop i).trips) (c0_i32_821 : BitVec 32) : Fin 4 → Nat :=
  let c0_830 : Index := 0#32
  let c1_831 : Index := 1#32
  let c512_i32_829 : BitVec 32 := 512#32
  let c2_i32_820 : BitVec 32 := 2#32
  let c2_i32_334 : BitVec 32 := 2#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_328 : BitVec 32 := 0#32
  let v558 : BitVec 1 := Scalar.cmpi .sgt v534 c0_i32_328
  let v559 : BitVec 32 := Scalar.extui v558
  let c0_i32_329 : BitVec 32 := 0#32
  let v560 : BitVec 1 := Scalar.cmpi .slt v534 c0_i32_329
  let v561 : BitVec 32 := Scalar.extui v560
  let v562 : BitVec 32 := Scalar.subi v559 v561
  let c2_i32_327 : BitVec 32 := 2#32
  let c0_i32_330 : BitVec 32 := 0#32
  let v563 : BitVec 1 := Scalar.cmpi .sgt c2_i32_327 c0_i32_330
  let v564 : BitVec 32 := Scalar.extui v563
  let c0_i32_331 : BitVec 32 := 0#32
  let v565 : BitVec 1 := Scalar.cmpi .slt c2_i32_327 c0_i32_331
  let v566 : BitVec 32 := Scalar.extui v565
  let v567 : BitVec 32 := Scalar.subi v564 v566
  let v568 : BitVec 1 := Scalar.cmpi .ne v562 v567
  let v569 : BitVec 32 := Scalar.remsi v534 c2_i32_327
  let c0_i32_332 : BitVec 32 := 0#32
  let v570 : BitVec 1 := Scalar.cmpi .ne v569 c0_i32_332
  let v571 : BitVec 1 := Scalar.andi v568 v570
  let v557 : BitVec 32 := Scalar.divsi v534 c2_i32_327
  let c1_i32_333 : BitVec 32 := 1#32
  let v572 : BitVec 32 := Scalar.subi v557 c1_i32_333
  let v573 : BitVec 32 := Scalar.select v571 v572 v557
  let v574 : BitVec 32 := Scalar.muli c2_i32_334 v573
  let v575 : BitVec 32 := Scalar.subi v534 v574
  let c1_i32_336 : BitVec 32 := 1#32
  let v577 : BitVec 32 := Scalar.divsi v575 c1_i32_336
  let v578 : BitVec 32 := Scalar.muli v577 c1_i32_336
  let v579 : BitVec 32 := Scalar.addi v574 v578
  let c1_i32_338 : BitVec 32 := 1#32
  let arg29 : BitVec 32 := Scf.iv v579 c1_i32_338 k0_t8
  let v1398 : BitVec 32 := Scalar.muli c2_i32_820 arg29
  let v1399 : BitVec 32 := Scalar.addi v1398 c0_i32_821
  let c2_i32_828 : BitVec 32 := 2#32
  let v1410 : BitVec 32 := Scalar.addi v1399 c2_i32_828
  let c1_i32_43 : BitVec 32 := 1#32
  let v55 : BitVec 32 := Scalar.subi v54 c1_i32_43
  let c0_i32_44 : BitVec 32 := 0#32
  let v56 : BitVec 32 := Scalar.maxsi v55 c0_i32_44
  let v1411 : BitVec 32 := Scalar.minsi v1410 v56
  let v1412 : BitVec 32 := Scalar.muli c512_i32_829 v1411
  let v1413 : BitVec 32 := v1412
  let v1414 : Index := Scalar.indexCast v1413
  let c128_832 : Index := 128#32
  ![0, 1, v1414.toNat, 128]
def k0_mult74 (i : grid0.Coords) (k0_t8 : Fin (k0_t8_loop i).trips) : BitVec 32 :=
  let c8_i32_835 : BitVec 32 := 8#32
  let c2_i32_820 : BitVec 32 := 2#32
  let c2_i32_334 : BitVec 32 := 2#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_328 : BitVec 32 := 0#32
  let v558 : BitVec 1 := Scalar.cmpi .sgt v534 c0_i32_328
  let v559 : BitVec 32 := Scalar.extui v558
  let c0_i32_329 : BitVec 32 := 0#32
  let v560 : BitVec 1 := Scalar.cmpi .slt v534 c0_i32_329
  let v561 : BitVec 32 := Scalar.extui v560
  let v562 : BitVec 32 := Scalar.subi v559 v561
  let c2_i32_327 : BitVec 32 := 2#32
  let c0_i32_330 : BitVec 32 := 0#32
  let v563 : BitVec 1 := Scalar.cmpi .sgt c2_i32_327 c0_i32_330
  let v564 : BitVec 32 := Scalar.extui v563
  let c0_i32_331 : BitVec 32 := 0#32
  let v565 : BitVec 1 := Scalar.cmpi .slt c2_i32_327 c0_i32_331
  let v566 : BitVec 32 := Scalar.extui v565
  let v567 : BitVec 32 := Scalar.subi v564 v566
  let v568 : BitVec 1 := Scalar.cmpi .ne v562 v567
  let v569 : BitVec 32 := Scalar.remsi v534 c2_i32_327
  let c0_i32_332 : BitVec 32 := 0#32
  let v570 : BitVec 1 := Scalar.cmpi .ne v569 c0_i32_332
  let v571 : BitVec 1 := Scalar.andi v568 v570
  let v557 : BitVec 32 := Scalar.divsi v534 c2_i32_327
  let c1_i32_333 : BitVec 32 := 1#32
  let v572 : BitVec 32 := Scalar.subi v557 c1_i32_333
  let v573 : BitVec 32 := Scalar.select v571 v572 v557
  let v574 : BitVec 32 := Scalar.muli c2_i32_334 v573
  let v575 : BitVec 32 := Scalar.subi v534 v574
  let c1_i32_336 : BitVec 32 := 1#32
  let v577 : BitVec 32 := Scalar.divsi v575 c1_i32_336
  let v578 : BitVec 32 := Scalar.muli v577 c1_i32_336
  let v579 : BitVec 32 := Scalar.addi v574 v578
  let c1_i32_338 : BitVec 32 := 1#32
  let arg29 : BitVec 32 := Scf.iv v579 c1_i32_338 k0_t8
  let v1398 : BitVec 32 := Scalar.muli c2_i32_820 arg29
  let c0_i32_821 : BitVec 32 := 0#32
  let v1399 : BitVec 32 := Scalar.addi v1398 c0_i32_821
  let c1_i32_43 : BitVec 32 := 1#32
  let v55 : BitVec 32 := Scalar.subi v54 c1_i32_43
  let c0_i32_44 : BitVec 32 := 0#32
  let v56 : BitVec 32 := Scalar.maxsi v55 c0_i32_44
  let v1420 : BitVec 32 := Scalar.minsi v1399 v56
  let v1421 : BitVec 32 := Scalar.muli c8_i32_835 v1420
  v1421
def k0_off57 (i : grid0.Coords) (k0_t8 : Fin (k0_t8_loop i).trips) (c0_i32_821 : BitVec 32) : Fin 3 → Nat :=
  let c0_836 : Index := 0#32
  let c8_i32_835 : BitVec 32 := 8#32
  let c2_i32_820 : BitVec 32 := 2#32
  let c2_i32_334 : BitVec 32 := 2#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_328 : BitVec 32 := 0#32
  let v558 : BitVec 1 := Scalar.cmpi .sgt v534 c0_i32_328
  let v559 : BitVec 32 := Scalar.extui v558
  let c0_i32_329 : BitVec 32 := 0#32
  let v560 : BitVec 1 := Scalar.cmpi .slt v534 c0_i32_329
  let v561 : BitVec 32 := Scalar.extui v560
  let v562 : BitVec 32 := Scalar.subi v559 v561
  let c2_i32_327 : BitVec 32 := 2#32
  let c0_i32_330 : BitVec 32 := 0#32
  let v563 : BitVec 1 := Scalar.cmpi .sgt c2_i32_327 c0_i32_330
  let v564 : BitVec 32 := Scalar.extui v563
  let c0_i32_331 : BitVec 32 := 0#32
  let v565 : BitVec 1 := Scalar.cmpi .slt c2_i32_327 c0_i32_331
  let v566 : BitVec 32 := Scalar.extui v565
  let v567 : BitVec 32 := Scalar.subi v564 v566
  let v568 : BitVec 1 := Scalar.cmpi .ne v562 v567
  let v569 : BitVec 32 := Scalar.remsi v534 c2_i32_327
  let c0_i32_332 : BitVec 32 := 0#32
  let v570 : BitVec 1 := Scalar.cmpi .ne v569 c0_i32_332
  let v571 : BitVec 1 := Scalar.andi v568 v570
  let v557 : BitVec 32 := Scalar.divsi v534 c2_i32_327
  let c1_i32_333 : BitVec 32 := 1#32
  let v572 : BitVec 32 := Scalar.subi v557 c1_i32_333
  let v573 : BitVec 32 := Scalar.select v571 v572 v557
  let v574 : BitVec 32 := Scalar.muli c2_i32_334 v573
  let v575 : BitVec 32 := Scalar.subi v534 v574
  let c1_i32_336 : BitVec 32 := 1#32
  let v577 : BitVec 32 := Scalar.divsi v575 c1_i32_336
  let v578 : BitVec 32 := Scalar.muli v577 c1_i32_336
  let v579 : BitVec 32 := Scalar.addi v574 v578
  let c1_i32_338 : BitVec 32 := 1#32
  let arg29 : BitVec 32 := Scf.iv v579 c1_i32_338 k0_t8
  let v1398 : BitVec 32 := Scalar.muli c2_i32_820 arg29
  let v1399 : BitVec 32 := Scalar.addi v1398 c0_i32_821
  let c1_i32_43 : BitVec 32 := 1#32
  let v55 : BitVec 32 := Scalar.subi v54 c1_i32_43
  let c0_i32_44 : BitVec 32 := 0#32
  let v56 : BitVec 32 := Scalar.maxsi v55 c0_i32_44
  let v1420 : BitVec 32 := Scalar.minsi v1399 v56
  let v1421 : BitVec 32 := Scalar.muli c8_i32_835 v1420
  let v1422 : BitVec 32 := v1421
  let v1423 : Index := Scalar.indexCast v1422
  let c0_837 : Index := 0#32
  ![0, v1423.toNat, 0]
def k0_off58 (i : grid0.Coords) (k0_t8 : Fin (k0_t8_loop i).trips) (c0_i32_821 : BitVec 32) (c0_i32_863 : BitVec 32) : Fin 5 → Nat :=
  let c0_864 : Index := 0#32
  let c0_865 : Index := 0#32
  let c2_i32_862 : BitVec 32 := 2#32
  let c2_i32_820 : BitVec 32 := 2#32
  let c2_i32_334 : BitVec 32 := 2#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_328 : BitVec 32 := 0#32
  let v558 : BitVec 1 := Scalar.cmpi .sgt v534 c0_i32_328
  let v559 : BitVec 32 := Scalar.extui v558
  let c0_i32_329 : BitVec 32 := 0#32
  let v560 : BitVec 1 := Scalar.cmpi .slt v534 c0_i32_329
  let v561 : BitVec 32 := Scalar.extui v560
  let v562 : BitVec 32 := Scalar.subi v559 v561
  let c2_i32_327 : BitVec 32 := 2#32
  let c0_i32_330 : BitVec 32 := 0#32
  let v563 : BitVec 1 := Scalar.cmpi .sgt c2_i32_327 c0_i32_330
  let v564 : BitVec 32 := Scalar.extui v563
  let c0_i32_331 : BitVec 32 := 0#32
  let v565 : BitVec 1 := Scalar.cmpi .slt c2_i32_327 c0_i32_331
  let v566 : BitVec 32 := Scalar.extui v565
  let v567 : BitVec 32 := Scalar.subi v564 v566
  let v568 : BitVec 1 := Scalar.cmpi .ne v562 v567
  let v569 : BitVec 32 := Scalar.remsi v534 c2_i32_327
  let c0_i32_332 : BitVec 32 := 0#32
  let v570 : BitVec 1 := Scalar.cmpi .ne v569 c0_i32_332
  let v571 : BitVec 1 := Scalar.andi v568 v570
  let v557 : BitVec 32 := Scalar.divsi v534 c2_i32_327
  let c1_i32_333 : BitVec 32 := 1#32
  let v572 : BitVec 32 := Scalar.subi v557 c1_i32_333
  let v573 : BitVec 32 := Scalar.select v571 v572 v557
  let v574 : BitVec 32 := Scalar.muli c2_i32_334 v573
  let v575 : BitVec 32 := Scalar.subi v534 v574
  let c1_i32_336 : BitVec 32 := 1#32
  let v577 : BitVec 32 := Scalar.divsi v575 c1_i32_336
  let v578 : BitVec 32 := Scalar.muli v577 c1_i32_336
  let v579 : BitVec 32 := Scalar.addi v574 v578
  let c1_i32_338 : BitVec 32 := 1#32
  let arg29 : BitVec 32 := Scf.iv v579 c1_i32_338 k0_t8
  let v1398 : BitVec 32 := Scalar.muli c2_i32_820 arg29
  let v1399 : BitVec 32 := Scalar.addi v1398 c0_i32_821
  let c1_i32_43 : BitVec 32 := 1#32
  let v55 : BitVec 32 := Scalar.subi v54 c1_i32_43
  let c0_i32_44 : BitVec 32 := 0#32
  let v56 : BitVec 32 := Scalar.maxsi v55 c0_i32_44
  let v1420 : BitVec 32 := Scalar.minsi v1399 v56
  let v1481 : BitVec 32 := Scalar.muli c2_i32_862 v1420
  let v1482 : BitVec 32 := Scalar.addi v1481 c0_i32_863
  let v1483 : Index := Scalar.indexCast v1482
  let c0_866 : Index := 0#32
  let c0_867 : Index := 0#32
  ![0, 0, v1483.toNat, 0, 0]
def k0_mult75 (i : grid0.Coords) (k0_t8 : Fin (k0_t8_loop i).trips) : BitVec 32 :=
  let c8_i32_885 : BitVec 32 := 8#32
  let c2_i32_820 : BitVec 32 := 2#32
  let c2_i32_334 : BitVec 32 := 2#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_328 : BitVec 32 := 0#32
  let v558 : BitVec 1 := Scalar.cmpi .sgt v534 c0_i32_328
  let v559 : BitVec 32 := Scalar.extui v558
  let c0_i32_329 : BitVec 32 := 0#32
  let v560 : BitVec 1 := Scalar.cmpi .slt v534 c0_i32_329
  let v561 : BitVec 32 := Scalar.extui v560
  let v562 : BitVec 32 := Scalar.subi v559 v561
  let c2_i32_327 : BitVec 32 := 2#32
  let c0_i32_330 : BitVec 32 := 0#32
  let v563 : BitVec 1 := Scalar.cmpi .sgt c2_i32_327 c0_i32_330
  let v564 : BitVec 32 := Scalar.extui v563
  let c0_i32_331 : BitVec 32 := 0#32
  let v565 : BitVec 1 := Scalar.cmpi .slt c2_i32_327 c0_i32_331
  let v566 : BitVec 32 := Scalar.extui v565
  let v567 : BitVec 32 := Scalar.subi v564 v566
  let v568 : BitVec 1 := Scalar.cmpi .ne v562 v567
  let v569 : BitVec 32 := Scalar.remsi v534 c2_i32_327
  let c0_i32_332 : BitVec 32 := 0#32
  let v570 : BitVec 1 := Scalar.cmpi .ne v569 c0_i32_332
  let v571 : BitVec 1 := Scalar.andi v568 v570
  let v557 : BitVec 32 := Scalar.divsi v534 c2_i32_327
  let c1_i32_333 : BitVec 32 := 1#32
  let v572 : BitVec 32 := Scalar.subi v557 c1_i32_333
  let v573 : BitVec 32 := Scalar.select v571 v572 v557
  let v574 : BitVec 32 := Scalar.muli c2_i32_334 v573
  let v575 : BitVec 32 := Scalar.subi v534 v574
  let c1_i32_336 : BitVec 32 := 1#32
  let v577 : BitVec 32 := Scalar.divsi v575 c1_i32_336
  let v578 : BitVec 32 := Scalar.muli v577 c1_i32_336
  let v579 : BitVec 32 := Scalar.addi v574 v578
  let c1_i32_338 : BitVec 32 := 1#32
  let arg29 : BitVec 32 := Scf.iv v579 c1_i32_338 k0_t8
  let v1398 : BitVec 32 := Scalar.muli c2_i32_820 arg29
  let c0_i32_821 : BitVec 32 := 0#32
  let v1399 : BitVec 32 := Scalar.addi v1398 c0_i32_821
  let c1_i32_43 : BitVec 32 := 1#32
  let v55 : BitVec 32 := Scalar.subi v54 c1_i32_43
  let c0_i32_44 : BitVec 32 := 0#32
  let v56 : BitVec 32 := Scalar.maxsi v55 c0_i32_44
  let v1510 : BitVec 32 := Scalar.minsi v1399 v56
  let v1511 : BitVec 32 := Scalar.muli c8_i32_885 v1510
  v1511
def k0_off59 (i : grid0.Coords) (k0_t8 : Fin (k0_t8_loop i).trips) (c0_i32_821 : BitVec 32) : Fin 3 → Nat :=
  let c1_886 : Index := 1#32
  let c8_i32_885 : BitVec 32 := 8#32
  let c2_i32_820 : BitVec 32 := 2#32
  let c2_i32_334 : BitVec 32 := 2#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_328 : BitVec 32 := 0#32
  let v558 : BitVec 1 := Scalar.cmpi .sgt v534 c0_i32_328
  let v559 : BitVec 32 := Scalar.extui v558
  let c0_i32_329 : BitVec 32 := 0#32
  let v560 : BitVec 1 := Scalar.cmpi .slt v534 c0_i32_329
  let v561 : BitVec 32 := Scalar.extui v560
  let v562 : BitVec 32 := Scalar.subi v559 v561
  let c2_i32_327 : BitVec 32 := 2#32
  let c0_i32_330 : BitVec 32 := 0#32
  let v563 : BitVec 1 := Scalar.cmpi .sgt c2_i32_327 c0_i32_330
  let v564 : BitVec 32 := Scalar.extui v563
  let c0_i32_331 : BitVec 32 := 0#32
  let v565 : BitVec 1 := Scalar.cmpi .slt c2_i32_327 c0_i32_331
  let v566 : BitVec 32 := Scalar.extui v565
  let v567 : BitVec 32 := Scalar.subi v564 v566
  let v568 : BitVec 1 := Scalar.cmpi .ne v562 v567
  let v569 : BitVec 32 := Scalar.remsi v534 c2_i32_327
  let c0_i32_332 : BitVec 32 := 0#32
  let v570 : BitVec 1 := Scalar.cmpi .ne v569 c0_i32_332
  let v571 : BitVec 1 := Scalar.andi v568 v570
  let v557 : BitVec 32 := Scalar.divsi v534 c2_i32_327
  let c1_i32_333 : BitVec 32 := 1#32
  let v572 : BitVec 32 := Scalar.subi v557 c1_i32_333
  let v573 : BitVec 32 := Scalar.select v571 v572 v557
  let v574 : BitVec 32 := Scalar.muli c2_i32_334 v573
  let v575 : BitVec 32 := Scalar.subi v534 v574
  let c1_i32_336 : BitVec 32 := 1#32
  let v577 : BitVec 32 := Scalar.divsi v575 c1_i32_336
  let v578 : BitVec 32 := Scalar.muli v577 c1_i32_336
  let v579 : BitVec 32 := Scalar.addi v574 v578
  let c1_i32_338 : BitVec 32 := 1#32
  let arg29 : BitVec 32 := Scf.iv v579 c1_i32_338 k0_t8
  let v1398 : BitVec 32 := Scalar.muli c2_i32_820 arg29
  let v1399 : BitVec 32 := Scalar.addi v1398 c0_i32_821
  let c1_i32_43 : BitVec 32 := 1#32
  let v55 : BitVec 32 := Scalar.subi v54 c1_i32_43
  let c0_i32_44 : BitVec 32 := 0#32
  let v56 : BitVec 32 := Scalar.maxsi v55 c0_i32_44
  let v1510 : BitVec 32 := Scalar.minsi v1399 v56
  let v1511 : BitVec 32 := Scalar.muli c8_i32_885 v1510
  let v1512 : BitVec 32 := v1511
  let v1513 : Index := Scalar.indexCast v1512
  let c0_887 : Index := 0#32
  ![1, v1513.toNat, 0]
def k0_off60 (i : grid0.Coords) (k0_t8 : Fin (k0_t8_loop i).trips) (c0_i32_821 : BitVec 32) (c0_i32_913 : BitVec 32) : Fin 5 → Nat :=
  let c0_914 : Index := 0#32
  let c1_915 : Index := 1#32
  let c2_i32_912 : BitVec 32 := 2#32
  let c2_i32_820 : BitVec 32 := 2#32
  let c2_i32_334 : BitVec 32 := 2#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_328 : BitVec 32 := 0#32
  let v558 : BitVec 1 := Scalar.cmpi .sgt v534 c0_i32_328
  let v559 : BitVec 32 := Scalar.extui v558
  let c0_i32_329 : BitVec 32 := 0#32
  let v560 : BitVec 1 := Scalar.cmpi .slt v534 c0_i32_329
  let v561 : BitVec 32 := Scalar.extui v560
  let v562 : BitVec 32 := Scalar.subi v559 v561
  let c2_i32_327 : BitVec 32 := 2#32
  let c0_i32_330 : BitVec 32 := 0#32
  let v563 : BitVec 1 := Scalar.cmpi .sgt c2_i32_327 c0_i32_330
  let v564 : BitVec 32 := Scalar.extui v563
  let c0_i32_331 : BitVec 32 := 0#32
  let v565 : BitVec 1 := Scalar.cmpi .slt c2_i32_327 c0_i32_331
  let v566 : BitVec 32 := Scalar.extui v565
  let v567 : BitVec 32 := Scalar.subi v564 v566
  let v568 : BitVec 1 := Scalar.cmpi .ne v562 v567
  let v569 : BitVec 32 := Scalar.remsi v534 c2_i32_327
  let c0_i32_332 : BitVec 32 := 0#32
  let v570 : BitVec 1 := Scalar.cmpi .ne v569 c0_i32_332
  let v571 : BitVec 1 := Scalar.andi v568 v570
  let v557 : BitVec 32 := Scalar.divsi v534 c2_i32_327
  let c1_i32_333 : BitVec 32 := 1#32
  let v572 : BitVec 32 := Scalar.subi v557 c1_i32_333
  let v573 : BitVec 32 := Scalar.select v571 v572 v557
  let v574 : BitVec 32 := Scalar.muli c2_i32_334 v573
  let v575 : BitVec 32 := Scalar.subi v534 v574
  let c1_i32_336 : BitVec 32 := 1#32
  let v577 : BitVec 32 := Scalar.divsi v575 c1_i32_336
  let v578 : BitVec 32 := Scalar.muli v577 c1_i32_336
  let v579 : BitVec 32 := Scalar.addi v574 v578
  let c1_i32_338 : BitVec 32 := 1#32
  let arg29 : BitVec 32 := Scf.iv v579 c1_i32_338 k0_t8
  let v1398 : BitVec 32 := Scalar.muli c2_i32_820 arg29
  let v1399 : BitVec 32 := Scalar.addi v1398 c0_i32_821
  let c1_i32_43 : BitVec 32 := 1#32
  let v55 : BitVec 32 := Scalar.subi v54 c1_i32_43
  let c0_i32_44 : BitVec 32 := 0#32
  let v56 : BitVec 32 := Scalar.maxsi v55 c0_i32_44
  let v1510 : BitVec 32 := Scalar.minsi v1399 v56
  let v1571 : BitVec 32 := Scalar.muli c2_i32_912 v1510
  let v1572 : BitVec 32 := Scalar.addi v1571 c0_i32_913
  let v1573 : Index := Scalar.indexCast v1572
  let c0_916 : Index := 0#32
  let c0_917 : Index := 0#32
  ![0, 1, v1573.toNat, 0, 0]
def k0_mult76 (i : grid0.Coords) (k0_t8 : Fin (k0_t8_loop i).trips) : BitVec 32 :=
  let c512_i32_946 : BitVec 32 := 512#32
  let c2_i32_943 : BitVec 32 := 2#32
  let c2_i32_334 : BitVec 32 := 2#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_328 : BitVec 32 := 0#32
  let v558 : BitVec 1 := Scalar.cmpi .sgt v534 c0_i32_328
  let v559 : BitVec 32 := Scalar.extui v558
  let c0_i32_329 : BitVec 32 := 0#32
  let v560 : BitVec 1 := Scalar.cmpi .slt v534 c0_i32_329
  let v561 : BitVec 32 := Scalar.extui v560
  let v562 : BitVec 32 := Scalar.subi v559 v561
  let c2_i32_327 : BitVec 32 := 2#32
  let c0_i32_330 : BitVec 32 := 0#32
  let v563 : BitVec 1 := Scalar.cmpi .sgt c2_i32_327 c0_i32_330
  let v564 : BitVec 32 := Scalar.extui v563
  let c0_i32_331 : BitVec 32 := 0#32
  let v565 : BitVec 1 := Scalar.cmpi .slt c2_i32_327 c0_i32_331
  let v566 : BitVec 32 := Scalar.extui v565
  let v567 : BitVec 32 := Scalar.subi v564 v566
  let v568 : BitVec 1 := Scalar.cmpi .ne v562 v567
  let v569 : BitVec 32 := Scalar.remsi v534 c2_i32_327
  let c0_i32_332 : BitVec 32 := 0#32
  let v570 : BitVec 1 := Scalar.cmpi .ne v569 c0_i32_332
  let v571 : BitVec 1 := Scalar.andi v568 v570
  let v557 : BitVec 32 := Scalar.divsi v534 c2_i32_327
  let c1_i32_333 : BitVec 32 := 1#32
  let v572 : BitVec 32 := Scalar.subi v557 c1_i32_333
  let v573 : BitVec 32 := Scalar.select v571 v572 v557
  let v574 : BitVec 32 := Scalar.muli c2_i32_334 v573
  let v575 : BitVec 32 := Scalar.subi v534 v574
  let c1_i32_336 : BitVec 32 := 1#32
  let v577 : BitVec 32 := Scalar.divsi v575 c1_i32_336
  let v578 : BitVec 32 := Scalar.muli v577 c1_i32_336
  let v579 : BitVec 32 := Scalar.addi v574 v578
  let c1_i32_338 : BitVec 32 := 1#32
  let arg29 : BitVec 32 := Scf.iv v579 c1_i32_338 k0_t8
  let v1612 : BitVec 32 := Scalar.muli c2_i32_943 arg29
  let c1_i32_944 : BitVec 32 := 1#32
  let v1613 : BitVec 32 := Scalar.addi v1612 c1_i32_944
  let c2_i32_945 : BitVec 32 := 2#32
  let v1614 : BitVec 32 := Scalar.addi v1613 c2_i32_945
  let c1_i32_43 : BitVec 32 := 1#32
  let v55 : BitVec 32 := Scalar.subi v54 c1_i32_43
  let c0_i32_44 : BitVec 32 := 0#32
  let v56 : BitVec 32 := Scalar.maxsi v55 c0_i32_44
  let v1615 : BitVec 32 := Scalar.minsi v1614 v56
  let v1616 : BitVec 32 := Scalar.muli c512_i32_946 v1615
  v1616
def k0_mult77 (i : grid0.Coords) (k0_t8 : Fin (k0_t8_loop i).trips) : BitVec 32 :=
  let c512_i32_953 : BitVec 32 := 512#32
  let c2_i32_943 : BitVec 32 := 2#32
  let c2_i32_334 : BitVec 32 := 2#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_328 : BitVec 32 := 0#32
  let v558 : BitVec 1 := Scalar.cmpi .sgt v534 c0_i32_328
  let v559 : BitVec 32 := Scalar.extui v558
  let c0_i32_329 : BitVec 32 := 0#32
  let v560 : BitVec 1 := Scalar.cmpi .slt v534 c0_i32_329
  let v561 : BitVec 32 := Scalar.extui v560
  let v562 : BitVec 32 := Scalar.subi v559 v561
  let c2_i32_327 : BitVec 32 := 2#32
  let c0_i32_330 : BitVec 32 := 0#32
  let v563 : BitVec 1 := Scalar.cmpi .sgt c2_i32_327 c0_i32_330
  let v564 : BitVec 32 := Scalar.extui v563
  let c0_i32_331 : BitVec 32 := 0#32
  let v565 : BitVec 1 := Scalar.cmpi .slt c2_i32_327 c0_i32_331
  let v566 : BitVec 32 := Scalar.extui v565
  let v567 : BitVec 32 := Scalar.subi v564 v566
  let v568 : BitVec 1 := Scalar.cmpi .ne v562 v567
  let v569 : BitVec 32 := Scalar.remsi v534 c2_i32_327
  let c0_i32_332 : BitVec 32 := 0#32
  let v570 : BitVec 1 := Scalar.cmpi .ne v569 c0_i32_332
  let v571 : BitVec 1 := Scalar.andi v568 v570
  let v557 : BitVec 32 := Scalar.divsi v534 c2_i32_327
  let c1_i32_333 : BitVec 32 := 1#32
  let v572 : BitVec 32 := Scalar.subi v557 c1_i32_333
  let v573 : BitVec 32 := Scalar.select v571 v572 v557
  let v574 : BitVec 32 := Scalar.muli c2_i32_334 v573
  let v575 : BitVec 32 := Scalar.subi v534 v574
  let c1_i32_336 : BitVec 32 := 1#32
  let v577 : BitVec 32 := Scalar.divsi v575 c1_i32_336
  let v578 : BitVec 32 := Scalar.muli v577 c1_i32_336
  let v579 : BitVec 32 := Scalar.addi v574 v578
  let c1_i32_338 : BitVec 32 := 1#32
  let arg29 : BitVec 32 := Scf.iv v579 c1_i32_338 k0_t8
  let v1612 : BitVec 32 := Scalar.muli c2_i32_943 arg29
  let c1_i32_944 : BitVec 32 := 1#32
  let v1613 : BitVec 32 := Scalar.addi v1612 c1_i32_944
  let c2_i32_952 : BitVec 32 := 2#32
  let v1624 : BitVec 32 := Scalar.addi v1613 c2_i32_952
  let c1_i32_43 : BitVec 32 := 1#32
  let v55 : BitVec 32 := Scalar.subi v54 c1_i32_43
  let c0_i32_44 : BitVec 32 := 0#32
  let v56 : BitVec 32 := Scalar.maxsi v55 c0_i32_44
  let v1625 : BitVec 32 := Scalar.minsi v1624 v56
  let v1626 : BitVec 32 := Scalar.muli c512_i32_953 v1625
  v1626
def k0_mult78 (i : grid0.Coords) (k0_t8 : Fin (k0_t8_loop i).trips) : BitVec 32 :=
  let c8_i32_959 : BitVec 32 := 8#32
  let c2_i32_943 : BitVec 32 := 2#32
  let c2_i32_334 : BitVec 32 := 2#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_328 : BitVec 32 := 0#32
  let v558 : BitVec 1 := Scalar.cmpi .sgt v534 c0_i32_328
  let v559 : BitVec 32 := Scalar.extui v558
  let c0_i32_329 : BitVec 32 := 0#32
  let v560 : BitVec 1 := Scalar.cmpi .slt v534 c0_i32_329
  let v561 : BitVec 32 := Scalar.extui v560
  let v562 : BitVec 32 := Scalar.subi v559 v561
  let c2_i32_327 : BitVec 32 := 2#32
  let c0_i32_330 : BitVec 32 := 0#32
  let v563 : BitVec 1 := Scalar.cmpi .sgt c2_i32_327 c0_i32_330
  let v564 : BitVec 32 := Scalar.extui v563
  let c0_i32_331 : BitVec 32 := 0#32
  let v565 : BitVec 1 := Scalar.cmpi .slt c2_i32_327 c0_i32_331
  let v566 : BitVec 32 := Scalar.extui v565
  let v567 : BitVec 32 := Scalar.subi v564 v566
  let v568 : BitVec 1 := Scalar.cmpi .ne v562 v567
  let v569 : BitVec 32 := Scalar.remsi v534 c2_i32_327
  let c0_i32_332 : BitVec 32 := 0#32
  let v570 : BitVec 1 := Scalar.cmpi .ne v569 c0_i32_332
  let v571 : BitVec 1 := Scalar.andi v568 v570
  let v557 : BitVec 32 := Scalar.divsi v534 c2_i32_327
  let c1_i32_333 : BitVec 32 := 1#32
  let v572 : BitVec 32 := Scalar.subi v557 c1_i32_333
  let v573 : BitVec 32 := Scalar.select v571 v572 v557
  let v574 : BitVec 32 := Scalar.muli c2_i32_334 v573
  let v575 : BitVec 32 := Scalar.subi v534 v574
  let c1_i32_336 : BitVec 32 := 1#32
  let v577 : BitVec 32 := Scalar.divsi v575 c1_i32_336
  let v578 : BitVec 32 := Scalar.muli v577 c1_i32_336
  let v579 : BitVec 32 := Scalar.addi v574 v578
  let c1_i32_338 : BitVec 32 := 1#32
  let arg29 : BitVec 32 := Scf.iv v579 c1_i32_338 k0_t8
  let v1612 : BitVec 32 := Scalar.muli c2_i32_943 arg29
  let c1_i32_944 : BitVec 32 := 1#32
  let v1613 : BitVec 32 := Scalar.addi v1612 c1_i32_944
  let c1_i32_43 : BitVec 32 := 1#32
  let v55 : BitVec 32 := Scalar.subi v54 c1_i32_43
  let c0_i32_44 : BitVec 32 := 0#32
  let v56 : BitVec 32 := Scalar.maxsi v55 c0_i32_44
  let v1634 : BitVec 32 := Scalar.minsi v1613 v56
  let v1635 : BitVec 32 := Scalar.muli c8_i32_959 v1634
  v1635
def k0_mult79 (i : grid0.Coords) (k0_t8 : Fin (k0_t8_loop i).trips) : BitVec 32 :=
  let c8_i32_1009 : BitVec 32 := 8#32
  let c2_i32_943 : BitVec 32 := 2#32
  let c2_i32_334 : BitVec 32 := 2#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let c0_i32_328 : BitVec 32 := 0#32
  let v558 : BitVec 1 := Scalar.cmpi .sgt v534 c0_i32_328
  let v559 : BitVec 32 := Scalar.extui v558
  let c0_i32_329 : BitVec 32 := 0#32
  let v560 : BitVec 1 := Scalar.cmpi .slt v534 c0_i32_329
  let v561 : BitVec 32 := Scalar.extui v560
  let v562 : BitVec 32 := Scalar.subi v559 v561
  let c2_i32_327 : BitVec 32 := 2#32
  let c0_i32_330 : BitVec 32 := 0#32
  let v563 : BitVec 1 := Scalar.cmpi .sgt c2_i32_327 c0_i32_330
  let v564 : BitVec 32 := Scalar.extui v563
  let c0_i32_331 : BitVec 32 := 0#32
  let v565 : BitVec 1 := Scalar.cmpi .slt c2_i32_327 c0_i32_331
  let v566 : BitVec 32 := Scalar.extui v565
  let v567 : BitVec 32 := Scalar.subi v564 v566
  let v568 : BitVec 1 := Scalar.cmpi .ne v562 v567
  let v569 : BitVec 32 := Scalar.remsi v534 c2_i32_327
  let c0_i32_332 : BitVec 32 := 0#32
  let v570 : BitVec 1 := Scalar.cmpi .ne v569 c0_i32_332
  let v571 : BitVec 1 := Scalar.andi v568 v570
  let v557 : BitVec 32 := Scalar.divsi v534 c2_i32_327
  let c1_i32_333 : BitVec 32 := 1#32
  let v572 : BitVec 32 := Scalar.subi v557 c1_i32_333
  let v573 : BitVec 32 := Scalar.select v571 v572 v557
  let v574 : BitVec 32 := Scalar.muli c2_i32_334 v573
  let v575 : BitVec 32 := Scalar.subi v534 v574
  let c1_i32_336 : BitVec 32 := 1#32
  let v577 : BitVec 32 := Scalar.divsi v575 c1_i32_336
  let v578 : BitVec 32 := Scalar.muli v577 c1_i32_336
  let v579 : BitVec 32 := Scalar.addi v574 v578
  let c1_i32_338 : BitVec 32 := 1#32
  let arg29 : BitVec 32 := Scf.iv v579 c1_i32_338 k0_t8
  let v1612 : BitVec 32 := Scalar.muli c2_i32_943 arg29
  let c1_i32_944 : BitVec 32 := 1#32
  let v1613 : BitVec 32 := Scalar.addi v1612 c1_i32_944
  let c1_i32_43 : BitVec 32 := 1#32
  let v55 : BitVec 32 := Scalar.subi v54 c1_i32_43
  let c0_i32_44 : BitVec 32 := 0#32
  let v56 : BitVec 32 := Scalar.maxsi v55 c0_i32_44
  let v1724 : BitVec 32 := Scalar.minsi v1613 v56
  let v1725 : BitVec 32 := Scalar.muli c8_i32_1009 v1724
  v1725
def k0_mult80 (i : grid0.Coords) : BitVec 32 :=
  let arg1 : BitVec 32 := BitVec.ofNat 32 (i 1).val
  let c4_i32_342 : BitVec 32 := 4#32
  let v588 : BitVec 32 := Scalar.subi arg1 c4_i32_342
  let c0_i32_343 : BitVec 32 := 0#32
  let v589 : BitVec 32 := Scalar.addi v588 c0_i32_343
  let c0_i32_344 : BitVec 32 := 0#32
  let v590 : BitVec 32 := Scalar.maxsi v589 c0_i32_344
  let c128_i32_345 : BitVec 32 := 128#32
  let v591 : BitVec 32 := Scalar.muli v590 c128_i32_345
  v591
def k0_off61 (i : grid0.Coords) (c0_i32_343 : BitVec 32) : Fin 4 → Nat :=
  let c0_346 : Index := 0#32
  let c0_347 : Index := 0#32
  let arg1 : BitVec 32 := BitVec.ofNat 32 (i 1).val
  let c4_i32_342 : BitVec 32 := 4#32
  let v588 : BitVec 32 := Scalar.subi arg1 c4_i32_342
  let v589 : BitVec 32 := Scalar.addi v588 c0_i32_343
  let c0_i32_344 : BitVec 32 := 0#32
  let v590 : BitVec 32 := Scalar.maxsi v589 c0_i32_344
  let c128_i32_345 : BitVec 32 := 128#32
  let v591 : BitVec 32 := Scalar.muli v590 c128_i32_345
  let v592 : BitVec 32 := v591
  let v593 : Index := Scalar.indexCast v592
  let c0_348 : Index := 0#32
  ![0, 0, v593.toNat, 0]
def k0_mult81 (i : grid0.Coords) : BitVec 32 :=
  let arg1 : BitVec 32 := BitVec.ofNat 32 (i 1).val
  let c4_i32_351 : BitVec 32 := 4#32
  let v601 : BitVec 32 := Scalar.subi arg1 c4_i32_351
  let c1_i32_352 : BitVec 32 := 1#32
  let v602 : BitVec 32 := Scalar.addi v601 c1_i32_352
  let c0_i32_353 : BitVec 32 := 0#32
  let v603 : BitVec 32 := Scalar.maxsi v602 c0_i32_353
  let c128_i32_354 : BitVec 32 := 128#32
  let v604 : BitVec 32 := Scalar.muli v603 c128_i32_354
  v604
def k0_mult82 (i : grid0.Coords) : BitVec 32 :=
  let arg1 : BitVec 32 := BitVec.ofNat 32 (i 1).val
  let c4_i32_360 : BitVec 32 := 4#32
  let v614 : BitVec 32 := Scalar.subi arg1 c4_i32_360
  let c2_i32_361 : BitVec 32 := 2#32
  let v615 : BitVec 32 := Scalar.addi v614 c2_i32_361
  let c0_i32_362 : BitVec 32 := 0#32
  let v616 : BitVec 32 := Scalar.maxsi v615 c0_i32_362
  let c128_i32_363 : BitVec 32 := 128#32
  let v617 : BitVec 32 := Scalar.muli v616 c128_i32_363
  v617
def k0_mult83 (i : grid0.Coords) : BitVec 32 :=
  let arg1 : BitVec 32 := BitVec.ofNat 32 (i 1).val
  let c4_i32_369 : BitVec 32 := 4#32
  let v627 : BitVec 32 := Scalar.subi arg1 c4_i32_369
  let c3_i32_370 : BitVec 32 := 3#32
  let v628 : BitVec 32 := Scalar.addi v627 c3_i32_370
  let c0_i32_371 : BitVec 32 := 0#32
  let v629 : BitVec 32 := Scalar.maxsi v628 c0_i32_371
  let c128_i32_372 : BitVec 32 := 128#32
  let v630 : BitVec 32 := Scalar.muli v629 c128_i32_372
  v630
def k0_mult84 (i : grid0.Coords) : BitVec 32 :=
  let arg1 : BitVec 32 := BitVec.ofNat 32 (i 1).val
  let c4_i32_378 : BitVec 32 := 4#32
  let v641 : BitVec 32 := Scalar.subi arg1 c4_i32_378
  let c4_i32_379 : BitVec 32 := 4#32
  let v642 : BitVec 32 := Scalar.addi v641 c4_i32_379
  let c0_i32_380 : BitVec 32 := 0#32
  let v643 : BitVec 32 := Scalar.maxsi v642 c0_i32_380
  let c128_i32_381 : BitVec 32 := 128#32
  let v644 : BitVec 32 := Scalar.muli v643 c128_i32_381
  v644
def k0_mult85 (i : grid0.Coords) : BitVec 32 :=
  let arg1 : BitVec 32 := BitVec.ofNat 32 (i 1).val
  let c4_i32_390 : BitVec 32 := 4#32
  let v659 : BitVec 32 := Scalar.subi arg1 c4_i32_390
  let c0_i32_391 : BitVec 32 := 0#32
  let v660 : BitVec 32 := Scalar.addi v659 c0_i32_391
  let c0_i32_392 : BitVec 32 := 0#32
  let v661 : BitVec 32 := Scalar.maxsi v660 c0_i32_392
  let c128_i32_393 : BitVec 32 := 128#32
  let v662 : BitVec 32 := Scalar.muli v661 c128_i32_393
  v662
def k0_off62 (i : grid0.Coords) (c0_i32_391 : BitVec 32) : Fin 4 → Nat :=
  let c0_394 : Index := 0#32
  let c1_395 : Index := 1#32
  let arg1 : BitVec 32 := BitVec.ofNat 32 (i 1).val
  let c4_i32_390 : BitVec 32 := 4#32
  let v659 : BitVec 32 := Scalar.subi arg1 c4_i32_390
  let v660 : BitVec 32 := Scalar.addi v659 c0_i32_391
  let c0_i32_392 : BitVec 32 := 0#32
  let v661 : BitVec 32 := Scalar.maxsi v660 c0_i32_392
  let c128_i32_393 : BitVec 32 := 128#32
  let v662 : BitVec 32 := Scalar.muli v661 c128_i32_393
  let v663 : BitVec 32 := v662
  let v664 : Index := Scalar.indexCast v663
  let c0_396 : Index := 0#32
  ![0, 1, v664.toNat, 0]
def k0_mult86 (i : grid0.Coords) : BitVec 32 :=
  let arg1 : BitVec 32 := BitVec.ofNat 32 (i 1).val
  let c4_i32_399 : BitVec 32 := 4#32
  let v672 : BitVec 32 := Scalar.subi arg1 c4_i32_399
  let c1_i32_400 : BitVec 32 := 1#32
  let v673 : BitVec 32 := Scalar.addi v672 c1_i32_400
  let c0_i32_401 : BitVec 32 := 0#32
  let v674 : BitVec 32 := Scalar.maxsi v673 c0_i32_401
  let c128_i32_402 : BitVec 32 := 128#32
  let v675 : BitVec 32 := Scalar.muli v674 c128_i32_402
  v675
def k0_mult87 (i : grid0.Coords) : BitVec 32 :=
  let arg1 : BitVec 32 := BitVec.ofNat 32 (i 1).val
  let c4_i32_408 : BitVec 32 := 4#32
  let v685 : BitVec 32 := Scalar.subi arg1 c4_i32_408
  let c2_i32_409 : BitVec 32 := 2#32
  let v686 : BitVec 32 := Scalar.addi v685 c2_i32_409
  let c0_i32_410 : BitVec 32 := 0#32
  let v687 : BitVec 32 := Scalar.maxsi v686 c0_i32_410
  let c128_i32_411 : BitVec 32 := 128#32
  let v688 : BitVec 32 := Scalar.muli v687 c128_i32_411
  v688
def k0_mult88 (i : grid0.Coords) : BitVec 32 :=
  let arg1 : BitVec 32 := BitVec.ofNat 32 (i 1).val
  let c4_i32_417 : BitVec 32 := 4#32
  let v698 : BitVec 32 := Scalar.subi arg1 c4_i32_417
  let c3_i32_418 : BitVec 32 := 3#32
  let v699 : BitVec 32 := Scalar.addi v698 c3_i32_418
  let c0_i32_419 : BitVec 32 := 0#32
  let v700 : BitVec 32 := Scalar.maxsi v699 c0_i32_419
  let c128_i32_420 : BitVec 32 := 128#32
  let v701 : BitVec 32 := Scalar.muli v700 c128_i32_420
  v701
def k0_mult89 (i : grid0.Coords) : BitVec 32 :=
  let arg1 : BitVec 32 := BitVec.ofNat 32 (i 1).val
  let c4_i32_426 : BitVec 32 := 4#32
  let v712 : BitVec 32 := Scalar.subi arg1 c4_i32_426
  let c4_i32_427 : BitVec 32 := 4#32
  let v713 : BitVec 32 := Scalar.addi v712 c4_i32_427
  let c0_i32_428 : BitVec 32 := 0#32
  let v714 : BitVec 32 := Scalar.maxsi v713 c0_i32_428
  let c128_i32_429 : BitVec 32 := 128#32
  let v715 : BitVec 32 := Scalar.muli v714 c128_i32_429
  v715
def k0_mult90 (i : grid0.Coords) : BitVec 32 :=
  let c8_i32_436 : BitVec 32 := 8#32
  let c2_i32_434 : BitVec 32 := 2#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let v722 : BitVec 32 := Scalar.muli c2_i32_434 v534
  let c0_i32_435 : BitVec 32 := 0#32
  let v723 : BitVec 32 := Scalar.addi v722 c0_i32_435
  let c1_i32_43 : BitVec 32 := 1#32
  let v55 : BitVec 32 := Scalar.subi v54 c1_i32_43
  let c0_i32_44 : BitVec 32 := 0#32
  let v56 : BitVec 32 := Scalar.maxsi v55 c0_i32_44
  let v724 : BitVec 32 := Scalar.minsi v723 v56
  let v725 : BitVec 32 := Scalar.muli c8_i32_436 v724
  v725
def k0_off63 (i : grid0.Coords) (c0_i32_435 : BitVec 32) : Fin 3 → Nat :=
  let c0_437 : Index := 0#32
  let c8_i32_436 : BitVec 32 := 8#32
  let c2_i32_434 : BitVec 32 := 2#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let v722 : BitVec 32 := Scalar.muli c2_i32_434 v534
  let v723 : BitVec 32 := Scalar.addi v722 c0_i32_435
  let c1_i32_43 : BitVec 32 := 1#32
  let v55 : BitVec 32 := Scalar.subi v54 c1_i32_43
  let c0_i32_44 : BitVec 32 := 0#32
  let v56 : BitVec 32 := Scalar.maxsi v55 c0_i32_44
  let v724 : BitVec 32 := Scalar.minsi v723 v56
  let v725 : BitVec 32 := Scalar.muli c8_i32_436 v724
  let v726 : BitVec 32 := v725
  let v727 : Index := Scalar.indexCast v726
  let c0_438 : Index := 0#32
  ![0, v727.toNat, 0]
def k0_off64 (i : grid0.Coords) (c0_i32_435 : BitVec 32) (c0_i32_458 : BitVec 32) : Fin 5 → Nat :=
  let c0_459 : Index := 0#32
  let c0_460 : Index := 0#32
  let c2_i32_457 : BitVec 32 := 2#32
  let c2_i32_434 : BitVec 32 := 2#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let v722 : BitVec 32 := Scalar.muli c2_i32_434 v534
  let v723 : BitVec 32 := Scalar.addi v722 c0_i32_435
  let c1_i32_43 : BitVec 32 := 1#32
  let v55 : BitVec 32 := Scalar.subi v54 c1_i32_43
  let c0_i32_44 : BitVec 32 := 0#32
  let v56 : BitVec 32 := Scalar.maxsi v55 c0_i32_44
  let v724 : BitVec 32 := Scalar.minsi v723 v56
  let v785 : BitVec 32 := Scalar.muli c2_i32_457 v724
  let v786 : BitVec 32 := Scalar.addi v785 c0_i32_458
  let v787 : Index := Scalar.indexCast v786
  let c0_461 : Index := 0#32
  let c0_462 : Index := 0#32
  ![0, 0, v787.toNat, 0, 0]
def k0_mult91 (i : grid0.Coords) : BitVec 32 :=
  let c8_i32_482 : BitVec 32 := 8#32
  let c2_i32_480 : BitVec 32 := 2#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let v814 : BitVec 32 := Scalar.muli c2_i32_480 v534
  let c0_i32_481 : BitVec 32 := 0#32
  let v815 : BitVec 32 := Scalar.addi v814 c0_i32_481
  let c1_i32_43 : BitVec 32 := 1#32
  let v55 : BitVec 32 := Scalar.subi v54 c1_i32_43
  let c0_i32_44 : BitVec 32 := 0#32
  let v56 : BitVec 32 := Scalar.maxsi v55 c0_i32_44
  let v816 : BitVec 32 := Scalar.minsi v815 v56
  let v817 : BitVec 32 := Scalar.muli c8_i32_482 v816
  v817
def k0_off65 (i : grid0.Coords) (c0_i32_481 : BitVec 32) : Fin 3 → Nat :=
  let c1_483 : Index := 1#32
  let c8_i32_482 : BitVec 32 := 8#32
  let c2_i32_480 : BitVec 32 := 2#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let v814 : BitVec 32 := Scalar.muli c2_i32_480 v534
  let v815 : BitVec 32 := Scalar.addi v814 c0_i32_481
  let c1_i32_43 : BitVec 32 := 1#32
  let v55 : BitVec 32 := Scalar.subi v54 c1_i32_43
  let c0_i32_44 : BitVec 32 := 0#32
  let v56 : BitVec 32 := Scalar.maxsi v55 c0_i32_44
  let v816 : BitVec 32 := Scalar.minsi v815 v56
  let v817 : BitVec 32 := Scalar.muli c8_i32_482 v816
  let v818 : BitVec 32 := v817
  let v819 : Index := Scalar.indexCast v818
  let c0_484 : Index := 0#32
  ![1, v819.toNat, 0]
def k0_off66 (i : grid0.Coords) (c0_i32_481 : BitVec 32) (c0_i32_510 : BitVec 32) : Fin 5 → Nat :=
  let c0_511 : Index := 0#32
  let c1_512 : Index := 1#32
  let c2_i32_509 : BitVec 32 := 2#32
  let c2_i32_480 : BitVec 32 := 2#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let v814 : BitVec 32 := Scalar.muli c2_i32_480 v534
  let v815 : BitVec 32 := Scalar.addi v814 c0_i32_481
  let c1_i32_43 : BitVec 32 := 1#32
  let v55 : BitVec 32 := Scalar.subi v54 c1_i32_43
  let c0_i32_44 : BitVec 32 := 0#32
  let v56 : BitVec 32 := Scalar.maxsi v55 c0_i32_44
  let v816 : BitVec 32 := Scalar.minsi v815 v56
  let v877 : BitVec 32 := Scalar.muli c2_i32_509 v816
  let v878 : BitVec 32 := Scalar.addi v877 c0_i32_510
  let v879 : Index := Scalar.indexCast v878
  let c0_513 : Index := 0#32
  let c0_514 : Index := 0#32
  ![0, 1, v879.toNat, 0, 0]
def k0_mult92 (i : grid0.Coords) : BitVec 32 :=
  let c8_i32_534 : BitVec 32 := 8#32
  let c2_i32_532 : BitVec 32 := 2#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let v906 : BitVec 32 := Scalar.muli c2_i32_532 v534
  let c1_i32_533 : BitVec 32 := 1#32
  let v907 : BitVec 32 := Scalar.addi v906 c1_i32_533
  let c1_i32_43 : BitVec 32 := 1#32
  let v55 : BitVec 32 := Scalar.subi v54 c1_i32_43
  let c0_i32_44 : BitVec 32 := 0#32
  let v56 : BitVec 32 := Scalar.maxsi v55 c0_i32_44
  let v908 : BitVec 32 := Scalar.minsi v907 v56
  let v909 : BitVec 32 := Scalar.muli c8_i32_534 v908
  v909
def k0_mult93 (i : grid0.Coords) : BitVec 32 :=
  let c8_i32_586 : BitVec 32 := 8#32
  let c2_i32_584 : BitVec 32 := 2#32
  let arg1 : BitVec 32 := BitVec.ofNat 32 (i 1).val
  let c1_i32 : BitVec 32 := 1#32
  let v36 : BitVec 32 := Scalar.subi arg1 c1_i32
  let c0_i32 : BitVec 32 := 0#32
  let v37 : BitVec 32 := Scalar.maxsi v36 c0_i32
  let c0_i32_37 : BitVec 32 := 0#32
  let v39 : BitVec 1 := Scalar.cmpi .sgt v37 c0_i32_37
  let v40 : BitVec 32 := Scalar.extui v39
  let c0_i32_38 : BitVec 32 := 0#32
  let v41 : BitVec 1 := Scalar.cmpi .slt v37 c0_i32_38
  let v42 : BitVec 32 := Scalar.extui v41
  let v43 : BitVec 32 := Scalar.subi v40 v42
  let c4_i32 : BitVec 32 := 4#32
  let c0_i32_39 : BitVec 32 := 0#32
  let v44 : BitVec 1 := Scalar.cmpi .sgt c4_i32 c0_i32_39
  let v45 : BitVec 32 := Scalar.extui v44
  let c0_i32_40 : BitVec 32 := 0#32
  let v46 : BitVec 1 := Scalar.cmpi .slt c4_i32 c0_i32_40
  let v47 : BitVec 32 := Scalar.extui v46
  let v48 : BitVec 32 := Scalar.subi v45 v47
  let v49 : BitVec 1 := Scalar.cmpi .ne v43 v48
  let v50 : BitVec 32 := Scalar.remsi v37 c4_i32
  let c0_i32_41 : BitVec 32 := 0#32
  let v51 : BitVec 1 := Scalar.cmpi .ne v50 c0_i32_41
  let v52 : BitVec 1 := Scalar.andi v49 v51
  let v38 : BitVec 32 := Scalar.divsi v37 c4_i32
  let c1_i32_42 : BitVec 32 := 1#32
  let v53 : BitVec 32 := Scalar.subi v38 c1_i32_42
  let v54 : BitVec 32 := Scalar.select v52 v53 v38
  let c2_i32_304 : BitVec 32 := 2#32
  let v514 : BitVec 32 := Scalar.subi v54 c2_i32_304
  let c2_i32_305 : BitVec 32 := 2#32
  let v515 : BitVec 32 := Scalar.addi v514 c2_i32_305
  let c1_i32_306 : BitVec 32 := 1#32
  let v516 : BitVec 32 := Scalar.subi v515 c1_i32_306
  let c0_i32_307 : BitVec 32 := 0#32
  let v517 : BitVec 32 := Scalar.maxsi v516 c0_i32_307
  let c0_i32_309 : BitVec 32 := 0#32
  let v519 : BitVec 1 := Scalar.cmpi .sgt v517 c0_i32_309
  let v520 : BitVec 32 := Scalar.extui v519
  let c0_i32_310 : BitVec 32 := 0#32
  let v521 : BitVec 1 := Scalar.cmpi .slt v517 c0_i32_310
  let v522 : BitVec 32 := Scalar.extui v521
  let v523 : BitVec 32 := Scalar.subi v520 v522
  let c2_i32_308 : BitVec 32 := 2#32
  let c0_i32_311 : BitVec 32 := 0#32
  let v524 : BitVec 1 := Scalar.cmpi .sgt c2_i32_308 c0_i32_311
  let v525 : BitVec 32 := Scalar.extui v524
  let c0_i32_312 : BitVec 32 := 0#32
  let v526 : BitVec 1 := Scalar.cmpi .slt c2_i32_308 c0_i32_312
  let v527 : BitVec 32 := Scalar.extui v526
  let v528 : BitVec 32 := Scalar.subi v525 v527
  let v529 : BitVec 1 := Scalar.cmpi .ne v523 v528
  let v530 : BitVec 32 := Scalar.remsi v517 c2_i32_308
  let c0_i32_313 : BitVec 32 := 0#32
  let v531 : BitVec 1 := Scalar.cmpi .ne v530 c0_i32_313
  let v532 : BitVec 1 := Scalar.andi v529 v531
  let v518 : BitVec 32 := Scalar.divsi v517 c2_i32_308
  let c1_i32_314 : BitVec 32 := 1#32
  let v533 : BitVec 32 := Scalar.subi v518 c1_i32_314
  let v534 : BitVec 32 := Scalar.select v532 v533 v518
  let v998 : BitVec 32 := Scalar.muli c2_i32_584 v534
  let c1_i32_585 : BitVec 32 := 1#32
  let v999 : BitVec 32 := Scalar.addi v998 c1_i32_585
  let c1_i32_43 : BitVec 32 := 1#32
  let v55 : BitVec 32 := Scalar.subi v54 c1_i32_43
  let c0_i32_44 : BitVec 32 := 0#32
  let v56 : BitVec 32 := Scalar.maxsi v55 c0_i32_44
  let v1000 : BitVec 32 := Scalar.minsi v999 v56
  let v1001 : BitVec 32 := Scalar.muli c8_i32_586 v1000
  v1001
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2x640x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x2x80x640 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S2x16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2x8192x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S1x2x64x80x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S1x2x32x80x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S1x2x8192x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 1 → Memref sig .tc .vmem S1x2x64x80x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 1 → Memref sig .tc .vmem S2x128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2x128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x128x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2x2x4x8192x64 : Shape := ⟨5, ![2, 2, 4, 8192, 64]⟩
abbrev S2x2x511x64 : Shape := ⟨4, ![2, 2, 511, 64]⟩
abbrev S2x2x8192x64 : Shape := ⟨4, ![2, 2, 8192, 64]⟩
abbrev S2x2x4x8192x3 : Shape := ⟨5, ![2, 2, 4, 8192, 3]⟩
abbrev S32x8 : Shape := ⟨2, ![32, 8]⟩
abbrev S_ : Shape := ⟨0, ![]⟩
abbrev S511 : Shape := ⟨1, ![511]⟩
abbrev S8192 : Shape := ⟨1, ![8192]⟩
abbrev S2x2x4x8192x1 : Shape := ⟨5, ![2, 2, 4, 8192, 1]⟩
abbrev S8192x1 : Shape := ⟨2, ![8192, 1]⟩
abbrev S1x511 : Shape := ⟨2, ![1, 511]⟩
abbrev S8192x511 : Shape := ⟨2, ![8192, 511]⟩
abbrev S2x2x4x8192x511 : Shape := ⟨5, ![2, 2, 4, 8192, 511]⟩
abbrev S8192x511x1 : Shape := ⟨3, ![8192, 511, 1]⟩
abbrev S8192x511x8 : Shape := ⟨3, ![8192, 511, 8]⟩
abbrev S8x8192x511 : Shape := ⟨3, ![8, 8192, 511]⟩
abbrev S2x4x8192x511 : Shape := ⟨4, ![2, 4, 8192, 511]⟩
abbrev S1x2x4x8192x511 : Shape := ⟨5, ![1, 2, 4, 8192, 511]⟩
abbrev S2x2x4x8192 : Shape := ⟨4, ![2, 2, 4, 8192]⟩
abbrev S1x1x1x8192x511 : Shape := ⟨5, ![1, 1, 1, 8192, 511]⟩
abbrev S2x8192x2x4x64 : Shape := ⟨5, ![2, 8192, 2, 4, 64]⟩
abbrev S2x8192x512 : Shape := ⟨3, ![2, 8192, 512]⟩

abbrev nBuf : Space → Nat
  | .hbm => 111
  | .vmem => 0
  | .smem => 0
  | _ => 0

abbrev bufTy : (tb : Table) → Fin (tcTables nBuf tb) → BufTy
  | .hbm, ⟨0, _⟩ => ⟨S2x2x4x8192x64, .f32⟩
  | .hbm, ⟨1, _⟩ => ⟨S2x2x511x64, .f32⟩
  | .hbm, ⟨2, _⟩ => ⟨S2x2x511x64, .f32⟩
  | .hbm, ⟨3, _⟩ => ⟨S2x2x8192x64, .f32⟩
  | .hbm, ⟨4, _⟩ => ⟨S2x2x8192x64, .f32⟩
  | .hbm, ⟨5, _⟩ => ⟨S2x2x8192x64, .f32⟩
  | .hbm, ⟨6, _⟩ => ⟨S2x2x8192x64, .f32⟩
  | .hbm, ⟨7, _⟩ => ⟨S2x2x4x8192x3, .f32⟩
  | .hbm, ⟨8, _⟩ => ⟨S32x8, .f32⟩
  | .hbm, ⟨9, _⟩ => ⟨S_, .f32⟩
  | .hbm, ⟨10, _⟩ => ⟨S511, .i32⟩
  | .hbm, ⟨11, _⟩ => ⟨S_, .i32⟩
  | .hbm, ⟨12, _⟩ => ⟨S511, .i32⟩
  | .hbm, ⟨13, _⟩ => ⟨S511, .i32⟩
  | .hbm, ⟨14, _⟩ => ⟨S_, .i32⟩
  | .hbm, ⟨15, _⟩ => ⟨S511, .i32⟩
  | .hbm, ⟨16, _⟩ => ⟨S511, .i32⟩
  | .hbm, ⟨17, _⟩ => ⟨S_, .i32⟩
  | .hbm, ⟨18, _⟩ => ⟨S511, .i32⟩
  | .hbm, ⟨19, _⟩ => ⟨S511, .i32⟩
  | .hbm, ⟨20, _⟩ => ⟨S8192, .i32⟩
  | .hbm, ⟨21, _⟩ => ⟨S_, .f32⟩
  | .hbm, ⟨22, _⟩ => ⟨S2x2x4x8192x64, .f32⟩
  | .hbm, ⟨23, _⟩ => ⟨S2x2x4x8192x64, .f32⟩
  | .hbm, ⟨24, _⟩ => ⟨S2x2x4x8192x1, .f32⟩
  | .hbm, ⟨25, _⟩ => ⟨S2x2x4x8192x1, .f32⟩
  | .hbm, ⟨26, _⟩ => ⟨S2x2x4x8192x1, .f32⟩
  | .hbm, ⟨27, _⟩ => ⟨S_, .f32⟩
  | .hbm, ⟨28, _⟩ => ⟨S2x2x4x8192x1, .f32⟩
  | .hbm, ⟨29, _⟩ => ⟨S2x2x4x8192x1, .f32⟩
  | .hbm, ⟨30, _⟩ => ⟨S_, .f32⟩
  | .hbm, ⟨31, _⟩ => ⟨S2x2x4x8192x1, .f32⟩
  | .hbm, ⟨32, _⟩ => ⟨S2x2x4x8192x1, .f32⟩
  | .hbm, ⟨33, _⟩ => ⟨S8192x1, .i32⟩
  | .hbm, ⟨34, _⟩ => ⟨S1x511, .i32⟩
  | .hbm, ⟨35, _⟩ => ⟨S8192x511, .i32⟩
  | .hbm, ⟨36, _⟩ => ⟨S8192x511, .i32⟩
  | .hbm, ⟨37, _⟩ => ⟨S8192x511, .i32⟩
  | .hbm, ⟨38, _⟩ => ⟨S2x2x4x8192x511, .f32⟩
  | .hbm, ⟨39, _⟩ => ⟨S_, .i32⟩
  | .hbm, ⟨40, _⟩ => ⟨S8192x511, .i32⟩
  | .hbm, ⟨41, _⟩ => ⟨S8192x511, .i32⟩
  | .hbm, ⟨42, _⟩ => ⟨S_, .i32⟩
  | .hbm, ⟨43, _⟩ => ⟨S8192x511, .i32⟩
  | .hbm, ⟨44, _⟩ => ⟨S8192x511, .i32⟩
  | .hbm, ⟨45, _⟩ => ⟨S8192x511, .f32⟩
  | .hbm, ⟨46, _⟩ => ⟨S_, .f32⟩
  | .hbm, ⟨47, _⟩ => ⟨S8192x511, .f32⟩
  | .hbm, ⟨48, _⟩ => ⟨S8192x511, .f32⟩
  | .hbm, ⟨49, _⟩ => ⟨S8192x511, .f32⟩
  | .hbm, ⟨50, _⟩ => ⟨S_, .f32⟩
  | .hbm, ⟨51, _⟩ => ⟨S8192x511, .f32⟩
  | .hbm, ⟨52, _⟩ => ⟨S8192x511, .f32⟩
  | .hbm, ⟨53, _⟩ => ⟨S_, .f32⟩
  | .hbm, ⟨54, _⟩ => ⟨S8192x511, .f32⟩
  | .hbm, ⟨55, _⟩ => ⟨S8192x511, .f32⟩
  | .hbm, ⟨56, _⟩ => ⟨S8192x511, .i32⟩
  | .hbm, ⟨57, _⟩ => ⟨S_, .i32⟩
  | .hbm, ⟨58, _⟩ => ⟨S8192x511, .i32⟩
  | .hbm, ⟨59, _⟩ => ⟨S8192x511, .i32⟩
  | .hbm, ⟨60, _⟩ => ⟨S_, .i32⟩
  | .hbm, ⟨61, _⟩ => ⟨S8192x511, .i32⟩
  | .hbm, ⟨62, _⟩ => ⟨S8192x511, .i32⟩
  | .hbm, ⟨63, _⟩ => ⟨S_, .i32⟩
  | .hbm, ⟨64, _⟩ => ⟨S8192x511, .i32⟩
  | .hbm, ⟨65, _⟩ => ⟨S8192x511, .i1⟩
  | .hbm, ⟨66, _⟩ => ⟨S8192x511, .i32⟩
  | .hbm, ⟨67, _⟩ => ⟨S_, .i32⟩
  | .hbm, ⟨68, _⟩ => ⟨S8192x511, .i32⟩
  | .hbm, ⟨69, _⟩ => ⟨S8192x511, .i1⟩
  | .hbm, ⟨70, _⟩ => ⟨S_, .i32⟩
  | .hbm, ⟨71, _⟩ => ⟨S8192x511, .i32⟩
  | .hbm, ⟨72, _⟩ => ⟨S8192x511, .i32⟩
  | .hbm, ⟨73, _⟩ => ⟨S8192x511, .i32⟩
  | .hbm, ⟨74, _⟩ => ⟨S8192x511x1, .i32⟩
  | .hbm, ⟨75, _⟩ => ⟨S8192x511x8, .f32⟩
  | .hbm, ⟨76, _⟩ => ⟨S8x8192x511, .f32⟩
  | .hbm, ⟨77, _⟩ => ⟨S2x4x8192x511, .f32⟩
  | .hbm, ⟨78, _⟩ => ⟨S1x2x4x8192x511, .f32⟩
  | .hbm, ⟨79, _⟩ => ⟨S2x2x4x8192x511, .f32⟩
  | .hbm, ⟨80, _⟩ => ⟨S2x2x4x8192x511, .f32⟩
  | .hbm, ⟨81, _⟩ => ⟨S_, .i32⟩
  | .hbm, ⟨82, _⟩ => ⟨S8192x511, .i32⟩
  | .hbm, ⟨83, _⟩ => ⟨S8192x511, .i1⟩
  | .hbm, ⟨84, _⟩ => ⟨S2x2x4x8192x511, .i1⟩
  | .hbm, ⟨85, _⟩ => ⟨S2x2x4x8192x511, .f32⟩
  | .hbm, ⟨86, _⟩ => ⟨S2x2x4x8192x511, .f32⟩
  | .hbm, ⟨87, _⟩ => ⟨S_, .f32⟩
  | .hbm, ⟨88, _⟩ => ⟨S2x2x4x8192, .f32⟩
  | .hbm, ⟨89, _⟩ => ⟨S_, .f32⟩
  | .hbm, ⟨90, _⟩ => ⟨S2x2x4x8192, .f32⟩
  | .hbm, ⟨91, _⟩ => ⟨S2x2x4x8192, .f32⟩
  | .hbm, ⟨92, _⟩ => ⟨S2x2x4x8192x1, .f32⟩
  | .hbm, ⟨93, _⟩ => ⟨S2x2x4x8192x511, .f32⟩
  | .hbm, ⟨94, _⟩ => ⟨S2x2x4x8192x511, .f32⟩
  | .hbm, ⟨95, _⟩ => ⟨S2x2x4x8192x511, .f32⟩
  | .hbm, ⟨96, _⟩ => ⟨S_, .f32⟩
  | .hbm, ⟨97, _⟩ => ⟨S2x2x4x8192, .f32⟩
  | .hbm, ⟨98, _⟩ => ⟨S2x2x4x8192x1, .f32⟩
  | .hbm, ⟨99, _⟩ => ⟨S2x2x4x8192x511, .f32⟩
  | .hbm, ⟨100, _⟩ => ⟨S2x2x4x8192x511, .f32⟩
  | .hbm, ⟨101, _⟩ => ⟨S8192x511, .f32⟩
  | .hbm, ⟨102, _⟩ => ⟨S1x1x1x8192x511, .f32⟩
  | .hbm, ⟨103, _⟩ => ⟨S2x2x4x8192x511, .f32⟩
  | .hbm, ⟨104, _⟩ => ⟨S2x2x4x8192x511, .f32⟩
  | .hbm, ⟨105, _⟩ => ⟨S2x2x4x8192x64, .f32⟩
  | .hbm, ⟨106, _⟩ => ⟨S2x2x4x8192x64, .f32⟩
  | .hbm, ⟨107, _⟩ => ⟨S2x2x4x8192x64, .f32⟩
  | .hbm, ⟨108, _⟩ => ⟨S2x8192x2x4x64, .f32⟩
  | .hbm, ⟨109, _⟩ => ⟨S2x8192x512, .f32⟩
  | .hbm, ⟨110, _⟩ => ⟨S2x8192x512, .bf16⟩
  | _, _ => ⟨S2x2x4x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_c_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_7 : Ref sig .tc := ⟨.hbm, 50, rfl⟩
abbrev main_v31 : Ref sig .tc := ⟨.hbm, 51, rfl⟩
abbrev main_v32 : Ref sig .tc := ⟨.hbm, 52, rfl⟩
abbrev main_cst_8 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_9 : Ref sig .tc := ⟨.hbm, 57, rfl⟩
abbrev main_v36 : Ref sig .tc := ⟨.hbm, 58, rfl⟩
abbrev main_v37 : Ref sig .tc := ⟨.hbm, 59, rfl⟩
abbrev main_c_10 : Ref sig .tc := ⟨.hbm, 60, rfl⟩
abbrev main_v38 : Ref sig .tc := ⟨.hbm, 61, rfl⟩
abbrev main_v39 : Ref sig .tc := ⟨.hbm, 62, rfl⟩
abbrev main_c_11 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_12 : Ref sig .tc := ⟨.hbm, 67, rfl⟩
abbrev main_v43 : Ref sig .tc := ⟨.hbm, 68, rfl⟩
abbrev main_v44 : Ref sig .tc := ⟨.hbm, 69, rfl⟩
abbrev main_c_13 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_c_14 : Ref sig .tc := ⟨.hbm, 81, rfl⟩
abbrev main_v55 : Ref sig .tc := ⟨.hbm, 82, rfl⟩
abbrev main_v56 : Ref sig .tc := ⟨.hbm, 83, rfl⟩
abbrev main_call1_v0 : Ref sig .tc := ⟨.hbm, 84, rfl⟩
abbrev main_call1_v1 : Ref sig .tc := ⟨.hbm, 85, rfl⟩
abbrev main_v57 : Ref sig .tc := ⟨.hbm, 86, rfl⟩
abbrev main_cst_15 : Ref sig .tc := ⟨.hbm, 87, rfl⟩
abbrev main_v58 : Ref sig .tc := ⟨.hbm, 88, rfl⟩
abbrev main_cst_16 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_17 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩

abbrev nD : Nat := 1
abbrev τ : Topo := Topo.v7x

variable {F : FTy → Type} [FloatOps F]
-- ==== Merge.lean ====
abbrev S2x8192x1024 : Shape := ⟨3, ![2, 8192, 1024]⟩
abbrev S2x8192x512 : Shape := ⟨3, ![2, 8192, 512]⟩
abbrev S1024x2048 : Shape := ⟨2, ![1024, 2048]⟩
abbrev S2048 : Shape := ⟨1, ![2048]⟩
abbrev S512x1024 : Shape := ⟨2, ![512, 1024]⟩
abbrev S1024x1024 : Shape := ⟨2, ![1024, 1024]⟩
abbrev S1024 : Shape := ⟨1, ![1024]⟩
abbrev S1x2048 : Shape := ⟨2, ![1, 2048]⟩
abbrev S1x1024 : Shape := ⟨2, ![1, 1024]⟩
abbrev S1x1024x1024 : Shape := ⟨3, ![1, 1024, 1024]⟩
abbrev S1x1024x512 : Shape := ⟨3, ![1, 1024, 512]⟩
abbrev S1x256x1024 : Shape := ⟨3, ![1, 256, 1024]⟩
abbrev S256x1024 : Shape := ⟨2, ![256, 1024]⟩
abbrev S256x2048 : Shape := ⟨2, ![256, 2048]⟩
abbrev S1x256x512 : Shape := ⟨3, ![1, 256, 512]⟩
abbrev S256x512 : Shape := ⟨2, ![256, 512]⟩
abbrev S256 : Shape := ⟨1, ![256]⟩
abbrev S256x1 : Shape := ⟨2, ![256, 1]⟩

abbrev nBuf : Space → Nat
  | .hbm => 20
  | .vmem => 15
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S1024x2048, .f32⟩
  | .hbm, ⟨4, _⟩ => ⟨S2048, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S2x8192x512, .bf16⟩
  | .hbm, ⟨11, _⟩ => ⟨S2x8192x512, .bf16⟩
  | .hbm, ⟨12, _⟩ => ⟨S1024x2048, .bf16⟩
  | .hbm, ⟨13, _⟩ => ⟨S1x2048, .f32⟩
  | .hbm, ⟨14, _⟩ => ⟨S512x1024, .bf16⟩
  | .hbm, ⟨15, _⟩ => ⟨S512x1024, .bf16⟩
  | .hbm, ⟨16, _⟩ => ⟨S1024x1024, .bf16⟩
  | .hbm, ⟨17, _⟩ => ⟨S1x1024, .f32⟩
  | .hbm, ⟨18, _⟩ => ⟨S1x1024, .f32⟩
  | .hbm, ⟨19, _⟩ => ⟨S2x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x2048, .bf16⟩
  | .local _ .vmem, ⟨7, _⟩ => ⟨S1x2048, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1x1024x1024, .f32⟩
  | .local _ .vmem, ⟨14, _⟩ => ⟨S1x1024x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MergeReferenceIdeal.lean ====
abbrev S2x8192x1024 : Shape := ⟨3, ![2, 8192, 1024]⟩
abbrev S2x8192x512 : Shape := ⟨3, ![2, 8192, 512]⟩
abbrev S1024x2048 : Shape := ⟨2, ![1024, 2048]⟩
abbrev S2048 : Shape := ⟨1, ![2048]⟩
abbrev S512x1024 : Shape := ⟨2, ![512, 1024]⟩
abbrev S1024x1024 : Shape := ⟨2, ![1024, 1024]⟩
abbrev S1024 : Shape := ⟨1, ![1024]⟩
abbrev S2x8192x2048 : Shape := ⟨3, ![2, 8192, 2048]⟩
abbrev S1x1x2048 : Shape := ⟨3, ![1, 1, 2048]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S1024x2048, .f32⟩
  | .hbm, ⟨4, _⟩ => ⟨S2048, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S2x8192x2048, .f32⟩
  | .hbm, ⟨11, _⟩ => ⟨S1x1x2048, .f32⟩
  | .hbm, ⟨12, _⟩ => ⟨S2x8192x2048, .f32⟩
  | .hbm, ⟨13, _⟩ => ⟨S2x8192x2048, .f32⟩
  | .hbm, ⟨14, _⟩ => ⟨S2x8192x1024, .f32⟩
  | .hbm, ⟨15, _⟩ => ⟨S2x8192x1024, .f32⟩
  | .hbm, ⟨16, _⟩ => ⟨S2x8192x1024, .f32⟩
  | .hbm, ⟨17, _⟩ => ⟨S2x8192x1024, .f32⟩
  | .hbm, ⟨18, _⟩ => ⟨S_, .f32⟩
  | .hbm, ⟨19, _⟩ => ⟨S2x8192x1024, .f32⟩
  | .hbm, ⟨20, _⟩ => ⟨S2x8192x1024, .f32⟩
  | .hbm, ⟨21, _⟩ => ⟨S_, .f32⟩
  | .hbm, ⟨22, _⟩ => ⟨S2x8192x1024, .f32⟩
  | .hbm, ⟨23, _⟩ => ⟨S2x8192x1024, .f32⟩
  | .hbm, ⟨24, _⟩ => ⟨S2x8192x1024, .f32⟩
  | .hbm, ⟨25, _⟩ => ⟨S2x8192x1024, .f32⟩
  | .hbm, ⟨26, _⟩ => ⟨S2x8192x1024, .f32⟩
  | .hbm, ⟨27, _⟩ => ⟨S2x8192x1024, .f32⟩
  | .hbm, ⟨28, _⟩ => ⟨S_, .f32⟩
  | .hbm, ⟨29, _⟩ => ⟨S2x8192x1024, .f32⟩
  | .hbm, ⟨30, _⟩ => ⟨S2x8192x1024, .f32⟩
  | .hbm, ⟨31, _⟩ => ⟨S_, .f32⟩
  | .hbm, ⟨32, _⟩ => ⟨S2x8192x1024, .f32⟩
  | .hbm, ⟨33, _⟩ => ⟨S2x8192x1024, .f32⟩
  | .hbm, ⟨34, _⟩ => ⟨S2x8192x1024, .f32⟩
  | .hbm, ⟨35, _⟩ => ⟨S2x8192x1024, .f32⟩
  | .hbm, ⟨36, _⟩ => ⟨S2x8192x1024, .f32⟩
  | .hbm, ⟨37, _⟩ => ⟨S_, .f32⟩
  | .hbm, ⟨38, _⟩ => ⟨S2x8192x1024, .f32⟩
  | .hbm, ⟨39, _⟩ => ⟨S2x8192x1024, .f32⟩
  | .hbm, ⟨40, _⟩ => ⟨S2x8192x1024, .f32⟩
  | .hbm, ⟨41, _⟩ => ⟨S2x8192x1024, .f32⟩
  | .hbm, ⟨42, _⟩ => ⟨S_, .f32⟩
  | .hbm, ⟨43, _⟩ => ⟨S2x8192, .f32⟩
  | .hbm, ⟨44, _⟩ => ⟨S2x8192x1, .f32⟩
  | .hbm, ⟨45, _⟩ => ⟨S_, .f32⟩
  | .hbm, ⟨46, _⟩ => ⟨S2x8192x1, .f32⟩
  | .hbm, ⟨47, _⟩ => ⟨S2x8192x1, .f32⟩
  | .hbm, ⟨48, _⟩ => ⟨S2x8192x1024, .f32⟩
  | .hbm, ⟨49, _⟩ => ⟨S2x8192x1024, .f32⟩
  | .hbm, ⟨50, _⟩ => ⟨S2x8192x1024, .f32⟩
  | .hbm, ⟨51, _⟩ => ⟨S_, .f32⟩
  | .hbm, ⟨52, _⟩ => ⟨S2x8192, .f32⟩
  | .hbm, ⟨53, _⟩ => ⟨S2x8192x1, .f32⟩
  | .hbm, ⟨54, _⟩ => ⟨S_, .f32⟩
  | .hbm, ⟨55, _⟩ => ⟨S2x8192x1, .f32⟩
  | .hbm, ⟨56, _⟩ => ⟨S2x8192x1, .f32⟩
  | .hbm, ⟨57, _⟩ => ⟨S2x8192x1024, .f32⟩
  | .hbm, ⟨58, _⟩ => ⟨S2x8192x1024, .f32⟩
  | .hbm, ⟨59, _⟩ => ⟨S_, .f32⟩
  | .hbm, ⟨60, _⟩ => ⟨S2x8192x1, .f32⟩
  | .hbm, ⟨61, _⟩ => ⟨S2x8192x1, .f32⟩
  | .hbm, ⟨62, _⟩ => ⟨S2x8192x1, .f32⟩
  | .hbm, ⟨63, _⟩ => ⟨S2x8192x1024, .f32⟩
  | .hbm, ⟨64, _⟩ => ⟨S2x8192x1024, .f32⟩
  | .hbm, ⟨65, _⟩ => ⟨S1x1x1024, .f32⟩
  | .hbm, ⟨66, _⟩ => ⟨S2x8192x1024, .f32⟩
  | .hbm, ⟨67, _⟩ => ⟨S2x8192x1024, .f32⟩
  | .hbm, ⟨68, _⟩ => ⟨S1x1x1024, .f32⟩
  | .hbm, ⟨69, _⟩ => ⟨S2x8192x1024, .f32⟩
  | .hbm, ⟨70, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== Ffn.lean ====
abbrev S2x8192x1024 : Shape := ⟨3, ![2, 8192, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S1x5632 : Shape := ⟨2, ![1, 5632]⟩
abbrev S_ : Shape := ⟨0, ![]⟩
abbrev S4x5632 : Shape := ⟨2, ![4, 5632]⟩
abbrev S8x5632 : Shape := ⟨2, ![8, 5632]⟩
abbrev S11x256x1024 : Shape := ⟨3, ![11, 256, 1024]⟩
abbrev S1x1024 : Shape := ⟨2, ![1, 1024]⟩
abbrev S1x256x1024 : Shape := ⟨3, ![1, 256, 1024]⟩
abbrev S22x8x256 : Shape := ⟨3, ![22, 8, 256]⟩
abbrev S256x1024 : Shape := ⟨2, ![256, 1024]⟩
abbrev S8x256 : Shape := ⟨2, ![8, 256]⟩
abbrev S1024x256 : Shape := ⟨2, ![1024, 256]⟩
abbrev S256x256 : Shape := ⟨2, ![256, 256]⟩
abbrev S1x8x256 : Shape := ⟨3, ![1, 8, 256]⟩
abbrev S1x256 : Shape := ⟨2, ![1, 256]⟩
abbrev S248x256 : Shape := ⟨2, ![248, 256]⟩
abbrev S256 : Shape := ⟨1, ![256]⟩
abbrev S256x1 : Shape := ⟨2, ![256, 1]⟩

abbrev nBuf : Space → Nat
  | .hbm => 17
  | .vmem => 10
  | .smem => 0
  | _ => 0

abbrev bufTy : (tb : Table) → Fin (tcTables nBuf tb) → BufTy
  | .hbm, ⟨0, _⟩ => ⟨S2x8192x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S1x5632, .f32⟩
  | .hbm, ⟨8, _⟩ => ⟨S_, .f32⟩
  | .hbm, ⟨9, _⟩ => ⟨S4x5632, .f32⟩
  | .hbm, ⟨10, _⟩ => ⟨S8x5632, .f32⟩
  | .hbm, ⟨11, _⟩ => ⟨S1024x5632, .bf16⟩
  | .hbm, ⟨12, _⟩ => ⟨S11x256x1024, .f32⟩
  | .hbm, ⟨13, _⟩ => ⟨S11x256x1024, .bf16⟩
  | .hbm, ⟨14, _⟩ => ⟨S1x1024, .f32⟩
  | .hbm, ⟨15, _⟩ => ⟨S1x1024, .f32⟩
  | .hbm, ⟨16, _⟩ => ⟨S2x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1024x5632, .bf16⟩
  | .local _ .vmem, ⟨3, _⟩ => ⟨S8x5632, .f32⟩
  | .local _ .vmem, ⟨4, _⟩ => ⟨S11x256x1024, .bf16⟩
  | .local _ .vmem, ⟨5, _⟩ => ⟨S1x1024, .f32⟩
  | .local _ .vmem, ⟨6, _⟩ => ⟨S1x1024, .f32⟩
  | .local _ .vmem, ⟨7, _⟩ => ⟨S1x256x1024, .f32⟩
  | .local _ .vmem, ⟨8, _⟩ => ⟨S1x256x1024, .f32⟩
  | .local _ .vmem, ⟨9, _⟩ => ⟨S22x8x256, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S11x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnReferenceIdeal.lean ====
abbrev S2x8192x1024 : Shape := ⟨3, ![2, 8192, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S2x8192x5632 : Shape := ⟨3, ![2, 8192, 5632]⟩
abbrev S_ : Shape := ⟨0, ![]⟩
abbrev S2x8194x5632 : Shape := ⟨3, ![2, 8194, 5632]⟩
abbrev S1x5632 : Shape := ⟨2, ![1, 5632]⟩
abbrev S1x1x5632 : Shape := ⟨3, ![1, 1, 5632]⟩
abbrev S2x8192x2816 : Shape := ⟨3, ![2, 8192, 2816]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 80
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S2x8192x5632, .f32⟩
  | .hbm, ⟨8, _⟩ => ⟨S_, .i32⟩
  | .hbm, ⟨9, _⟩ => ⟨S_, .f32⟩
  | .hbm, ⟨10, _⟩ => ⟨S2x8194x5632, .f32⟩
  | .hbm, ⟨11, _⟩ => ⟨S1x5632, .f32⟩
  | .hbm, ⟨12, _⟩ => ⟨S5632, .f32⟩
  | .hbm, ⟨13, _⟩ => ⟨S2x8192x5632, .f32⟩
  | .hbm, ⟨14, _⟩ => ⟨S1x1x5632, .f32⟩
  | .hbm, ⟨15, _⟩ => ⟨S2x8192x5632, .f32⟩
  | .hbm, ⟨16, _⟩ => ⟨S2x8192x5632, .f32⟩
  | .hbm, ⟨17, _⟩ => ⟨S1x1x5632, .f32⟩
  | .hbm, ⟨18, _⟩ => ⟨S2x8192x5632, .f32⟩
  | .hbm, ⟨19, _⟩ => ⟨S2x8192x5632, .f32⟩
  | .hbm, ⟨20, _⟩ => ⟨S1x5632, .f32⟩
  | .hbm, ⟨21, _⟩ => ⟨S5632, .f32⟩
  | .hbm, ⟨22, _⟩ => ⟨S2x8192x5632, .f32⟩
  | .hbm, ⟨23, _⟩ => ⟨S1x1x5632, .f32⟩
  | .hbm, ⟨24, _⟩ => ⟨S2x8192x5632, .f32⟩
  | .hbm, ⟨25, _⟩ => ⟨S2x8192x5632, .f32⟩
  | .hbm, ⟨26, _⟩ => ⟨S2x8192x5632, .f32⟩
  | .hbm, ⟨27, _⟩ => ⟨S1x5632, .f32⟩
  | .hbm, ⟨28, _⟩ => ⟨S5632, .f32⟩
  | .hbm, ⟨29, _⟩ => ⟨S2x8192x5632, .f32⟩
  | .hbm, ⟨30, _⟩ => ⟨S1x1x5632, .f32⟩
  | .hbm, ⟨31, _⟩ => ⟨S2x8192x5632, .f32⟩
  | .hbm, ⟨32, _⟩ => ⟨S2x8192x5632, .f32⟩
  | .hbm, ⟨33, _⟩ => ⟨S2x8192x5632, .f32⟩
  | .hbm, ⟨34, _⟩ => ⟨S2x8192x2816, .f32⟩
  | .hbm, ⟨35, _⟩ => ⟨S2x8192x2816, .f32⟩
  | .hbm, ⟨36, _⟩ => ⟨S_, .f32⟩
  | .hbm, ⟨37, _⟩ => ⟨S2x8192x1024, .f32⟩
  | .hbm, ⟨38, _⟩ => ⟨S2x8192x1024, .f32⟩
  | .hbm, ⟨39, _⟩ => ⟨S2x8192x2816, .f32⟩
  | .hbm, ⟨40, _⟩ => ⟨S2x8192x2816, .f32⟩
  | .hbm, ⟨41, _⟩ => ⟨S_, .f32⟩
  | .hbm, ⟨42, _⟩ => ⟨S2x8192x2816, .f32⟩
  | .hbm, ⟨43, _⟩ => ⟨S2x8192x2816, .f32⟩
  | .hbm, ⟨44, _⟩ => ⟨S_, .f32⟩
  | .hbm, ⟨45, _⟩ => ⟨S2x8192x2816, .f32⟩
  | .hbm, ⟨46, _⟩ => ⟨S2x8192x2816, .f32⟩
  | .hbm, ⟨47, _⟩ => ⟨S2x8192x2816, .f32⟩
  | .hbm, ⟨48, _⟩ => ⟨S2x8192x2816, .f32⟩
  | .hbm, ⟨49, _⟩ => ⟨S2x8192x1024, .f32⟩
  | .hbm, ⟨50, _⟩ => ⟨S2x8192x1024, .f32⟩
  | .hbm, ⟨51, _⟩ => ⟨S_, .f32⟩
  | .hbm, ⟨52, _⟩ => ⟨S2x8192, .f32⟩
  | .hbm, ⟨53, _⟩ => ⟨S2x8192x1, .f32⟩
  | .hbm, ⟨54, _⟩ => ⟨S_, .f32⟩
  | .hbm, ⟨55, _⟩ => ⟨S2x8192x1, .f32⟩
  | .hbm, ⟨56, _⟩ => ⟨S2x8192x1, .f32⟩
  | .hbm, ⟨57, _⟩ => ⟨S2x8192x1024, .f32⟩
  | .hbm, ⟨58, _⟩ => ⟨S2x8192x1024, .f32⟩
  | .hbm, ⟨59, _⟩ => ⟨S2x8192x1024, .f32⟩
  | .hbm, ⟨60, _⟩ => ⟨S_, .f32⟩
  | .hbm, ⟨61, _⟩ => ⟨S2x8192, .f32⟩
  | .hbm, ⟨62, _⟩ => ⟨S2x8192x1, .f32⟩
  | .hbm, ⟨63, _⟩ => ⟨S_, .f32⟩
  | .hbm, ⟨64, _⟩ => ⟨S2x8192x1, .f32⟩
  | .hbm, ⟨65, _⟩ => ⟨S2x8192x1, .f32⟩
  | .hbm, ⟨66, _⟩ => ⟨S2x8192x1024, .f32⟩
  | .hbm, ⟨67, _⟩ => ⟨S2x8192x1024, .f32⟩
  | .hbm, ⟨68, _⟩ => ⟨S_, .f32⟩
  | .hbm, ⟨69, _⟩ => ⟨S2x8192x1, .f32⟩
  | .hbm, ⟨70, _⟩ => ⟨S2x8192x1, .f32⟩
  | .hbm, ⟨71, _⟩ => ⟨S2x8192x1, .f32⟩
  | .hbm, ⟨72, _⟩ => ⟨S2x8192x1024, .f32⟩
  | .hbm, ⟨73, _⟩ => ⟨S2x8192x1024, .f32⟩
  | .hbm, ⟨74, _⟩ => ⟨S1x1x1024, .f32⟩
  | .hbm, ⟨75, _⟩ => ⟨S2x8192x1024, .f32⟩
  | .hbm, ⟨76, _⟩ => ⟨S2x8192x1024, .f32⟩
  | .hbm, ⟨77, _⟩ => ⟨S1x1x1024, .f32⟩
  | .hbm, ⟨78, _⟩ => ⟨S2x8192x1024, .f32⟩
  | .hbm, ⟨79, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst : Ref sig .tc := ⟨.hbm, 36, rfl⟩
abbrev main_v27 : Ref sig .tc := ⟨.hbm, 37, rfl⟩
abbrev main_v28 : Ref sig .tc := ⟨.hbm, 38, rfl⟩
abbrev main_call1_v0 : Ref sig .tc := ⟨.hbm, 39, rfl⟩
abbrev main_call1_v1 : Ref sig .tc := ⟨.hbm, 40, rfl⟩
abbrev main_call1_cst : Ref sig .tc := ⟨.hbm, 41, rfl⟩
abbrev main_call1_v2 : Ref sig .tc := ⟨.hbm, 42, rfl⟩
abbrev main_call1_v3 : Ref sig .tc := ⟨.hbm, 43, rfl⟩
abbrev main_call1_cst_0 : Ref sig .tc := ⟨.hbm, 44, rfl⟩
abbrev main_call1_v4 : Ref sig .tc := ⟨.hbm, 45, rfl⟩
abbrev main_call1_v5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_0 : Ref sig .tc := ⟨.hbm, 51, rfl⟩
abbrev main_v33 : Ref sig .tc := ⟨.hbm, 52, rfl⟩
abbrev main_v34 : Ref sig .tc := ⟨.hbm, 53, rfl⟩
abbrev main_cst_1 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_2 : Ref sig .tc := ⟨.hbm, 60, rfl⟩
abbrev main_v40 : Ref sig .tc := ⟨.hbm, 61, rfl⟩
abbrev main_v41 : Ref sig .tc := ⟨.hbm, 62, rfl⟩
abbrev main_cst_3 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_4 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩

abbrev nD : Nat := 1
abbrev τ : Topo := Topo.v7x

variable {F : FTy → Type} [FloatOps F]
-- ==== Proof.NSA.Held.lean ====
/-
  A program over a family of memrefs, each owned whole at contents that are named: what a program leaves in the family
  (`Tr`), and that it leaves some of the memrefs as they were (`Keep`), each with one rule for a load, a store, a
  sequence and a counted loop.
-/
module

public import Idealize.ShloMosaic.Lib.Pipeline.FrameBody
public import Idealize.ShloMosaic.Lib.Tactic
public import Idealize.ShloMosaic.Lib.Scf

@[expose] public section

noncomputable section

namespace Cert.Proof.NSA

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {nD : Nat} {τ : Topo} {sig : RefSig} {Val : EltTy → Type} {Λ : Labels}
variable {J : Type} [Fintype J] [DecidableEq J] {sh : J → Shape} {ty : J → EltTy}

local notation "𝕄" => MT nD τ sig Unit Val ℕ (UR sig nD τ) ℕ

/-- What a family of memrefs holds: the contents each reads. -/
abbrev St (Val : EltTy → Type) (sh : J → Shape) (ty : J → EltTy) : Type := (j : J) → (sh j).Idx → Val (ty j)

/-- Core `c` owns every memref of the family, at the contents `σ`. -/
def Held (c : Dev nD) (M : (j : J) → Memref sig .tc .vmem (sh j) (ty j)) (σ : St Val sh ty) : sProp 𝕄 :=
  bigSep Finset.univ fun j => owns (c : Thread nD τ) (M j) fullShare (σ j)

/-- One memref taken out of the family. -/
theorem Held_split (c : Dev nD) (M : (j : J) → Memref sig .tc .vmem (sh j) (ty j)) (σ : St Val sh ty) (j : J) :
    (Held c M σ : sProp 𝕄) = iprop(owns (c : Thread nD τ) (M j) fullShare (σ j)
      ∗ bigSep (Finset.univ.erase j) fun j => owns (c : Thread nD τ) (M j) fullShare (σ j)) :=
  bigSep_univ_split j

/-- and put back at other contents. -/
theorem Held_update (c : Dev nD) (M : (j : J) → Memref sig .tc .vmem (sh j) (ty j)) (σ : St Val sh ty) (j : J) (X : (sh j).Idx → Val (ty j)) :
    (Held c M (Function.update σ j X) : sProp 𝕄) = iprop(owns (c : Thread nD τ) (M j) fullShare X
      ∗ bigSep (Finset.univ.erase j) fun j => owns (c : Thread nD τ) (M j) fullShare (σ j)) := by
  rw [Held_split c M _ j, Function.update_self]
  congr 1
  refine bigSep_congr fun k hk => ?_
  rw [Function.update_of_ne (Finset.ne_of_mem_erase hk)]

section Rules

variable (defs : Defs nD τ sig Val Λ) (𝒱 : Variants) (c : Dev nD) (M : (j : J) → Memref sig .tc .vmem (sh j) (ty j))

/-- From the family at `σ`, the program ends with a result and a family of which `Q` holds. -/
def Tr {α : Type} (σ : St Val sh ty) (p : Prog (TpuEff nD τ sig Val Λ .tc) α) (Q : α → St Val sh ty → Prop) : Prop :=
  (Held c M σ : sProp 𝕄) ⊢ wp frame (wpE defs 𝒱 (c : Thread nD τ) none) Set.univ p
    (fun x => iprop(∃ σ', ⌜Q x σ'⌝ ∗ Held c M σ'))

variable {defs 𝒱 c M}

theorem Tr.pure {α : Type} {σ : St Val sh ty} {Q : α → St Val sh ty → Prop} {a : α} (h : Q a σ) :
    Tr defs 𝒱 c M σ (Pure.pure a) Q := by
  unfold Tr
  show _ ⊢ wp frame _ Set.univ (.ret a) _
  rw [wp_ret]
  iintro H; imodintro
  iexists σ; isplitr
  · ipureintro; exact h
  · iexact H

theorem Tr.mono {α : Type} {σ : St Val sh ty} {p : Prog (TpuEff nD τ sig Val Λ .tc) α} {Q Q' : α → St Val sh ty → Prop}
    (h : Tr defs 𝒱 c M σ p Q) (hQ : ∀ x σ', Q x σ' → Q' x σ') : Tr defs 𝒱 c M σ p Q' := by
  unfold Tr at h ⊢
  iintro H
  iapply (wp_wand_r frame _ Set.univ)
  isplitl [H]
  · iapply h; iexact H
  · iintro %x ⟨%σ', %hσ, H⟩
    iexists σ'; isplitr
    · ipureintro; exact hQ x σ' hσ
    · iexact H

theorem Tr.bind {α β : Type} {σ : St Val sh ty} {p : Prog (TpuEff nD τ sig Val Λ .tc) α}
    {k : α → Prog (TpuEff nD τ sig Val Λ .tc) β} {R : α → St Val sh ty → Prop} {Q : β → St Val sh ty → Prop}
    (h : Tr defs 𝒱 c M σ p R) (hk : ∀ x σ', R x σ' → Tr defs 𝒱 c M σ' (k x) Q) : Tr defs 𝒱 c M σ (p >>= k) Q := by
  unfold Tr at h hk ⊢
  rw [wp_bind]
  iintro H
  iapply (wp_wand_r frame _ Set.univ)
  isplitl [H]
  · iapply h; iexact H
  · iintro %x ⟨%σ', %hσ, H⟩
    iapply (hk x σ' hσ); iexact H

theorem Tr.load {σ : St Val sh ty} (j : J) {r : Rect (sh j)} {hl : (M j).view.LoadsAt r.toLoadRect}
    {Q : (r.shape.Idx → Val (ty j)) → St Val sh ty → Prop} (h : Q (View.ld (σ j) r) σ) :
    Tr defs 𝒱 c M σ (Prog.lift (.load (M j) r.toLoadRect hl)) Q := by
  unfold Tr
  rw [Held_split c M σ j]
  unfold owns
  iintro ⟨⟨%f, %hf, Hj⟩, Hr⟩
  iapply (wp_load 𝒱 (c : Thread nD τ) none Set.univ (m := M j) ((M j).view.setOn_subset_set _)) $$ Hj
  iintro Hj
  rw [wp_ret]; imodintro
  iexists σ; isplitr
  · ipureintro; rw [View.readAt_eq_ld, hf]; exact h
  · iapply (show _ ⊢ (Held c M σ : sProp 𝕄) from by rw [Held_split c M σ j])
    isplitl [Hj]
    · unfold owns; iexists f; isplitr
      · ipureintro; exact hf
      · iexact Hj
    · iexact Hr

theorem Tr.store {σ : St Val sh ty} (j : J) {r : Rect (sh j)} {w : r.shape.Idx → Val (ty j)}
    {hx : ((M j).access r).Stores Finset.univ} {hm : (Finset.univ : Finset r.shape.Idx) = Finset.univ ∨ ∀ a, r.stride a = 1}
    {Q : PUnit → St Val sh ty → Prop} (h : Q ⟨⟩ (Function.update σ j (r.overlay (σ j) w))) :
    Tr defs 𝒱 c M σ (Prog.lift (.store (M j) r w Finset.univ hx hm)) Q := by
  unfold Tr
  rw [Held_split c M σ j]
  unfold owns
  iintro ⟨⟨%f, %hf, Hj⟩, Hr⟩
  iapply (wp_store 𝒱 (c : Thread nD τ) none Set.univ (m := M j) (Memref.setOn_access_subset (M j) r Finset.univ)) $$ Hj
  iintro Hj
  rw [wp_ret]; imodintro
  iexists (Function.update σ j (r.overlay (σ j) w)); isplitr
  · ipureintro; exact h
  · iapply (show _ ⊢ (Held c M (Function.update σ j (r.overlay (σ j) w)) : sProp 𝕄) from by rw [Held_update c M σ j])
    isplitl [Hj]
    · unfold owns; iexists _; isplitr
      rotate_left
      · iexact Hj
      · ipureintro
        funext y
        by_cases hy : y ∈ r.set
        · obtain ⟨x, rfl⟩ : ∃ x, r.emb x = y := r.exists_idx_of_mem hy
          rw [Rect.overlay_emb]
          exact View.read_slice_write_emb r f w (Finset.mem_univ x)
        · rw [Rect.overlay_of_not_mem _ _ _ hy, ← hf]
          exact View.read_slice_write_of_not_mem r f w _ (by rwa [Rect.map_emb_univ])
    · iexact Hr

/-- The program leaves the memrefs of `K` as it finds them. -/
def Keep (defs : Defs nD τ sig Val Λ) (𝒱 : Variants) (c : Dev nD) (M : (j : J) → Memref sig .tc .vmem (sh j) (ty j))
    (K : J → Bool) {α : Type} (p : Prog (TpuEff nD τ sig Val Λ .tc) α) : Prop :=
  ∀ σ : St Val sh ty, Tr defs 𝒱 c M σ p fun _ σ' => ∀ j, K j = true → σ' j = σ j

variable {K : J → Bool}

theorem Keep.pure {α : Type} {a : α} : Keep defs 𝒱 c M K (Pure.pure a) := fun _ => Tr.pure fun _ _ => rfl

theorem Keep.bind {α β : Type} {p : Prog (TpuEff nD τ sig Val Λ .tc) α} {k : α → Prog (TpuEff nD τ sig Val Λ .tc) β}
    (h : Keep defs 𝒱 c M K p) (hk : ∀ x, Keep defs 𝒱 c M K (k x)) : Keep defs 𝒱 c M K (p >>= k) := fun σ =>
  (h σ).bind fun x σ' h' => (hk x σ').mono fun _ σ'' h'' j hj => (h'' j hj).trans (h' j hj)

theorem Keep.load (j : J) {r : Rect (sh j)} {hl : (M j).view.LoadsAt r.toLoadRect} :
    Keep defs 𝒱 c M K (Prog.lift (.load (M j) r.toLoadRect hl)) := fun _ => Tr.load j fun _ _ => rfl

theorem Keep.store (j : J) {r : Rect (sh j)} {w : r.shape.Idx → Val (ty j)}
    {hx : ((M j).access r).Stores Finset.univ} {hm : (Finset.univ : Finset r.shape.Idx) = Finset.univ ∨ ∀ a, r.stride a = 1}
    (hj : K j = false) :
    Keep defs 𝒱 c M K (Prog.lift (.store (M j) r w Finset.univ hx hm)) := fun σ => Tr.store j fun k hk => by
  rw [Function.update_of_ne]; rintro rfl; rw [hj] at hk; exact Bool.false_ne_true hk

theorem Keep.dite {α : Type} {P : Prop} [Decidable P] {p : P → Prog (TpuEff nD τ sig Val Λ .tc) α} {q : ¬P → Prog (TpuEff nD τ sig Val Λ .tc) α}
    (hp : ∀ h, Keep defs 𝒱 c M K (p h)) (hq : ∀ h, Keep defs 𝒱 c M K (q h)) : Keep defs 𝒱 c M K (dite P p q) := by
  by_cases h : P
  · rw [dif_pos h]; exact hp h
  · rw [dif_neg h]; exact hq h

/-- A counted loop, of what every trip keeps of the family (`I k acc`, before trip `k`). -/
theorem Tr.for {α : Type} {l : Scf.Loop 32} {hok : l.OK} {init : α} {body : Fin l.trips → α → Prog (TpuEff nD τ sig Val Λ .tc) α}
    (I : ℕ → α → St Val sh ty → Prop) {σ : St Val sh ty} (h0 : I 0 init σ)
    (hb : ∀ (k : Fin l.trips) acc σ', I k acc σ' → Tr defs 𝒱 c M σ' (body k acc) (I (k.val + 1))) :
    Tr defs 𝒱 c M σ (Scf.Loop.for l hok init body) (I l.trips) := by
  unfold Tr
  iintro H
  iapply (Scf.wp_for frame _ Set.univ l.lb l.ub l.st hok init body (fun k acc => iprop(∃ σ', ⌜I k acc σ'⌝ ∗ Held c M σ')) (by
    intro k acc
    iintro ⟨%σ', %hσ, H⟩
    iapply (show (Held c M σ' : sProp 𝕄) ⊢ _ from hb k acc σ' hσ); iexact H))
  isplitl [H]
  · iexists σ; isplitr
    · ipureintro; exact h0
    · iexact H
  · iintro %acc H; iexact H

theorem Keep.for {α : Type} {l : Scf.Loop 32} {hok : l.OK} {init : α} {body : Fin l.trips → α → Prog (TpuEff nD τ sig Val Λ .tc) α}
    (hb : ∀ k acc, Keep defs 𝒱 c M K (body k acc)) : Keep defs 𝒱 c M K (Scf.Loop.for l hok init body) := fun σ =>
  Tr.for (fun _ _ σ' => ∀ j, K j = true → σ' j = σ j) (fun _ _ => rfl) fun k acc σ' h =>
    (hb k acc σ').mono fun _ _ h' j hj => (h' j hj).trans (h j hj)

theorem Keep.tr {α : Type} {p : Prog (TpuEff nD τ sig Val Λ .tc) α} (h : Keep defs 𝒱 c M K p) (σ : St Val sh ty) :
    Tr defs 𝒱 c M σ p fun _ σ' => ∀ j, K j = true → σ' j = σ j := h σ

theorem Keep.of {α : Type} {p : Prog (TpuEff nD τ sig Val Λ .tc) α}
    (h : ∀ σ, Tr defs 𝒱 c M σ p fun _ σ' => ∀ j, K j = true → σ' j = σ j) : Keep defs 𝒱 c M K p := h

theorem Tr.entails {α : Type} {σ : St Val sh ty} {p : Prog (TpuEff nD τ sig Val Λ .tc) α} {Q : α → St Val sh ty → Prop}
    (h : Tr defs 𝒱 c M σ p Q) : (Held c M σ : sProp 𝕄) ⊢ wp frame (wpE defs 𝒱 (c : Thread nD τ) none) Set.univ p
    (fun x => iprop(∃ σ', ⌜Q x σ'⌝ ∗ Held c M σ')) := h

end Rules

attribute [irreducible] Tr Keep

end Cert.Proof.NSA

end
-- ==== Proof.NSA.P.Keep96.lean ====
/-
  The first switch — the compressed branch and its selection — keeps the kernel's operands.
-/
module

public import proofs.«01_k».proof.Proof.NSA.P.Mem

@[expose] public section

noncomputable section

namespace Cert.Proof.NSA.P

open Cert.Kernel
open Idealize.ShloMosaic Idealize.ShloMosaic.TcCoe Idealize.ShloMosaic.Tactic
open Idealize.SL Idealize.SL.RA Idealize.SL.BI
open Idealize.SL.Sem
open Idealize.ShloMosaic.Rounds

variable {F : FTy → Type} [FloatOps F] [Facts]

variable (𝒱 : Variants) (c : Dev nD) (M : (j : B) → Memref sig .tc .vmem (sh j) (ty j)) (hM : ∀ j, (M j).IsWhole)

set_option maxRecDepth 65536 in
set_option maxHeartbeats 40000000 in
theorem keep_96 (i : grid0.Coords) arg1 v0 v1 v14 v23 v33 v35 v56 v57 c1_i32_45 : Keep (defs₀ (F := F)) 𝒱 c M inp
    (k0_part96 i (M .a2) (hM .a2) (M .a3) (hM .a3) (M .a4) (hM .a4) (M .a5) (hM .a5) (M .a6) (hM .a6) (M .a7) (hM .a7)
      (M .a8) (hM .a8) (M .a9) (hM .a9) (M .a10) (hM .a10) (M .a11) (hM .a11) (M .a12) (hM .a12) (M .a13) (hM .a13)
      (M .a14) (hM .a14) (M .a15) (hM .a15) (M .a16) (hM .a16) (M .a17) (hM .a17) (M .a18) (hM .a18) (M .a19) (hM .a19)
      (M .a20) (hM .a20) (M .a21) (hM .a21) (M .a22) (hM .a22) (M .a23) (hM .a23) (M .a24) (hM .a24) (M .a25) (hM .a25)
      (M .a26) (hM .a26) (M .a27) (hM .a27) (M .a28) (hM .a28) arg1 v0 v1 v14 v23 v33 v35 v56 v57 c1_i32_45) := by
  repeat' first
    | intro _
    | with_reducible exact Keep.pure
    | with_reducible exact Keep.load _
    | with_reducible exact Keep.store _ rfl
    | with_reducible refine Keep.for ?_
    | refine Keep.bind ?_ ?_
    | refine Keep.dite ?_ ?_

end Cert.Proof.NSA.P

end
-- ==== Proof.NSA.P.Keep97.lean ====
/-
  The second switch — the selection's threshold — keeps the kernel's operands.
-/
module

public import proofs.«01_k».proof.Proof.NSA.P.Mem

@[expose] public section

noncomputable section

namespace Cert.Proof.NSA.P

open Cert.Kernel
open Idealize.ShloMosaic Idealize.ShloMosaic.TcCoe Idealize.ShloMosaic.Tactic
open Idealize.SL Idealize.SL.RA Idealize.SL.BI
open Idealize.SL.Sem
open Idealize.ShloMosaic.Rounds

variable {F : FTy → Type} [FloatOps F] [Facts]

variable (𝒱 : Variants) (c : Dev nD) (M : (j : B) → Memref sig .tc .vmem (sh j) (ty j)) (hM : ∀ j, (M j).IsWhole)

set_option maxRecDepth 65536 in
set_option maxHeartbeats 40000000 in
theorem keep_97 (i : grid0.Coords) arg1 v0 v54 v80_3 v86 v94 v95 v100 : Keep (defs₀ (F := F)) 𝒱 c M inp
    (k0_part97 i (M .a2) (hM .a2) (M .a3) (hM .a3) (M .a4) (hM .a4) (M .a5) (hM .a5) (M .a6) (hM .a6) (M .a7) (hM .a7)
      (M .a8) (hM .a8) (M .a9) (hM .a9) (M .a10) (hM .a10) (M .a11) (hM .a11) (M .a12) (hM .a12) (M .a13) (hM .a13)
      (M .a14) (hM .a14) (M .a15) (hM .a15) (M .a16) (hM .a16) (M .a17) (hM .a17) (M .a18) (hM .a18) (M .a19) (hM .a19)
      (M .a20) (hM .a20) (M .a21) (hM .a21) (M .a22) (hM .a22) (M .a23) (hM .a23) (M .a24) (hM .a24) (M .a25) (hM .a25)
      (M .a26) (hM .a26) (M .a27) (hM .a27) (M .a28) (hM .a28) arg1 v0 v54 v80_3 v86 v94 v95 v100) := by
  repeat' first
    | intro _
    | with_reducible exact Keep.pure
    | with_reducible exact Keep.load _
    | with_reducible exact Keep.store _ rfl
    | with_reducible refine Keep.for ?_
    | refine Keep.bind ?_ ?_
    | refine Keep.dite ?_ ?_

end Cert.Proof.NSA.P

end
-- ==== Proof.NSA.P.Keep109.lean ====
/-
  The loops over the far tiles keep the kernel's operands.
-/
module

public import proofs.«01_k».proof.Proof.NSA.P.Mem

@[expose] public section

noncomputable section

namespace Cert.Proof.NSA.P

open Cert.Kernel
open Idealize.ShloMosaic Idealize.ShloMosaic.TcCoe Idealize.ShloMosaic.Tactic
open Idealize.SL Idealize.SL.RA Idealize.SL.BI
open Idealize.SL.Sem
open Idealize.ShloMosaic.Rounds

variable {F : FTy → Type} [FloatOps F] [Facts]

variable (𝒱 : Variants) (c : Dev nD) (M : (j : B) → Memref sig .tc .vmem (sh j) (ty j)) (hM : ∀ j, (M j).IsWhole)

set_option maxRecDepth 65536 in
set_option maxHeartbeats 40000000 in
theorem keep_109 (i : grid0.Coords) v14 v23 v54 v56 v534 c2_i32_315 v535 v546 : Keep (defs₀ (F := F)) 𝒱 c M inp
    (k0_part109 i (M .a2) (hM .a2) (M .a3) (hM .a3) (M .a4) (hM .a4) (M .a5) (hM .a5) (M .a6) (hM .a6) (M .a7) (hM .a7)
      (M .a8) (hM .a8) (M .a9) (hM .a9) (M .a10) (hM .a10) (M .a11) (hM .a11) (M .a12) (hM .a12) (M .a13) (hM .a13)
      (M .a14) (hM .a14) (M .a15) (hM .a15) (M .a16) (hM .a16) (M .a17) (hM .a17) (M .a18) (hM .a18) (M .a19) (hM .a19)
      (M .a20) (hM .a20) (M .a21) (hM .a21) (M .a22) (hM .a22) (M .a23) (hM .a23) (M .a24) (hM .a24) (M .a25) (hM .a25)
      (M .a26) (hM .a26) (M .a27) (hM .a27) (M .a28) (hM .a28) v14 v23 v54 v56 v534 c2_i32_315 v535 v546) := by
  repeat' first
    | intro _
    | with_reducible exact Keep.pure
    | with_reducible exact Keep.load _
    | with_reducible exact Keep.store _ rfl
    | with_reducible refine Keep.for ?_
    | with_reducible refine Keep.dite ?_ ?_
    | refine Keep.bind ?_ ?_

end Cert.Proof.NSA.P

end
-- ==== Proof.NSA.P.KeepBody.lean ====
/-
  The kernel's body keeps its operands.
-/
module

public import proofs.«01_k».proof.Proof.NSA.P.Keep96
public import proofs.«01_k».proof.Proof.NSA.P.Keep97
public import proofs.«01_k».proof.Proof.NSA.P.Keep109

@[expose] public section

noncomputable section

namespace Cert.Proof.NSA.P

open Cert.Kernel
open Idealize.ShloMosaic Idealize.ShloMosaic.TcCoe Idealize.ShloMosaic.Tactic
open Idealize.SL Idealize.SL.RA Idealize.SL.BI
open Idealize.SL.Sem
open Idealize.ShloMosaic.Rounds

variable {F : FTy → Type} [FloatOps F] [Facts]

variable (𝒱 : Variants) (c : Dev nD) (M : (j : B) → Memref sig .tc .vmem (sh j) (ty j)) (hM : ∀ j, (M j).IsWhole)

set_option maxRecDepth 65536 in
set_option maxHeartbeats 40000000 in
theorem keep_body (i : grid0.Coords) : Keep (defs₀ (F := F)) 𝒱 c M inp
    (cc0_sparse_attention i (M .a2) (hM .a2) (M .a3) (hM .a3) (M .a4) (hM .a4) (M .a5) (hM .a5) (M .a6) (hM .a6) (M .a7) (hM .a7)
      (M .a8) (hM .a8) (M .a9) (hM .a9) (M .a10) (hM .a10) (M .a11) (hM .a11) (M .a12) (hM .a12) (M .a13) (hM .a13)
      (M .a14) (hM .a14) (M .a15) (hM .a15) (M .a16) (hM .a16) (M .a17) (hM .a17) (M .a18) (hM .a18) (M .a19) (hM .a19)
      (M .a20) (hM .a20) (M .a21) (hM .a21) (M .a22) (hM .a22) (M .a23) (hM .a23) (M .a24) (hM .a24) (M .a25) (hM .a25)
      (M .a26) (hM .a26) (M .a27) (hM .a27) (M .a28) (hM .a28)) := by
  repeat' first
    | intro _
    | with_reducible exact Keep.pure
    | with_reducible exact Keep.load _
    | with_reducible exact Keep.store _ rfl
    | with_reducible exact keep_96 _ _ _ _ _ _ _ _ _ _ _ _ _ _ _
    | with_reducible exact keep_97 _ _ _ _ _ _ _ _ _ _ _ _ _
    | with_reducible exact keep_109 _ _ _ _ _ _ _ _ _ _ _ _ _
    | with_reducible refine Keep.for ?_
    | refine Keep.bind ?_ ?_
    | refine Keep.dite ?_ ?_
    | exact Keep.pure

end Cert.Proof.NSA.P

end
-- ==== Proof.NSA.PI.Mem.lean ====
/-
  The memrefs of the attention kernel as one family, and what its body keeps of them.
-/
module

public import proofs.«01_k».proof.KernelIdeal
public import proofs.«01_k».proof.Proof.NSA.Held

@[expose] public section

noncomputable section

namespace Cert.Proof.NSA.PI

open Cert.KernelIdeal
open Idealize.ShloMosaic Idealize.ShloMosaic.TcCoe Idealize.ShloMosaic.Tactic
open Idealize.SL Idealize.SL.RA Idealize.SL.BI
open Idealize.SL.Sem
open Idealize.ShloMosaic.Rounds

/-- The kernel's memrefs: thirteen operands, the result, thirteen scratch buffers. -/
inductive B
  | a2 | a3 | a4 | a5 | a6 | a7 | a8 | a9 | a10 | a11 | a12 | a13 | a14
  | a15
  | a16 | a17 | a18 | a19 | a20 | a21 | a22 | a23 | a24 | a25 | a26 | a27 | a28
  deriving DecidableEq

/-- All of them, in order. -/
def B.all : List B :=
  [.a2, .a3, .a4, .a5, .a6, .a7, .a8, .a9, .a10, .a11, .a12, .a13, .a14, .a15, .a16, .a17, .a18, .a19, .a20, .a21, .a22, .a23, .a24, .a25, .a26, .a27, .a28]

instance : Fintype B := ⟨B.all.toFinset, fun x => by cases x <;> decide⟩

/-- Their shapes, -/
@[reducible] def sh : B → Shape
  | .a2 => S1x8x128x128 | .a3 => S1x128x128 | .a4 => S128x640 | .a5 => S1x2x640x128 | .a6 => S1x2x80x640
  | .a7 => S2x16x512 | .a8 => S1x2x8192x256 | .a9 => S1x2x64x80x128 | .a10 => S1x2x32x80x256
  | .a11 => S1x2x8192x128 | .a12 => S1x2x64x80x128 | .a13 => S2x128x512 | .a14 => S2x128x512
  | .a15 => S1x128x512
  | .a16 => S2x640x512 | .a17 => S2x256x512 | .a18 => S2x1x512 | .a19 => S2x80x512 | .a20 => S2x128x512
  | .a21 => S512x512 | .a22 => S512x512 | .a23 => S512x512 | .a24 => S512x512
  | .a25 => S8x512 | .a26 => S8x512 | .a27 => S8x512 | .a28 => S8x512

/-- their element types, -/
@[reducible] def ty : B → EltTy
  | .a2 => .bf16 | .a3 => .f32 | .a4 => .bf16 | .a5 => .bf16 | .a6 => .bf16
  | .a7 => .f32 | .a8 => .bf16 | .a9 => .bf16 | .a10 => .bf16
  | .a11 => .bf16 | .a12 => .bf16 | .a13 => .f32 | .a14 => .f32
  | .a15 => .bf16
  | .a16 => .f32 | .a17 => .bf16 | .a18 => .f32 | .a19 => .f32 | .a20 => .f32
  | .a21 => .f32 | .a22 => .f32 | .a23 => .f32 | .a24 => .f32
  | .a25 => .f32 | .a26 => .f32 | .a27 => .f32 | .a28 => .f32

/-- and which are operands, that the kernel only reads. -/
@[reducible] def inp : B → Bool
  | .a2 => true | .a3 => true | .a4 => true | .a5 => true | .a6 => true | .a7 => true | .a8 => true | .a9 => true
  | .a10 => true | .a11 => true | .a12 => true | .a13 => true | .a14 => true
  | _ => false

end Cert.Proof.NSA.PI

end
-- ==== Proof.NSA.PI.Keep96.lean ====
/-
  The first switch — the compressed branch and its selection — keeps the kernel's operands.
-/
module

public import proofs.«01_k».proof.Proof.NSA.PI.Mem

@[expose] public section

noncomputable section

namespace Cert.Proof.NSA.PI

open Cert.KernelIdeal
open Idealize.ShloMosaic Idealize.ShloMosaic.TcCoe Idealize.ShloMosaic.Tactic
open Idealize.SL Idealize.SL.RA Idealize.SL.BI
open Idealize.SL.Sem
open Idealize.ShloMosaic.Rounds

variable {F : FTy → Type} [FloatOps F] [Named F] [Facts]

variable (𝒱 : Variants) (c : Dev nD) (M : (j : B) → Memref sig .tc .vmem (sh j) (ty j)) (hM : ∀ j, (M j).IsWhole)

set_option maxRecDepth 65536 in
set_option maxHeartbeats 40000000 in
theorem keep_96 (i : grid0.Coords) arg1 v0 v1 v14 v23 v33 v35 v56 v57 c1_i32_45 : Keep (defs₀ (F := F)) 𝒱 c M inp
    (k0_part96 i (M .a2) (hM .a2) (M .a3) (hM .a3) (M .a4) (hM .a4) (M .a5) (hM .a5) (M .a6) (hM .a6) (M .a7) (hM .a7)
      (M .a8) (hM .a8) (M .a9) (hM .a9) (M .a10) (hM .a10) (M .a11) (hM .a11) (M .a12) (hM .a12) (M .a13) (hM .a13)
      (M .a14) (hM .a14) (M .a15) (hM .a15) (M .a16) (hM .a16) (M .a17) (hM .a17) (M .a18) (hM .a18) (M .a19) (hM .a19)
      (M .a20) (hM .a20) (M .a21) (hM .a21) (M .a22) (hM .a22) (M .a23) (hM .a23) (M .a24) (hM .a24) (M .a25) (hM .a25)
      (M .a26) (hM .a26) (M .a27) (hM .a27) (M .a28) (hM .a28) arg1 v0 v1 v14 v23 v33 v35 v56 v57 c1_i32_45) := by
  repeat' first
    | intro _
    | with_reducible exact Keep.pure
    | with_reducible exact Keep.load _
    | with_reducible exact Keep.store _ rfl
    | with_reducible refine Keep.for ?_
    | refine Keep.bind ?_ ?_
    | refine Keep.dite ?_ ?_

end Cert.Proof.NSA.PI

end
-- ==== Proof.NSA.PI.Keep97.lean ====
/-
  The second switch — the selection's threshold — keeps the kernel's operands.
-/
module

public import proofs.«01_k».proof.Proof.NSA.PI.Mem

@[expose] public section

noncomputable section

namespace Cert.Proof.NSA.PI

open Cert.KernelIdeal
open Idealize.ShloMosaic Idealize.ShloMosaic.TcCoe Idealize.ShloMosaic.Tactic
open Idealize.SL Idealize.SL.RA Idealize.SL.BI
open Idealize.SL.Sem
open Idealize.ShloMosaic.Rounds

variable {F : FTy → Type} [FloatOps F] [Named F] [Facts]

variable (𝒱 : Variants) (c : Dev nD) (M : (j : B) → Memref sig .tc .vmem (sh j) (ty j)) (hM : ∀ j, (M j).IsWhole)

set_option maxRecDepth 65536 in
set_option maxHeartbeats 40000000 in
theorem keep_97 (i : grid0.Coords) arg1 v0 v54 v80_3 v86 v94 v95 v100 : Keep (defs₀ (F := F)) 𝒱 c M inp
    (k0_part97 i (M .a2) (hM .a2) (M .a3) (hM .a3) (M .a4) (hM .a4) (M .a5) (hM .a5) (M .a6) (hM .a6) (M .a7) (hM .a7)
      (M .a8) (hM .a8) (M .a9) (hM .a9) (M .a10) (hM .a10) (M .a11) (hM .a11) (M .a12) (hM .a12) (M .a13) (hM .a13)
      (M .a14) (hM .a14) (M .a15) (hM .a15) (M .a16) (hM .a16) (M .a17) (hM .a17) (M .a18) (hM .a18) (M .a19) (hM .a19)
      (M .a20) (hM .a20) (M .a21) (hM .a21) (M .a22) (hM .a22) (M .a23) (hM .a23) (M .a24) (hM .a24) (M .a25) (hM .a25)
      (M .a26) (hM .a26) (M .a27) (hM .a27) (M .a28) (hM .a28) arg1 v0 v54 v80_3 v86 v94 v95 v100) := by
  repeat' first
    | intro _
    | with_reducible exact Keep.pure
    | with_reducible exact Keep.load _
    | with_reducible exact Keep.store _ rfl
    | with_reducible refine Keep.for ?_
    | refine Keep.bind ?_ ?_
    | refine Keep.dite ?_ ?_

end Cert.Proof.NSA.PI

end
-- ==== Proof.NSA.PI.Keep109.lean ====
/-
  The loops over the far tiles keep the kernel's operands.
-/
module

public import proofs.«01_k».proof.Proof.NSA.PI.Mem

@[expose] public section

noncomputable section

namespace Cert.Proof.NSA.PI

open Cert.KernelIdeal
open Idealize.ShloMosaic Idealize.ShloMosaic.TcCoe Idealize.ShloMosaic.Tactic
open Idealize.SL Idealize.SL.RA Idealize.SL.BI
open Idealize.SL.Sem
open Idealize.ShloMosaic.Rounds

variable {F : FTy → Type} [FloatOps F] [Named F] [Facts]

variable (𝒱 : Variants) (c : Dev nD) (M : (j : B) → Memref sig .tc .vmem (sh j) (ty j)) (hM : ∀ j, (M j).IsWhole)

set_option maxRecDepth 65536 in
set_option maxHeartbeats 40000000 in
theorem keep_109 (i : grid0.Coords) v14 v23 v54 v56 v534 c2_i32_315 v535 v546 : Keep (defs₀ (F := F)) 𝒱 c M inp
    (k0_part109 i (M .a2) (hM .a2) (M .a3) (hM .a3) (M .a4) (hM .a4) (M .a5) (hM .a5) (M .a6) (hM .a6) (M .a7) (hM .a7)
      (M .a8) (hM .a8) (M .a9) (hM .a9) (M .a10) (hM .a10) (M .a11) (hM .a11) (M .a12) (hM .a12) (M .a13) (hM .a13)
      (M .a14) (hM .a14) (M .a15) (hM .a15) (M .a16) (hM .a16) (M .a17) (hM .a17) (M .a18) (hM .a18) (M .a19) (hM .a19)
      (M .a20) (hM .a20) (M .a21) (hM .a21) (M .a22) (hM .a22) (M .a23) (hM .a23) (M .a24) (hM .a24) (M .a25) (hM .a25)
      (M .a26) (hM .a26) (M .a27) (hM .a27) (M .a28) (hM .a28) v14 v23 v54 v56 v534 c2_i32_315 v535 v546) := by
  repeat' first
    | intro _
    | with_reducible exact Keep.pure
    | with_reducible exact Keep.load _
    | with_reducible exact Keep.store _ rfl
    | with_reducible refine Keep.for ?_
    | with_reducible refine Keep.dite ?_ ?_
    | refine Keep.bind ?_ ?_

end Cert.Proof.NSA.PI

end
-- ==== Proof.NSA.PI.KeepBody.lean ====
/-
  The kernel's body keeps its operands.
-/
module

public import proofs.«01_k».proof.Proof.NSA.PI.Keep96
public import proofs.«01_k».proof.Proof.NSA.PI.Keep97
public import proofs.«01_k».proof.Proof.NSA.PI.Keep109

@[expose] public section

noncomputable section

namespace Cert.Proof.NSA.PI

open Cert.KernelIdeal
open Idealize.ShloMosaic Idealize.ShloMosaic.TcCoe Idealize.ShloMosaic.Tactic
open Idealize.SL Idealize.SL.RA Idealize.SL.BI
open Idealize.SL.Sem
open Idealize.ShloMosaic.Rounds

variable {F : FTy → Type} [FloatOps F] [Named F] [Facts]

variable (𝒱 : Variants) (c : Dev nD) (M : (j : B) → Memref sig .tc .vmem (sh j) (ty j)) (hM : ∀ j, (M j).IsWhole)

set_option maxRecDepth 65536 in
set_option maxHeartbeats 40000000 in
theorem keep_body (i : grid0.Coords) : Keep (defs₀ (F := F)) 𝒱 c M inp
    (cc0_sparse_attention i (M .a2) (hM .a2) (M .a3) (hM .a3) (M .a4) (hM .a4) (M .a5) (hM .a5) (M .a6) (hM .a6) (M .a7) (hM .a7)
      (M .a8) (hM .a8) (M .a9) (hM .a9) (M .a10) (hM .a10) (M .a11) (hM .a11) (M .a12) (hM .a12) (M .a13) (hM .a13)
      (M .a14) (hM .a14) (M .a15) (hM .a15) (M .a16) (hM .a16) (M .a17) (hM .a17) (M .a18) (hM .a18) (M .a19) (hM .a19)
      (M .a20) (hM .a20) (M .a21) (hM .a21) (M .a22) (hM .a22) (M .a23) (hM .a23) (M .a24) (hM .a24) (M .a25) (hM .a25)
      (M .a26) (hM .a26) (M .a27) (hM .a27) (M .a28) (hM .a28)) := by
  repeat' first
    | intro _
    | with_reducible exact Keep.pure
    | with_reducible exact Keep.load _
    | with_reducible exact Keep.store _ rfl
    | with_reducible exact keep_96 _ _ _ _ _ _ _ _ _ _ _ _ _ _ _
    | with_reducible exact keep_97 _ _ _ _ _ _ _ _ _ _ _ _ _
    | with_reducible exact keep_109 _ _ _ _ _ _ _ _ _ _ _ _ _
    | with_reducible refine Keep.for ?_
    | refine Keep.bind ?_ ?_
    | refine Keep.dite ?_ ?_
    | exact Keep.pure

end Cert.Proof.NSA.PI

end
-- ==== Proof.NSA.PI.Run.lean ====
/-
  The run of the attention kernel (idealized): its body, on the memrefs a grid point hands it, keeps the operands; the launch; the frame.
-/
module

public import proofs.«01_k».proof.Proof.Gen.KernelIdeal.Frame
public import proofs.«01_k».proof.Proof.NSA.PI.KeepBody
public import Idealize.ShloMosaic.Lib.Claim

@[expose] public section

noncomputable section

namespace Cert.Proof.NSA.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-! ## The body on its memrefs -/

section Body

variable (c : Dev nD) (M : (j : B) → Memref sig .tc .vmem (sh j) (ty j)) (hM : ∀ j, (M j).IsWhole)

/-- The body, called on the family. -/
abbrev body (i : grid0.Coords) : Prog (TpuEff nD τ sig (Elt F) Λ₀ .tc) PUnit :=
  cc0_sparse_attention i (M .a2) (hM .a2) (M .a3) (hM .a3) (M .a4) (hM .a4) (M .a5) (hM .a5) (M .a6) (hM .a6) (M .a7) (hM .a7)
      (M .a8) (hM .a8) (M .a9) (hM .a9) (M .a10) (hM .a10) (M .a11) (hM .a11) (M .a12) (hM .a12) (M .a13) (hM .a13)
      (M .a14) (hM .a14) (M .a15) (hM .a15) (M .a16) (hM .a16) (M .a17) (hM .a17) (M .a18) (hM .a18) (M .a19) (hM .a19)
      (M .a20) (hM .a20) (M .a21) (hM .a21) (M .a22) (hM .a22) (M .a23) (hM .a23) (M .a24) (hM .a24) (M .a25) (hM .a25)
      (M .a26) (hM .a26) (M .a27) (hM .a27) (M .a28) (hM .a28)

/-- The family, memref by memref. -/
theorem Held_chain (σ : St (Elt F) sh ty) : (Held c M σ : sProp 𝕄) = iprop(owns (c : Thread nD τ) (M .a2) fullShare (σ .a2) ∗ owns (c : Thread nD τ) (M .a3) fullShare (σ .a3) ∗ owns (c : Thread nD τ) (M .a4) fullShare (σ .a4)
    ∗ owns (c : Thread nD τ) (M .a5) fullShare (σ .a5) ∗ owns (c : Thread nD τ) (M .a6) fullShare (σ .a6) ∗ owns (c : Thread nD τ) (M .a7) fullShare (σ
    .a7) ∗ owns (c : Thread nD τ) (M .a8) fullShare (σ .a8) ∗ owns (c : Thread nD τ) (M .a9) fullShare (σ .a9) ∗ owns (c : Thread nD τ) (M .a10) fullShare
    (σ .a10) ∗ owns (c : Thread nD τ) (M .a11) fullShare (σ .a11) ∗ owns (c : Thread nD τ) (M .a12) fullShare (σ .a12) ∗ owns (c : Thread nD τ) (M .a13)
    fullShare (σ .a13) ∗ owns (c : Thread nD τ) (M .a14) fullShare (σ .a14) ∗ owns (c : Thread nD τ) (M .a15) fullShare (σ .a15) ∗ owns (c : Thread nD τ)
    (M .a16) fullShare (σ .a16) ∗ owns (c : Thread nD τ) (M .a17) fullShare (σ .a17) ∗ owns (c : Thread nD τ) (M .a18) fullShare (σ .a18) ∗ owns (c :
    Thread nD τ) (M .a19) fullShare (σ .a19) ∗ owns (c : Thread nD τ) (M .a20) fullShare (σ .a20) ∗ owns (c : Thread nD τ) (M .a21) fullShare (σ .a21) ∗
    owns (c : Thread nD τ) (M .a22) fullShare (σ .a22) ∗ owns (c : Thread nD τ) (M .a23) fullShare (σ .a23) ∗ owns (c : Thread nD τ) (M .a24) fullShare (σ
    .a24) ∗ owns (c : Thread nD τ) (M .a25) fullShare (σ .a25) ∗ owns (c : Thread nD τ) (M .a26) fullShare (σ .a26) ∗ owns (c : Thread nD τ) (M .a27)
    fullShare (σ .a27) ∗ owns (c : Thread nD τ) (M .a28) fullShare (σ .a28)) := by
  unfold Held
  exact bigSep_univ_eq_bigSepL B.all (by decide) (by decide) _

/-- Contents for the whole family: the operands' given, the rest listed. -/
def fill (σ₀ : St (Elt F) sh ty) (d15 : (sh .a15).Idx → Elt F (ty .a15)) (d16 : (sh .a16).Idx → Elt F (ty .a16)) (d17 : (sh .a17).Idx → Elt F (ty .a17)) (d18 : (sh .a18).Idx → Elt F (ty .a18)) (d19 : (sh .a19).Idx → Elt F
    (ty .a19)) (d20 : (sh .a20).Idx → Elt F (ty .a20)) (d21 : (sh .a21).Idx → Elt F (ty .a21)) (d22 : (sh .a22).Idx → Elt F (ty .a22)) (d23 : (sh
    .a23).Idx → Elt F (ty .a23)) (d24 : (sh .a24).Idx → Elt F (ty .a24)) (d25 : (sh .a25).Idx → Elt F (ty .a25)) (d26 : (sh .a26).Idx → Elt F (ty .a26))
    (d27 : (sh .a27).Idx → Elt F (ty .a27)) (d28 : (sh .a28).Idx → Elt F (ty .a28)) : St (Elt F) sh ty
  | .a2 => σ₀ .a2
  | .a3 => σ₀ .a3
  | .a4 => σ₀ .a4
  | .a5 => σ₀ .a5
  | .a6 => σ₀ .a6
  | .a7 => σ₀ .a7
  | .a8 => σ₀ .a8
  | .a9 => σ₀ .a9
  | .a10 => σ₀ .a10
  | .a11 => σ₀ .a11
  | .a12 => σ₀ .a12
  | .a13 => σ₀ .a13
  | .a14 => σ₀ .a14
  | .a15 => d15
  | .a16 => d16
  | .a17 => d17
  | .a18 => d18
  | .a19 => d19
  | .a20 => d20
  | .a21 => d21
  | .a22 => d22
  | .a23 => d23
  | .a24 => d24
  | .a25 => d25
  | .a26 => d26
  | .a27 => d27
  | .a28 => d28

/-- The body from the operands at `σ₀` and the other memrefs at anything: the operands are kept, and the result's memref ends
    at contents of which `R` holds, if the body on the family does so. -/
theorem sound_kernel (i : grid0.Coords) (σ₀ : St (Elt F) sh ty) (R : ((sh .a15).Idx → Elt F (ty .a15)) → Prop)
    (hT : ∀ σ : St (Elt F) sh ty, (∀ j, inp j = true → σ j = σ₀ j) → Tr (defs₀ (F := F)) Variants.none c M σ (body M hM i)
      (fun _ σ' => (∀ j, inp j = true → σ' j = σ j) ∧ R (σ' .a15))) :
    (iprop(owns (c : Thread nD τ) (M .a2) fullShare (σ₀ .a2) ∗ owns (c : Thread nD τ) (M .a3) fullShare (σ₀ .a3) ∗ owns (c : Thread nD τ) (M .a4) fullShare (σ₀
      .a4) ∗ owns (c : Thread nD τ) (M .a5) fullShare (σ₀ .a5) ∗ owns (c : Thread nD τ) (M .a6) fullShare (σ₀ .a6) ∗ owns (c : Thread nD τ) (M .a7)
      fullShare (σ₀ .a7) ∗ owns (c : Thread nD τ) (M .a8) fullShare (σ₀ .a8) ∗ owns (c : Thread nD τ) (M .a9) fullShare (σ₀ .a9) ∗ owns (c : Thread nD τ) (M
      .a10) fullShare (σ₀ .a10) ∗ owns (c : Thread nD τ) (M .a11) fullShare (σ₀ .a11) ∗ owns (c : Thread nD τ) (M .a12) fullShare (σ₀ .a12) ∗ owns (c :
      Thread nD τ) (M .a13) fullShare (σ₀ .a13) ∗ owns (c : Thread nD τ) (M .a14) fullShare (σ₀ .a14) ∗ (∃ d, owns (c : Thread nD τ) (M .a15) fullShare d) ∗
      (∃ d, owns (c : Thread nD τ) (M .a16) fullShare d) ∗ (∃ d, owns (c : Thread nD τ) (M .a17) fullShare d) ∗ (∃ d, owns (c : Thread nD τ) (M .a18)
      fullShare d) ∗ (∃ d, owns (c : Thread nD τ) (M .a19) fullShare d) ∗ (∃ d, owns (c : Thread nD τ) (M .a20) fullShare d) ∗ (∃ d, owns (c : Thread nD τ)
      (M .a21) fullShare d) ∗ (∃ d, owns (c : Thread nD τ) (M .a22) fullShare d) ∗ (∃ d, owns (c : Thread nD τ) (M .a23) fullShare d) ∗ (∃ d, owns (c :
      Thread nD τ) (M .a24) fullShare d) ∗ (∃ d, owns (c : Thread nD τ) (M .a25) fullShare d) ∗ (∃ d, owns (c : Thread nD τ) (M .a26) fullShare d) ∗ (∃ d,
      owns (c : Thread nD τ) (M .a27) fullShare d) ∗ (∃ d, owns (c : Thread nD τ) (M .a28) fullShare d)) : sProp 𝕄)
    ⊢ wp frame (wpE (defs₀ (F := F)) Variants.none (c : Thread nD τ) none) Set.univ (body M hM i) (fun _ => iprop(owns (c : Thread nD τ) (M .a2) fullShare (σ₀ .a2) ∗ owns (c : Thread nD τ) (M .a3) fullShare (σ₀ .a3) ∗ owns (c : Thread nD τ) (M .a4) fullShare (σ₀
      .a4) ∗ owns (c : Thread nD τ) (M .a5) fullShare (σ₀ .a5) ∗ owns (c : Thread nD τ) (M .a6) fullShare (σ₀ .a6) ∗ owns (c : Thread nD τ) (M .a7)
      fullShare (σ₀ .a7) ∗ owns (c : Thread nD τ) (M .a8) fullShare (σ₀ .a8) ∗ owns (c : Thread nD τ) (M .a9) fullShare (σ₀ .a9) ∗ owns (c : Thread nD τ) (M
      .a10) fullShare (σ₀ .a10) ∗ owns (c : Thread nD τ) (M .a11) fullShare (σ₀ .a11) ∗ owns (c : Thread nD τ) (M .a12) fullShare (σ₀ .a12) ∗ owns (c :
      Thread nD τ) (M .a13) fullShare (σ₀ .a13) ∗ owns (c : Thread nD τ) (M .a14) fullShare (σ₀ .a14) ∗ (∃ d, ⌜R d⌝ ∗ owns (c : Thread nD τ) (M .a15)
      fullShare d) ∗ (∃ d, owns (c : Thread nD τ) (M .a16) fullShare d) ∗ (∃ d, owns (c : Thread nD τ) (M .a17) fullShare d) ∗ (∃ d, owns (c : Thread nD τ)
      (M .a18) fullShare d) ∗ (∃ d, owns (c : Thread nD τ) (M .a19) fullShare d) ∗ (∃ d, owns (c : Thread nD τ) (M .a20) fullShare d) ∗ (∃ d, owns (c :
      Thread nD τ) (M .a21) fullShare d) ∗ (∃ d, owns (c : Thread nD τ) (M .a22) fullShare d) ∗ (∃ d, owns (c : Thread nD τ) (M .a23) fullShare d) ∗ (∃ d,
      owns (c : Thread nD τ) (M .a24) fullShare d) ∗ (∃ d, owns (c : Thread nD τ) (M .a25) fullShare d) ∗ (∃ d, owns (c : Thread nD τ) (M .a26) fullShare d)
      ∗ (∃ d, owns (c : Thread nD τ) (M .a27) fullShare d) ∗ (∃ d, owns (c : Thread nD τ) (M .a28) fullShare d))) := by
  have hpost : ∀ σ' : St (Elt F) sh ty, (∀ j, inp j = true → σ' j = σ₀ j) → R (σ' .a15) → (Held c M σ' : sProp 𝕄)
      ⊢ iprop(owns (c : Thread nD τ) (M .a2) fullShare (σ₀ .a2) ∗ owns (c : Thread nD τ) (M .a3) fullShare (σ₀ .a3) ∗ owns (c : Thread nD τ) (M .a4) fullShare (σ₀
        .a4) ∗ owns (c : Thread nD τ) (M .a5) fullShare (σ₀ .a5) ∗ owns (c : Thread nD τ) (M .a6) fullShare (σ₀ .a6) ∗ owns (c : Thread nD τ) (M .a7)
        fullShare (σ₀ .a7) ∗ owns (c : Thread nD τ) (M .a8) fullShare (σ₀ .a8) ∗ owns (c : Thread nD τ) (M .a9) fullShare (σ₀ .a9) ∗ owns (c : Thread nD τ) (M
        .a10) fullShare (σ₀ .a10) ∗ owns (c : Thread nD τ) (M .a11) fullShare (σ₀ .a11) ∗ owns (c : Thread nD τ) (M .a12) fullShare (σ₀ .a12) ∗ owns (c :
        Thread nD τ) (M .a13) fullShare (σ₀ .a13) ∗ owns (c : Thread nD τ) (M .a14) fullShare (σ₀ .a14) ∗ (∃ d, ⌜R d⌝ ∗ owns (c : Thread nD τ) (M .a15)
        fullShare d) ∗ (∃ d, owns (c : Thread nD τ) (M .a16) fullShare d) ∗ (∃ d, owns (c : Thread nD τ) (M .a17) fullShare d) ∗ (∃ d, owns (c : Thread nD τ)
        (M .a18) fullShare d) ∗ (∃ d, owns (c : Thread nD τ) (M .a19) fullShare d) ∗ (∃ d, owns (c : Thread nD τ) (M .a20) fullShare d) ∗ (∃ d, owns (c :
        Thread nD τ) (M .a21) fullShare d) ∗ (∃ d, owns (c : Thread nD τ) (M .a22) fullShare d) ∗ (∃ d, owns (c : Thread nD τ) (M .a23) fullShare d) ∗ (∃ d,
        owns (c : Thread nD τ) (M .a24) fullShare d) ∗ (∃ d, owns (c : Thread nD τ) (M .a25) fullShare d) ∗ (∃ d, owns (c : Thread nD τ) (M .a26) fullShare d)
        ∗ (∃ d, owns (c : Thread nD τ) (M .a27) fullShare d) ∗ (∃ d, owns (c : Thread nD τ) (M .a28) fullShare d)) := by
    intro σ' h hR
    rw [Held_chain, show σ' .a2 = σ₀ .a2 from h .a2 rfl, show σ' .a3 = σ₀ .a3 from h .a3 rfl, show σ' .a4 = σ₀ .a4 from h .a4 rfl, show σ' .a5 = σ₀ .a5 from h .a5 rfl,
      show σ' .a6 = σ₀ .a6 from h .a6 rfl, show σ' .a7 = σ₀ .a7 from h .a7 rfl, show σ' .a8 = σ₀ .a8 from h .a8 rfl, show σ' .a9 = σ₀ .a9 from h .a9 rfl,
      show σ' .a10 = σ₀ .a10 from h .a10 rfl, show σ' .a11 = σ₀ .a11 from h .a11 rfl, show σ' .a12 = σ₀ .a12 from h .a12 rfl, show σ' .a13 = σ₀ .a13 from h
      .a13 rfl, show σ' .a14 = σ₀ .a14 from h .a14 rfl]
    iintro ⟨H2, H3, H4, H5, H6, H7, H8, H9, H10, H11, H12, H13, H14, H15, H16, H17, H18, H19, H20, H21, H22, H23, H24, H25, H26, H27, H28⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · iexists _; isplitr
      · ipureintro; exact hR
      · iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    iexists _; iexact H28
  have hpre : ∀ d15 d16 d17 d18 d19 d20 d21 d22 d23 d24 d25 d26 d27 d28, (iprop(owns (c : Thread nD τ) (M .a2) fullShare (σ₀ .a2) ∗ owns (c : Thread nD τ) (M .a3) fullShare (σ₀ .a3) ∗ owns (c : Thread nD τ) (M .a4) fullShare (σ₀
      .a4) ∗ owns (c : Thread nD τ) (M .a5) fullShare (σ₀ .a5) ∗ owns (c : Thread nD τ) (M .a6) fullShare (σ₀ .a6) ∗ owns (c : Thread nD τ) (M .a7)
      fullShare (σ₀ .a7) ∗ owns (c : Thread nD τ) (M .a8) fullShare (σ₀ .a8) ∗ owns (c : Thread nD τ) (M .a9) fullShare (σ₀ .a9) ∗ owns (c : Thread nD τ) (M
      .a10) fullShare (σ₀ .a10) ∗ owns (c : Thread nD τ) (M .a11) fullShare (σ₀ .a11) ∗ owns (c : Thread nD τ) (M .a12) fullShare (σ₀ .a12) ∗ owns (c :
      Thread nD τ) (M .a13) fullShare (σ₀ .a13) ∗ owns (c : Thread nD τ) (M .a14) fullShare (σ₀ .a14) ∗ owns (c : Thread nD τ) (M .a15) fullShare d15 ∗ owns
      (c : Thread nD τ) (M .a16) fullShare d16 ∗ owns (c : Thread nD τ) (M .a17) fullShare d17 ∗ owns (c : Thread nD τ) (M .a18) fullShare d18 ∗ owns (c :
      Thread nD τ) (M .a19) fullShare d19 ∗ owns (c : Thread nD τ) (M .a20) fullShare d20 ∗ owns (c : Thread nD τ) (M .a21) fullShare d21 ∗ owns (c : Thread
      nD τ) (M .a22) fullShare d22 ∗ owns (c : Thread nD τ) (M .a23) fullShare d23 ∗ owns (c : Thread nD τ) (M .a24) fullShare d24 ∗ owns (c : Thread nD τ)
      (M .a25) fullShare d25 ∗ owns (c : Thread nD τ) (M .a26) fullShare d26 ∗ owns (c : Thread nD τ) (M .a27) fullShare d27 ∗ owns (c : Thread nD τ) (M
      .a28) fullShare d28) : sProp 𝕄)
      ⊢ wp frame (wpE (defs₀ (F := F)) Variants.none (c : Thread nD τ) none) Set.univ (body M hM i)
        (fun x => iprop(∃ σ', ⌜(∀ j, inp j = true → σ' j = (fill σ₀ d15 d16 d17 d18 d19 d20 d21 d22 d23 d24 d25 d26 d27 d28) j) ∧ R (σ' .a15)⌝ ∗ Held c M σ')) := by
    intro d15 d16 d17 d18 d19 d20 d21 d22 d23 d24 d25 d26 d27 d28
    have h := (hT (fill σ₀ d15 d16 d17 d18 d19 d20 d21 d22 d23 d24 d25 d26 d27 d28) (fun j hj => by cases j <;> first | rfl | exact absurd hj (by decide))).entails
    rw [Held_chain] at h
    exact h
  iintro ⟨H2, H3, H4, H5, H6, H7, H8, H9, H10, H11, H12, H13, H14, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
  iapply (wp_wand_r frame _ Set.univ)
  isplitl [H2 H3 H4 H5 H6 H7 H8 H9 H10 H11 H12 H13 H14 H15 H16 H17 H18 H19 H20 H21 H22 H23 H24 H25 H26 H27 H28]
  · iapply (hpre d15 d16 d17 d18 d19 d20 d21 d22 d23 d24 d25 d26 d27 d28)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    iexact H28
  · iintro %x ⟨%σ', %h, H⟩
    iapply (hpost σ' (fun j hj => (h.1 j hj).trans (by cases j <;> first | rfl | exact absurd hj (by decide))) h.2)
    iexact H

end Body

/-! ## The grid points -/

/-- A whole buffer, owned as a memref, -/
theorem to_owns (c : Dev nD) (b : Ref sig .tc) (f : b.ty.Contents (Elt F)) :
    (((c : Thread nD τ).loc b ↦{fullShare} f) : sProp 𝕄) ⊢ owns (c : Thread nD τ) (Memref.whole b) fullShare f :=
  by rw [owns_whole]

/-- and back. -/
theorem of_owns (c : Dev nD) (b : Ref sig .tc) (f : b.ty.Contents (Elt F)) :
    (owns (c : Thread nD τ) (Memref.whole b) fullShare f : sProp 𝕄) ⊢ ((c : Thread nD τ).loc b ↦{fullShare} f) :=
  by rw [owns_whole]

/-- The memrefs of grid point `t`. -/
def fam (t : Fin cfg0.N) : (j : B) → Memref sig .tc .vmem (sh j) (ty j)
  | .a2 => win0_0.stage (cfg0.slots t 0)
  | .a3 => win0_1.stage (cfg0.slots t 1)
  | .a4 => win0_2.stage (cfg0.slots t 2)
  | .a5 => win0_3.stage (cfg0.slots t 3)
  | .a6 => win0_4.stage (cfg0.slots t 4)
  | .a7 => win0_5.stage (cfg0.slots t 5)
  | .a8 => win0_6.stage (cfg0.slots t 6)
  | .a9 => win0_7.stage (cfg0.slots t 7)
  | .a10 => win0_8.stage (cfg0.slots t 8)
  | .a11 => win0_9.stage (cfg0.slots t 9)
  | .a12 => win0_10.stage (cfg0.slots t 10)
  | .a13 => win0_11.stage (cfg0.slots t 11)
  | .a14 => win0_12.stage (cfg0.slots t 12)
  | .a15 => win0_13.stage (cfg0.slots t 13)
  | .a16 => Memref.whole cc0_scratch0
  | .a17 => Memref.whole cc0_scratch1
  | .a18 => Memref.whole cc0_scratch2
  | .a19 => Memref.whole cc0_scratch3
  | .a20 => Memref.whole cc0_scratch4
  | .a21 => Memref.whole cc0_scratch5
  | .a22 => Memref.whole cc0_scratch6
  | .a23 => Memref.whole cc0_scratch7
  | .a24 => Memref.whole cc0_scratch8
  | .a25 => Memref.whole cc0_scratch9
  | .a26 => Memref.whole cc0_scratch10
  | .a27 => Memref.whole cc0_scratch11
  | .a28 => Memref.whole cc0_scratch12

theorem fam_whole (t : Fin cfg0.N) : ∀ j, (fam t j).IsWhole
  | .a2 => hstage0_0 ((cfg0.slots t 0).cast nbuf0_0)
  | .a3 => hstage0_1 ((cfg0.slots t 1).cast nbuf0_1)
  | .a4 => hstage0_2 ((cfg0.slots t 2).cast nbuf0_2)
  | .a5 => hstage0_3 ((cfg0.slots t 3).cast nbuf0_3)
  | .a6 => hstage0_4 ((cfg0.slots t 4).cast nbuf0_4)
  | .a7 => hstage0_5 ((cfg0.slots t 5).cast nbuf0_5)
  | .a8 => hstage0_6 ((cfg0.slots t 6).cast nbuf0_6)
  | .a9 => hstage0_7 ((cfg0.slots t 7).cast nbuf0_7)
  | .a10 => hstage0_8 ((cfg0.slots t 8).cast nbuf0_8)
  | .a11 => hstage0_9 ((cfg0.slots t 9).cast nbuf0_9)
  | .a12 => hstage0_10 ((cfg0.slots t 10).cast nbuf0_10)
  | .a13 => hstage0_11 ((cfg0.slots t 11).cast nbuf0_11)
  | .a14 => hstage0_12 ((cfg0.slots t 12).cast nbuf0_12)
  | .a15 => hstage0_13 ((cfg0.slots t 13).cast nbuf0_13)
  | .a16 => Memref.isWhole_whole _
  | .a17 => Memref.isWhole_whole _
  | .a18 => Memref.isWhole_whole _
  | .a19 => Memref.isWhole_whole _
  | .a20 => Memref.isWhole_whole _
  | .a21 => Memref.isWhole_whole _
  | .a22 => Memref.isWhole_whole _
  | .a23 => Memref.isWhole_whole _
  | .a24 => Memref.isWhole_whole _
  | .a25 => Memref.isWhole_whole _
  | .a26 => Memref.isWhole_whole _
  | .a27 => Memref.isWhole_whole _
  | .a28 => Memref.isWhole_whole _

variable (m : (ℓ : Loc nD τ sig) → Buf (Elt F) ℓ) (ρ : Dev nD → PrngReg)

/-- What the operands' memrefs hold at point `t`: their blocks (of the others nothing is said: `d`). -/
def blocks (c : Dev nD) (t : Fin cfg0.N) (d : St (Elt F) sh ty) : St (Elt F) sh ty
  | .a2 => iblk m c 0 t
  | .a3 => iblk m c 1 t
  | .a4 => iblk m c 2 t
  | .a5 => iblk m c 3 t
  | .a6 => iblk m c 4 t
  | .a7 => iblk m c 5 t
  | .a8 => iblk m c 6 t
  | .a9 => iblk m c 7 t
  | .a10 => iblk m c 8 t
  | .a11 => iblk m c 9 t
  | .a12 => iblk m c 10 t
  | .a13 => iblk m c 11 t
  | .a14 => iblk m c 12 t
  | .a15 => d .a15
  | .a16 => d .a16
  | .a17 => d .a17
  | .a18 => d .a18
  | .a19 => d .a19
  | .a20 => d .a20
  | .a21 => d .a21
  | .a22 => d .a22
  | .a23 => d .a23
  | .a24 => d .a24
  | .a25 => d .a25
  | .a26 => d .a26
  | .a27 => d .a27
  | .a28 => d .a28

/-- The proof data: every operand's buffer at its block, the result's at `O`. -/
def dats (O : Dev nD → Fin cfg0.N → (sh .a15).Idx → Elt F (ty .a15)) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => O c t
  Φ _ := Pipeline.ΦA spec0 c
  q _ := fullShare
  owed _ := 0

variable (O : Dev nD → Fin cfg0.N → (sh .a15).Idx → Elt F (ty .a15))

theorem A_eq (c : Dev nD) (w : Fin cfg0.W) : (dats m O 0 c).A w = V m c (Pipeline.arrRef spec0 w) := by dsimp only [dats]

theorem after_0 (c : Dev nD) (t : Fin cfg0.N) : (dats m O 0 c).after 0 t = iblk m c 0 t := by dsimp only [dats]
theorem before_0 (c : Dev nD) (t : Fin cfg0.N) (d) : (dats m O 0 c).before 0 t d = iblk m c 0 t :=
  before0_0_of m (dats m O 0 c) (A_eq m O c 0) (after_0 m O c) t d
theorem after_1 (c : Dev nD) (t : Fin cfg0.N) : (dats m O 0 c).after 1 t = iblk m c 1 t := by dsimp only [dats]
theorem before_1 (c : Dev nD) (t : Fin cfg0.N) (d) : (dats m O 0 c).before 1 t d = iblk m c 1 t :=
  before0_1_of m (dats m O 0 c) (A_eq m O c 1) (after_1 m O c) t d
theorem after_2 (c : Dev nD) (t : Fin cfg0.N) : (dats m O 0 c).after 2 t = iblk m c 2 t := by dsimp only [dats]
theorem before_2 (c : Dev nD) (t : Fin cfg0.N) (d) : (dats m O 0 c).before 2 t d = iblk m c 2 t :=
  before0_2_of m (dats m O 0 c) (A_eq m O c 2) (after_2 m O c) t d
theorem after_3 (c : Dev nD) (t : Fin cfg0.N) : (dats m O 0 c).after 3 t = iblk m c 3 t := by dsimp only [dats]
theorem before_3 (c : Dev nD) (t : Fin cfg0.N) (d) : (dats m O 0 c).before 3 t d = iblk m c 3 t :=
  before0_3_of m (dats m O 0 c) (A_eq m O c 3) (after_3 m O c) t d
theorem after_4 (c : Dev nD) (t : Fin cfg0.N) : (dats m O 0 c).after 4 t = iblk m c 4 t := by dsimp only [dats]
theorem before_4 (c : Dev nD) (t : Fin cfg0.N) (d) : (dats m O 0 c).before 4 t d = iblk m c 4 t :=
  before0_4_of m (dats m O 0 c) (A_eq m O c 4) (after_4 m O c) t d
theorem after_5 (c : Dev nD) (t : Fin cfg0.N) : (dats m O 0 c).after 5 t = iblk m c 5 t := by dsimp only [dats]
theorem before_5 (c : Dev nD) (t : Fin cfg0.N) (d) : (dats m O 0 c).before 5 t d = iblk m c 5 t :=
  before0_5_of m (dats m O 0 c) (A_eq m O c 5) (after_5 m O c) t d
theorem after_6 (c : Dev nD) (t : Fin cfg0.N) : (dats m O 0 c).after 6 t = iblk m c 6 t := by dsimp only [dats]
theorem before_6 (c : Dev nD) (t : Fin cfg0.N) (d) : (dats m O 0 c).before 6 t d = iblk m c 6 t :=
  before0_6_of m (dats m O 0 c) (A_eq m O c 6) (after_6 m O c) t d
theorem after_7 (c : Dev nD) (t : Fin cfg0.N) : (dats m O 0 c).after 7 t = iblk m c 7 t := by dsimp only [dats]
theorem before_7 (c : Dev nD) (t : Fin cfg0.N) (d) : (dats m O 0 c).before 7 t d = iblk m c 7 t :=
  before0_7_of m (dats m O 0 c) (A_eq m O c 7) (after_7 m O c) t d
theorem after_8 (c : Dev nD) (t : Fin cfg0.N) : (dats m O 0 c).after 8 t = iblk m c 8 t := by dsimp only [dats]
theorem before_8 (c : Dev nD) (t : Fin cfg0.N) (d) : (dats m O 0 c).before 8 t d = iblk m c 8 t :=
  before0_8_of m (dats m O 0 c) (A_eq m O c 8) (after_8 m O c) t d
theorem after_9 (c : Dev nD) (t : Fin cfg0.N) : (dats m O 0 c).after 9 t = iblk m c 9 t := by dsimp only [dats]
theorem before_9 (c : Dev nD) (t : Fin cfg0.N) (d) : (dats m O 0 c).before 9 t d = iblk m c 9 t :=
  before0_9_of m (dats m O 0 c) (A_eq m O c 9) (after_9 m O c) t d
theorem after_10 (c : Dev nD) (t : Fin cfg0.N) : (dats m O 0 c).after 10 t = iblk m c 10 t := by dsimp only [dats]
theorem before_10 (c : Dev nD) (t : Fin cfg0.N) (d) : (dats m O 0 c).before 10 t d = iblk m c 10 t :=
  before0_10_of m (dats m O 0 c) (A_eq m O c 10) (after_10 m O c) t d
theorem after_11 (c : Dev nD) (t : Fin cfg0.N) : (dats m O 0 c).after 11 t = iblk m c 11 t := by dsimp only [dats]
theorem before_11 (c : Dev nD) (t : Fin cfg0.N) (d) : (dats m O 0 c).before 11 t d = iblk m c 11 t :=
  before0_11_of m (dats m O 0 c) (A_eq m O c 11) (after_11 m O c) t d
theorem after_12 (c : Dev nD) (t : Fin cfg0.N) : (dats m O 0 c).after 12 t = iblk m c 12 t := by dsimp only [dats]
theorem before_12 (c : Dev nD) (t : Fin cfg0.N) (d) : (dats m O 0 c).before 12 t d = iblk m c 12 t :=
  before0_12_of m (dats m O 0 c) (A_eq m O c 12) (after_12 m O c) t d
theorem after_13 (c : Dev nD) (t : Fin cfg0.N) : (dats m O 0 c).after 13 t = O c t := by dsimp only [dats]

/-- The body at a grid point, of what it leaves in the result's memref. -/
def Point (R : Dev nD → Fin cfg0.N → ((sh .a15).Idx → Elt F (ty .a15)) → Prop) : Prop :=
  ∀ (c : Dev nD) (t : Fin cfg0.N) (d σ : St (Elt F) sh ty), (∀ j, inp j = true → σ j = blocks m c t d j) →
    Tr (defs₀ (F := F)) Variants.none c (fam t) σ (body (fam t) (fam_whole t) (grid0.coords t))
      (fun _ σ' => (∀ j, inp j = true → σ' j = σ j) ∧ R c t (σ' .a15))

/-- Any contents whatever. -/
def some_ : St (Elt F) sh ty := fun _ _ => Classical.choice inferInstance

theorem sound_point (R : Dev nD → Fin cfg0.N → ((sh .a15).Idx → Elt F (ty .a15)) → Prop) (hP : Point m R) (c : Dev nD) (t : Fin cfg0.N) :
    (iprop((dats m O 0 c).Φ t.castSucc ∗ (dats m O 0 c).owesAt () t.castSucc
    ∗ (∃ d, owns (c : Thread nD τ) (st0_0 t) fullShare ((dats m O 0 c).before 0 t d)) ∗ (∃ d, owns (c : Thread nD τ) (st0_1 t) fullShare ((dats m O 0
    c).before 1 t d)) ∗ (∃ d, owns (c : Thread nD τ) (st0_2 t) fullShare ((dats m O 0 c).before 2 t d)) ∗ (∃ d, owns (c : Thread nD τ) (st0_3 t) fullShare
    ((dats m O 0 c).before 3 t d)) ∗ (∃ d, owns (c : Thread nD τ) (st0_4 t) fullShare ((dats m O 0 c).before 4 t d)) ∗ (∃ d, owns (c : Thread nD τ) (st0_5
    t) fullShare ((dats m O 0 c).before 5 t d)) ∗ (∃ d, owns (c : Thread nD τ) (st0_6 t) fullShare ((dats m O 0 c).before 6 t d)) ∗ (∃ d, owns (c : Thread
    nD τ) (st0_7 t) fullShare ((dats m O 0 c).before 7 t d)) ∗ (∃ d, owns (c : Thread nD τ) (st0_8 t) fullShare ((dats m O 0 c).before 8 t d)) ∗ (∃ d,
    owns (c : Thread nD τ) (st0_9 t) fullShare ((dats m O 0 c).before 9 t d)) ∗ (∃ d, owns (c : Thread nD τ) (st0_10 t) fullShare ((dats m O 0 c).before
    10 t d)) ∗ (∃ d, owns (c : Thread nD τ) (st0_11 t) fullShare ((dats m O 0 c).before 11 t d)) ∗ (∃ d, owns (c : Thread nD τ) (st0_12 t) fullShare
    ((dats m O 0 c).before 12 t d))
    ∗ (∃ X, owns (c : Thread nD τ) (st0_13 t) fullShare X)) : sProp 𝕄)
    ⊢ wp frame (wpE (defs₀ (F := F)) Variants.none c none) Set.univ (bodyAt0 t) (fun _ =>
      iprop((dats m O 0 c).Φ t.succ ∗ (dats m O 0 c).owesAt () t.succ
      ∗ owns (c : Thread nD τ) (st0_0 t) fullShare ((dats m O 0 c).after 0 t) ∗ owns (c : Thread nD τ) (st0_1 t) fullShare ((dats m O 0 c).after 1 t) ∗ owns
    (c : Thread nD τ) (st0_2 t) fullShare ((dats m O 0 c).after 2 t) ∗ owns (c : Thread nD τ) (st0_3 t) fullShare ((dats m O 0 c).after 3 t) ∗ owns (c :
    Thread nD τ) (st0_4 t) fullShare ((dats m O 0 c).after 4 t) ∗ owns (c : Thread nD τ) (st0_5 t) fullShare ((dats m O 0 c).after 5 t) ∗ owns (c : Thread
    nD τ) (st0_6 t) fullShare ((dats m O 0 c).after 6 t) ∗ owns (c : Thread nD τ) (st0_7 t) fullShare ((dats m O 0 c).after 7 t) ∗ owns (c : Thread nD τ)
    (st0_8 t) fullShare ((dats m O 0 c).after 8 t) ∗ owns (c : Thread nD τ) (st0_9 t) fullShare ((dats m O 0 c).after 9 t) ∗ owns (c : Thread nD τ)
    (st0_10 t) fullShare ((dats m O 0 c).after 10 t) ∗ owns (c : Thread nD τ) (st0_11 t) fullShare ((dats m O 0 c).after 11 t) ∗ owns (c : Thread nD τ)
    (st0_12 t) fullShare ((dats m O 0 c).after 12 t)
      ∗ (∃ X, ⌜R c t X⌝ ∗ owns (c : Thread nD τ) (st0_13 t) fullShare X))) := by
  simp only [before_0, before_1, before_2, before_3, before_4, before_5, before_6, before_7, before_8, before_9, before_10, before_11, before_12, after_0, after_1, after_2, after_3, after_4, after_5, after_6, after_7, after_8, after_9, after_10, after_11, after_12]
  rw [show (dats m O 0 c).Φ t.succ = Pipeline.ΦA spec0 c from rfl, show (dats m O 0 c).Φ t.castSucc = Pipeline.ΦA spec0 c from rfl,
    show (dats m O 0 c).owesAt () t.succ = (dats m O 0 c).owesAt () t.castSucc from rfl]
  unfold Pipeline.ΦA
  rw [scopedRest0_eq]
  iintro ⟨⟨⟨⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩⟩, Hp⟩, Ho, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩, ⟨%e13, H13⟩, ⟨%e14, H14⟩, H15⟩
  iapply (wp_wand_r frame _ Set.univ)
  isplitl [H2 H3 H4 H5 H6 H7 H8 H9 H10 H11 H12 H13 H14 H15 H16 H17 H18 H19 H20 H21 H22 H23 H24 H25 H26 H27 H28]
  · iapply (sound_kernel c (fam t) (fam_whole t) (grid0.coords t) (blocks m c t some_) (R c t) (hP c t some_))
    dsimp only [blocks, fam]
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists f16; iapply (to_owns c cc0_scratch0 f16); iexact H16
    isplitl [H17]; · iexists f17; iapply (to_owns c cc0_scratch1 f17); iexact H17
    isplitl [H18]; · iexists f18; iapply (to_owns c cc0_scratch2 f18); iexact H18
    isplitl [H19]; · iexists f19; iapply (to_owns c cc0_scratch3 f19); iexact H19
    isplitl [H20]; · iexists f20; iapply (to_owns c cc0_scratch4 f20); iexact H20
    isplitl [H21]; · iexists f21; iapply (to_owns c cc0_scratch5 f21); iexact H21
    isplitl [H22]; · iexists f22; iapply (to_owns c cc0_scratch6 f22); iexact H22
    isplitl [H23]; · iexists f23; iapply (to_owns c cc0_scratch7 f23); iexact H23
    isplitl [H24]; · iexists f24; iapply (to_owns c cc0_scratch8 f24); iexact H24
    isplitl [H25]; · iexists f25; iapply (to_owns c cc0_scratch9 f25); iexact H25
    isplitl [H26]; · iexists f26; iapply (to_owns c cc0_scratch10 f26); iexact H26
    isplitl [H27]; · iexists f27; iapply (to_owns c cc0_scratch11 f27); iexact H27
    iexists f28; iapply (to_owns c cc0_scratch12 f28); iexact H28
  · dsimp only [blocks, fam]
    iintro %x ⟨H2, H3, H4, H5, H6, H7, H8, H9, H10, H11, H12, H13, H14, H15, ⟨%g16, H16⟩, ⟨%g17, H17⟩, ⟨%g18, H18⟩, ⟨%g19, H19⟩, ⟨%g20, H20⟩, ⟨%g21, H21⟩, ⟨%g22, H22⟩, ⟨%g23, H23⟩, ⟨%g24, H24⟩, ⟨%g25, H25⟩, ⟨%g26, H26⟩, ⟨%g27, H27⟩, ⟨%g28, H28⟩⟩
    isplitl [Hp H16 H17 H18 H19 H20 H21 H22 H23 H24 H25 H26 H27 H28]
    · isplitr [Hp]
      · isplitl [H16]; · iexists g16; iapply (of_owns c cc0_scratch0 g16); iexact H16
        isplitl [H17]; · iexists g17; iapply (of_owns c cc0_scratch1 g17); iexact H17
        isplitl [H18]; · iexists g18; iapply (of_owns c cc0_scratch2 g18); iexact H18
        isplitl [H19]; · iexists g19; iapply (of_owns c cc0_scratch3 g19); iexact H19
        isplitl [H20]; · iexists g20; iapply (of_owns c cc0_scratch4 g20); iexact H20
        isplitl [H21]; · iexists g21; iapply (of_owns c cc0_scratch5 g21); iexact H21
        isplitl [H22]; · iexists g22; iapply (of_owns c cc0_scratch6 g22); iexact H22
        isplitl [H23]; · iexists g23; iapply (of_owns c cc0_scratch7 g23); iexact H23
        isplitl [H24]; · iexists g24; iapply (of_owns c cc0_scratch8 g24); iexact H24
        isplitl [H25]; · iexists g25; iapply (of_owns c cc0_scratch9 g25); iexact H25
        isplitl [H26]; · iexists g26; iapply (of_owns c cc0_scratch10 g26); iexact H26
        isplitl [H27]; · iexists g27; iapply (of_owns c cc0_scratch11 g27); iexact H27
        iexists g28; iapply (of_owns c cc0_scratch12 g28); iexact H28
      · iexact Hp
    isplitl [Ho]; · iexact Ho
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

/-- The body table's row at point `t`'s slots is the body as `bodyAt0` spells it. -/
theorem defs₀_row (t : Fin cfg0.N) : defs₀ (F := F) .tc cfg0.body (cfg0.bodyArgs t (cfg0.slots t)) = bodyAt0 t := by
  unfold defs₀; rw [Defs.onTc_tc]

/-! ## Nothing said of the result -/

/-- The result's window, of which nothing is said. -/
abbrev fgt : Fin cfg0.W → Bool := fun | ⟨13, _⟩ => true | _ => false

theorem point_keep : Point m fun _ _ _ => True := fun c t d σ _ =>
  ((keep_body Variants.none c (fam t) (fam_whole t) (grid0.coords t)).tr σ).mono fun _ _ h => ⟨h, trivial⟩

theorem body_forget (c : Dev nD) : BodyObligation (dats m O 0 c) (defs₀ (F := F)) Variants.none () Set.univ fgt := fun t => by
  rw [bigSep_W0, bigSep_W0, defs₀_row]
  refine triple_restated (sound_point m O _ (point_keep m) c t) rfl .rfl fun _ => ?_
  show _ ⊢ (iprop(_ ∗ _ ∗ _ ∗ _ ∗ _ ∗ _ ∗ _ ∗ _ ∗ _ ∗ _ ∗ _ ∗ _ ∗ _ ∗ _ ∗ _ ∗ ∃ X, owns (c : Thread nD τ) (st0_13 t) fullShare X) : sProp 𝕄)
  iintro ⟨HΦ, Ho, H2, H3, H4, H5, H6, H7, H8, H9, H10, H11, H12, H13, H14, ⟨%X, -, H15⟩⟩
  isplitl [HΦ]; · iexact HΦ
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexists X; iexact H15

set_option backward.isDefEq.respectTransparency.types false in
/-- The launch: the arrays and the buffers outside the call at what the library says, every counter at zero. -/
theorem run_forget : θ_run defs (onTc (τ := τ) (main (F := F))) (s₀ m ρ)
    (fun r => Pipeline.RDat.FramePost cfg0 (fun c => (dats m O 0 c).toRForget fgt) (V m) r ∧ r.2.sem = fun _ => 0) :=
  Pipeline.θ_run_frame_forget (Q' := _) cfgs (dats m O) (0 : Fin 1) launch0 defs₀ Variants.none fgt m ρ main
    (hbody := fun c => (body_forget m O c).loose) (hshare := fun c => (dats m O 0 c).share_full fun _ => rfl)
    (howed := fun _ _ => rfl) (V := V m) (hmain := hmain m Variants.none) (hA := A_eq m O) (hΦ := fun _ _ => rfl)

/-- THE FRAME: the arguments end as they were, every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c =>
    ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c),
    ((h.1 c).2 main_arg8 (Pipeline.mem_restRefs_of main_arg8 (by decide) (by decide))).trans (V_main_arg8 m c),
    ((h.1 c).2 main_arg9 (Pipeline.mem_restRefs_of main_arg9 (by decide) (by decide))).trans (V_main_arg9 m c)⟩, h.2⟩)
    (run_forget m ρ (fun _ _ => some_ .a15))

end Cert.Proof.NSA.PI

end
-- ==== Proof.NSA.Steps.lean ====
/-
  Reading a program forwards: what each operation leaves of a family of memrefs.
-/
module

public import proofs.«01_k».proof.Proof.NSA.Held

@[expose] public section

noncomputable section

namespace Cert.Proof.NSA

open Idealize.ShloMosaic Idealize.ShloMosaic.TcCoe Idealize.ShloMosaic.Tactic
open Idealize.SL Idealize.SL.RA Idealize.SL.BI
open Idealize.SL.Sem
open Idealize.ShloMosaic.Rounds

variable {nD : Nat} {τ : Topo} {sig : RefSig} {Val : EltTy → Type} {Λ : Labels}
variable {J : Type} [Fintype J] [DecidableEq J] {sh : J → Shape} {ty : J → EltTy}
variable {defs : Defs nD τ sig Val Λ} {𝒱 : Variants} {c : Dev nD} {M : (j : J) → Memref sig .tc .vmem (sh j) (ty j)}

theorem Tr.load_bind {α : Type} {σ : St Val sh ty} (j : J) {r : Rect (sh j)} {hl : (M j).view.LoadsAt r.toLoadRect}
    {k : (r.shape.Idx → Val (ty j)) → Prog (TpuEff nD τ sig Val Λ .tc) α} {Q : α → St Val sh ty → Prop}
    (h : Tr defs 𝒱 c M σ (k (View.ld (σ j) r)) Q) :
    Tr defs 𝒱 c M σ (Prog.lift (.load (M j) r.toLoadRect hl) >>= k) Q :=
  Tr.bind (R := fun x σ' => x = View.ld (σ j) r ∧ σ' = σ) (Tr.load j ⟨rfl, rfl⟩) (by rintro _ _ ⟨rfl, rfl⟩; exact h)

theorem Tr.store_bind {α : Type} {σ : St Val sh ty} (j : J) {r : Rect (sh j)} {w : r.shape.Idx → Val (ty j)}
    {hx : ((M j).access r).Stores Finset.univ} {hm : (Finset.univ : Finset r.shape.Idx) = Finset.univ ∨ ∀ a, r.stride a = 1}
    {k : PUnit → Prog (TpuEff nD τ sig Val Λ .tc) α} {Q : α → St Val sh ty → Prop}
    (h : Tr defs 𝒱 c M (Function.update σ j (r.overlay (σ j) w)) (k ⟨⟩) Q) :
    Tr defs 𝒱 c M σ (Prog.lift (.store (M j) r w Finset.univ hx hm) >>= k) Q :=
  Tr.bind (R := fun _ σ' => σ' = Function.update σ j (r.overlay (σ j) w)) (Tr.store j rfl) (by rintro ⟨⟩ _ rfl; exact h)

theorem Tr.dite {α : Type} {σ : St Val sh ty} {P : Prop} [Decidable P] {p : P → Prog (TpuEff nD τ sig Val Λ .tc) α}
    {q : ¬P → Prog (TpuEff nD τ sig Val Λ .tc) α} {Q : α → St Val sh ty → Prop}
    (hp : ∀ h, Tr defs 𝒱 c M σ (p h) Q) (hq : ∀ h, Tr defs 𝒱 c M σ (q h) Q) : Tr defs 𝒱 c M σ (dite P p q) Q := by
  by_cases h : P
  · rw [dif_pos h]; exact hp h
  · rw [dif_neg h]; exact hq h

/-- A piece that keeps `K`, ahead of the rest. -/
theorem Keep.bind_tr {α β : Type} {K : J → Bool} {σ : St Val sh ty} {p : Prog (TpuEff nD τ sig Val Λ .tc) α}
    {k : α → Prog (TpuEff nD τ sig Val Λ .tc) β} {Q : β → St Val sh ty → Prop}
    (h : Keep defs 𝒱 c M K p) (hk : ∀ x σ', (∀ j, K j = true → σ' j = σ j) → Tr defs 𝒱 c M σ' (k x) Q) :
    Tr defs 𝒱 c M σ (p >>= k) Q := Tr.bind (h.tr σ) hk

/-- The same, of what was kept since an earlier state. -/
theorem Keep.bind_since {α β : Type} {K : J → Bool} {σ₀ σ : St Val sh ty} {p : Prog (TpuEff nD τ sig Val Λ .tc) α}
    {k : α → Prog (TpuEff nD τ sig Val Λ .tc) β} {Q : β → St Val sh ty → Prop} (hσ : ∀ j, K j = true → σ j = σ₀ j)
    (h : Keep defs 𝒱 c M K p) (hk : ∀ x σ', (∀ j, K j = true → σ' j = σ₀ j) → Tr defs 𝒱 c M σ' (k x) Q) :
    Tr defs 𝒱 c M σ (p >>= k) Q := Keep.bind_tr h fun x σ' h' => hk x σ' fun j hj => (h' j hj).trans (hσ j hj)

/-- A piece, and of the rest whatever it asks of the piece. -/
theorem Tr.bind_wp {α β : Type} {σ : St Val sh ty} {p : Prog (TpuEff nD τ sig Val Λ .tc) α}
    {k : α → Prog (TpuEff nD τ sig Val Λ .tc) β} {Q : β → St Val sh ty → Prop}
    (h : Tr defs 𝒱 c M σ p fun x σ' => Tr defs 𝒱 c M σ' (k x) Q) : Tr defs 𝒱 c M σ (p >>= k) Q := Tr.bind h fun _ _ hx => hx

/-- A branch whose condition is known in other words. -/
theorem Tr.dite_iff {α : Type} {σ : St Val sh ty} {P P' : Prop} [Decidable P] {p : P → Prog (TpuEff nD τ sig Val Λ .tc) α}
    {q : ¬P → Prog (TpuEff nD τ sig Val Λ .tc) α} {Q : α → St Val sh ty → Prop} (he : P ↔ P')
    (hp : ∀ h, P' → Tr defs 𝒱 c M σ (p h) Q) (hq : ∀ h, ¬P' → Tr defs 𝒱 c M σ (q h) Q) : Tr defs 𝒱 c M σ (_root_.dite P p q) Q :=
  Tr.dite (fun h => hp h (he.mp h)) fun h => hq h fun h' => h (he.mpr h')

end Cert.Proof.NSA

end
-- ==== Proof.NSA.V.Slab.lean ====
/-
  The compressed branch's logits in their scratch buffer: stored whole, and the band's bias added in place.
-/
module

public import proofs.«01_k».proof.Proof.Gen.KernelIdeal
public import proofs.«01_k».proof.Proof.NSA.PI.Mem
public import proofs.«01_k».proof.Proof.NSA.Steps
public import Idealize.ShloMosaic.Lib.Pipeline.ValueKit
public import Idealize.ShloMosaic.Lib.Tactic.WordOmega

@[expose] public section

set_option maxRecDepth 16384

noncomputable section

namespace Cert.Proof.NSA.V

open Cert.KernelIdeal Cert.KernelIdeal.Gen Cert.Proof.NSA.PI
open Idealize.ShloMosaic Idealize.ShloMosaic.TcCoe Idealize.ShloMosaic.Tactic
open Idealize.SL Idealize.SL.RA Idealize.SL.BI
open Idealize.SL.Sem
open Idealize.ShloMosaic.Rounds

/-- A store into the slab, read at a row it wrote, -/
theorem over_in {α : Type} {off : Fin 3 → ℕ} {n : ℕ} (inb : ∀ a, off a + (![1, n, 512] : Fin 3 → ℕ) a ≤ S2x640x512.size a)
    (f : S2x640x512.Idx → α) (w : (Rect.unit (s := S2x640x512) off ![1, n, 512] inb).shape.Idx → α)
    (y : S2x640x512.Idx) (k : Fin n) (c : Fin 512) (hg : (y 0).val = off 0) (hr : (y 1).val = off 1 + k.val) (hc : (y 2).val = off 2 + c.val) :
    (Rect.unit (s := S2x640x512) off ![1, n, 512] inb).overlay f w y = w (ix3 (0 : Fin 1) k c) := by
  rw [← Rect.overlay_emb (Rect.unit (s := S2x640x512) off ![1, n, 512] inb) f w (ix3 (0 : Fin 1) k c)]
  congr 1
  funext d
  refine Fin.ext ?_
  fin_cases d
  · show (y 0).val = off 0 + 1 * 0; omega
  · show (y 1).val = off 1 + 1 * k.val; omega
  · show (y 2).val = off 2 + 1 * c.val; omega

/-- and at one it did not. -/
theorem over_out {α : Type} {off : Fin 3 → ℕ} {n : ℕ} (inb : ∀ a, off a + (![1, n, 512] : Fin 3 → ℕ) a ≤ S2x640x512.size a)
    (f : S2x640x512.Idx → α) (w : (Rect.unit (s := S2x640x512) off ![1, n, 512] inb).shape.Idx → α)
    (y : S2x640x512.Idx) (h : (y 0).val ≠ off 0 ∨ (y 1).val < off 1 ∨ off 1 + n ≤ (y 1).val) :
    (Rect.unit (s := S2x640x512) off ![1, n, 512] inb).overlay f w y = f y := by
  refine Rect.overlay_of_not_mem _ _ _ fun hm => ?_
  have hm := Rect.mem_set_unit.mp hm
  have h0 := hm 0; have h1 := hm 1
  simp only [Matrix.cons_val_zero, Matrix.cons_val_one] at h0 h1
  omega

variable (σ : St (Elt Ideal) sh ty)

/-- The queries of one group, head beside head, as the kernel lays them out: feature `k`, column `c`. -/
def qv (g : Fin 2) (k : Fin 128) (c : Fin 512) : EReal :=
  σ .a2 (ix4 (0 : Fin 1) (⟨4 * g.val + c.val / 128, by omega⟩ : Fin 8) k (⟨c.val % 128, by omega⟩ : Fin 128))

/-- The logit of compressed row `r` at column `c`, before its bias. -/
def dt (g : Fin 2) (r : Fin 640) (c : Fin 512) : EReal :=
  ∑ k : Fin 128, σ .a5 (ix4 (0 : Fin 1) g r k) * qv σ g k c

/-- With the bias of the band at block `n`. -/
def sv (n : ℕ) (g : Fin 2) (r : Fin 640) (c : Fin 512) : EReal :=
  if h : 8 * n ≤ r.val ∧ r.val < 8 * n + 16 then dt σ g r c + σ .a7 (ix3 g (⟨r.val - 8 * n, by omega⟩ : Fin 16) c) else dt σ g r c

variable (𝒱 : Variants) (c : Dev nD) (M : (j : B) → Memref sig .tc .vmem (sh j) (ty j)) (hM : ∀ j, (M j).IsWhole)

/-- Of the slab after the first piece of a stage at block `n`: group 0 has its bias, group 1 not yet. -/
def P1 (n : ℕ) (x : FVec Ideal S16x512 .f32) (σ' : St (Elt Ideal) sh ty) : Prop :=
  (∀ j, inp j = true → σ' j = σ j)
  ∧ (∀ (r : Fin 640), r.val < 8 * n + 16 → ∀ c, σ' .a16 (ix3 (0 : Fin 2) r c) = sv σ n 0 r c)
  ∧ (∀ (r : Fin 640), r.val < 8 * n + 16 → ∀ c, σ' .a16 (ix3 (1 : Fin 2) r c) = dt σ 1 r c)
  ∧ ∀ (k : Fin 16) (r : Fin 640), r.val = 8 * n + k.val → ∀ c, x (ix2 k c) = dt σ 1 r c + σ .a7 (ix3 (1 : Fin 2) k c)

/-- After the second: both have it. -/
def P2 (n : ℕ) (σ' : St (Elt Ideal) sh ty) : Prop :=
  (∀ j, inp j = true → σ' j = σ j) ∧ ∀ (g : Fin 2) (r : Fin 640), r.val < 8 * n + 16 → ∀ c, σ' .a16 (ix3 g r c) = sv σ n g r c

/-- What is kept from there on: the operands and the slab. -/
@[reducible] def inpS : B → Bool
  | .a16 => true
  | j => inp j

/-- The weighted values over `N` rows of logits: the maximum, held at or above the stated start, taken off before the exponential. -/
def ocf {N : ℕ} (s v : Fin N → EReal) : EReal :=
  (∑ x, v x * FloatOps.exp2 (F := Ideal) (φ := .f32) (s x - max (Finset.fold max (Ideal.ofBits FTy.f32 4286578688#32) (fun x => s x) Finset.univ) (Ideal.ofBits FTy.f32 4020342536#32)))
    * if 0 < ∑ x, FloatOps.exp2 (F := Ideal) (φ := .f32) (s x - max (Finset.fold max (Ideal.ofBits FTy.f32 4286578688#32) (fun x => s x) Finset.univ) (Ideal.ofBits FTy.f32 4020342536#32)) then
        Ideal.div 1 (∑ x, FloatOps.exp2 (F := Ideal) (φ := .f32) (s x - max (Finset.fold max (Ideal.ofBits FTy.f32 4286578688#32) (fun x => s x) Finset.univ) (Ideal.ofBits FTy.f32 4020342536#32)))
      else 0

/-- The compressed branch's result of one group at block `n`: over enough rows, those past the visible ones masked. -/
def OC (n : ℕ) (g : Fin 2) (x : FVec Ideal S64x512 .f32) : Prop :=
  ∃ (N : ℕ) (hN : N ≤ 640) (_ : 8 * n + 16 ≤ N), ∀ (d : Fin 64) (c : Fin 512), x (ix2 d c)
    = ocf (fun r : Fin N => if r.val < 8 * n + 16 then sv σ n g (⟨r.val, by omega⟩ : Fin 640) c else ⊥)
        (fun r : Fin N => σ .a6 (ix4 (0 : Fin 1) g (⟨d.val, by omega⟩ : Fin 80) (⟨r.val, by omega⟩ : Fin 640)))

variable {σ} in
theorem OC.of {n : ℕ} {g : Fin 2} {x : FVec Ideal S64x512 .f32} {N : ℕ} {f v : Fin 64 → Fin 512 → Fin N → EReal}
    (hx : ∀ d c, x (ix2 d c) = ocf (fun r => f d c r) (fun r => v d c r)) (hN : N ≤ 640) (hn : 8 * n + 16 ≤ N)
    (hf : ∀ d c (r : Fin N), f d c r = if r.val < 8 * n + 16 then sv σ n g (⟨r.val, by omega⟩ : Fin 640) c else ⊥)
    (hv : ∀ (d : Fin 64) c (r : Fin N), v d c r = σ .a6 (ix4 (0 : Fin 1) g (⟨d.val, by omega⟩ : Fin 80) (⟨r.val, by omega⟩ : Fin 640))) :
    OC σ n g x :=
  ⟨N, hN, hn, fun d c => by rw [hx d c]; congr 1 <;> funext r; exacts [hf d c r, hv d c r]⟩

/-- The mask: rows at or past `m` are `⊥`. -/
theorem sel_mask (a b m : ℕ) (ha : a + b < 2048) (hm : m < 2048) (y : EReal) :
    Scalar.select (IntOp.cmpi CmpIPredicate.sge (IntOp.addi (BitVec.ofNat 32 a) (BitVec.ofNat 32 b)) (BitVec.ofNat 32 m))
      (Named.named (F := Ideal) (φ := .f32) κ "mask" 4048155338#32) y = if a + b < m then y else ⊥ := by
  have h : IntOp.cmpi CmpIPredicate.sge (IntOp.addi (BitVec.ofNat 32 a) (BitVec.ofNat 32 b)) (BitVec.ofNat 32 m) = 1#1 ↔ m ≤ a + b := by
    word_omega
  have hk : Named.named (F := Ideal) (φ := .f32) κ "mask" 4048155338#32 = (⊥ : EReal) := rfl
  rw [hk]
  by_cases hc : m ≤ a + b
  · rw [if_neg (by omega), Scalar.select, h.mpr hc]; rfl
  · rw [if_pos (by omega)]
    unfold Scalar.select
    exact if_neg fun h' => hc (h.mp h')

/-- Which stage a block takes. -/
theorem cond_1 : ∀ i : grid0.Coords, (k0_cond1 i = 1#1 ↔ 15 ≤ (i 1).val) := by decide +kernel
theorem cond_2 : ∀ i : grid0.Coords, (k0_cond2 i = 1#1 ↔ ((i 1).val < 15 ∨ 31 ≤ (i 1).val)) := by decide +kernel
theorem cond_3 : ∀ i : grid0.Coords, (k0_cond3 i = 1#1 ↔ ((i 1).val < 31 ∨ 47 ≤ (i 1).val)) := by decide +kernel
theorem cond_4 : ∀ i : grid0.Coords, (k0_cond4 i = 1#1 ↔ ((i 1).val < 47 ∨ 63 ≤ (i 1).val)) := by decide +kernel

set_option maxHeartbeats 4000000 in
theorem part96 (i : grid0.Coords) arg1 v0 v1 (v14 v23 : FVec Ideal S128x512 .bf16) v33 v35 v56 v57 w
    (h14 : ∀ k c, v14 (ix2 k c) = qv σ 0 k c) (h23 : ∀ k c, v23 (ix2 k c) = qv σ 1 k c) (h35 : v35 = BitVec.ofNat 32 (8 * (i 1).val + 16)) :
    Tr (defs₀ (F := Ideal)) 𝒱 c M σ
    (k0_part96 i (M .a2) (hM .a2) (M .a3) (hM .a3) (M .a4) (hM .a4) (M .a5) (hM .a5) (M .a6) (hM .a6) (M .a7) (hM .a7)
      (M .a8) (hM .a8) (M .a9) (hM .a9) (M .a10) (hM .a10) (M .a11) (hM .a11) (M .a12) (hM .a12) (M .a13) (hM .a13)
      (M .a14) (hM .a14) (M .a15) (hM .a15) (M .a16) (hM .a16) (M .a17) (hM .a17) (M .a18) (hM .a18) (M .a19) (hM .a19)
      (M .a20) (hM .a20) (M .a21) (hM .a21) (M .a22) (hM .a22) (M .a23) (hM .a23) (M .a24) (hM .a24) (M .a25) (hM .a25)
      (M .a26) (hM .a26) (M .a27) (hM .a27) (M .a28) (hM .a28) arg1 v0 v1 v14 v23 v33 v35 v56 v57 w)
    fun x σ' => (∀ j, inp j = true → σ' j = σ j) ∧ OC σ (i 1).val 0 x.1 ∧ OC σ (i 1).val 1 x.2.1 := by
  have hn : (i 1).val < 64 := (i 1).isLt
  have e1 := k0_off1_eq i; have e2 := k0_off2_eq i; have e5 := k0_off5_eq i; have e6 := k0_off6_eq i; have e9 := k0_off9_eq i
  have e10 := k0_off10_eq i; have e13 := k0_off13_eq i; have e14 := k0_off14_eq i; have e17 := k0_off17_eq i; have e18 := k0_off18_eq i
  unfold k0_part96
  refine Tr.dite_iff (cond_1 i) (fun _ _ => ?_) (fun _ _ => ?_)
  refine Tr.dite_iff (cond_2 i) (fun _ _ => ?_) (fun _ _ => ?_)
  refine Tr.dite_iff (cond_3 i) (fun _ _ => ?_) (fun _ _ => ?_)
  refine Tr.dite_iff (cond_4 i) (fun _ _ => ?_) (fun _ _ => ?_)
  all_goals
    refine Tr.bind (R := P1 σ (i 1).val) ?_ fun x1 σ1 g1 => Tr.bind (R := fun _ => P2 σ (i 1).val) ?_ fun x2 σ2 g2 =>
      Keep.bind_tr (K := inpS) ?_ fun x3 σ3 g3 => Tr.bind (R := fun y σ' => P2 σ (i 1).val σ' ∧ OC σ (i 1).val 0 y.1) ?_ fun x4 σ4 g4 => ?_
    · first | unfold k0_part1 | unfold k0_part6 | unfold k0_part11 | unfold k0_part16 | unfold k0_part21
      repeat first
        | refine Tr.load_bind _ ?_
        | refine Tr.store_bind _ ?_
      refine Tr.pure ?_
      simp only [Function.update_idem, Function.update_self, ne_eq, reduceCtorEq, not_false_eq_true, Function.update_of_ne]
      refine ⟨fun j hj => Function.update_of_ne (by rintro rfl; exact absurd hj (by decide)) _ _, ?_, ?_, ?_⟩
      · intro r hr c
        rw [Function.update_self, over_out _ _ _ _ (.inl (by show (0 : ℕ) ≠ 1; decide))]
        by_cases hb : 8 * (i 1).val ≤ r.val ∧ r.val < 8 * (i 1).val + 16
        · rw [over_in _ _ _ _ (⟨r.val - 8 * (i 1).val, by omega⟩ : Fin 16) c (by simp [*]) (by simp [*]) (by simp [*])]
          pointwise [View.ld_unit]
          rw [over_in _ _ _ _ (⟨r.val, by omega⟩ : Fin _) c (by simp [*]) (by simp [*]) (by simp [*])]
          pointwise [View.ld_unit]
          simp only [sv, dif_pos hb, dt, h14]
        · rw [over_out _ _ _ _ (.inr (by simp [*]; omega)), over_in _ _ _ _ (⟨r.val, by omega⟩ : Fin _) c (by simp) (by simp) (by simp)]
          pointwise [View.ld_unit]
          simp only [sv, dif_neg hb, dt, h14]
      · intro r hr c
        rw [Function.update_self, over_in _ _ _ _ (⟨r.val, by omega⟩ : Fin _) c (by simp) (by simp) (by simp)]
        pointwise [View.ld_unit]
        simp only [dt, h23]
      · intro k r hk c
        pointwise [View.ld_unit]
        rw [over_in _ _ _ _ (⟨r.val, by omega⟩ : Fin _) c (by simp [*]) (by simp [*]) (by simp [*])]
        pointwise [View.ld_unit]
        simp only [dt, h23]
    · first | unfold k0_part2 | unfold k0_part7 | unfold k0_part12 | unfold k0_part17 | unfold k0_part22
      repeat first
        | refine Tr.load_bind _ ?_
        | refine Tr.store_bind _ ?_
      refine Tr.pure ?_
      obtain ⟨gi, ga, gb, gx⟩ := g1
      refine ⟨fun j hj => by rw [← gi j hj]; cases j <;> first | exact absurd hj (by decide) | simp only [ne_eq, reduceCtorEq, not_false_eq_true, Function.update_of_ne], ?_⟩
      intro g r hr c
      simp only [ne_eq, reduceCtorEq, not_false_eq_true, Function.update_of_ne]
      rw [Function.update_self]
      fin_cases g
      · rw [over_out _ _ _ _ (.inl (by simp [*]))]
        exact ga r hr c
      · by_cases hb : 8 * (i 1).val ≤ r.val ∧ r.val < 8 * (i 1).val + 16
        · rw [over_in _ _ _ _ (⟨r.val - 8 * (i 1).val, by omega⟩ : Fin 16) c (by simp [*]) (by simp [*]) (by simp [*])]
          pointwise [View.ld_unit]
          rw [gx _ r (by simp; omega)]
          simp only [sv, dif_pos hb]

        · rw [over_out _ _ _ _ (.inr (by simp [*]; omega))]
          refine (gb r hr c).trans ?_
          simp only [sv, dif_neg hb]
          rfl
    · first | unfold k0_part3 | unfold k0_part8 | unfold k0_part13 | unfold k0_part18 | unfold k0_part23
      repeat' first
        | intro _
        | with_reducible exact Keep.pure
        | with_reducible exact Keep.load _
        | with_reducible exact Keep.store _ rfl
        | refine Keep.bind ?_ ?_
    · have g3' : P2 σ (i 1).val σ3 := ⟨fun j hj => (g3 j (by revert hj; cases j <;> decide)).trans (g2.1 j hj),
        fun g r hr c => (congrFun (g3 .a16 rfl) _).trans (g2.2 g r hr c)⟩
      first | unfold k0_part4 | unfold k0_part9 | unfold k0_part14 | unfold k0_part19 | unfold k0_part24
      repeat first
        | refine Tr.load_bind _ ?_
        | refine Tr.store_bind _ ?_
      refine Tr.pure ?_
      refine ⟨g3', ?_⟩
      dsimp only
      first | (have : (i 1).val < 15 := by omega) | generalize hs : concatenate _ _ _ _ = s
      apply OC.of
      case hx =>
        intro d c
        pointwise [View.ld_unit]
        exact rfl
      case hN => omega
      case hn => omega
      case hf =>
        intro d c r
        have hr := r.isLt
        have key : ∀ r' : Fin 640, r'.val = r.val → r.val < 8 * (i 1).val + 16 →
            σ3 .a16 (ix3 (0 : Fin 2) r' c) = sv σ (i 1).val 0 (⟨r.val, by omega⟩ : Fin 640) c := by
          intro r' h h2
          have e : r' = ⟨r.val, by omega⟩ := Fin.ext h
          rw [e]
          exact g3'.2 0 _ h2 c
        try subst hs
        pointwise [View.ld_unit]
        rw [h35]
        by_cases hv : r.val < 8 * (i 1).val + 16
        · rw [if_pos hv]
          try split
          all_goals first
            | (rw [sel_mask _ _ _ (by omega) (by omega), if_pos (by omega)]; exact key _ (by simp <;> omega) hv)
            | exact key _ (by simp) hv
        · rw [if_neg hv]
          try split
          all_goals first
            | rw [sel_mask _ _ _ (by omega) (by omega), if_neg (by omega)]
            | (exfalso; omega)
      case hv =>
        intro d c r
        pointwise [View.ld_unit]
        exact congrFun (g3'.1 .a6 rfl) _
    · have g3' : P2 σ (i 1).val σ4 := g4.1
      rcases x4 with ⟨y, z⟩
      try rcases z with ⟨z, z'⟩
      refine Tr.bind_wp ?_
      first | unfold k0_part5 | unfold k0_part10 | unfold k0_part15 | unfold k0_part20 | unfold k0_part25
      repeat first
        | refine Tr.load_bind _ ?_
        | refine Tr.store_bind _ ?_
      refine Tr.pure ?_
      repeat first
        | refine Tr.load_bind _ ?_
        | refine Tr.store_bind _ ?_
      refine Tr.pure ?_
      refine ⟨g3'.1, g4.2, ?_⟩
      dsimp only
      first | (have : (i 1).val < 15 := by omega) | generalize hs : concatenate _ _ _ _ = s
      apply OC.of
      case hx =>
        intro d c
        pointwise [View.ld_unit]
        exact rfl
      case hN => omega
      case hn => omega
      case hf =>
        intro d c r
        have hr := r.isLt
        have key : ∀ r' : Fin 640, r'.val = r.val → r.val < 8 * (i 1).val + 16 →
            σ4 .a16 (ix3 (1 : Fin 2) r' c) = sv σ (i 1).val 1 (⟨r.val, by omega⟩ : Fin 640) c := by
          intro r' h h2
          have e : r' = ⟨r.val, by omega⟩ := Fin.ext h
          rw [e]
          exact g3'.2 1 _ h2 c
        try subst hs
        pointwise [View.ld_unit]
        rw [h35]
        by_cases hv : r.val < 8 * (i 1).val + 16
        · rw [if_pos hv]
          try split
          all_goals first
            | (rw [sel_mask _ _ _ (by omega) (by omega), if_pos (by omega)]; exact key _ (by simp <;> omega) hv)
            | exact key _ (by simp) hv
        · rw [if_neg hv]
          try split
          all_goals first
            | rw [sel_mask _ _ _ (by omega) (by omega), if_neg (by omega)]
            | (exfalso; omega)
      case hv =>
        intro d c r
        pointwise [View.ld_unit]
        exact congrFun (g3'.1 .a6 rfl) _

end Cert.Proof.NSA.V

end
-- ==== Proof.NSA.V.Soft.lean ====
/-
  The two softmaxes of the compressed branch, as quotients of real sums: the kernel's, in base two with a
  floored maximum and a closed sum set to zero, and the reference's, whose closed rows are cut off at the end.
-/
module

public import proofs.«01_k».proof.Proof.NSA.V.Slab

@[expose] public section

noncomputable section

namespace Cert.Proof.NSA.V

open Idealize.ShloMosaic

/-- A real sum read at the extended reals. -/
theorem coe_total {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The sum of the visible entries. -/
def vis {N : ℕ} (S : Fin N → Prop) [DecidablePred S] (f : Fin N → ℝ) : ℝ := ∑ r, if S r then f r else 0

/-- A logit: a real where visible. -/
def lg {N : ℕ} (S : Fin N → Prop) [DecidablePred S] (x : Fin N → ℝ) (r : Fin N) : EReal := if S r then (x r : EReal) else ⊥

section
variable {N : ℕ} (S : Fin N → Prop) [DecidablePred S] (x u : Fin N → ℝ)

theorem vis_scale (f g : Fin N → ℝ) (k : ℝ) (h : ∀ r, S r → f r = k * g r) : vis S f = k * vis S g := by
  unfold vis
  rw [Finset.mul_sum]
  exact Finset.sum_congr rfl fun r _ => by by_cases hr : S r <;> simp [hr, h]

theorem vis_pos (f : Fin N → ℝ) (h0 : ∀ r, 0 < f r) {r : Fin N} (hr : S r) : 0 < vis S f := by
  refine lt_of_lt_of_le (h0 r) ?_
  have h := Finset.single_le_sum (f := fun r => if S r then f r else 0) (s := Finset.univ)
    (fun r _ => by split <;> [exact (h0 r).le; exact le_rfl]) (Finset.mem_univ r)
  simpa [hr, vis] using h

theorem vis_none (f : Fin N → ℝ) (h : ∀ r, ¬ S r) : vis S f = 0 :=
  Finset.sum_eq_zero fun r _ => by simp [h r]

theorem neg_inf : Ideal.ofBits .f32 4286578688#32 = (⊥ : EReal) := by simp [Ideal.ofBits, Ideal.ieee]

/-- The largest logit is not infinite. -/
theorem top_ne : Finset.fold max (Ideal.ofBits .f32 4286578688#32) (fun r => lg S x r) Finset.univ ≠ (⊤ : EReal) := by
  refine ne_of_lt ((Finset.fold_max_lt _).2 ⟨by rw [neg_inf]; exact bot_lt_top, fun r _ => ?_⟩)
  unfold lg; split
  · exact EReal.coe_lt_top _
  · exact bot_lt_top

theorem top_bot {r : Fin N} (hr : S r) : Finset.fold max (Ideal.ofBits .f32 4286578688#32) (fun r => lg S x r) Finset.univ ≠ (⊥ : EReal) :=
  ne_of_gt ((Finset.lt_fold_max _).2 (Or.inr ⟨r, Finset.mem_univ r, by simp [lg, hr, EReal.bot_lt_coe]⟩))

theorem top_none (h : ∀ r, ¬ S r) : Finset.fold max (Ideal.ofBits .f32 4286578688#32) (fun r => lg S x r) Finset.univ = (⊥ : EReal) :=
  le_bot_iff.1 ((Finset.fold_max_le _).2 ⟨by rw [neg_inf], fun r _ => by simp [lg, h r]⟩)

/-- The kernel's floor of the maximum is a real. -/
theorem floor_real : ∃ b : ℝ, Ideal.ofBits .f32 4020342536#32 = (b : EReal) := by
  refine ⟨-(10587912 * 2 ^ 73), ?_⟩
  simp [Ideal.ofBits, Ideal.ieee]

/-- The kernel's softmax. -/
theorem ocf_eq : ocf (fun r => lg S x r) (fun r => (u r : EReal))
    = ((vis S (fun r => (2 : ℝ) ^ x r * u r) / vis S (fun r => (2 : ℝ) ^ x r) : ℝ) : EReal) := by
  obtain ⟨b, hb⟩ := floor_real
  obtain ⟨μ, hμ⟩ : ∃ μ : ℝ, max (Finset.fold max (Ideal.ofBits .f32 4286578688#32) (fun r => lg S x r) Finset.univ) (Ideal.ofBits .f32 4020342536#32) = (μ : EReal) := by
    rw [hb]
    refine ⟨(max (Finset.fold max (Ideal.ofBits .f32 4286578688#32) (fun r => lg S x r) Finset.univ) (b : EReal)).toReal, (EReal.coe_toReal ?_ ?_).symm⟩
    · exact ne_of_lt (max_lt (lt_top_iff_ne_top.2 (top_ne S x)) (EReal.coe_lt_top b))
    · exact ne_of_gt (lt_of_lt_of_le (EReal.bot_lt_coe b) (le_max_right _ _))
  have hE : ∀ r, FloatOps.exp2 (F := Ideal) (φ := .f32) (lg S x r - (μ : EReal)) = (((if S r then (2 : ℝ) ^ (-μ) * (2 : ℝ) ^ x r else 0) : ℝ) : EReal) := by
    intro r
    by_cases hr : S r
    · simp only [lg, if_pos hr]
      rw [← EReal.coe_sub]
      show ((Real.rpow 2 (x r - μ) : ℝ) : EReal) = _
      rw [← Real.rpow_add (by norm_num), show -μ + x r = x r - μ by ring]; rfl
    · simp only [lg, if_neg hr]
      show Ideal.exp2 (⊥ + -(μ : EReal)) = _
      rw [EReal.bot_add]; rfl
  have hs : ∑ r, FloatOps.exp2 (F := Ideal) (φ := .f32) (lg S x r - (μ : EReal)) = (((2 : ℝ) ^ (-μ) * vis S (fun r => (2 : ℝ) ^ x r) : ℝ) : EReal) := by
    rw [← vis_scale S (fun r => (2 : ℝ) ^ (-μ) * (2 : ℝ) ^ x r) _ _ fun _ _ => rfl, vis, coe_total]
    exact Finset.sum_congr rfl fun r _ => hE r
  have hn : ∑ r, (u r : EReal) * FloatOps.exp2 (F := Ideal) (φ := .f32) (lg S x r - (μ : EReal)) = (((2 : ℝ) ^ (-μ) * vis S (fun r => (2 : ℝ) ^ x r * u r) : ℝ) : EReal) := by
    rw [← vis_scale S (fun r => (2 : ℝ) ^ (-μ) * ((2 : ℝ) ^ x r * u r)) _ _ fun _ _ => rfl, vis, coe_total]
    refine Finset.sum_congr rfl fun r _ => ?_
    rw [hE r, ← EReal.coe_mul]
    by_cases hr : S r
    · simp only [if_pos hr]; congr 1; ring
    · simp [if_neg hr]
  unfold ocf
  rw [hμ, hs, hn]
  have hp : (0 : ℝ) < (2 : ℝ) ^ (-μ) := Real.rpow_pos_of_pos (by norm_num) _
  by_cases h : 0 < vis S (fun r => (2 : ℝ) ^ x r)
  · have h' : (2 : ℝ) ^ (-μ) * vis S (fun r => (2 : ℝ) ^ x r) ≠ 0 := (mul_pos hp h).ne'
    rw [if_pos (by exact_mod_cast mul_pos hp h), Ideal.div, if_neg (by exact_mod_cast h'), one_mul, ← EReal.coe_inv, ← EReal.coe_mul]
    congr 1
    field_simp
  · have h0 : vis S (fun r => (2 : ℝ) ^ x r) = 0 := by
      refine le_antisymm (not_lt.1 h) (Finset.sum_nonneg fun r _ => ?_)
      split
      · exact (Real.rpow_pos_of_pos (by norm_num) _).le
      · exact le_rfl
    rw [h0]; simp

/-- The reference's softmax, its closed entries cut off. -/
theorem ref_eq (e : Fin N → EReal)
    (he : ∀ r, e r = Ideal.exp (lg S x r - max (Ideal.ofBits .f32 4286578688#32) (Finset.fold max (Ideal.ofBits .f32 4286578688#32) (fun r => lg S x r) Finset.univ))) :
    ∑ r, Ideal.div (e r) (∑ r, e r) * (if S r then 1 else 0) * (u r : EReal)
      = ((vis S (fun r => Real.exp (x r) * u r) / vis S (fun r => Real.exp (x r)) : ℝ) : EReal) := by
  by_cases hv : ∃ r, S r
  · obtain ⟨r₀, hr₀⟩ := hv
    obtain ⟨μ, hμ⟩ : ∃ μ : ℝ, Finset.fold max (Ideal.ofBits .f32 4286578688#32) (fun r => lg S x r) Finset.univ = (μ : EReal) :=
      ⟨_, (EReal.coe_toReal (top_ne S x) (top_bot S x hr₀)).symm⟩
    rw [hμ, neg_inf] at he
    have hE : ∀ r, e r = (((if S r then Real.exp (-μ) * Real.exp (x r) else 0) : ℝ) : EReal) := by
      intro r
      rw [he r, max_eq_right bot_le]
      by_cases hr : S r
      · simp only [lg, if_pos hr]
        rw [← EReal.coe_sub, ← Real.exp_add, show -μ + x r = x r - μ by ring]; rfl
      · simp only [lg, if_neg hr]
        show Ideal.exp (⊥ + -(μ : EReal)) = _
        rw [EReal.bot_add]; rfl
    have hs : ∑ r, e r = ((Real.exp (-μ) * vis S (fun r => Real.exp (x r)) : ℝ) : EReal) := by
      rw [← vis_scale S (fun r => Real.exp (-μ) * Real.exp (x r)) _ _ fun _ _ => rfl, vis, coe_total]
      exact Finset.sum_congr rfl fun r _ => hE r
    have hp : 0 < vis S (fun r => Real.exp (x r)) := vis_pos S _ (fun r => Real.exp_pos _) hr₀
    have h' : Real.exp (-μ) * vis S (fun r => Real.exp (x r)) ≠ 0 := (mul_pos (Real.exp_pos _) hp).ne'
    rw [hs, div_eq_inv_mul, ← vis_scale S (fun r => (vis S (fun r => Real.exp (x r)))⁻¹ * (Real.exp (x r) * u r)) _ _ fun _ _ => rfl]
    refine Eq.trans ?_ (coe_total _ _).symm
    refine Finset.sum_congr rfl fun r _ => ?_
    rw [hE r, Ideal.div, if_neg (by exact_mod_cast h'), ← EReal.coe_inv, ← EReal.coe_mul]
    by_cases hr : S r
    · simp only [if_pos hr, mul_one]
      rw [← EReal.coe_mul]; congr 1
      have := Real.exp_pos (-μ)
      field_simp
    · simp [if_neg hr]
  · have hv' : ∀ r, ¬ S r := fun r hr => hv ⟨r, hr⟩
    rw [vis_none S _ hv', zero_div]
    exact Finset.sum_eq_zero fun r _ => by simp [hv' r]

end

/-- The visible entries of the kernel's padded rows are the reference's, eight rows on. -/
theorem vis_shift {N : ℕ} (S : Fin N → Prop) [DecidablePred S] (T : Fin 511 → Prop) [DecidablePred T] (f : Fin N → ℝ) (g : Fin 511 → ℝ)
    (hT : ∀ i : Fin 511, T i → i.val + 8 < N) (hS : ∀ r : Fin N, S r ↔ ∃ i : Fin 511, T i ∧ r.val = i.val + 8)
    (h : ∀ (r : Fin N) (i : Fin 511), r.val = i.val + 8 → f r = g i) : vis S f = vis T g := by
  unfold vis
  rw [← Finset.sum_filter, ← Finset.sum_filter]
  refine (Finset.sum_bij (fun i hi => (⟨i.val + 8, hT i (by simpa using hi)⟩ : Fin N)) (fun i hi => ?_) (fun i _ j _ hij => ?_) (fun r hr => ?_) fun i hi => ?_).symm
  · simp only [Finset.mem_filter, Finset.mem_univ, true_and] at hi ⊢
    exact (hS _).2 ⟨i, hi, rfl⟩
  · exact Fin.ext (by simpa using hij)
  · simp only [Finset.mem_filter, Finset.mem_univ, true_and] at hr
    obtain ⟨i, hi, hri⟩ := (hS r).1 hr
    exact ⟨i, by simpa using hi, Fin.ext hri.symm⟩
  · exact (h _ i rfl).symm

/-- The two softmaxes agree: the kernel's logits are the reference's, less a real, in base two. -/
theorem soft_eq {N : ℕ} (S : Fin N → Prop) [DecidablePred S] (T : Fin 511 → Prop) [DecidablePred T] (x u : Fin N → ℝ) (y w : Fin 511 → ℝ) (ρ : ℝ)
    (hT : ∀ i : Fin 511, T i → i.val + 8 < N) (hS : ∀ r : Fin N, S r ↔ ∃ i : Fin 511, T i ∧ r.val = i.val + 8)
    (hx : ∀ (r : Fin N) (i : Fin 511), r.val = i.val + 8 → x r = (y i - ρ) * (Real.log 2)⁻¹)
    (hu : ∀ (r : Fin N) (i : Fin 511), r.val = i.val + 8 → u r = w i)
    (e : Fin 511 → EReal)
    (he : ∀ r, e r = Ideal.exp (lg T y r - max (Ideal.ofBits .f32 4286578688#32) (Finset.fold max (Ideal.ofBits .f32 4286578688#32) (fun r => lg T y r) Finset.univ))) :
    ocf (fun r => lg S x r) (fun r => (u r : EReal)) = ∑ r, Ideal.div (e r) (∑ r, e r) * (if T r then 1 else 0) * (w r : EReal) := by
  have hp : ∀ (r : Fin N) (i : Fin 511), r.val = i.val + 8 → (2 : ℝ) ^ x r = Real.exp (-ρ) * Real.exp (y i) := by
    intro r i hri
    rw [hx r i hri, Real.rpow_def_of_pos (by norm_num), ← Real.exp_add]
    have : Real.log 2 ≠ 0 := (Real.log_pos (by norm_num)).ne'
    congr 1; field_simp; ring
  rw [ocf_eq, ref_eq T y w e he,
    vis_shift S T _ (fun i => Real.exp (-ρ) * (Real.exp (y i) * w i)) hT hS (fun r i hri => by rw [hp r i hri, hu r i hri, mul_assoc]),
    vis_shift S T _ (fun i => Real.exp (-ρ) * Real.exp (y i)) hT hS (fun r i hri => hp r i hri),
    vis_scale T _ (fun i => Real.exp (y i) * w i) (Real.exp (-ρ)) fun _ _ => rfl,
    vis_scale T _ (fun i => Real.exp (y i)) (Real.exp (-ρ)) fun _ _ => rfl,
    mul_div_mul_left _ _ (Real.exp_pos _).ne']

end Cert.Proof.NSA.V

end
-- ==== Proof.NSA.V.Word.lean ====
/-
  Words of the bias: the bucket of a distance, the row of the table; rows of a table, gathered.
-/
module

public import Idealize.ShloMosaic.Lib.Claim
public import Idealize.ShloMosaic.Lib.Pipeline.ValueKit
public import Idealize.ShloMosaic.Lib.StableHlo.ReadAt
public import Idealize.ShloMosaic.Lib.Tactic.WordOmega

@[expose] public section

noncomputable section

namespace Cert.Proof.NSA.V

open Idealize.ShloMosaic Idealize.ShloMosaic.TcCoe Idealize.ShloMosaic.Tactic

/-- The bucket of a distance that is not negative, as a word. -/
def bw (n : BitVec 32) : BitVec 32 :=
  Scalar.select (IntOp.cmpi CmpIPredicate.slt n 16#32) n
      (IntOp.minsi (IntOp.addi (16#32) (FloatOps.fptosi (F := Ideal) (φ := .f32) 32
            (Ideal.div (Ideal.log (Ideal.div (FloatOps.sitofp (F := Ideal) FTy.f32 (IntOp.maxsi n 1#32)) (Ideal.ofBits FTy.f32 1098907648#32)))
                (Ideal.ofBits FTy.f32 1074075026#32) * Ideal.ofBits FTy.f32 1098907648#32 : Ideal .f32))) 31#32)

/-- A negative row counted from the end, as a word. -/
def rw_ (b : BitVec 32) : BitVec 32 := Scalar.select (IntOp.cmpi CmpIPredicate.slt b 0#32) (IntOp.addi b 32#32) b

theorem gather_rows {N C a b w : ℕ} {α : Type} (hN : 0 < N) (d : GatherDims ⟨2, ![N, C]⟩ ⟨3, ![a, b, 1]⟩ ⟨3, ![a, b, C]⟩)
    (h1 : d.offsetDims = [2]) (h2 : d.collapsedSliceDims = [0]) (h3 : d.operandBatchingDims = []) (h4 : d.startIndicesBatchingDims = [])
    (h5 : d.startIndexMap = [0]) (h6 : d.indexVectorDim = 2) (h7 : d.sliceSizes = ![1, C])
    (x : (⟨2, ![N, C]⟩ : Shape).Idx → α) (idx : IVec ⟨3, ![a, b, 1]⟩ w) (i : Fin a) (j : Fin b) (k : Fin C) :
    Host.gather d x idx (ix3 i j k) = x (ix2 ⟨min (idx (ix3 i j 0)).toInt.toNat (N - 1), by omega⟩ k) := by
  obtain ⟨od, cs, ob, sb, sm, iv, ss, wf⟩ := d
  dsimp only at h1 h2 h3 h4 h5 h6 h7
  subst h1 h2 h3 h4 h5 h6 h7
  unfold Host.gather
  congr 1
  funext e
  refine Fin.ext ?_
  match e with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (List.mem_singleton.mpr rfl)]
    simp only [Nat.add_zero]
    refine congrArg (fun z : (⟨3, ![a, b, 1]⟩ : Shape).Idx => min (idx z).toInt.toNat (N - 1)) ?_
    funext y; refine Fin.ext ?_
    match y with
    | ⟨0, _⟩ => rfl
    | ⟨1, _⟩ => rfl
    | ⟨2, _⟩ => rfl
  | ⟨1, _⟩ =>
    show GatherDims.start _ _ idx 1 + GatherDims.batchCoord _ _ 1 + GatherDims.offCoord _ _ 1 = _
    rw [GatherDims.batchCoord_eq_zero _ _ _ List.not_mem_nil]
    unfold GatherDims.start
    rw [dif_neg (by simp)]
    simp only [Nat.zero_add, Nat.add_zero]
    rfl

end Cert.Proof.NSA.V
-- ==== Proof.NSA.V.Far.lean ====
/-
  The bucket of a far block: from distance 113 on, the last.
-/
module

public import proofs.«01_k».proof.Proof.NSA.V.Word
public import Idealize.ShloMosaic.Lib.Tactic.WordOmega

@[expose] public section

noncomputable section

namespace Cert.Proof.NSA.V

open Idealize.ShloMosaic Idealize.ShloMosaic.Tactic

theorem bits_16 : Ideal.ofBits .f32 1098907648#32 = ((16 : ℝ) : EReal) := by
  simp [Ideal.ofBits, Ideal.ieee]; norm_num
  rw [← EReal.coe_mul]; norm_num

theorem bits_log8 : Ideal.ofBits .f32 1074075026#32 = ((8721810 / 4194304 : ℝ) : EReal) := by
  simp [Ideal.ofBits, Ideal.ieee]; norm_num
  rw [← EReal.coe_mul]; norm_num

/-- The scaled logarithm of a distance from 113 on is at least 15. -/
theorem log_far {x : ℝ} (h : 113 ≤ x) : 15 ≤ Real.log (x / 16) * (8721810 / 4194304 : ℝ)⁻¹ * 16 := by
  have h1 : Real.log (x / 16) ≥ Real.log (113 / 16) := Real.log_le_log (by norm_num) (by linarith)
  have h2 : Real.log (113 / 16) ≥ 782 / 401 := by
    have e1 : ((401 / 400 : ℝ) ^ 34) ^ 23 ≤ 113 / 16 := by norm_num
    have e2 := Real.log_le_log (by positivity) e1
    rw [Real.log_pow, Real.log_pow] at e2
    have e3 : Real.log (401 / 400 : ℝ) ≥ 1 - (401 / 400 : ℝ)⁻¹ := Real.one_sub_inv_le_log_of_pos (by norm_num)
    norm_num at e2 e3
    linarith
  rw [show Real.log (x / 16) * (8721810 / 4194304 : ℝ)⁻¹ * 16 = (16 * Real.log (x / 16)) * (4194304 / 8721810) by norm_num; ring]
  linarith

/-- It is at most 100. -/
theorem log_near {x : ℝ} (h : 113 ≤ x) (h' : x ≤ 8192) : Real.log (x / 16) * (8721810 / 4194304 : ℝ)⁻¹ * 16 ≤ 100 := by
  have h1 : Real.log (x / 16) ≤ Real.log ((2 : ℝ) ^ 9) := Real.log_le_log (by linarith) (by norm_num; linarith)
  rw [Real.log_pow] at h1
  have h4 : Real.log 2 ≤ 2 - 1 := Real.log_le_sub_one_of_pos (by norm_num)
  rw [show Real.log (x / 16) * (8721810 / 4194304 : ℝ)⁻¹ * 16 = (16 * Real.log (x / 16)) * (4194304 / 8721810) by norm_num; ring]
  norm_num at h1 h4
  linarith

/-- The bucket word of a far distance. -/
theorem bw_far (n : BitVec 32) (h : 113 ≤ n.toNat) (h' : n.toNat ≤ 8192) : bw n = 31#32 := by
  have hi : n.toInt = (n.toNat : ℤ) := by rw [BitVec.toInt_eq_toNat_of_lt (by omega)]
  have hm : IntOp.maxsi n 1#32 = n := by
    unfold IntOp.maxsi; simp [BitVec.slt, hi]; omega
  have hs : (FloatOps.sitofp (F := Ideal) .f32 n : EReal) = ((n.toNat : ℝ) : EReal) := by
    show ((n.toInt : ℝ) : EReal) = _
    rw [hi]; norm_cast
  have hn1 : (113 : ℝ) ≤ (n.toNat : ℝ) := by exact_mod_cast h
  have hn2 : (n.toNat : ℝ) ≤ 8192 := by exact_mod_cast h'
  have hd : Ideal.div (((n.toNat : ℝ)) : EReal) ((16 : ℝ) : EReal) = (((n.toNat : ℝ) / 16 : ℝ) : EReal) := by
    rw [Ideal.div, if_neg (by norm_num), ← EReal.coe_inv, ← EReal.coe_mul, div_eq_mul_inv]
  have hl : Ideal.log ((((n.toNat : ℝ) / 16 : ℝ)) : EReal) = ((Real.log ((n.toNat : ℝ) / 16) : ℝ) : EReal) := by
    show (if ((n.toNat : ℝ) / 16) ≤ 0 then (⊥ : EReal) else _) = _
    rw [if_neg (by linarith)]
  have hq : Ideal.div ((Real.log ((n.toNat : ℝ) / 16) : ℝ) : EReal) ((8721810 / 4194304 : ℝ) : EReal)
      = ((Real.log ((n.toNat : ℝ) / 16) * (8721810 / 4194304 : ℝ)⁻¹ : ℝ) : EReal) := by
    rw [Ideal.div, if_neg (by norm_cast; norm_num), ← EReal.coe_inv, ← EReal.coe_mul]
  unfold bw
  rw [hm, hs, bits_16, bits_log8, hd, hl, hq, ← EReal.coe_mul]
  have hL := log_far hn1
  have hU := log_near hn1 hn2
  generalize Real.log ((n.toNat : ℝ) / 16) * (8721810 / 4194304 : ℝ)⁻¹ * 16 = z at hL hU
  have hf : ∃ k : ℕ, 15 ≤ k ∧ k ≤ 100 ∧ FloatOps.fptosi (F := Ideal) (φ := .f32) 32 ((z : ℝ) : EReal) = BitVec.ofNat 32 k := by
    have hz : 0 ≤ z := by linarith
    have h1 : (15 : ℤ) ≤ ⌊z⌋ := Int.le_floor.2 (by exact_mod_cast hL)
    have h2 : ⌊z⌋ ≤ (100 : ℤ) := by exact_mod_cast (Int.floor_le z).trans hU
    refine ⟨⌊z⌋.toNat, by omega, by omega, ?_⟩
    show Ideal.fptosi 32 (z : EReal) = _
    rw [Ideal.fptosi, Ideal.toIntClamped_coe]
    rw [if_pos hz, min_eq_right (by norm_num; omega), max_eq_right (by norm_num; omega)]
    obtain ⟨k, hk⟩ := Int.eq_ofNat_of_zero_le (show (0 : ℤ) ≤ ⌊z⌋ by omega)
    rw [hk]; rfl
  obtain ⟨k, hk1, hk2, hk⟩ := hf
  rw [hk]
  have hc : IntOp.cmpi .slt n 16#32 = 0#1 := by
    word_omega
  rw [hc]
  show IntOp.minsi (IntOp.addi 16#32 (BitVec.ofNat 32 k)) 31#32 = 31#32
  interval_cases k <;> rfl

end Cert.Proof.NSA.V

end
-- ==== Proof.NSA.V.Host.lean ====
/-
  What the attention kernel (idealized) finds in its operands' arrays, as values of the arguments.
-/
module

public import proofs.«01_k».proof.Proof.NSA.PI.Run
public import proofs.«01_k».proof.Proof.NSA.V.Word
public import Idealize.ShloMosaic.Lib.Claim
public import Idealize.ShloMosaic.Lib.Pipeline.ValueKit
public import Idealize.ShloMosaic.Lib.StableHlo.ReadAt
public import Idealize.ShloMosaic.Lib.Tactic.WordOmega

@[expose] public section

set_option maxRecDepth 16384

noncomputable section

namespace Cert.Proof.NSA.V

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

/-! ## The arguments, and the operands' arrays -/

abbrev A0 : FVec Ideal S2x2x4x8192x64 .f32 := m ((c : Thread nD τ).loc main_arg0)
abbrev A1 : FVec Ideal S2x2x511x64 .f32 := m ((c : Thread nD τ).loc main_arg1)
abbrev A2 : FVec Ideal S2x2x511x64 .f32 := m ((c : Thread nD τ).loc main_arg2)
abbrev A7 : FVec Ideal S2x2x4x8192x3 .f32 := m ((c : Thread nD τ).loc main_arg7)
abbrev A8 : FVec Ideal S32x8 .f32 := m ((c : Thread nD τ).loc main_arg8)
abbrev A9 : FVec Ideal S_ .f32 := m ((c : Thread nD τ).loc main_arg9)

/-- The logarithm's change of base. -/
def lg2 : EReal := Ideal.div 1 (Ideal.log (Ideal.ofBits .f32 1073741824#32))

theorem tab_at (x : FVec Ideal S32x8 .f32) (i : IVec S16x128x1 32) (k : Fin 16) (s : Fin 128) (h : Fin 8) :
    Host.gather gather_S32x8_S16x128x1_S16x128x8_2_0_n_n_0_2_18 x i (ix3 k s h) = x (ix2 ⟨min (i (ix3 k s 0)).toInt.toNat 31, by omega⟩ h) :=
  gather_rows (by decide) _ rfl rfl rfl rfl rfl rfl rfl x i k s h

/-- The distance of a row of the band, as a word. -/
def dk (k s : ℕ) : BitVec 32 := IntOp.subi (IntOp.addi 97#32 (BitVec.ofNat 32 s)) (IntOp.muli 16#32 (BitVec.ofNat 32 k))

theorem v154 (b : Fin 2) (h : Fin 8) (k : Fin 128) (s : Fin 8192) :
    (V m c main_v154 (ix4 b h k s) : EReal) = if hk : k.val < 64 then
      A0 m c (ix5 b ⟨h.val / 4, by omega⟩ ⟨h.val % 4, by omega⟩ s ⟨k.val, hk⟩) * (Ideal.ofBits FTy.f32 1040187392#32 * lg2)
      else if k.val - 64 < 1 then A9 m c ix0 else (0:EReal) := by
  unfold V lg2
  after_reads_at
  after_reads_at
  rfl

theorem v160 (b : Fin 2) (k : Fin 128) (s : Fin 8192) :
    (V m c main_v160 (ix3 b k s) : EReal) = if k.val < 24 then (if k.val % 3 < 1 then
      A7 m c (ix5 b ⟨k.val / 12 % 2, by omega⟩ ⟨k.val / 3 % 4, by omega⟩ s ⟨k.val % 3, by omega⟩) else Ideal.ofBits FTy.f32 4286578688#32)
      else FloatOps.sitofp (F := Ideal) FTy.f32 0#32 := by
  unfold V
  after_reads_at
  after_reads_at
  split_ifs with h1 h2
  · refine congrArg (m _) ?_
    congr 1
    exact Fin.ext (Nat.mod_eq_of_lt (by omega)).symm
  · rfl
  · rfl

theorem v169 (b : Fin 2) (h : Fin 2) (k : Fin 640) (s : Fin 128) :
    (V m c main_v169 (ix4 b h k s) : EReal) = if hk : 8 ≤ k.val ∧ k.val - 8 < 511 then
        (if hs : s.val < 64 then A1 m c (ix4 b h ⟨k.val - 8, hk.2⟩ ⟨s.val, hs⟩) else FloatOps.sitofp (F := Ideal) FTy.f32 0#32)
      else FloatOps.uitofp (F := Ideal) FTy.f32 (IntOp.cmpi CmpIPredicate.eq (BitVec.ofNat 32 s.val) 64#32) := by
  unfold V
  after_reads_at
  after_reads_at
  by_cases a : k.val < 8
  · have e2 : ¬ (8 ≤ k.val ∧ k.val - 8 < 511) := by omega
    simp only [dif_pos a, dif_neg e2]
  · by_cases b' : k.val - 8 < 511
    · have e2 : 8 ≤ k.val ∧ k.val - 8 < 511 := ⟨by omega, b'⟩
      by_cases d : s.val < 64
      · have e1 : k.val - 8 < 511 ∧ s.val < 64 := ⟨b', d⟩
        simp only [dif_neg a, dif_pos b', dif_pos e1, dif_pos e2, dif_pos d]
      · have e1 : ¬ (k.val - 8 < 511 ∧ s.val < 64) := fun h => d h.2
        simp only [dif_neg a, dif_pos b', dif_neg e1, dif_pos e2, dif_neg d]
    · have e2 : ¬ (8 ≤ k.val ∧ k.val - 8 < 511) := fun h => b' h.2
      simp only [dif_neg a, dif_neg b', dif_neg e2]

theorem v172 (b : Fin 2) (h : Fin 2) (k : Fin 80) (s : Fin 640) :
    (V m c main_v172 (ix4 b h k s) : EReal) = if hk : k.val < 64 ∧ 8 ≤ s.val ∧ s.val - 8 < 511 then
      A2 m c (ix4 b h ⟨s.val - 8, hk.2.2⟩ ⟨k.val, hk.1⟩) else FloatOps.sitofp (F := Ideal) FTy.f32 0#32 := by
  unfold V
  after_reads_at

theorem v145 (h : Fin 2) (k : Fin 16) (s : Fin 512) :
    (V m c main_v145 (ix3 h k s) : EReal) = Scalar.select (IntOp.cmpi CmpIPredicate.sge (dk k (s.val % 128)) 0#32)
      ((A8 m c (ix2 ⟨min (rw_ (bw (IntOp.maxsi (dk k (s.val % 128)) 0#32))).toInt.toNat 31, by omega⟩ ⟨h.val * 4 + s.val / 128, by omega⟩)
        - A8 m c (ix2 31 ⟨h.val * 4 + s.val / 128, by omega⟩) : EReal) * lg2) (A9 m c ix0) := by
  unfold V lg2 rw_ bw dk
  after_reads_at
  pointwise [tab_at]

/-! ## The windows' blocks -/

theorem idx0 : ∀ t : Fin cfg0.N, win0_0.index t = ![(grid0.coords t 0).val, 0, 0, (grid0.coords t 1).val] :=
  (by decide +kernel : ∀ t : Fin grid0.N, _)
theorem idx1 : ∀ t : Fin cfg0.N, win0_1.index t = ![(grid0.coords t 0).val, 0, (grid0.coords t 1).val] :=
  (by decide +kernel : ∀ t : Fin grid0.N, _)
theorem idx3 : ∀ t : Fin cfg0.N, win0_3.index t = ![(grid0.coords t 0).val, 0, 0, 0] :=
  (by decide +kernel : ∀ t : Fin grid0.N, _)
theorem idx4 : ∀ t : Fin cfg0.N, win0_4.index t = ![(grid0.coords t 0).val, 0, 0, 0] :=
  (by decide +kernel : ∀ t : Fin grid0.N, _)
theorem idx5 : ∀ t : Fin cfg0.N, win0_5.index t = ![0, 0, 0] :=
  (by decide +kernel : ∀ t : Fin grid0.N, _)
theorem idx13 : ∀ t : Fin cfg0.N, win0_13.index t = ![(grid0.coords t 0).val, (grid0.coords t 1).val, 0] :=
  (by decide +kernel : ∀ t : Fin grid0.N, _)

theorem lt_b (t : Fin cfg0.N) : (grid0.coords t 0).val < 2 := (grid0.coords t 0).isLt
theorem lt_n (t : Fin cfg0.N) : (grid0.coords t 1).val < 64 := (grid0.coords t 1).isLt

theorem blk0 (t : Fin cfg0.N) (h : Fin 8) (k : Fin 128) (q : Fin 128) :
    iblk m c 0 t (ix4 0 h k q) = V m c main_v154 (ix4 ⟨(grid0.coords t 0).val, lt_b t⟩ h k ⟨128 * (grid0.coords t 1).val + q.val, by have := lt_n t; omega⟩) := by
  blk_ext [iblk, idx0 t]

theorem blk1 (t : Fin cfg0.N) (k : Fin 128) (q : Fin 128) :
    iblk m c 1 t (ix3 0 k q) = V m c main_v160 (ix3 ⟨(grid0.coords t 0).val, lt_b t⟩ k ⟨128 * (grid0.coords t 1).val + q.val, by have := lt_n t; omega⟩) := by
  blk_ext [iblk, idx1 t]

theorem blk3 (t : Fin cfg0.N) (g : Fin 2) (k : Fin 640) (q : Fin 128) :
    iblk m c 3 t (ix4 0 g k q) = V m c main_v169 (ix4 ⟨(grid0.coords t 0).val, lt_b t⟩ g k q) := by
  blk_ext [iblk, idx3 t]

theorem blk4 (t : Fin cfg0.N) (g : Fin 2) (k : Fin 80) (q : Fin 640) :
    iblk m c 4 t (ix4 0 g k q) = V m c main_v172 (ix4 ⟨(grid0.coords t 0).val, lt_b t⟩ g k q) := by
  blk_ext [iblk, idx4 t]

theorem blk5 (t : Fin cfg0.N) (g : Fin 2) (k : Fin 16) (q : Fin 512) :
    iblk m c 5 t (ix3 g k q) = V m c main_v145 (ix3 g k q) := by
  blk_ext [iblk, idx5 t]

end Cert.Proof.NSA.V
-- ==== Proof.NSA.V.Ref.lean ====
/-
  The reference's value, piece by piece: the distance, the bias bucket, the masked logits, the softmax over them, the gated result.
-/
module

public import proofs.«01_k».proof.Proof.Gen.ReferenceIdeal.Run
public import proofs.«01_k».proof.Proof.NSA.V.Word
public import Idealize.ShloMosaic.Lib.Claim
public import Idealize.ShloMosaic.Lib.Pipeline.ValueKit
public import Idealize.ShloMosaic.Lib.StableHlo.ReadAt
public import Idealize.ShloMosaic.Lib.Tactic.WordOmega

@[expose] public section

set_option maxRecDepth 16384

noncomputable section

namespace Cert.Proof.NSA.V.Ref

open Cert.ReferenceIdeal Cert.ReferenceIdeal.Gen
open Idealize.ShloMosaic Idealize.ShloMosaic.TcCoe Idealize.ShloMosaic.Tactic

/-- The distance of a query to the last token of a compressed block. -/
def dist : IVec S8192x511 32 :=
  subi (broadcastInDim S8192x511 ![0, 1] bcast_S8192x1_S8192x511_0_1 (broadcastInDim S8192x1 ![0] bcast_S8192_S8192x1_0 (iotaInDim S8192 32 0)))
    (broadcastInDim S8192x511 ![0, 1] bcast_S1x511_S8192x511_0_1 (broadcastInDim S1x511 ![1] bcast_S511_S1x511_1
      (subi (addi (muli (iotaInDim S511 32 0) (broadcastInDim S511 ![] bcast_S_S511 (constantI S_ 32 16#32)))
        (broadcastInDim S511 ![] bcast_S_S511 (constantI S_ 32 32#32))) (broadcastInDim S511 ![] bcast_S_S511 (constantI S_ 32 1#32)))))

/-- The bias bucket of a distance. -/
def bucket (d : IVec S8192x511 32) : IVec S8192x511 32 :=
  have n := maxsi d (broadcastInDim S8192x511 ![] bcast_S_S8192x511 (constantI S_ 32 0#32))
  select (cmpi .slt n (broadcastInDim S8192x511 ![] bcast_S_S8192x511 (constantI S_ 32 16#32))) n
    (minsi (addi (broadcastInDim S8192x511 ![] bcast_S_S8192x511 (constantI S_ 32 16#32)) (fptosi 32 (mulf (F := Ideal) (s := S8192x511) (φ := .f32) (Host.divf (Host.log (Host.divf
      (sitofp .f32 (maxsi n (broadcastInDim S8192x511 ![] bcast_S_S8192x511 (constantI S_ 32 1#32))))
      (broadcastInDim S8192x511 ![] bcast_S_S8192x511 (constant S_ .f32 0x41800000#32)))) (broadcastInDim S8192x511 ![] bcast_S_S8192x511 (constant S_ .f32 0x40051592#32)))
      (broadcastInDim S8192x511 ![] bcast_S_S8192x511 (constant S_ .f32 0x41800000#32)))))
      (broadcastInDim S8192x511 ![] bcast_S_S8192x511 (constantI S_ 32 31#32)))

/-- The row of the bias table, a negative bucket counted from the end. -/
def row (b : IVec S8192x511 32) : IVec S8192x511 32 :=
  select (cmpi .slt b (broadcastInDim S8192x511 ![] bcast_S_S8192x511 (constantI S_ 32 0#32)))
    (addi b (broadcastInDim S8192x511 ![] bcast_S_S8192x511 (constantI S_ 32 32#32))) b

/-- The bias rows of the distances. -/
def bias (rb : FVec Ideal S32x8 .f32) (r : IVec S8192x511 32) : FVec Ideal S8192x511x8 .f32 :=
  Host.gather gather_S32x8_S8192x511x1_S8192x511x8_2_0_n_n_0_2_18 rb (broadcastInDim S8192x511x1 ![0, 1] bcast_S8192x511_S8192x511x1_0_1 r)

/-- The masked logits. -/
def logits (d : IVec S8192x511 32) (q : FVec Ideal S2x2x4x8192x64 .f32) (k : FVec Ideal S2x2x511x64 .f32) (b : FVec Ideal S8192x511x8 .f32) (neg : FVec Ideal S_ .f32) : FVec Ideal S2x2x4x8192x511 .f32 :=
  select (broadcastInDim S2x2x4x8192x511 ![3, 4] bcast_S8192x511_S2x2x4x8192x511_3_4 (cmpi .sge d (broadcastInDim S8192x511 ![] bcast_S_S8192x511 (constantI S_ 32 0#32))))
    (addf (Host.dotGeneral dot_S2x2x4x8192x64_S2x2x511x64_S2x2x4x8192x511_4_3_23_2_01_01 none (mulf q (broadcastInDim S2x2x4x8192x64 ![] bcast_S_S2x2x4x8192x64 (constant S_ .f32 0x3E000000#32))) k)
      (broadcastInDim S2x2x4x8192x511 ![0, 1, 2, 3, 4] bcast_S1x2x4x8192x511_S2x2x4x8192x511_0_1_2_3_4 (broadcastInDim S1x2x4x8192x511 ![1, 2, 3, 4] bcast_S2x4x8192x511_S1x2x4x8192x511_1_2_3_4
        (shapeCast _ (transpose S8x8192x511 [2, 0, 1] b transposes_S8192x511x8_S8x8192x511_2_0_1) shapeCasts_S8x8192x511_S2x4x8192x511))))
    (broadcastInDim S2x2x4x8192x511 ![] bcast_S_S2x2x4x8192x511 neg)

/-- The logits' maximum over the blocks. -/
def top (l : FVec Ideal S2x2x4x8192x511 .f32) : FVec Ideal S2x2x4x8192 .f32 :=
  Host.reduce FloatOps.maximumf l (constant S_ .f32 0xFF800000#32) reducesTo_S2x2x4x8192x511_S2x2x4x8192_d4 h_S_

/-- The exponentials of the logits below a maximum. -/
def expo (l : FVec Ideal S2x2x4x8192x511 .f32) (M : FVec Ideal S2x2x4x8192 .f32) : FVec Ideal S2x2x4x8192x511 .f32 :=
  Host.exp (subf l (broadcastInDim S2x2x4x8192x511 ![0, 1, 2, 3, 4] bcast_S2x2x4x8192x1_S2x2x4x8192x511_0_1_2_3_4
    (broadcastInDim S2x2x4x8192x1 ![0, 1, 2, 3] bcast_S2x2x4x8192_S2x2x4x8192x1_0_1_2_3
      (maximumf (broadcastInDim S2x2x4x8192 ![] bcast_S_S2x2x4x8192 (constant S_ .f32 0xFF800000#32))
        M))))

/-- The weights: the exponentials over their sum, zero where the mask is closed. -/
def probs (d : IVec S8192x511 32) (e : FVec Ideal S2x2x4x8192x511 .f32) : FVec Ideal S2x2x4x8192x511 .f32 :=
  mulf (Host.divf e (broadcastInDim S2x2x4x8192x511 ![0, 1, 2, 3, 4] bcast_S2x2x4x8192x1_S2x2x4x8192x511_0_1_2_3_4
      (broadcastInDim S2x2x4x8192x1 ![0, 1, 2, 3] bcast_S2x2x4x8192_S2x2x4x8192x1_0_1_2_3
        (Host.reduceAdd e (constant S_ .f32 0x00000000#32) reducesTo_S2x2x4x8192x511_S2x2x4x8192_d4 h_S_))))
    (broadcastInDim S2x2x4x8192x511 ![0, 1, 2, 3, 4] bcast_S1x1x1x8192x511_S2x2x4x8192x511_0_1_2_3_4 (broadcastInDim S1x1x1x8192x511 ![3, 4] bcast_S8192x511_S1x1x1x8192x511_3_4
      (uitofp .f32 (cmpi .sge d (broadcastInDim S8192x511 ![] bcast_S_S8192x511 (constantI S_ 32 0#32))))))

/-- The gated result. -/
def outp (g : FVec Ideal S2x2x4x8192x3 .f32) (p : FVec Ideal S2x2x4x8192x511 .f32) (v : FVec Ideal S2x2x511x64 .f32) : FVec Ideal S2x8192x512 .bf16 :=
  truncf .bf16 (shapeCast _ (transpose S2x8192x2x4x64 [0, 3, 1, 2, 4] (mulf
    (broadcastInDim S2x2x4x8192x64 ![0, 1, 2, 3, 4] bcast_S2x2x4x8192x1_S2x2x4x8192x64_0_1_2_3_4 (Host.divf (broadcastInDim S2x2x4x8192x1 ![] bcast_S_S2x2x4x8192x1 (constant S_ .f32 0x3F800000#32))
      (addf (broadcastInDim S2x2x4x8192x1 ![] bcast_S_S2x2x4x8192x1 (constant S_ .f32 0x3F800000#32))
        (Host.exp (Host.negf (extractStridedSlice S2x2x4x8192x1 ![0, 0, 0, 0, 0] g slices_S2x2x4x8192x3_S2x2x4x8192x1_0_0_0_0_0))))))
    (Host.dotGeneral dot_S2x2x4x8192x511_S2x2x511x64_S2x2x4x8192x64_4_2_23_3_01_01 none p v)) transposes_S2x2x4x8192x64_S2x8192x2x4x64_0_3_1_2_4)
    shapeCasts_S2x8192x2x4x64_S2x8192x512) bitsLt_bf16_f32

variable (m : (ℓ : Loc nD τ sig) → Buf (Elt Ideal) ℓ) (c : Dev nD)

/-- The logits of the arguments. -/
abbrev lgt : FVec Ideal S2x2x4x8192x511 .f32 :=
  logits dist (m ((c.tc : Thread nD τ).loc main_arg0)) (m ((c.tc : Thread nD τ).loc main_arg1))
    (bias (m ((c.tc : Thread nD τ).loc main_arg8)) (row (bucket dist))) (m ((c.tc : Thread nD τ).loc main_arg9))

theorem res_eq : Value.res_out0 m c = outp (m ((c.tc : Thread nD τ).loc main_arg7))
    (probs dist (expo (lgt m c) (top (lgt m c)))) (m ((c.tc : Thread nD τ).loc main_arg2)) := rfl

/-- The distance, as a word. -/
def dw (t r : ℕ) : BitVec 32 := IntOp.subi (BitVec.ofNat 32 t) (IntOp.subi (IntOp.addi (IntOp.muli (BitVec.ofNat 32 r) 16#32) 32#32) 1#32)

theorem dist_at (q : Fin 8192) (r : Fin 511) : dist (ix2 q r) = dw q r := by
  unfold dist dw; pointwise

theorem bucket_at (d : IVec S8192x511 32) (q : Fin 8192) (r : Fin 511) : bucket d (ix2 q r) = bw (IntOp.maxsi (d (ix2 q r)) 0#32) := by
  unfold bucket bw; pointwise

theorem row_at (d : IVec S8192x511 32) (q : Fin 8192) (r : Fin 511) : row d (ix2 q r) = rw_ (d (ix2 q r)) := by
  unfold row rw_; pointwise

theorem bias_at (rb r) (q : Fin 8192) (k : Fin 511) (h : Fin 8) :
    bias rb r (ix3 q k h) = rb (ix2 ⟨min (r (ix2 q k)).toInt.toNat 31, by omega⟩ h) := by
  unfold bias
  rw [gather_rows (by decide) _ rfl rfl rfl rfl rfl rfl rfl]
  pointwise

theorem logits_at (d : IVec S8192x511 32) (q k b neg) (x0 : Fin 2) (g : Fin 2) (h : Fin 4) (t : Fin 8192) (r : Fin 511) :
    logits d q k b neg (ix5 x0 g h t r) = Scalar.select (IntOp.cmpi CmpIPredicate.sge (d (ix2 t r)) 0#32)
      (∑ x, q (ix5 x0 g h t x) * Ideal.ofBits FTy.f32 1040187392#32 * k (ix4 x0 g r x) + b (ix3 t r ⟨g.val * 4 + h.val, by omega⟩) : EReal)
      (neg ix0) := by
  unfold logits; pointwise

theorem max_last {n0 n1 n2 n3 n4 : ℕ} (h : (⟨5, ![n0, n1, n2, n3, n4]⟩ : Shape).ReducesTo [4] ⟨4, ![n0, n1, n2, n3]⟩)
    (l : FVec Ideal ⟨5, ![n0, n1, n2, n3, n4]⟩ .f32) (z : FVec Ideal S_ .f32) (i : Fin n0) (j : Fin n1) (k : Fin n2) (t : Fin n3) :
    Host.reduce FloatOps.maximumf l z h h_S_ (ix4 i j k t) = Finset.fold max (z (Shape.Idx.first h_S_)) (fun x => (l (ix5 i j k t x) : EReal)) Finset.univ := by
  pointwise

theorem top_at (l) (x0 : Fin 2) (g : Fin 2) (h : Fin 4) (t : Fin 8192) :
    top l (ix4 x0 g h t) = Finset.fold max (Ideal.ofBits FTy.f32 4286578688#32) (fun x => (l (ix5 x0 g h t x) : EReal)) Finset.univ :=
  max_last _ l _ x0 g h t

theorem expo_at (l M) (x0 : Fin 2) (g : Fin 2) (h : Fin 4) (t : Fin 8192) (r : Fin 511) :
    expo l M (ix5 x0 g h t r) = Ideal.exp (l (ix5 x0 g h t r) - max (Ideal.ofBits FTy.f32 4286578688#32) (M (ix4 x0 g h t))) := by
  unfold expo; pointwise

theorem probs_at (d e) (x0 : Fin 2) (g : Fin 2) (h : Fin 4) (t : Fin 8192) (r : Fin 511) :
    probs d e (ix5 x0 g h t r) = Ideal.div (e (ix5 x0 g h t r)) (∑ x, e (ix5 x0 g h t x)) *
      FloatOps.uitofp (F := Ideal) FTy.f32 (IntOp.cmpi CmpIPredicate.sge (d (ix2 t r)) 0#32) := by
  unfold probs; pointwise

theorem outp_at (g p v) (b : Fin 2) (q : Fin 8192) (j : Fin 512) :
    outp g p v (ix3 b q j) = Ideal.div 1 (1 + Ideal.exp (-g (ix5 b ⟨j.val / 256, by omega⟩ ⟨j.val / 64 % 4, by omega⟩ q 0))) *
      ∑ x, p (ix5 b ⟨j.val / 256, by omega⟩ ⟨j.val / 64 % 4, by omega⟩ q x) * v (ix4 b ⟨j.val / 256, by omega⟩ x ⟨j.val % 64, by omega⟩) := by
  unfold outp; pointwise

end Cert.Proof.NSA.V.Ref
-- ==== Proof.NSA.V.Body.lean ====
/-
  The body at one grid point, with the gates of the selected and the window branch closed: the gated result of the compressed branch.
-/
module

public import proofs.«01_k».proof.Proof.NSA.V.Slab
public import proofs.«01_k».proof.Proof.NSA.PI.KeepBody

@[expose] public section

set_option maxRecDepth 16384

noncomputable section

namespace Cert.Proof.NSA.V

open Cert.KernelIdeal Cert.KernelIdeal.Gen Cert.Proof.NSA.PI
open Idealize.ShloMosaic Idealize.ShloMosaic.TcCoe Idealize.ShloMosaic.Tactic
open Idealize.SL Idealize.SL.RA Idealize.SL.BI
open Idealize.SL.Sem
open Idealize.ShloMosaic.Rounds

variable (σ : St (Elt Ideal) sh ty)

/-- The gate of the compressed branch, of one group, at a column. -/
def sg (g : Fin 2) (c : Fin 512) : EReal :=
  Ideal.div 1 (1 + Ideal.exp (0 - σ .a3 (ix3 (0 : Fin 1) (⟨12 * g.val + 3 * (c.val / 128), by omega⟩ : Fin 128) (⟨c.val % 128, by omega⟩ : Fin 128))))

theorem ix4_eq {n₀ n₁ n₂ n₃ : ℕ} {a a' : Fin n₀} {b b' : Fin n₁} {c c' : Fin n₂} {d d' : Fin n₃} (ha : a = a') (hb : b = b') (hc : c = c')
    (hd : d = d') : ix4 a b c d = ix4 a' b' c' d' := by
  subst ha hb hc hd; rfl

theorem ix3_eq {n₀ n₁ n₂ : ℕ} {a a' : Fin n₀} {b b' : Fin n₁} {c c' : Fin n₂} (ha : a = a') (hb : b = b') (hc : c = c') :
    ix3 a b c = ix3 a' b' c' := by
  subst ha hb hc; rfl

theorem ix2_eq {n₀ n₁ : ℕ} {a a' : Fin n₀} {b b' : Fin n₁} (ha : a = a') (hb : b = b') : ix2 a b = ix2 a' b' := by
  subst ha hb; rfl

/-- A closed gate. -/
theorem gate_bot : Ideal.div 1 (1 + Ideal.exp (0 - (⊥ : EReal))) = 0 := by
  have h : (0 : EReal) - ⊥ = ⊤ := by simp
  have h1 : (1 : EReal) + ⊤ = ⊤ := EReal.add_top_of_ne_bot (by decide)
  rw [h, show Ideal.exp ⊤ = ⊤ from rfl, h1]
  simp [Ideal.div]

variable (𝒱 : Variants) (c : Dev nD) (M : (j : B) → Memref sig .tc .vmem (sh j) (ty j)) (hM : ∀ j, (M j).IsWhole)

/-- The operands kept, and the result. -/
@[reducible] def inpO : B → Bool
  | .a15 => true
  | j => inp j

set_option maxHeartbeats 4000000 in
theorem part94 (i : grid0.Coords) : Tr (defs₀ (F := Ideal)) 𝒱 c M σ
    (k0_part94 i (M .a2) (hM .a2) (M .a3) (hM .a3) (M .a4) (hM .a4) (M .a5) (hM .a5) (M .a6) (hM .a6) (M .a7) (hM .a7)
      (M .a8) (hM .a8) (M .a9) (hM .a9) (M .a10) (hM .a10) (M .a11) (hM .a11) (M .a12) (hM .a12) (M .a13) (hM .a13)
      (M .a14) (hM .a14) (M .a15) (hM .a15) (M .a16) (hM .a16) (M .a17) (hM .a17) (M .a18) (hM .a18) (M .a19) (hM .a19)
      (M .a20) (hM .a20) (M .a21) (hM .a21) (M .a22) (hM .a22) (M .a23) (hM .a23) (M .a24) (hM .a24) (M .a25) (hM .a25)
      (M .a26) (hM .a26) (M .a27) (hM .a27) (M .a28) (hM .a28))
    fun x σ' => σ' = σ ∧ x.1 = BitVec.ofNat 32 (i 1).val ∧ (∀ a b, x.2.2.2.1 (ix2 a b) = if a = b then (1 : EReal) else 0)
      ∧ (∀ k c, x.2.2.2.2.1 (ix2 k c) = qv σ 0 k c) ∧ ∀ k c, x.2.2.2.2.2 (ix2 k c) = qv σ 1 k c := by
  unfold k0_part94
  repeat refine Tr.load_bind _ ?_
  refine Tr.pure ⟨rfl, rfl, ?_, ?_, ?_⟩
  · intro a b
    dsimp only
    pointwise
    by_cases h : a = b
    · subst h
      simp [IntOp.cmpi, FloatOps.sitofp]
    · have : BitVec.ofNat 32 a.val ≠ BitVec.ofNat 32 b.val := fun e => h (Fin.ext (by
        have := congrArg BitVec.toNat e
        simp only [BitVec.toNat_ofNat] at this
        omega))
      have hb : (BitVec.ofNat 32 a.val == BitVec.ofNat 32 b.val) = false := by simpa using this
      simp [IntOp.cmpi, FloatOps.sitofp, h, hb]
  · intro k c
    dsimp only
    pointwise [View.ld_unit]
    unfold qv
    split_ifs <;> refine congrArg (σ .a2) (ix4_eq rfl (Fin.ext ?_) rfl (Fin.ext ?_)) <;> simp <;> omega
  · intro k c
    dsimp only
    pointwise [View.ld_unit]
    unfold qv
    split_ifs <;> refine congrArg (σ .a2) (ix4_eq rfl (Fin.ext ?_) rfl (Fin.ext ?_)) <;> simp <;> omega

set_option maxHeartbeats 4000000 in
theorem part95 (i : grid0.Coords) (w : BitVec 32) (hw : w = BitVec.ofNat 32 (i 1).val) : Tr (defs₀ (F := Ideal)) 𝒱 c M σ
    (k0_part95 i (M .a2) (hM .a2) (M .a3) (hM .a3) (M .a4) (hM .a4) (M .a5) (hM .a5) (M .a6) (hM .a6) (M .a7) (hM .a7)
      (M .a8) (hM .a8) (M .a9) (hM .a9) (M .a10) (hM .a10) (M .a11) (hM .a11) (M .a12) (hM .a12) (M .a13) (hM .a13)
      (M .a14) (hM .a14) (M .a15) (hM .a15) (M .a16) (hM .a16) (M .a17) (hM .a17) (M .a18) (hM .a18) (M .a19) (hM .a19)
      (M .a20) (hM .a20) (M .a21) (hM .a21) (M .a22) (hM .a22) (M .a23) (hM .a23) (M .a24) (hM .a24) (M .a25) (hM .a25)
      (M .a26) (hM .a26) (M .a27) (hM .a27) (M .a28) (hM .a28) w)
    fun x σ' => σ' = σ ∧ x.2.2.2.2.2.1 = BitVec.ofNat 32 (8 * (i 1).val + 16) := by
  have hn : (i 1).val < 64 := (i 1).isLt
  unfold k0_part95
  repeat refine Tr.load_bind _ ?_
  refine Tr.pure ⟨rfl, ?_⟩
  subst hw
  dsimp only
  unfold Scalar.addi Scalar.muli IntOp.addi IntOp.muli
  word_omega

/-- The rows of the gates of the two other branches are closed. -/
def Closed : Prop := ∀ (r q : Fin 128), r.val < 24 → r.val % 3 ≠ 0 → σ .a3 (ix3 (0 : Fin 1) r q) = ⊥

set_option maxHeartbeats 4000000 in
theorem part128 (i : grid0.Coords) (X : FVec Ideal S64x512 .f32) v721 v1195 v1247 (hc : Closed σ) : Tr (defs₀ (F := Ideal)) 𝒱 c M σ
    (k0_part128 i (M .a2) (hM .a2) (M .a3) (hM .a3) (M .a4) (hM .a4) (M .a5) (hM .a5) (M .a6) (hM .a6) (M .a7) (hM .a7)
      (M .a8) (hM .a8) (M .a9) (hM .a9) (M .a10) (hM .a10) (M .a11) (hM .a11) (M .a12) (hM .a12) (M .a13) (hM .a13)
      (M .a14) (hM .a14) (M .a15) (hM .a15) (M .a16) (hM .a16) (M .a17) (hM .a17) (M .a18) (hM .a18) (M .a19) (hM .a19)
      (M .a20) (hM .a20) (M .a21) (hM .a21) (M .a22) (hM .a22) (M .a23) (hM .a23) (M .a24) (hM .a24) (M .a25) (hM .a25)
      (M .a26) (hM .a26) (M .a27) (hM .a27) (M .a28) (hM .a28) X v721 v1195 v1247)
    fun x σ' => σ' = σ ∧ (∀ d c, x.2.1 (ix2 d c) = sg σ 0 c * X (ix2 d c)) ∧ (∀ q, x.2.2.1 (ix2 (0 : Fin 1) q) = ⊥) ∧ ∀ q, x.2.2.2 (ix2 (0 : Fin 1) q) = ⊥ := by
  unfold k0_part128
  repeat refine Tr.load_bind _ ?_
  refine Tr.pure ⟨rfl, ?_, ?_, ?_⟩
  · intro d c
    dsimp only
    pointwise [View.ld_unit]
    unfold sg
    have he : ∀ {a b : EReal}, a = b → Ideal.div 1 (1 + Ideal.exp (0 - a)) * X (ix2 d c) = Ideal.div 1 (1 + Ideal.exp (0 - b)) * X (ix2 d c) := by
      rintro _ _ rfl; rfl
    refine he ?_
    split_ifs <;> refine congrArg (σ .a3) (ix3_eq rfl (Fin.ext ?_) (Fin.ext ?_)) <;> simp <;> omega
  · intro q
    dsimp only
    pointwise [View.ld_unit]
    exact hc _ _ (by decide) (by decide)
  · intro q
    dsimp only
    pointwise [View.ld_unit]
    exact hc _ _ (by decide) (by decide)

set_option maxHeartbeats 4000000 in
theorem part129 (i : grid0.Coords) (Y : FVec Ideal S64x512 .f32) v428 v1176 v1283 v1285 (hc : Closed σ) (h1 : ∀ q, v1283 (ix2 (0 : Fin 1) q) = ⊥)
    (h2 : ∀ q, v1285 (ix2 (0 : Fin 1) q) = ⊥) : Tr (defs₀ (F := Ideal)) 𝒱 c M σ
    (k0_part129 i (M .a2) (hM .a2) (M .a3) (hM .a3) (M .a4) (hM .a4) (M .a5) (hM .a5) (M .a6) (hM .a6) (M .a7) (hM .a7)
      (M .a8) (hM .a8) (M .a9) (hM .a9) (M .a10) (hM .a10) (M .a11) (hM .a11) (M .a12) (hM .a12) (M .a13) (hM .a13)
      (M .a14) (hM .a14) (M .a15) (hM .a15) (M .a16) (hM .a16) (M .a17) (hM .a17) (M .a18) (hM .a18) (M .a19) (hM .a19)
      (M .a20) (hM .a20) (M .a21) (hM .a21) (M .a22) (hM .a22) (M .a23) (hM .a23) (M .a24) (hM .a24) (M .a25) (hM .a25)
      (M .a26) (hM .a26) (M .a27) (hM .a27) (M .a28) (hM .a28) v428 v1176 Y v1283 v1285)
    fun x σ' => σ' = σ ∧ ∀ (d : Fin 64) (q : Fin 128), x.1 (ix2 d q) = Y (ix2 d (⟨q.val, by omega⟩ : Fin 512)) ∧ x.2.1 (ix2 d q) = Y (ix2 d (⟨128 + q.val, by omega⟩ : Fin 512))
      ∧ x.2.2.1 (ix2 d q) = Y (ix2 d (⟨256 + q.val, by omega⟩ : Fin 512)) ∧ x.2.2.2 (ix2 d q) = Y (ix2 d (⟨384 + q.val, by omega⟩ : Fin 512)) := by
  unfold k0_part129
  repeat refine Tr.load_bind _ ?_
  refine Tr.pure ⟨rfl, fun d q => ?_⟩
  dsimp only
  have hr : ∀ r : Fin 128, r.val < 24 → r.val % 3 ≠ 0 → ∀ q, σ .a3 (ix3 (0 : Fin 1) r q) = ⊥ := fun r a b q => hc r q a b
  refine ⟨?_, ?_, ?_, ?_⟩ <;> pointwise [View.ld_unit] <;> simp only [h1, h2, hr 7 (by decide) (by decide), hr 10 (by decide) (by decide), hr 2 (by decide) (by decide),
    hr 5 (by decide) (by decide), hr 8 (by decide) (by decide), hr 11 (by decide) (by decide), dite_eq_ite, ite_self, gate_bot, zero_mul, add_zero]

/-- A store into the result, read at a column it wrote, -/
theorem out_in {α : Type} {o : ℕ} (inb : ∀ a, (![0, 0, o] : Fin 3 → ℕ) a + (![1, 128, 256] : Fin 3 → ℕ) a ≤ S1x128x512.size a)
    (f : S1x128x512.Idx → α) (w : (Rect.unit (s := S1x128x512) ![0, 0, o] ![1, 128, 256] inb).shape.Idx → α) (q : Fin 128) (j : Fin 256) (y : Fin 512)
    (hy : y.val = o + j.val) : (Rect.unit (s := S1x128x512) ![0, 0, o] ![1, 128, 256] inb).overlay f w (ix3 (0 : Fin 1) q y) = w (ix3 (0 : Fin 1) q j) := by
  rw [← Rect.overlay_emb (Rect.unit (s := S1x128x512) ![0, 0, o] ![1, 128, 256] inb) f w (ix3 (0 : Fin 1) q j)]
  congr 1
  funext d
  refine Fin.ext ?_
  fin_cases d
  · rfl
  · show q.val = 0 + 1 * q.val; omega
  · show y.val = o + 1 * j.val; omega

/-- and at one it did not. -/
theorem out_out {α : Type} {o : ℕ} (inb : ∀ a, (![0, 0, o] : Fin 3 → ℕ) a + (![1, 128, 256] : Fin 3 → ℕ) a ≤ S1x128x512.size a)
    (f : S1x128x512.Idx → α) (w : (Rect.unit (s := S1x128x512) ![0, 0, o] ![1, 128, 256] inb).shape.Idx → α) (q : Fin 128) (y : Fin 512)
    (hy : y.val < o) : (Rect.unit (s := S1x128x512) ![0, 0, o] ![1, 128, 256] inb).overlay f w (ix3 (0 : Fin 1) q y) = f (ix3 (0 : Fin 1) q y) := by
  refine Rect.overlay_of_not_mem _ _ _ fun hm => ?_
  have h2 := (Rect.mem_set_unit.mp hm 2).1
  change o ≤ y.val at h2
  omega

set_option maxHeartbeats 4000000 in
theorem part130 (i : grid0.Coords) (E : FVec Ideal S128x128 .bf16) (X : FVec Ideal S64x512 .f32) v1 v2 v3 v4 (hc : Closed σ)
    (hE : ∀ a b, E (ix2 a b) = if a = b then (1 : EReal) else 0) : Tr (defs₀ (F := Ideal)) 𝒱 c M σ
    (k0_part130 i (M .a2) (hM .a2) (M .a3) (hM .a3) (M .a4) (hM .a4) (M .a5) (hM .a5) (M .a6) (hM .a6) (M .a7) (hM .a7)
      (M .a8) (hM .a8) (M .a9) (hM .a9) (M .a10) (hM .a10) (M .a11) (hM .a11) (M .a12) (hM .a12) (M .a13) (hM .a13)
      (M .a14) (hM .a14) (M .a15) (hM .a15) (M .a16) (hM .a16) (M .a17) (hM .a17) (M .a18) (hM .a18) (M .a19) (hM .a19)
      (M .a20) (hM .a20) (M .a21) (hM .a21) (M .a22) (hM .a22) (M .a23) (hM .a23) (M .a24) (hM .a24) (M .a25) (hM .a25)
      (M .a26) (hM .a26) (M .a27) (hM .a27) (M .a28) (hM .a28) E X v1 v2 v3 v4)
    fun x σ' => (∀ j, inp j = true → σ' j = σ j) ∧ (∀ d c, x.1 (ix2 d c) = sg σ 1 c * X (ix2 d c))
      ∧ (∀ q, x.2.1 (ix2 (0 : Fin 1) q) = ⊥ ∧ x.2.2.1 (ix2 (0 : Fin 1) q) = ⊥ ∧ x.2.2.2 (ix2 (0 : Fin 1) q) = ⊥)
      ∧ ∀ (q : Fin 128) (d : Fin 64) (y : Fin 512), (y.val = d.val → σ' .a15 (ix3 (0 : Fin 1) q y) = v1 (ix2 d q))
        ∧ (y.val = 64 + d.val → σ' .a15 (ix3 (0 : Fin 1) q y) = v2 (ix2 d q)) ∧ (y.val = 128 + d.val → σ' .a15 (ix3 (0 : Fin 1) q y) = v3 (ix2 d q))
        ∧ (y.val = 192 + d.val → σ' .a15 (ix3 (0 : Fin 1) q y) = v4 (ix2 d q)) := by
  unfold k0_part130
  repeat first | refine Tr.load_bind _ ?_ | refine Tr.store_bind _ ?_
  refine Tr.pure ⟨?_, ?_, ?_, ?_⟩
  · intro j hj
    exact Function.update_of_ne (fun e => by subst e; exact absurd hj (by decide)) _ _
  · intro d c
    dsimp only
    pointwise [View.ld_unit]
    unfold sg
    have he : ∀ {a b : EReal}, a = b → Ideal.div 1 (1 + Ideal.exp (0 - a)) * X (ix2 d c) = Ideal.div 1 (1 + Ideal.exp (0 - b)) * X (ix2 d c) := by
      rintro _ _ rfl; rfl
    refine he ?_
    split_ifs <;> refine congrArg (σ .a3) (ix3_eq rfl (Fin.ext ?_) (Fin.ext ?_)) <;> simp <;> omega
  · intro q
    dsimp only
    refine ⟨?_, ?_, ?_⟩ <;> pointwise [View.ld_unit] <;> exact hc _ _ (by decide) (by decide)
  · intro q d y
    rw [Function.update_self]
    refine ⟨fun hy => ?_, fun hy => ?_, fun hy => ?_, fun hy => ?_⟩
    · refine (out_in _ _ _ q ⟨d.val, by omega⟩ y (by simpa using hy)).trans ?_
      pointwise
      simp only [hE, ite_mul, one_mul, zero_mul, Finset.sum_ite_eq, Finset.mem_univ, if_true]
    · refine (out_in _ _ _ q ⟨64 + d.val, by omega⟩ y (by simpa using hy)).trans ?_
      pointwise
      simp only [hE, ite_mul, one_mul, zero_mul, Finset.sum_ite_eq, Finset.mem_univ, if_true]
    · refine (out_in _ _ _ q ⟨128 + d.val, by omega⟩ y (by simpa using hy)).trans ?_
      pointwise
      simp only [hE, ite_mul, one_mul, zero_mul, Finset.sum_ite_eq, Finset.mem_univ, if_true]
      split_ifs <;> first | omega | exact congrArg _ (ix2_eq (Fin.ext (by simp <;> omega)) rfl)
    · refine (out_in _ _ _ q ⟨192 + d.val, by omega⟩ y (by simpa using hy)).trans ?_
      pointwise
      simp only [hE, ite_mul, one_mul, zero_mul, Finset.sum_ite_eq, Finset.mem_univ, if_true]
      split_ifs <;> first | omega | exact congrArg _ (ix2_eq (Fin.ext (by simp <;> omega)) rfl)

set_option maxHeartbeats 4000000 in
theorem part131 (i : grid0.Coords) (E : FVec Ideal S128x128 .bf16) v513 v1263 (Y : FVec Ideal S64x512 .f32) v1350 v1352 v1354 (hc : Closed σ)
    (hE : ∀ a b, E (ix2 a b) = if a = b then (1 : EReal) else 0) (h : ∀ q, v1350 (ix2 (0 : Fin 1) q) = ⊥ ∧ v1352 (ix2 (0 : Fin 1) q) = ⊥ ∧ v1354 (ix2 (0 : Fin 1) q) = ⊥) :
    Tr (defs₀ (F := Ideal)) 𝒱 c M σ
    (k0_part131 i (M .a2) (hM .a2) (M .a3) (hM .a3) (M .a4) (hM .a4) (M .a5) (hM .a5) (M .a6) (hM .a6) (M .a7) (hM .a7)
      (M .a8) (hM .a8) (M .a9) (hM .a9) (M .a10) (hM .a10) (M .a11) (hM .a11) (M .a12) (hM .a12) (M .a13) (hM .a13)
      (M .a14) (hM .a14) (M .a15) (hM .a15) (M .a16) (hM .a16) (M .a17) (hM .a17) (M .a18) (hM .a18) (M .a19) (hM .a19)
      (M .a20) (hM .a20) (M .a21) (hM .a21) (M .a22) (hM .a22) (M .a23) (hM .a23) (M .a24) (hM .a24) (M .a25) (hM .a25)
      (M .a26) (hM .a26) (M .a27) (hM .a27) (M .a28) (hM .a28) E v513 v1263 Y v1350 v1352 v1354)
    fun x σ' => σ' = σ ∧ ∀ (q : Fin 128) (j : Fin 256), x (ix2 q j) = Y (ix2 (⟨j.val % 64, by omega⟩ : Fin 64) (⟨128 * (j.val / 64) + q.val, by omega⟩ : Fin 512)) := by
  unfold k0_part131
  repeat refine Tr.load_bind _ ?_
  refine Tr.pure ⟨rfl, fun q j => ?_⟩
  dsimp only
  pointwise [View.ld_unit]
  have hr : ∀ r : Fin 128, r.val < 24 → r.val % 3 ≠ 0 → ∀ q, σ .a3 (ix3 (0 : Fin 1) r q) = ⊥ := fun r a b q => hc r q a b
  simp only [(h _).1, (h _).2.1, (h _).2.2, hr 22 (by decide) (by decide), hr 14 (by decide) (by decide), hr 17 (by decide) (by decide), hr 20 (by decide) (by decide),
    hr 23 (by decide) (by decide), dite_eq_ite, ite_self, gate_bot, zero_mul, add_zero, hE, ite_mul, one_mul, Finset.sum_ite_eq, Finset.mem_univ, if_true]
  split_ifs <;> refine congrArg Y (ix2_eq (Fin.ext ?_) (Fin.ext ?_)) <;> simp <;> omega

/-- What a grid point leaves: of each group, the compressed branch's result at block `n`, gated, token by token. -/
def Res (n : ℕ) (y : S1x128x512.Idx → EReal) : Prop :=
  ∃ X : Fin 2 → FVec Ideal S64x512 .f32, (∀ g, OC σ n g (X g)) ∧ ∀ (q : Fin 128) (g : Fin 2) (j : Fin 256),
    y (ix3 (0 : Fin 1) q (⟨256 * g.val + j.val, by omega⟩ : Fin 512))
      = sg σ g (⟨128 * (j.val / 64) + q.val, by omega⟩ : Fin 512) * X g (ix2 (⟨j.val % 64, by omega⟩ : Fin 64) (⟨128 * (j.val / 64) + q.val, by omega⟩ : Fin 512))

variable {σ} in
theorem sg_since {σ' : St (Elt Ideal) sh ty} (h : ∀ j, inp j = true → σ' j = σ j) (g c) : sg σ' g c = sg σ g c := by
  unfold sg; rw [h .a3 rfl]

variable {σ} in
theorem Closed.since {σ' : St (Elt Ideal) sh ty} (h : ∀ j, inp j = true → σ' j = σ j) (hc : Closed σ) : Closed σ' := fun r q a b => by
  rw [h .a3 rfl]; exact hc r q a b

set_option maxRecDepth 65536 in
set_option maxHeartbeats 40000000 in
theorem body_val (i : grid0.Coords) (hc : Closed σ) : Tr (defs₀ (F := Ideal)) 𝒱 c M σ
    (cc0_sparse_attention i (M .a2) (hM .a2) (M .a3) (hM .a3) (M .a4) (hM .a4) (M .a5) (hM .a5) (M .a6) (hM .a6) (M .a7) (hM .a7)
      (M .a8) (hM .a8) (M .a9) (hM .a9) (M .a10) (hM .a10) (M .a11) (hM .a11) (M .a12) (hM .a12) (M .a13) (hM .a13)
      (M .a14) (hM .a14) (M .a15) (hM .a15) (M .a16) (hM .a16) (M .a17) (hM .a17) (M .a18) (hM .a18) (M .a19) (hM .a19)
      (M .a20) (hM .a20) (M .a21) (hM .a21) (M .a22) (hM .a22) (M .a23) (hM .a23) (M .a24) (hM .a24) (M .a25) (hM .a25)
      (M .a26) (hM .a26) (M .a27) (hM .a27) (M .a28) (hM .a28))
    fun _ σ' => (∀ j, inp j = true → σ' j = σ j) ∧ Res σ (i 1).val (σ' .a15) := by
  refine Tr.bind (part94 σ 𝒱 c M hM i) fun x0 σ0 h0 => ?_
  obtain ⟨rfl, ha, hE, h14, h23⟩ := h0
  refine Tr.bind (part95 σ0 𝒱 c M hM i _ ha) fun x1 σ1 h1 => ?_
  obtain ⟨rfl, h35⟩ := h1
  refine Tr.bind (part96 σ1 𝒱 c M hM i _ _ _ _ _ _ _ _ _ _ h14 h23 h35) fun x2 σ' h2 => ?_
  obtain ⟨hσ, hX0, hX1⟩ := h2
  iterate 31 (refine Keep.bind_since hσ ?_ fun _ σ' hσ => ?_; swap)
  · refine Tr.bind (part128 σ' 𝒱 c M hM i _ _ _ _ (hc.since hσ)) fun y0 σ3 h3 => ?_
    obtain ⟨rfl, hY, hg1, hg2⟩ := h3
    refine Tr.bind (part129 σ3 𝒱 c M hM i _ _ _ _ _ (hc.since hσ) hg1 hg2) fun y1 σ4 h4 => ?_
    obtain ⟨rfl, hH⟩ := h4
    refine Tr.bind (part130 σ4 𝒱 c M hM i _ _ _ _ _ _ (hc.since hσ) hE) fun y2 σ5 h5 => ?_
    obtain ⟨hk, hY', hg, ho⟩ := h5
    have hσ5 : ∀ j, inp j = true → σ5 j = σ1 j := fun j hj => (hk j hj).trans (hσ j hj)
    refine Tr.bind (part131 σ5 𝒱 c M hM i _ _ _ _ _ _ _ (hc.since hσ5) hE hg) fun y3 σ6 h6 => ?_
    obtain ⟨rfl, hZ⟩ := h6
    refine Tr.load_bind _ ?_
    refine Tr.store_bind _ ?_
    refine Tr.pure ⟨fun j hj => (Function.update_of_ne (fun e => by subst e; exact absurd hj (by decide)) _ _).trans (hσ5 j hj), ?_⟩
    refine ⟨![x2.1, x2.2.1], fun g => by fin_cases g; exacts [hX0, hX1], fun q g j => ?_⟩
    rw [Function.update_self]
    fin_cases g
    · refine (out_out _ _ _ q _ (by show 256 * 0 + j.val < 256; omega)).trans ?_
      have e : σ6 .a15 (ix3 (0 : Fin 1) q (⟨256 * 0 + j.val, by omega⟩ : Fin 512))
          = y0.2.1 (ix2 (⟨j.val % 64, by omega⟩ : Fin 64) (⟨128 * (j.val / 64) + q.val, by omega⟩ : Fin 512)) := by
        obtain ⟨o1, o2, o3, o4⟩ := ho q ⟨j.val % 64, by omega⟩ ⟨256 * 0 + j.val, by omega⟩
        obtain ⟨u1, u2, u3, u4⟩ := hH ⟨j.val % 64, by omega⟩ q
        have hj : j.val / 64 = 0 ∨ j.val / 64 = 1 ∨ j.val / 64 = 2 ∨ j.val / 64 = 3 := by omega
        rcases hj with hj | hj | hj | hj
        · exact (o1 (by simp only; omega)).trans (u1.trans (congrArg _ (ix2_eq rfl (Fin.ext (by simp only; omega)))))
        · exact (o2 (by simp only; omega)).trans (u2.trans (congrArg _ (ix2_eq rfl (Fin.ext (by simp only; omega)))))
        · exact (o3 (by simp only; omega)).trans (u3.trans (congrArg _ (ix2_eq rfl (Fin.ext (by simp only; omega)))))
        · exact (o4 (by simp only; omega)).trans (u4.trans (congrArg _ (ix2_eq rfl (Fin.ext (by simp only; omega)))))
      exact e.trans ((hY _ _).trans (congrArg (· * _) (sg_since hσ 0 _)))
    · refine (out_in _ _ _ q j _ (by rfl)).trans ?_
      pointwise
      exact (hZ q j).trans ((hY' _ _).trans (congrArg (· * _) (sg_since hσ 1 _)))
  all_goals
    repeat' first
    | intro _
    | with_reducible exact Keep.pure
    | with_reducible exact Keep.load _
    | with_reducible exact Keep.store _ rfl
    | with_reducible exact keep_97 _ _ _ _ _ _ _ _ _ _ _ _ _
    | with_reducible exact keep_109 _ _ _ _ _ _ _ _ _ _ _ _ _
    | with_reducible refine Keep.for ?_
    | refine Keep.bind ?_ ?_
    | refine Keep.dite ?_ ?_
    | exact Keep.pure

end Cert.Proof.NSA.V

end
-- ==== Proof.NSA.V.Rows.lean ====
/-
  The compressed branch's logits, row by row: the kernel's, padded and in base two, against the reference's.
-/
module

public import proofs.«01_k».proof.Proof.NSA.V.Soft
public import proofs.«01_k».proof.Proof.NSA.V.Far
public import proofs.«01_k».proof.Proof.NSA.V.Host
public import proofs.«01_k».proof.Proof.NSA.V.Ref
public import proofs.«01_k».proof.Proof.NSA.V.Body

@[expose] public section

set_option maxRecDepth 16384

noncomputable section

namespace Cert.Proof.NSA.V

open Cert.KernelIdeal Cert.KernelIdeal.Gen Cert.Proof.NSA.PI
open Idealize.ShloMosaic Idealize.ShloMosaic.TcCoe Idealize.ShloMosaic.Tactic

/-! ## Constants and words -/

theorem bits_2 : Ideal.ofBits .f32 1073741824#32 = ((2 : ℝ) : EReal) := by
  simp [Ideal.ofBits, Ideal.ieee]; norm_num
  rw [← EReal.coe_mul]; norm_num

theorem bits_8th : Ideal.ofBits .f32 1040187392#32 = ((1 / 8 : ℝ) : EReal) := by
  simp [Ideal.ofBits, Ideal.ieee]; norm_num
  rw [← EReal.coe_mul]; norm_num

theorem lg2_eq : (lg2 : EReal) = (((Real.log 2)⁻¹ : ℝ) : EReal) := by
  have h : Ideal.log ((2 : ℝ) : EReal) = ((Real.log 2 : ℝ) : EReal) := by
    show (if (2 : ℝ) ≤ 0 then (⊥ : EReal) else _) = _
    rw [if_neg (by norm_num)]
  have h' : Real.log 2 ≠ 0 := (Real.log_pos (by norm_num)).ne'
  unfold lg2
  rw [bits_2, h, Ideal.div, if_neg (by exact_mod_cast h'), one_mul, ← EReal.coe_inv]

theorem sitofp_0 : (FloatOps.sitofp (F := Ideal) FTy.f32 0#32 : EReal) = 0 := by
  show (((0#32 : BitVec 32).toInt : ℝ) : EReal) = 0
  simp

theorem flag (s : Fin 128) : (FloatOps.uitofp (F := Ideal) FTy.f32 (IntOp.cmpi CmpIPredicate.eq (BitVec.ofNat 32 s.val) 64#32) : EReal) = if s.val = 64 then 1 else 0 := by
  show (((IntOp.cmpi CmpIPredicate.eq (BitVec.ofNat 32 s.val) 64#32).toNat : ℝ) : EReal) = _
  by_cases h : s.val = 64
  · rw [if_pos h, h]; simp [IntOp.cmpi]
  · have h' : BitVec.ofNat 32 s.val ≠ 64#32 := fun e => h (by have := congrArg BitVec.toNat e; simp at this; omega)
    rw [if_neg h]; simp [IntOp.cmpi, h']

/-- Whether a compressed block's last token is before a query. -/
theorem sge_dw (t r : ℕ) (ht : t < 8192) (hr : r < 511) : IntOp.cmpi CmpIPredicate.sge (Ref.dw t r) 0#32 = if 16 * r + 31 ≤ t then 1#1 else 0#1 := by
  unfold Ref.dw IntOp.subi IntOp.addi IntOp.muli
  split <;> word_omega

theorem dk_eq (n q r : ℕ) (hn : n < 64) (hq : q < 128) (h : 8 * n ≤ r) (h' : r < 8 * n + 16) (h8 : 8 ≤ r) :
    dk (r - 8 * n) q = Ref.dw (128 * n + q) (r - 8) := by
  unfold dk Ref.dw IntOp.subi IntOp.addi IntOp.muli
  word_omega

/-- A far block's row of the bias table. -/
theorem row_far (t r : ℕ) (ht : t < 8192) (hr : r < 511) (h : 16 * r + 31 + 113 ≤ t) :
    min (rw_ (bw (IntOp.maxsi (Ref.dw t r) 0#32))).toInt.toNat 31 = 31 := by
  have e : (IntOp.maxsi (Ref.dw t r) 0#32).toNat = t - (16 * r + 31) := by
    have hp : 16 * r + 31 ≤ t := by omega
    have hs := sge_dw t r ht hr
    rw [if_pos hp] at hs
    have he : (Ref.dw t r).toNat = t - (16 * r + 31) := by unfold Ref.dw IntOp.subi IntOp.addi IntOp.muli; word_omega
    have hi : (Ref.dw t r).toInt = ((t - (16 * r + 31) : ℕ) : ℤ) := by rw [BitVec.toInt_eq_toNat_of_lt (by omega), he]
    rw [← he]; congr 1
    unfold IntOp.maxsi; simp [BitVec.slt, hi]
    intro h'; omega
  rw [bw_far _ (by omega) (by omega)]
  rfl

theorem half_sum (f : Fin 64 → EReal) : (∑ k : Fin 128, if hk : k.val < 64 then f ⟨k.val, hk⟩ else 0) = ∑ x, f x := by
  have h := Fin.sum_univ_add (a := 64) (b := 64) (fun k : Fin 128 => if hk : k.val < 64 then f ⟨k.val, hk⟩ else 0)
  refine h.trans ?_
  simp

/-! ## Rows -/

variable (m : (ℓ : Loc nD τ sig) → Buf (Elt Ideal) ℓ) (c : Dev nD) (t : Fin cfg0.N) (σ d : St (Elt Ideal) sh ty)

/-- The batch entry of a grid point. -/
abbrev bb : Fin 2 := ⟨(grid0.coords t 0).val, lt_b t⟩

/-- The token of a column of a grid point's block. -/
abbrev tok (s : Fin 512) : Fin 8192 := ⟨128 * (grid0.coords t 1).val + s.val % 128, by have := lt_n t; omega⟩

/-- The head of a column, in its group. -/
abbrev hd (s : Fin 512) : Fin 4 := ⟨s.val / 128, by omega⟩

variable (hσ : ∀ j, inp j = true → σ j = blocks m c t d j)

include hσ in
theorem qv_at (g : Fin 2) (k : Fin 128) (s : Fin 512) : qv σ g k s = if hk : k.val < 64 then
    A0 m c (ix5 (bb t) g (hd s) (tok t s) ⟨k.val, hk⟩) * (Ideal.ofBits FTy.f32 1040187392#32 * lg2)
    else if k.val - 64 < 1 then A9 m c ix0 else (0 : EReal) := by
  unfold qv
  refine (congrFun (hσ .a2 rfl) _).trans ((blk0 m c t _ _ _).trans ((v154 m c _ _ _ _).trans ?_))
  have e1 : (⟨(4 * g.val + s.val / 128) / 4, by omega⟩ : Fin 2) = g := Fin.ext (by dsimp only; omega)
  have e2 : (⟨(4 * g.val + s.val / 128) % 4, by omega⟩ : Fin 4) = hd s := Fin.ext (by dsimp only; omega)
  simp only [e1, e2]

include hσ in
theorem kc_at (g : Fin 2) (r : Fin 640) (k : Fin 128) : σ .a5 (ix4 (0 : Fin 1) g r k) = if hr : 8 ≤ r.val ∧ r.val - 8 < 511 then
    (if hk : k.val < 64 then A1 m c (ix4 (bb t) g ⟨r.val - 8, hr.2⟩ ⟨k.val, hk⟩) else (0 : EReal)) else if k.val = 64 then 1 else 0 := by
  refine (congrFun (hσ .a5 rfl) _).trans ((blk3 m c t _ _ _).trans ((v169 m c _ _ _ _).trans ?_))
  rw [flag, sitofp_0]

include hσ in
theorem vc_at (g : Fin 2) (e : Fin 64) (r : Fin 640) : σ .a6 (ix4 (0 : Fin 1) g (⟨e.val, by omega⟩ : Fin 80) r) = if hr : 8 ≤ r.val ∧ r.val - 8 < 511 then
    A2 m c (ix4 (bb t) g ⟨r.val - 8, hr.2⟩ e) else (0 : EReal) := by
  refine (congrFun (hσ .a6 rfl) _).trans ((blk4 m c t _ _ _).trans ((v172 m c _ _ _ _).trans ?_))
  rw [sitofp_0]
  by_cases hr : 8 ≤ r.val ∧ r.val - 8 < 511
  · rw [dif_pos hr, dif_pos ⟨e.isLt, hr⟩]
  · rw [dif_neg hr, dif_neg fun h => hr h.2]

/-- What the band adds at a distance, as a word. -/
def bnd (h : Fin 8) (w : BitVec 32) : EReal := Scalar.select (IntOp.cmpi CmpIPredicate.sge w 0#32)
  ((A8 m c (ix2 ⟨min (rw_ (bw (IntOp.maxsi w 0#32))).toInt.toNat 31, by omega⟩ h) - A8 m c (ix2 31 h) : EReal) * lg2) (A9 m c ix0)

include hσ in
theorem bc_at (g : Fin 2) (k : Fin 16) (s : Fin 512) :
    σ .a7 (ix3 g k s) = bnd m c ⟨g.val * 4 + (hd s).val, by omega⟩ (dk k.val (s.val % 128)) :=
  (congrFun (hσ .a7 rfl) _).trans ((blk5 m c t _ _ _).trans (v145 m c _ _ _))

include hσ in
theorem gate_at (g : Fin 2) (s : Fin 512) : σ .a3 (ix3 (0 : Fin 1) (⟨12 * g.val + 3 * (s.val / 128), by omega⟩ : Fin 128) (⟨s.val % 128, by omega⟩ : Fin 128))
    = A7 m c (ix5 (bb t) g (hd s) (tok t s) 0) := by
  refine (congrFun (hσ .a3 rfl) _).trans ((blk1 m c t _ _).trans ((v160 m c _ _ _).trans ?_))
  rw [if_pos (by dsimp only; omega), if_pos (by dsimp only; omega)]
  have e1 : (⟨(12 * g.val + 3 * (s.val / 128)) / 12 % 2, by omega⟩ : Fin 2) = g := Fin.ext (by dsimp only; omega)
  have e2 : (⟨(12 * g.val + 3 * (s.val / 128)) / 3 % 4, by omega⟩ : Fin 4) = hd s := Fin.ext (by dsimp only; omega)
  have e3 : (⟨(12 * g.val + 3 * (s.val / 128)) % 3, by omega⟩ : Fin 3) = 0 := Fin.ext (by dsimp only; omega)
  simp only [e1, e2, e3]

include hσ in
theorem closed_at : Closed σ := fun r q hr h3 => by
  refine (congrFun (hσ .a3 rfl) _).trans ((blk1 m c t _ _).trans ((v160 m c _ _ _).trans ?_))
  rw [if_pos hr, if_neg (by omega), neg_inf]

variable (hn : A9 m c ix0 = (⊥ : EReal)) (Q : S2x2x4x8192x64.Idx → ℝ) (hQ : ∀ i, A0 m c i = (Q i : EReal))
  (K : S2x2x511x64.Idx → ℝ) (hK : ∀ i, A1 m c i = (K i : EReal)) (B : S32x8.Idx → ℝ) (hB : ∀ i, A8 m c i = (B i : EReal))

/-- The real product of a query and a compressed key, scaled. -/
def dot (g : Fin 2) (s : Fin 512) (i : Fin 511) : ℝ := ∑ x : Fin 64, Q (ix5 (bb t) g (hd s) (tok t s) x) * (1 / 8) * K (ix4 (bb t) g i x)

include hσ hn hQ hK in
theorem dt_real (g : Fin 2) (r : Fin 640) (s : Fin 512) (h8 : 8 ≤ r.val) (hr : r.val - 8 < 511) :
    dt σ g r s = ((dot t Q K g s ⟨r.val - 8, hr⟩ * (Real.log 2)⁻¹ : ℝ) : EReal) := by
  unfold dt dot
  rw [Finset.sum_mul, coe_total, ← half_sum]
  refine Finset.sum_congr rfl fun k _ => ?_
  rw [qv_at m c t σ d hσ, kc_at m c t σ d hσ, dif_pos ⟨h8, hr⟩]
  by_cases hk : k.val < 64
  · simp only [dif_pos hk]
    rw [hQ, hK, bits_8th, lg2_eq, ← EReal.coe_mul, ← EReal.coe_mul, ← EReal.coe_mul]
    congr 1; ring
  · simp only [dif_neg hk, zero_mul]

include hσ hn hQ in
theorem dt_bot (g : Fin 2) (r : Fin 640) (s : Fin 512) (h : ¬ (8 ≤ r.val ∧ r.val - 8 < 511)) : dt σ g r s = ⊥ := by
  unfold dt
  rw [← Finset.add_sum_erase _ _ (Finset.mem_univ (64 : Fin 128)), kc_at m c t σ d hσ, qv_at m c t σ d hσ, dif_neg h, dif_neg (by decide), if_pos (by decide),
    if_pos (by decide), hn, one_mul, EReal.bot_add]

/-- The real logit of the reference. -/
def yv (g : Fin 2) (s : Fin 512) (i : Fin 511) : ℝ := dot t Q K g s i
  + B (ix2 ⟨min (rw_ (bw (IntOp.maxsi (Ref.dw (tok t s).val i.val) 0#32))).toInt.toNat 31, by omega⟩ ⟨g.val * 4 + (hd s).val, by omega⟩)

/-- The bias of the last bucket. -/
def far (g : Fin 2) (s : Fin 512) : ℝ := B (ix2 31 ⟨g.val * 4 + (hd s).val, by omega⟩)

/-- The compressed blocks a query sees. -/
def Vis (s : Fin 512) (i : Fin 511) : Prop := 16 * i.val + 31 ≤ (tok t s).val

instance (s : Fin 512) : DecidablePred (Vis t s) := fun i => by unfold Vis; infer_instance

/-- The rows of the padded slab they lie in. -/
def VisR (N : ℕ) (s : Fin 512) (r : Fin N) : Prop := ∃ h : 8 ≤ r.val ∧ r.val - 8 < 511, Vis t s ⟨r.val - 8, h.2⟩

instance (N : ℕ) (s : Fin 512) : DecidablePred (VisR t N s) := fun i => by unfold VisR; infer_instance

/-- The real logit of the kernel at a row. -/
def xv (g : Fin 2) (s : Fin 512) (r : ℕ) : ℝ := if hr : r - 8 < 511 then (yv t Q K B g s ⟨r - 8, hr⟩ - far B g s) * (Real.log 2)⁻¹ else 0

include hσ hn hQ hK hB in
theorem row_eq (N : ℕ) (hN : N ≤ 640) (g : Fin 2) (s : Fin 512) (r : Fin N) :
    (if r.val < 8 * (grid0.coords t 1).val + 16 then sv σ (grid0.coords t 1).val g (⟨r.val, by omega⟩ : Fin 640) s else ⊥)
      = lg (VisR t N s) (fun r => xv t Q K B g s r.val) r := by
  have hn64 := lt_n t
  have hq : s.val % 128 < 128 := Nat.mod_lt _ (by norm_num)
  by_cases h16 : r.val < 8 * (grid0.coords t 1).val + 16
  swap
  · have : ¬ VisR t N s r := by
      rintro ⟨h, hv⟩; unfold Vis at hv; dsimp only at hv; omega
    rw [if_neg h16, lg, if_neg this]
  rw [if_pos h16]
  by_cases hr : 8 ≤ r.val ∧ r.val - 8 < 511
  swap
  · have : ¬ VisR t N s r := fun ⟨h, _⟩ => hr h
    have hb := dt_bot m c t σ d hσ hn Q hQ g ⟨r.val, by omega⟩ s hr
    rw [lg, if_neg this, sv, hb]
    split <;> simp
  have hd_ := dt_real m c t σ d hσ hn Q hQ K hK g ⟨r.val, by omega⟩ s hr.1 hr.2
  have hc := sge_dw (tok t s).val (r.val - 8) (tok t s).isLt hr.2
  unfold sv
  by_cases hband : 8 * (grid0.coords t 1).val ≤ r.val
  · have hk : dk (r.val - 8 * (grid0.coords t 1).val) (s.val % 128) = Ref.dw (tok t s).val (r.val - 8) :=
      dk_eq (grid0.coords t 1).val (s.val % 128) r.val hn64 hq hband h16 hr.1
    have hb : σ .a7 (ix3 g ⟨r.val - 8 * (grid0.coords t 1).val, by omega⟩ s) = bnd m c ⟨g.val * 4 + (hd s).val, by omega⟩ (Ref.dw (tok t s).val (r.val - 8)) :=
      (bc_at m c t σ d hσ g _ s).trans (congrArg _ hk)
    rw [dif_pos ⟨hband, h16⟩, hd_, hb, bnd, hc]
    by_cases hv : 16 * (r.val - 8) + 31 ≤ (tok t s).val
    · have : VisR t N s r := ⟨hr, hv⟩
      rw [if_pos hv, lg, if_pos this, xv, dif_pos hr.2, lg2_eq, hB, hB, ← EReal.coe_sub, ← EReal.coe_mul]
      show ((_ : ℝ) : EReal) + ((_ : ℝ) : EReal) = _
      rw [← EReal.coe_add, yv, far, ← add_mul]
      congr 2; ring
    · have : ¬ VisR t N s r := fun ⟨_, h⟩ => hv h
      rw [if_neg hv, lg, if_neg this]
      show ((_ : ℝ) : EReal) + A9 m c ix0 = ⊥
      rw [hn, EReal.add_bot]
  · have hfar : 16 * (r.val - 8) + 31 + 113 ≤ (tok t s).val := by dsimp only; omega
    have : VisR t N s r := ⟨hr, by unfold Vis; dsimp only; omega⟩
    have hrow := row_far (tok t s).val (r.val - 8) (tok t s).isLt hr.2 hfar
    rw [dif_neg (fun h => hband h.1), hd_, lg, if_pos this, xv, dif_pos hr.2, yv, far]
    have e : (⟨min (rw_ (bw (IntOp.maxsi (Ref.dw (tok t s).val (r.val - 8)) 0#32))).toInt.toNat 31, by omega⟩ : Fin 32) = 31 := Fin.ext hrow
    rw [show B (ix2 ⟨min (rw_ (bw (IntOp.maxsi (Ref.dw (tok t s).val (r.val - 8)) 0#32))).toInt.toNat 31, by omega⟩ ⟨g.val * 4 + (hd s).val, by omega⟩)
      = B (ix2 31 ⟨g.val * 4 + (hd s).val, by omega⟩) from by rw [e], add_sub_cancel_right]

end Cert.Proof.NSA.V

end
-- ==== Proof.NSA.V.Tame.lean ====
/-
  What the precondition says of the arguments: the mask is minus infinity, and the attention's inputs are real.
-/
module

public import proofs.«01_k».proof.Defs
public import proofs.«01_k».proof.Proof.NSA.V.Host
public import Idealize.ShloMosaic.Lib.ReduceAll
public import Idealize.ShloMosaic.Lib.Affine

@[expose] public section

noncomputable section

namespace Cert.Proof.NSA.V

open Cert.KernelIdeal Cert.KernelIdeal.Gen
open Idealize.ShloMosaic Idealize.ShloMosaic.TcCoe Idealize.ShloMosaic.Tactic

/-- The side conditions of the precondition's operations. -/
theorem tame_facts : Cert.Pre_tame.Facts where
  bcast_S_S2x2x4x8192x64 := by decide
  reducesTo_S2x2x4x8192x64_S_d0_1_2_3_4 := by decide
  h_S_ := by decide
  bcast_S_S2x2x511x64 := by decide
  reducesTo_S2x2x511x64_S_d0_1_2_3 := by decide
  bcast_S_S32x8 := by decide
  reducesTo_S32x8_S_d0_1 := by decide

theorem and_one {a b : BitVec 1} (h : IntOp.andi a b = 1#1) : a = 1#1 ∧ b = 1#1 := by
  revert a b; decide

theorem pos_inf : Ideal.ofBits .f32 2139095040#32 = (⊤ : EReal) := by simp [Ideal.ofBits, Ideal.ieee]

theorem real_of {x : EReal} (h : FloatOps.cmpf (F := Ideal) (φ := .f32) .olt (FloatOps.absf (F := Ideal) (φ := .f32) x) (Ideal.ofBits .f32 2139095040#32) = 1#1) :
    ∃ r : ℝ, x = (r : EReal) := by
  induction x with
  | bot => exact absurd (show Ideal.cmp .olt (max (⊥ : EReal) (-⊥)) ⊤ = 1#1 by rw [← pos_inf]; exact h) (by simp [Ideal.cmp])
  | top => exact absurd (show Ideal.cmp .olt (max (⊤ : EReal) (-⊤)) ⊤ = 1#1 by rw [← pos_inf]; exact h) (by simp [Ideal.cmp])
  | coe r => exact ⟨r, rfl⟩

/-- Of the arguments on one device. -/
structure Tame (m : (ℓ : Loc nD τ sig) → Buf (Elt Ideal) ℓ) (c : Dev nD) : Prop where
  neg : A9 m c ix0 = (⊥ : EReal)
  q : ∀ i, ∃ r : ℝ, A0 m c i = (r : EReal)
  k : ∀ i, ∃ r : ℝ, A1 m c i = (r : EReal)
  v : ∀ i, ∃ r : ℝ, A2 m c i = (r : EReal)
  b : ∀ i, ∃ r : ℝ, A8 m c i = (r : EReal)

theorem tame_of (m : (ℓ : Loc nD τ sig) → Buf (Elt Ideal) ℓ) (h : @Cert.Pre_KernelIdeal_tame tame_facts m) (c : Dev nD) : Tame m c := by
  have h0 := congrFun (h c) ix0
  dsimp only [Cert.Pre_tame.fn, Cert.Pre_tame.fn_part1] at h0
  obtain ⟨h1, hb⟩ := and_one h0
  obtain ⟨h2, hv⟩ := and_one h1
  obtain ⟨h3, hk⟩ := and_one h2
  obtain ⟨hn, hq⟩ := and_one h3
  refine ⟨?_, fun i => real_of ?_, fun i => real_of ?_, fun i => real_of ?_, fun i => real_of ?_⟩
  · have hn' : Ideal.cmp .oeq (A9 m c ix0) (Ideal.ofBits .f32 4286578688#32) = 1#1 := hn
    rw [show Ideal.ofBits .f32 4286578688#32 = (⊥ : EReal) by simp [Ideal.ofBits, Ideal.ieee]] at hn'
    by_contra hx
    simp [Ideal.cmp, hx] at hn'
  · exact Host.reduce_andi_all _ _ _ _ _ hq i
  · exact Host.reduce_andi_all _ _ _ _ _ hk i
  · exact Host.reduce_andi_all _ _ _ _ _ hv i
  · exact Host.reduce_andi_all _ _ _ _ _ hb i

end Cert.Proof.NSA.V

end
-- ==== Proof.NSA.V.Launch.lean ====
/-
  The launch of the attention kernel (idealized), its result's blocks known.
-/
module

public import proofs.«01_k».proof.Proof.NSA.PI.Run
public import proofs.«01_k».proof.Proof.NSA.V.Host

@[expose] public section

set_option maxRecDepth 16384

noncomputable section

namespace Cert.Proof.NSA.V

open Cert.KernelIdeal Cert.KernelIdeal.Gen Cert.Proof.NSA.PI
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The result's block at a grid point, of the whole result. -/
def out (G : Dev nD → FVec Ideal S2x8192x512 .bf16) (c : Dev nD) (t : Fin cfg0.N) : FVec Ideal S1x128x512 .bf16 := fun y =>
  G c (ix3 ⟨(grid0.coords t 0).val, lt_b t⟩ ⟨128 * (grid0.coords t 1).val + (y 1).val, by have := lt_n t; have := (y 1).isLt; simp at this; omega⟩ (y 2))

variable (G : Dev nD → FVec Ideal S2x8192x512 .bf16)

theorem body_exact (hP : Point m fun c t X => X = out G c t) (c : Dev nD) :
    BodyObligation (dats m (out G) 0 c) (defs₀ (F := Ideal)) Variants.none () Set.univ := fun t => by
  rw [bigSep_W0, bigSep_W0, defs₀_row]
  refine triple_restated (sound_point m (out G) _ hP c t) rfl ?_ fun _ => ?_
  · show (iprop(_ ∗ _ ∗ _ ∗ _ ∗ _ ∗ _ ∗ _ ∗ _ ∗ _ ∗ _ ∗ _ ∗ _ ∗ _ ∗ _ ∗ _ ∗ ∃ d, owns (c : Thread nD τ) (st0_13 t) fullShare ((dats m (out G) 0 c).before 13 t d)) : sProp 𝕄) ⊢ _
    iintro ⟨HΦ, Ho, H2, H3, H4, H5, H6, H7, H8, H9, H10, H11, H12, H13, H14, ⟨%d, H15⟩⟩
    isplitl [HΦ]; · iexact HΦ
    isplitl [Ho]; · iexact Ho
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexists _; iexact H15
  show _ ⊢ (iprop(_ ∗ _ ∗ _ ∗ _ ∗ _ ∗ _ ∗ _ ∗ _ ∗ _ ∗ _ ∗ _ ∗ _ ∗ _ ∗ _ ∗ _ ∗ owns (c : Thread nD τ) (st0_13 t) fullShare (out G c t)) : sProp 𝕄)
  iintro ⟨HΦ, Ho, H2, H3, H4, H5, H6, H7, H8, H9, H10, H11, H12, H13, H14, ⟨%X, %hX, H15⟩⟩
  subst hX
  isplitl [HΦ]; · iexact HΦ
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

set_option backward.isDefEq.respectTransparency.types false in
theorem run_exact (hP : Point m fun c t X => X = out G c t) : θ_run defs (onTc (τ := τ) (main (F := Ideal))) (s₀ m ρ)
    (Pipeline.FramePost cfgs (dats m (out G)) 0 (V m)) :=
  Pipeline.θ_run_frame cfgs (dats m (out G)) (0 : Fin 1) launch0 defs₀ Variants.none m ρ main
    (hbody := fun c => (body_exact m G hP c).loose) (hshare := fun c => (dats m (out G) 0 c).share_full fun _ => rfl)
    (howed := fun _ _ => rfl) (V := V m) (hmain := hmain m Variants.none) (hA := A_eq m (out G)) (hΦ := fun _ _ => rfl)

theorem out_eq (c : Dev nD) : (dats m (out G) 0 c).arrAt 13 cfg0.N = G c := by
  refine (dats m (out G) 0 c).arrAt_eq_of_covers 13 (G c) (by decide +kernel) fun t _ y => ?_
  blk_simp
  show out G c t _ = _
  unfold out
  blk_ext [idx13 t]

end Cert.Proof.NSA.V
-- ==== Proof.NSA.V.Value.lean ====
/-
  The attention kernel's result is the reference's: its compressed branch, gated.
-/
module

public import proofs.«01_k».proof.Proof.NSA.V.Rows
public import proofs.«01_k».proof.Proof.NSA.V.Tame
public import proofs.«01_k».proof.Proof.NSA.V.Launch

@[expose] public section

set_option maxRecDepth 16384

noncomputable section

namespace Cert.Proof.NSA.V

open Cert.KernelIdeal Cert.KernelIdeal.Gen Cert.Proof.NSA.PI
open Idealize.ShloMosaic Idealize.ShloMosaic.TcCoe Idealize.ShloMosaic.Tactic

variable (m : (ℓ : Loc nD τ sig) → Buf (Elt Ideal) ℓ) (c : Dev nD)

/-- The reference's logits of the kernel's arguments. -/
def L : FVec Ideal Cert.ReferenceIdeal.S2x2x4x8192x511 .f32 :=
  Ref.logits Ref.dist (A0 m c) (A1 m c) (Ref.bias (A8 m c) (Ref.row (Ref.bucket Ref.dist))) (A9 m c)

/-- Its exponentials. -/
def E : FVec Ideal Cert.ReferenceIdeal.S2x2x4x8192x511 .f32 := Ref.expo (L m c) (Ref.top (L m c))

/-- The reference's result of the kernel's arguments. -/
def G : FVec Ideal S2x8192x512 .bf16 := Ref.outp (A7 m c) (Ref.probs Ref.dist (E m c)) (A2 m c)

variable (t : Fin cfg0.N) (σ d : St (Elt Ideal) sh ty) (hσ : ∀ j, inp j = true → σ j = blocks m c t d j)
  (hn : A9 m c ix0 = (⊥ : EReal)) (Q : S2x2x4x8192x64.Idx → ℝ) (hQ : ∀ i, A0 m c i = (Q i : EReal))
  (K : S2x2x511x64.Idx → ℝ) (hK : ∀ i, A1 m c i = (K i : EReal)) (B : S32x8.Idx → ℝ) (hB : ∀ i, A8 m c i = (B i : EReal))
  (W : S2x2x511x64.Idx → ℝ) (hW : ∀ i, A2 m c i = (W i : EReal))

include hn hQ hK hB in
theorem L_at (g : Fin 2) (s : Fin 512) (i : Fin 511) :
    L m c (ix5 (bb t) g (hd s) (tok t s) i) = lg (Vis t s) (yv t Q K B g s) i := by
  unfold L
  rw [Ref.logits_at, Ref.dist_at, sge_dw _ _ (tok t s).isLt i.isLt, Ref.bias_at]
  by_cases hv : 16 * i.val + 31 ≤ (tok t s).val
  · have hv' : Vis t s i := hv
    rw [if_pos hv, lg, if_pos hv']
    show (∑ x, _ : EReal) + A8 m c _ = _
    rw [hB, yv, dot, EReal.coe_add, coe_total]
    congr 1
    refine Finset.sum_congr rfl fun x _ => ?_
    rw [EReal.coe_mul, EReal.coe_mul, ← bits_8th]
    exact congrArg₂ (fun a b : EReal => a * Ideal.ofBits FTy.f32 1040187392#32 * b) (hQ _) (hK _)
  · have hv' : ¬ Vis t s i := hv
    rw [if_neg hv, lg, if_neg hv']
    exact hn

include hn hQ hK hB in
theorem E_at (g : Fin 2) (s : Fin 512) (i : Fin 511) : E m c (ix5 (bb t) g (hd s) (tok t s) i)
    = Ideal.exp (lg (Vis t s) (yv t Q K B g s) i - max (Ideal.ofBits .f32 4286578688#32)
      (Finset.fold max (Ideal.ofBits .f32 4286578688#32) (fun r => lg (Vis t s) (yv t Q K B g s) r) Finset.univ)) := by
  unfold E
  rw [Ref.expo_at, Ref.top_at, L_at m c t hn Q hQ K hK B hB]
  simp only [L_at m c t hn Q hQ K hK B hB]

/-- The weight of a block. -/
theorem P_at (g : Fin 2) (s : Fin 512) (i : Fin 511) : Ref.probs Ref.dist (E m c) (ix5 (bb t) g (hd s) (tok t s) i)
    = Ideal.div (E m c (ix5 (bb t) g (hd s) (tok t s) i)) (∑ x, E m c (ix5 (bb t) g (hd s) (tok t s) x)) * (if Vis t s i then 1 else 0) := by
  rw [Ref.probs_at, Ref.dist_at, sge_dw _ _ (tok t s).isLt i.isLt]
  refine congrArg (fun z : EReal => Ideal.div (E m c (ix5 (bb t) g (hd s) (tok t s) i)) (∑ x, E m c (ix5 (bb t) g (hd s) (tok t s) x)) * z) ?_
  by_cases hv : 16 * i.val + 31 ≤ (tok t s).val
  · have hv' : Vis t s i := hv
    rw [if_pos hv, if_pos hv']
    show (((1#1 : BitVec 1).toNat : ℝ) : EReal) = 1
    simp
  · have hv' : ¬ Vis t s i := hv
    rw [if_neg hv, if_neg hv']
    show (((0#1 : BitVec 1).toNat : ℝ) : EReal) = 0
    simp

include hσ hn hQ hK hB hW in
/-- What the compressed branch computes of one group. -/
theorem branch (g : Fin 2) (X : FVec Ideal S64x512 .f32) (hX : OC σ (grid0.coords t 1).val g X) (e : Fin 64) (s : Fin 512) :
    X (ix2 e s) = ∑ i, Ref.probs Ref.dist (E m c) (ix5 (bb t) g (hd s) (tok t s) i) * A2 m c (ix4 (bb t) g i e) := by
  obtain ⟨N, hN, hN', h⟩ := hX
  have hn64 := lt_n t
  have h1 : (fun r : Fin N => if r.val < 8 * (grid0.coords t 1).val + 16 then sv σ (grid0.coords t 1).val g (⟨r.val, by omega⟩ : Fin 640) s else ⊥)
      = fun r => lg (VisR t N s) (fun r => xv t Q K B g s r.val) r := funext fun r => row_eq m c t σ d hσ hn Q hQ K hK B hB N hN g s r
  have h2 : (fun r : Fin N => σ .a6 (ix4 (0 : Fin 1) g (⟨e.val, by omega⟩ : Fin 80) (⟨r.val, by omega⟩ : Fin 640)))
      = fun r => (((if hr : 8 ≤ r.val ∧ r.val - 8 < 511 then W (ix4 (bb t) g ⟨r.val - 8, hr.2⟩ e) else 0 : ℝ)) : EReal) := by
    funext r
    refine (vc_at m c t σ d hσ g e ⟨r.val, by omega⟩).trans ?_
    by_cases hr : 8 ≤ r.val ∧ r.val - 8 < 511
    · rw [dif_pos hr, dif_pos hr]; exact hW _
    · rw [dif_neg hr, dif_neg hr]; rfl
  rw [h e s, h1, h2, soft_eq (VisR t N s) (Vis t s) _ _ (yv t Q K B g s) (fun i => W (ix4 (bb t) g i e)) (far B g s) ?_ ?_ ?_ ?_
    (fun i => E m c (ix5 (bb t) g (hd s) (tok t s) i)) (fun i => E_at m c t hn Q hQ K hK B hB g s i)]
  · refine Finset.sum_congr rfl fun i _ => ?_
    rw [P_at, hW]
  · intro i hv
    unfold Vis at hv; dsimp only at hv; omega
  · intro r
    constructor
    · rintro ⟨hr, hv⟩
      exact ⟨⟨r.val - 8, hr.2⟩, hv, by dsimp only; omega⟩
    · rintro ⟨i, hv, hri⟩
      have hr : 8 ≤ r.val ∧ r.val - 8 < 511 := by omega
      refine ⟨hr, ?_⟩
      rwa [show (⟨r.val - 8, hr.2⟩ : Fin 511) = i from Fin.ext (by dsimp only; omega)]
  · intro r i hri
    have hr : r.val - 8 < 511 := by omega
    rw [xv, dif_pos hr, show (⟨r.val - 8, hr⟩ : Fin 511) = i from Fin.ext (by dsimp only; omega)]
  · intro r i hri
    have hr : 8 ≤ r.val ∧ r.val - 8 < 511 := by omega
    rw [dif_pos hr, show (⟨r.val - 8, hr.2⟩ : Fin 511) = i from Fin.ext (by dsimp only; omega)]

include hσ in
/-- The result's block. -/
theorem block_eq (T : Tame m c) (y : S1x128x512.Idx → EReal) (hy : Res σ (grid0.coords t 1).val y) : y = out (G m) c t := by
  obtain ⟨X, hX, h⟩ := hy
  choose Q hQ using T.q
  choose K hK using T.k
  choose W hW using T.v
  choose B hB using T.b
  funext z
  obtain ⟨z0, q, j, rfl⟩ : ∃ (z0 : Fin 1) (q : Fin 128) (j : Fin 512), z = ix3 z0 q j := ⟨z 0, z 1, z 2, by funext a; match a with | ⟨0, _⟩ => rfl | ⟨1, _⟩ => rfl | ⟨2, _⟩ => rfl⟩
  obtain rfl : z0 = 0 := Subsingleton.elim _ _
  have hn64 := lt_n t
  let g : Fin 2 := ⟨j.val / 256, by omega⟩
  let i : Fin 256 := ⟨j.val % 256, by omega⟩
  let s : Fin 512 := ⟨128 * (i.val / 64) + q.val, by omega⟩
  have e0 : (⟨256 * g.val + i.val, by omega⟩ : Fin 512) = j := Fin.ext (by dsimp only [g, i]; omega)
  have h' := h q g i
  rw [e0] at h'
  replace h' : y (ix3 0 q j) = sg σ g s * X g (ix2 ⟨i.val % 64, by omega⟩ s) := h'
  rw [h', branch m c t σ d hσ T.neg Q hQ K hK B hB W hW g (X g) (hX g)]
  have e1 : hd s = (⟨j.val / 64 % 4, by omega⟩ : Fin 4) := Fin.ext (by dsimp only [s, i]; omega)
  have e2 : tok t s = ⟨128 * (grid0.coords t 1).val + q.val, by omega⟩ := Fin.ext (by dsimp only [s, i]; omega)
  have e3 : (⟨i.val % 64, by omega⟩ : Fin 64) = (⟨j.val % 64, by omega⟩ : Fin 64) := Fin.ext (by dsimp only [i]; omega)
  have hg := gate_at m c t σ d hσ g s
  show _ = Ref.outp (A7 m c) (Ref.probs Ref.dist (E m c)) (A2 m c) (ix3 (bb t) ⟨128 * (grid0.coords t 1).val + q.val, _⟩ j)
  rw [Ref.outp_at]
  show Ideal.div 1 (1 + Ideal.exp (0 - σ .a3 (ix3 (0 : Fin 1) (⟨12 * g.val + 3 * (s.val / 128), by omega⟩ : Fin 128) (⟨s.val % 128, by omega⟩ : Fin 128)))) * _ = _
  rw [hg, zero_sub]
  simp only [e1, e2, e3]
  rfl

/-- Of the kernel's body at every grid point. -/
theorem point (T : ∀ c, Tame m c) : Point m fun c t X => X = out (G m) c t := fun c t d σ hσ => by
  refine (body_val σ _ c _ _ _ (closed_at m c t σ d hσ)).mono fun _ σ' h => ⟨h.1, block_eq m c t σ d hσ (T c) _ h.2⟩

end Cert.Proof.NSA.V

end
-- ==== Proof.Merge.Ref.lean ====
/-
  The merge of the two mixers, row by row: what the reference computes of one token.
-/
module

public import proofs.«01_k».proof.Proof.Gen.MergeReferenceIdeal.Run
public import proofs.«01_k».proof.Proof.Gen.MergeReferenceIdeal.Read
public import Idealize.ShloMosaic.Lib.Claim
public import Idealize.ShloMosaic.Lib.Pipeline.ValueKit
public import Idealize.ShloMosaic.Lib.StableHlo.ReadAt

@[expose] public section

set_option maxRecDepth 16384

noncomputable section

namespace Cert.Proof.Merge

open Idealize.ShloMosaic Idealize.ShloMosaic.TcCoe Idealize.ShloMosaic.Tactic

/-! ## One token's row -/

/-- A row less its mean. -/
def centred (x : Fin 1024 → EReal) (j : Fin 1024) : EReal := x j - Ideal.div (∑ k, x k) (Ideal.ofBits .f32 0x44800000#32)

/-- A row normalised. -/
def norm (x g b : Fin 1024 → EReal) (j : Fin 1024) : EReal :=
  centred x j * Ideal.rsqrt (Ideal.div (∑ k, centred x k * centred x k) (Ideal.ofBits .f32 0x44800000#32) + Ideal.ofBits .f32 0x3727C5AC#32) * g j + b j

/-- The logistic function. -/
def logi (x : EReal) : EReal := Ideal.div 1 (1 + Ideal.exp (-x))

/-- A gate's logit. -/
def gate (h : Fin 1024 → EReal) (w : Fin 1024 → Fin 2048 → EReal) (b : Fin 2048 → EReal) (j : Fin 2048) : EReal := ∑ k, h k * w k j + b j

/-- The mixers' rows, projected and gated. -/
def mixed (h : Fin 1024 → EReal) (a o : Fin 512 → EReal) (w : Fin 1024 → Fin 2048 → EReal) (b : Fin 2048 → EReal) (wa wb : Fin 512 → Fin 1024 → EReal) (j : Fin 1024) : EReal :=
  logi (gate h w b ⟨j.val, by omega⟩) * ∑ k, a k * wa k j + logi (gate h w b ⟨1024 + j.val, by omega⟩) * ∑ k, o k * wb k j

/-- The residual's row before the norm. -/
def resid (h y : Fin 1024 → EReal) (wo : Fin 1024 → Fin 1024 → EReal) (j : Fin 1024) : EReal :=
  Ideal.ofBits .f32 0x3FB504F3#32 * h j + ∑ k, y k * wo k j

namespace Ref

open Cert.MergeReferenceIdeal Cert.MergeReferenceIdeal.Read

variable (x0 : FVec Ideal S2x8192x1024 .f32) (x1 x2 : FVec Ideal S2x8192x512 .f32) (x3 : FVec Ideal S1024x2048 .f32) (x4 : FVec Ideal S2048 .f32)
  (x5 x6 : FVec Ideal S512x1024 .f32) (x7 : FVec Ideal S1024x1024 .f32) (x8 x9 : FVec Ideal S1024 .f32) (b : Fin 2) (s : Fin 8192)

theorem gate_at (j : Fin 2048) : val_main_v3 (F := Ideal) x0 x3 x4 (ix3 b s j)
    = gate (fun k => x0 (ix3 b s k)) (fun k j => x3 (ix2 k j)) (fun j => x4 (ix1 j)) j := by
  unfold gate
  pointwise [val_main_v3, val_main_v2, val_main_v1, val_main_v0]

theorem mixed_at (j : Fin 1024) : val_main_v22 (F := Ideal) x0 x1 x2 x3 x4 x5 x6 (ix3 b s j)
    = mixed (fun k => x0 (ix3 b s k)) (fun k => x1 (ix3 b s k)) (fun k => x2 (ix3 b s k)) (fun k j => x3 (ix2 k j)) (fun j => x4 (ix1 j))
      (fun k j => x5 (ix2 k j)) (fun k j => x6 (ix2 k j)) j := by
  unfold mixed logi
  rw [← gate_at, ← gate_at]
  pointwise [val_main_v22, val_main_v21, val_main_v20, val_main_v19, val_main_v18, val_main_cst_2, val_main_v17, val_main_v16, val_main_cst_1, val_main_v15, val_main_v14,
    val_main_v13, val_main_v12, val_main_v11, val_main_v10, val_main_cst_0, val_main_v9, val_main_v8, val_main_cst, val_main_v7, val_main_v6, val_main_v5, val_main_v4]

theorem resid_at (j : Fin 1024) : val_main_v26 (F := Ideal) x0 x1 x2 x3 x4 x5 x6 x7 (ix3 b s j)
    = resid (fun k => x0 (ix3 b s k)) (fun k => val_main_v22 (F := Ideal) x0 x1 x2 x3 x4 x5 x6 (ix3 b s k)) (fun k j => x7 (ix2 k j)) j := by
  unfold resid
  pointwise [val_main_v26, val_main_v25, val_main_v24, val_main_v23, val_main_cst_3]

theorem norm_at (j : Fin 1024) : val_main_v50 (F := Ideal) x0 x1 x2 x3 x4 x5 x6 x7 x8 x9 (ix3 b s j)
    = norm (fun k => val_main_v26 (F := Ideal) x0 x1 x2 x3 x4 x5 x6 x7 (ix3 b s k)) (fun k => x8 (ix1 k)) (fun k => x9 (ix1 k)) j := by
  unfold norm centred
  pointwise [val_main_v50, val_main_v49, val_main_v48, val_main_v47, val_main_v46, val_main_v45, val_main_v44, val_main_v43, val_main_v42, val_main_v41, val_main_v40,
    val_main_cst_8, val_main_v39, val_main_v38, val_main_v37, val_main_v36, val_main_cst_7, val_main_v35, val_main_v34, val_main_cst_6, val_main_v33, val_main_v32, val_main_v31,
    val_main_v30, val_main_v29, val_main_cst_5, val_main_v28, val_main_v27, val_main_cst_4]

end Ref

end Cert.Proof.Merge

end
-- ==== Proof.Merge.Body.lean ====
/-
  The merge kernel's body: the four pieces of rows it stores are one function of their rows.
-/
module

public import proofs.«01_k».proof.Proof.Merge.Ref
public import proofs.«01_k».proof.Proof.Gen.MergeIdeal.Value

@[expose] public section

set_option maxRecDepth 16384

noncomputable section

namespace Cert.Proof.Merge

open Cert.MergeIdeal Cert.MergeIdeal.Gen
open Idealize.ShloMosaic Idealize.ShloMosaic.TcCoe Idealize.ShloMosaic.Tactic

variable (h : FVec Ideal S1x256x1024 .f32) (a o : FVec Ideal S1x256x512 .bf16) (w : FVec Ideal S1024x2048 .bf16) (bi : FVec Ideal S1x2048 .f32)
  (wa wb : FVec Ideal S512x1024 .bf16) (wo : FVec Ideal S1024x1024 .bf16) (g b : FVec Ideal S1x1024 .f32)

/-- The rows' projection after the gates. -/
def proj : FVec Ideal S256x1024 .f32 :=
  k0_pay18 (k0_pay4 o wb) (k0_pay16 (k0_pay2 h w bi) (k0_pay3 a wa)) (k0_pay17 (k0_pay2 h w bi)) (Scalar.ofBits .f32 0x3F800000#32) wo

/-- What is stored of one piece of rows. -/
def piece : FVec Ideal S1x256x1024 .f32 := k0_pay25 (k0_pay24 (proj h a o w bi wa wb wo) h) g b

theorem gate_eq (r : Fin 256) (j : Fin 2048) : (k0_pay2 (F := Ideal) h w bi (ix2 r j) : EReal)
    = gate (fun k => h (ix3 0 r k)) (fun k j => w (ix2 k j)) (fun j => bi (ix2 0 j)) j := by
  unfold gate
  pointwise [k0_pay2]

theorem proj_eq (r : Fin 256) (j : Fin 1024) : proj h a o w bi wa wb wo (ix2 r j)
    = ∑ k, mixed (fun k => h (ix3 0 r k)) (fun k => a (ix3 0 r k)) (fun k => o (ix3 0 r k)) (fun k j => w (ix2 k j)) (fun j => bi (ix2 0 j))
      (fun k j => wa (ix2 k j)) (fun k j => wb (ix2 k j)) k * wo (ix2 k j) := by
  unfold mixed logi proj
  pointwise [k0_pay18, k0_pay16, k0_pay17, k0_pay3, k0_pay4]
  simp only [gate_eq, zero_sub]

theorem resid_eq (m : FVec Ideal S256x1024 .f32) (r : Fin 256) (j : Fin 1024) : (k0_pay24 (F := Ideal) m h (ix2 r j) : EReal)
    = Ideal.ofBits .f32 0x3FB504F3#32 * h (ix3 0 r j) + m (ix2 r j) := by
  pointwise [k0_pay24]

theorem norm_eq (x : FVec Ideal S256x1024 .f32) (r : Fin 256) (j : Fin 1024) : (k0_pay25 (F := Ideal) x g b (ix3 0 r j) : EReal)
    = norm (fun k => x (ix2 r k)) (fun k => g (ix2 0 k)) (fun k => b (ix2 0 k)) j := by
  unfold norm centred
  pointwise [k0_pay25]

theorem piece_eq (r : Fin 256) (j : Fin 1024) : piece h a o w bi wa wb wo g b (ix3 0 r j)
    = norm (resid (fun k => h (ix3 0 r k)) (mixed (fun k => h (ix3 0 r k)) (fun k => a (ix3 0 r k)) (fun k => o (ix3 0 r k)) (fun k j => w (ix2 k j)) (fun j => bi (ix2 0 j))
      (fun k j => wa (ix2 k j)) (fun k j => wb (ix2 k j))) (fun k j => wo (ix2 k j))) (fun k => g (ix2 0 k)) (fun k => b (ix2 0 k)) j := by
  unfold piece
  rw [norm_eq]
  congr 1
  funext k
  rw [resid_eq, proj_eq]
  rfl

/-- The stores, as pieces of one function. -/
theorem out_pieces (x0 : Vec Ideal S1x1024x1024 .f32) (x1 x2 : Vec Ideal S1x1024x512 .bf16) (x3 : Vec Ideal S1024x2048 .bf16) (x4 : Vec Ideal S1x2048 .f32)
    (x5 x6 : Vec Ideal S512x1024 .bf16) (x7 : Vec Ideal S1024x1024 .bf16) (x8 x9 : Vec Ideal S1x1024 .f32) :
    out0_10 x0 x1 x2 x3 x4 x5 x6 x7 x8 x9 = View.canon [
      ⟨r0_9, piece (View.ld x0 r0_9) (View.ld x1 r0_10) (View.ld x2 r0_10) (View.ld x3 r0_1) (View.ld x4 r0_2) (View.ld x5 r0_4) (View.ld x6 r0_4) (View.ld x7 r0_11) (View.ld x8 r0_12) (View.ld x9 r0_12)⟩,
      ⟨r0_7, piece (View.ld x0 r0_7) (View.ld x1 r0_8) (View.ld x2 r0_8) (View.ld x3 r0_1) (View.ld x4 r0_2) (View.ld x5 r0_4) (View.ld x6 r0_4) (View.ld x7 r0_11) (View.ld x8 r0_12) (View.ld x9 r0_12)⟩,
      ⟨r0_5, piece (View.ld x0 r0_5) (View.ld x1 r0_6) (View.ld x2 r0_6) (View.ld x3 r0_1) (View.ld x4 r0_2) (View.ld x5 r0_4) (View.ld x6 r0_4) (View.ld x7 r0_11) (View.ld x8 r0_12) (View.ld x9 r0_12)⟩,
      ⟨r0_0, piece (View.ld x0 r0_0) (View.ld x1 r0_3) (View.ld x2 r0_3) (View.ld x3 r0_1) (View.ld x4 r0_2) (View.ld x5 r0_4) (View.ld x6 r0_4) (View.ld x7 r0_11) (View.ld x8 r0_12) (View.ld x9 r0_12)⟩] := rfl

end Cert.Proof.Merge

end
-- ==== Proof.Merge.Value.lean ====
/-
  The merge kernel's result is the reference's.
-/
module

public import proofs.«01_k».proof.Proof.Merge.Body

@[expose] public section

set_option maxRecDepth 16384

noncomputable section

namespace Cert.Proof.Merge

open Cert.MergeIdeal Cert.MergeIdeal.Gen
open Idealize.ShloMosaic Idealize.ShloMosaic.TcCoe Idealize.ShloMosaic.Tactic

variable (m : (ℓ : Loc nD τ sig) → Buf (Elt Ideal) ℓ) (c : Dev nD)

abbrev A0 : FVec Ideal S2x8192x1024 .f32 := m ((c : Thread nD τ).loc main_arg0)
abbrev A1 : FVec Ideal S2x8192x512 .f32 := m ((c : Thread nD τ).loc main_arg1)
abbrev A2 : FVec Ideal S2x8192x512 .f32 := m ((c : Thread nD τ).loc main_arg2)
abbrev A3 : FVec Ideal S1024x2048 .f32 := m ((c : Thread nD τ).loc main_arg3)
abbrev A4 : FVec Ideal S2048 .f32 := m ((c : Thread nD τ).loc main_arg4)
abbrev A5 : FVec Ideal S512x1024 .f32 := m ((c : Thread nD τ).loc main_arg5)
abbrev A6 : FVec Ideal S512x1024 .f32 := m ((c : Thread nD τ).loc main_arg6)
abbrev A7 : FVec Ideal S1024x1024 .f32 := m ((c : Thread nD τ).loc main_arg7)
abbrev A8 : FVec Ideal S1024 .f32 := m ((c : Thread nD τ).loc main_arg8)
abbrev A9 : FVec Ideal S1024 .f32 := m ((c : Thread nD τ).loc main_arg9)

/-! ## What the kernel finds in its operands -/

theorem v0 (b : Fin 2) (s : Fin 8192) (k : Fin 512) : (V m c main_v0 (ix3 b s k) : EReal) = A1 m c (ix3 b s k) := by
  unfold V
  after_reads_at
theorem v1 (b : Fin 2) (s : Fin 8192) (k : Fin 512) : (V m c main_v1 (ix3 b s k) : EReal) = A2 m c (ix3 b s k) := by
  unfold V
  after_reads_at
theorem v2 (k : Fin 1024) (j : Fin 2048) : (V m c main_v2 (ix2 k j) : EReal) = A3 m c (ix2 k j) := by
  unfold V
  after_reads_at
theorem v3 (j : Fin 2048) : (V m c main_v3 (ix2 0 j) : EReal) = A4 m c (ix1 j) := by
  unfold V
  after_reads_at
theorem v4 (k : Fin 512) (j : Fin 1024) : (V m c main_v4 (ix2 k j) : EReal) = A5 m c (ix2 k j) := by
  unfold V
  after_reads_at
theorem v5 (k : Fin 512) (j : Fin 1024) : (V m c main_v5 (ix2 k j) : EReal) = A6 m c (ix2 k j) := by
  unfold V
  after_reads_at
theorem v6 (k : Fin 1024) (j : Fin 1024) : (V m c main_v6 (ix2 k j) : EReal) = A7 m c (ix2 k j) := by
  unfold V
  after_reads_at
theorem v7 (j : Fin 1024) : (V m c main_v7 (ix2 0 j) : EReal) = A8 m c (ix1 j) := by
  unfold V
  after_reads_at
theorem v8 (j : Fin 1024) : (V m c main_v8 (ix2 0 j) : EReal) = A9 m c (ix1 j) := by
  unfold V
  after_reads_at

theorem idx0 : ∀ t : Fin cfg0.N, win0_0.index t = ![(grid0.coords t 0).val, (grid0.coords t 1).val, 0] :=
  (by decide +kernel : ∀ t : Fin grid0.N, _)
theorem idx1 : ∀ t : Fin cfg0.N, win0_1.index t = ![(grid0.coords t 0).val, (grid0.coords t 1).val, 0] :=
  (by decide +kernel : ∀ t : Fin grid0.N, _)
theorem idx2 : ∀ t : Fin cfg0.N, win0_2.index t = ![(grid0.coords t 0).val, (grid0.coords t 1).val, 0] :=
  (by decide +kernel : ∀ t : Fin grid0.N, _)
theorem idx10 : ∀ t : Fin cfg0.N, win0_10.index t = ![(grid0.coords t 0).val, (grid0.coords t 1).val, 0] :=
  (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)

/-- The batch row and the token of a point's row. -/
abbrev bt (t : Fin cfg0.N) : Fin 2 := ⟨(grid0.coords t 0).val, (grid0.coords t 0).isLt⟩
theorem lt_n (t : Fin cfg0.N) : (grid0.coords t 1).val < 8 := (grid0.coords t 1).isLt
abbrev tok (t : Fin cfg0.N) (r : Fin 1024) : Fin 8192 := ⟨1024 * (grid0.coords t 1).val + r.val, by have := lt_n t; omega⟩

variable (t : Fin cfg0.N)

theorem b0 (r : Fin 1024) (k : Fin 1024) : (iblk m c 0 t (ix3 0 r k) : EReal) = A0 m c (ix3 (bt t) (tok t r) k) := by
  refine Eq.trans ?_ (congrFun (V_main_arg0 m c) _)
  blk_ext [iblk, idx0 t]
theorem b1 (r : Fin 1024) (k : Fin 512) : (iblk m c 1 t (ix3 0 r k) : EReal) = A1 m c (ix3 (bt t) (tok t r) k) := by
  rw [← v0]
  blk_ext [iblk, idx1 t]
theorem b2 (r : Fin 1024) (k : Fin 512) : (iblk m c 2 t (ix3 0 r k) : EReal) = A2 m c (ix3 (bt t) (tok t r) k) := by
  rw [← v1]
  blk_ext [iblk, idx2 t]
theorem b3 (k : Fin 1024) (j : Fin 2048) : (iblk m c 3 t (ix2 k j) : EReal) = A3 m c (ix2 k j) := by
  rw [← v2]
  blk_ext [iblk, idx3 t]
theorem b4 (j : Fin 2048) : (iblk m c 4 t (ix2 0 j) : EReal) = A4 m c (ix1 j) := by
  rw [← v3]
  blk_ext [iblk, idx4 t]
theorem b5 (k : Fin 512) (j : Fin 1024) : (iblk m c 5 t (ix2 k j) : EReal) = A5 m c (ix2 k j) := by
  rw [← v4]
  blk_ext [iblk, idx5 t]
theorem b6 (k : Fin 512) (j : Fin 1024) : (iblk m c 6 t (ix2 k j) : EReal) = A6 m c (ix2 k j) := by
  rw [← v5]
  blk_ext [iblk, idx6 t]
theorem b7 (k : Fin 1024) (j : Fin 1024) : (iblk m c 7 t (ix2 k j) : EReal) = A7 m c (ix2 k j) := by
  rw [← v6]
  blk_ext [iblk, idx7 t]
theorem b8 (j : Fin 1024) : (iblk m c 8 t (ix2 0 j) : EReal) = A8 m c (ix1 j) := by
  rw [← v7]
  blk_ext [iblk, idx8 t]
theorem b9 (j : Fin 1024) : (iblk m c 9 t (ix2 0 j) : EReal) = A9 m c (ix1 j) := by
  rw [← v8]
  blk_ext [iblk, idx9 t]

/-- The reference's result of the kernel's arguments. -/
def G : FVec Ideal S2x8192x1024 .f32 :=
  Cert.MergeReferenceIdeal.Read.val_main_v50 (F := Ideal) (A0 m c) (A1 m c) (A2 m c) (A3 m c) (A4 m c) (A5 m c) (A6 m c) (A7 m c) (A8 m c) (A9 m c)

/-- One token's row of it. -/
theorem G_at (b : Fin 2) (s : Fin 8192) (j : Fin 1024) : G m c (ix3 b s j) = norm (resid (fun k => A0 m c (ix3 b s k)) (mixed (fun k => A0 m c (ix3 b s k)) (fun k => A1 m c (ix3 b s k))
    (fun k => A2 m c (ix3 b s k)) (fun k j => A3 m c (ix2 k j)) (fun j => A4 m c (ix1 j)) (fun k j => A5 m c (ix2 k j)) (fun k j => A6 m c (ix2 k j)))
    (fun k j => A7 m c (ix2 k j))) (fun k => A8 m c (ix1 k)) (fun k => A9 m c (ix1 k)) j := by
  unfold G
  rw [Ref.norm_at]
  congr 1
  funext k
  rw [Ref.resid_at]
  congr 1
  funext k'
  rw [Ref.mixed_at]

/-- A piece at one row, read where the loads read. -/
theorem piece_at (R : Fin 256 → Fin 1024) (h : FVec Ideal S1x256x1024 .f32) (a o : FVec Ideal S1x256x512 .bf16) (w : FVec Ideal S1024x2048 .bf16) (bi : FVec Ideal S1x2048 .f32)
    (wa wb : FVec Ideal S512x1024 .bf16) (wo : FVec Ideal S1024x1024 .bf16) (g b : FVec Ideal S1x1024 .f32)
    (hh : ∀ r k, h (ix3 0 r k) = iblk m c 0 t (ix3 0 (R r) k)) (ha : ∀ r k, a (ix3 0 r k) = iblk m c 1 t (ix3 0 (R r) k)) (ho : ∀ r k, o (ix3 0 r k) = iblk m c 2 t (ix3 0 (R r) k))
    (hw : ∀ k j, w (ix2 k j) = iblk m c 3 t (ix2 k j)) (hbi : ∀ j, bi (ix2 0 j) = iblk m c 4 t (ix2 0 j)) (hwa : ∀ k j, wa (ix2 k j) = iblk m c 5 t (ix2 k j))
    (hwb : ∀ k j, wb (ix2 k j) = iblk m c 6 t (ix2 k j)) (hwo : ∀ k j, wo (ix2 k j) = iblk m c 7 t (ix2 k j)) (hg : ∀ j, g (ix2 0 j) = iblk m c 8 t (ix2 0 j))
    (hb : ∀ j, b (ix2 0 j) = iblk m c 9 t (ix2 0 j)) (r : Fin 256) (j : Fin 1024) :
    piece h a o w bi wa wb wo g b (ix3 0 r j) = G m c (ix3 (bt t) (tok t (R r)) j) := by
  rw [piece_eq, G_at]
  simp only [hh, ha, ho, hw, hbi, hwa, hwb, hwo, hg, hb]
  simp only [b0, b1, b2, b3, b4, b5, b6, b7, b8, b9]

/-- The rows a piece loads. -/
theorem ld_rows {n : ℕ} {e : EltTy} (X : Vec Ideal (⟨3, ![1, 1024, n]⟩ : Shape) e) (off : ℕ) (ho : off + 256 ≤ 1024)
    (inb : ∀ a, (![0, off, 0] : Fin 3 → ℕ) a + (![1, 256, n] : Fin 3 → ℕ) a ≤ (⟨3, ![1, 1024, n]⟩ : Shape).size a) (r : Fin 256) (k : Fin n) :
    View.ld X (Rect.unit (s := (⟨3, ![1, 1024, n]⟩ : Shape)) ![0, off, 0] ![1, 256, n] inb) (ix3 0 r k) = X (ix3 0 ⟨off + r.val, by omega⟩ k) := by
  refine congrArg X ?_
  funext a
  match a with
  | ⟨0, _⟩ => exact Fin.ext (by simp [ix3])
  | ⟨1, _⟩ => exact Fin.ext (by simp [ix3])
  | ⟨2, _⟩ => exact Fin.ext (by simp [ix3])

theorem ld_all {p n : ℕ} {e : EltTy} (X : Vec Ideal (⟨2, ![p, n]⟩ : Shape) e)
    (inb : ∀ a, (![0, 0] : Fin 2 → ℕ) a + (![p, n] : Fin 2 → ℕ) a ≤ (⟨2, ![p, n]⟩ : Shape).size a) (r : Fin p) (k : Fin n) :
    View.ld X (Rect.unit (s := (⟨2, ![p, n]⟩ : Shape)) ![0, 0] ![p, n] inb) (ix2 r k) = X (ix2 r k) := by
  refine congrArg X ?_
  funext a
  match a with
  | ⟨0, _⟩ => exact Fin.ext (by simp [ix2])
  | ⟨1, _⟩ => exact Fin.ext (by simp [ix2])

/-- The piece stored at an offset. -/
theorem piece_off (off : ℕ) (ho : off + 256 ≤ 1024) (i1 i2) (x : S1x256x1024.Idx) (r j : Fin 1024) (h1 : r.val = off + (x 1).val) (h2 : j.val = (x 2).val) :
    piece (View.ld (iblk m c 0 t) (Rect.unit (s := S1x1024x1024) ![0, off, 0] S1x256x1024.size i1)) (View.ld (iblk m c 1 t) (Rect.unit (s := S1x1024x512) ![0, off, 0] S1x256x512.size i2))
      (View.ld (iblk m c 2 t) (Rect.unit (s := S1x1024x512) ![0, off, 0] S1x256x512.size i2)) (View.ld (iblk m c 3 t) r0_1) (View.ld (iblk m c 4 t) r0_2) (View.ld (iblk m c 5 t) r0_4)
      (View.ld (iblk m c 6 t) r0_4) (View.ld (iblk m c 7 t) r0_11) (View.ld (iblk m c 8 t) r0_12) (View.ld (iblk m c 9 t) r0_12) x = G m c (ix3 (bt t) (tok t r) j) := by
  obtain ⟨z, q, k, rfl⟩ : ∃ (z : Fin 1) (q : Fin 256) (k : Fin 1024), x = ix3 z q k := ⟨x 0, x 1, x 2, by funext a; match a with | ⟨0, _⟩ => rfl | ⟨1, _⟩ => rfl | ⟨2, _⟩ => rfl⟩
  obtain rfl : z = 0 := Subsingleton.elim _ _
  have hr : r = ⟨off + q.val, by omega⟩ := Fin.ext h1
  have hj : j = k := Fin.ext h2
  rw [hr, hj]
  exact piece_at m c t (fun q => ⟨off + q.val, by omega⟩) _ _ _ _ _ _ _ _ _ _ (ld_rows _ off ho i1) (ld_rows _ off ho i2) (ld_rows _ off ho i2) (ld_all _ _) (ld_all _ _ 0) (ld_all _ _) (ld_all _ _)
    (ld_all _ _) (ld_all _ _ 0) (ld_all _ _ 0) q k

/-- The block a point leaves. -/
theorem after_eq (r : Fin 1024) (j : Fin 1024) : ((dats m 0 c).after 10 t (ix3 0 r j) : EReal) = G m c (ix3 (bt t) (tok t r) j) := by
  rw [after0_10, out_pieces]
  canon_tiles x h
  · exact piece_off m c t 768 (by omega) _ _ x r j h1 h2
  · exact piece_off m c t 512 (by omega) _ _ x r j h1 h2
  · exact piece_off m c t 256 (by omega) _ _ x r j h1 h2
  · exact piece_off m c t 0 (by omega) _ _ x r j (h1.trans (Nat.zero_add _).symm) h2

theorem out_eq : (dats m 0 c).arrAt 10 cfg0.N = G m c := by
  refine (dats m 0 c).arrAt_eq_of_covers 10 (G m c) (by decide +kernel) fun t _ y => ?_
  blk_simp
  obtain ⟨z, r, j, rfl⟩ : ∃ (z : Fin 1) (r j : Fin 1024), y = ix3 z r j := ⟨y 0, y 1, y 2, by funext a; match a with | ⟨0, _⟩ => rfl | ⟨1, _⟩ => rfl | ⟨2, _⟩ => rfl⟩
  obtain rfl : z = 0 := Subsingleton.elim _ _
  refine (after_eq m c t r j).trans ?_
  blk_ext [idx10 t]

end Cert.Proof.Merge

end
-- ==== Proof.Merge.Claims.lean ====
/-
  The claims of the merge call.
-/
module

public import proofs.«01_k».proof.Defs
public import proofs.«01_k».proof.Proof.Merge.Value
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeReferenceIdeal
public import Idealize.ShloMosaic.Adequacy
public import Idealize.ShloMosaic.Init

@[expose] public section

noncomputable section

namespace Cert.Proof.Merge

open Idealize.ShloMosaic Idealize.ShloMosaic.TcCoe Idealize.ShloMosaic.Tactic
open Idealize.SL.Sem

/-- The call at bit patterns terminates and keeps its arguments. -/
theorem frame_P : Cert.quiescent_Merge := fun m g _ => Cert.Merge.Gen.frame m g

/-- So does the call at extended reals. -/
theorem frame_PI : Cert.quiescent_MergeIdeal := fun m g _ => Cert.MergeIdeal.Gen.frame m g

/-- So does its reference. -/
theorem frame_R : Cert.quiescent_MergeReferenceIdeal := fun m g _ =>
  (θ_run _ _ _).mono (fun r h => ⟨fun c => (h c).2, sem_eq_zero_of_no_sems rfl _⟩) (Cert.MergeReferenceIdeal.Value.run m g)

/-- The call computes its reference's result at the extended reals. -/
theorem value : Cert.algebraic_MergeIdeal_MergeReferenceIdeal := fun m g m' g' _ ha =>
  ⟨fun c => G m c,
    (θ_run _ _ _).mono (fun _ h c => ⟨(h c).1.trans (out_eq m c), (h c).2⟩) (Cert.MergeIdeal.Value.run_blocks m g),
    (θ_run _ _ _).mono (fun _ h c => ⟨(h c).1.trans ((Cert.MergeReferenceIdeal.Read.val_main_v50_eq m' c).trans (by
        obtain ⟨h0, h1, h2, h3, h4, h5, h6, h7, h8, h9⟩ := ha c
        rw [h0, h1, h2, h3, h4, h5, h6, h7, h8, h9]
        rfl)), (h c).2⟩) (Cert.MergeReferenceIdeal.Value.run m' g')⟩

end Cert.Proof.Merge

end
-- ==== Proof.Ffn.Ref.lean ====
/-
  The feed-forward part, row by row: what the reference computes of one token.
-/
module

public import proofs.«01_k».proof.Proof.Merge.Ref
public import proofs.«01_k».proof.Proof.Gen.FfnReferenceIdeal.Run
public import proofs.«01_k».proof.Proof.Gen.FfnReferenceIdeal.Read
public import Idealize.ShloMosaic.Lib.Claim
public import Idealize.ShloMosaic.Lib.Pipeline.ValueKit
public import Idealize.ShloMosaic.Lib.StableHlo.ReadAt

@[expose] public section

set_option maxRecDepth 16384

noncomputable section

namespace Cert.Proof.Ffn

open Idealize.ShloMosaic Idealize.ShloMosaic.TcCoe Idealize.ShloMosaic.Tactic
open Cert.Proof.Merge (centred logi)

/-- A column of the tokens, so many tokens back: nothing before the first. -/
def past (u : Fin 8192 → EReal) (d : ℕ) (s : Fin 8192) : EReal := if h : d ≤ s.val then u ⟨s.val - d, by omega⟩ else 0

/-- The convolution of a column over the tokens. -/
def conv (u : Fin 8192 → EReal) (w0 w1 w2 b : EReal) (s : Fin 8192) : EReal := b + w0 * past u 2 s + w1 * past u 1 s + w2 * u s

/-- The gated product. -/
def act (x y : EReal) : EReal := x * logi x * y

namespace Ref

open Cert.FfnReferenceIdeal Cert.FfnReferenceIdeal.Read

variable (x0 : FVec Ideal S2x8192x1024 .f32) (x1 : FVec Ideal S1024x5632 .f32) (x2 : FVec Ideal S3x5632 .f32) (x3 : FVec Ideal S5632 .f32)
  (x4 : FVec Ideal S2816x1024 .f32) (x5 x6 : FVec Ideal S1024 .f32) (b : Fin 2) (s : Fin 8192)

theorem up_at (j : Fin 5632) : val_main_v0 (F := Ideal) x0 x1 (ix3 b s j) = ∑ k, x0 (ix3 b s k) * x1 (ix2 k j) := by
  pointwise [val_main_v0]

theorem past_at (d : ℕ) (hd : d ≤ 2) (j : Fin 5632) : val_main_v1 (F := Ideal) x0 x1 (ix3 b ⟨2 - d + s.val, by omega⟩ j) = past (fun s => val_main_v0 (F := Ideal) x0 x1 (ix3 b s j)) d s := by
  unfold past
  split_ifs with h
  · pointwise [val_main_v1]
    rw [dif_pos ⟨by omega, by omega⟩]
    congr 2
    exact Fin.ext (by show 2 - d + s.val - 2 = s.val - d; omega)
  · pointwise [val_main_v1, val_main_call0_v0, val_main_c]
    rw [dif_neg (by omega)]
    exact (congrArg (fun z : ℤ => ((z : ℝ) : EReal)) (by decide : (0#32 : BitVec 32).toInt = 0)).trans (by simp)

theorem conv_at (j : Fin 5632) : val_main_v24 (F := Ideal) x0 x1 x2 x3 (ix3 b s j)
    = conv (fun s => val_main_v0 (F := Ideal) x0 x1 (ix3 b s j)) (x2 (ix2 0 j)) (x2 (ix2 1 j)) (x2 (ix2 2 j)) (x3 (ix1 j)) s := by
  unfold conv
  rw [← past_at x0 x1 b s 2 (by omega), ← past_at x0 x1 b s 1 (by omega)]
  have e0 : past (fun s => val_main_v0 (F := Ideal) x0 x1 (ix3 b s j)) 0 s = val_main_v0 (F := Ideal) x0 x1 (ix3 b s j) := by simp [past]
  show _ = _ + _ * val_main_v0 (F := Ideal) x0 x1 (ix3 b s j)
  rw [← e0, ← past_at x0 x1 b s 0 (by omega)]
  pointwise [val_main_v24, val_main_v23, val_main_v22, val_main_v21, val_main_v20, val_main_v19, val_main_v18, val_main_v17, val_main_v16, val_main_v15, val_main_v14, val_main_v13,
    val_main_v12, val_main_v11, val_main_v10, val_main_v9, val_main_v8, val_main_v7, val_main_v6, val_main_v5, val_main_v4, val_main_v3, val_main_v2]

theorem act_at (j : Fin 2816) : val_main_v30 (F := Ideal) x0 x1 x2 x3 (ix3 b s j)
    = act (val_main_v24 (F := Ideal) x0 x1 x2 x3 (ix3 b s ⟨j.val, by omega⟩)) (val_main_v24 (F := Ideal) x0 x1 x2 x3 (ix3 b s ⟨2816 + j.val, by omega⟩)) := by
  unfold act logi
  pointwise [val_main_v30, val_main_v29, val_main_call1_v5, val_main_call1_v4, val_main_call1_cst_0, val_main_call1_v3, val_main_call1_v2, val_main_call1_cst, val_main_call1_v1,
    val_main_call1_v0, val_main_v26, val_main_v25]

theorem resid_at (j : Fin 1024) : val_main_v32 (F := Ideal) x0 x1 x2 x3 x4 (ix3 b s j)
    = Ideal.ofBits .f32 0x3FB504F3#32 * x0 (ix3 b s j) + ∑ k, val_main_v30 (F := Ideal) x0 x1 x2 x3 (ix3 b s k) * x4 (ix2 k j) := by
  pointwise [val_main_v32, val_main_v31, val_main_v28, val_main_v27, val_main_cst]

theorem norm_at (j : Fin 1024) : val_main_v56 (F := Ideal) x0 x1 x2 x3 x4 x5 x6 (ix3 b s j)
    = Merge.norm (fun k => val_main_v32 (F := Ideal) x0 x1 x2 x3 x4 (ix3 b s k)) (fun k => x5 (ix1 k)) (fun k => x6 (ix1 k)) j := by
  unfold Merge.norm centred
  pointwise [val_main_v56, val_main_v55, val_main_v54, val_main_v53, val_main_v52, val_main_v51, val_main_v50, val_main_v49, val_main_v48, val_main_v47, val_main_v46,
    val_main_cst_4, val_main_v45, val_main_v44, val_main_v43, val_main_v42, val_main_cst_3, val_main_v41, val_main_v40, val_main_cst_2, val_main_v39, val_main_v38, val_main_v37,
    val_main_v36, val_main_v35, val_main_cst_1, val_main_v34, val_main_v33, val_main_cst_0]

end Ref

end Cert.Proof.Ffn

end
-- ==== Proof.Ffn.Body.lean ====
/-
  The feed-forward kernel's body: its eleven chunks of columns are one step.
-/
module

public import proofs.«01_k».proof.Proof.Ffn.Ref
public import proofs.«01_k».proof.Proof.Gen.FfnIdeal.Value
public import Idealize.ShloMosaic.Lib.Pipeline.ReadBack

@[expose] public section

set_option maxRecDepth 16384

noncomputable section

namespace Cert.Proof.Ffn

open Cert.FfnIdeal Cert.FfnIdeal.Gen
open Idealize.ShloMosaic Idealize.ShloMosaic.TcCoe Idealize.ShloMosaic.Tactic
open Cert.Proof.Merge (centred logi)

/-! ## The body's parts, once each -/

/-- The rows' numbers. -/
abbrev rows : IVec S8x256 32 := iota .tc S8x256 32 [0] iota_S8x256_d0_w32

/-- The rows against a chunk of columns. -/
def up (h : FVec Ideal S256x1024 .bf16) (w : FVec Ideal S1024x256 .bf16) : FVec Ideal S256x256 .f32 := k0_pay18 h w

/-- The last rows, kept for the next block of tokens. -/
def tail (u : FVec Ideal S256x256 .f32) : FVec Ideal S1x8x256 .f32 := k0_pay58 (k0_pay57 u)

/-- The gate of a chunk, after its convolution. -/
def gate (q : IVec S8x256 32) (u : FVec Ideal S256x256 .f32) (p : FVec Ideal S1x8x256 .f32) (c : FVec Ideal S8x256 .f32) : FVec Ideal S256x256 .f32 := k0_pay55 q u (k0_pay56 p) c

/-- A chunk's gated values, projected and added in. -/
def add (q : IVec S8x256 32) (f : FVec Ideal S256x1024 .f32) (a u : FVec Ideal S256x256 .f32) (p : FVec Ideal S1x8x256 .f32) (c : FVec Ideal S8x256 .f32) (d : FVec Ideal S1x256x1024 .bf16) :
    FVec Ideal S256x1024 .f32 := k0_pay59 q u f a (k0_pay56 p) c d

/-! ## The chunks' spellings, each of them those two -/

section
variable (q : IVec S8x256 32) (f : FVec Ideal S256x1024 .f32) (a u : FVec Ideal S256x256 .f32) (p : FVec Ideal S1x8x256 .f32) (c : FVec Ideal S8x256 .f32)
  (d : FVec Ideal S1x256x1024 .bf16) (x : FVec Ideal S256x1024 .f32)

theorem ups0 (x : FVec Ideal S1x256x1024 .f32) (w : FVec Ideal S1024x256 .bf16) : k0_pay6 x w = up (k0_pay4 x) w ∧ k0_pay7 x w = up (k0_pay4 x) w ∧ k0_pay8 x w = up (k0_pay4 x) w
    ∧ k0_pay9 x w = up (k0_pay4 x) w ∧ k0_pay10 x w = up (k0_pay4 x) w ∧ k0_pay11 x w = up (k0_pay4 x) w := ⟨rfl, rfl, rfl, rfl, rfl, rfl⟩
theorem ups1 (v : FVec Ideal S256x1024 .bf16) (w : FVec Ideal S1024x256 .bf16) : k0_pay18 v w = up v w ∧ k0_pay19 v w = up v w ∧ k0_pay35 v w = up v w ∧ k0_pay36 v w = up v w
    ∧ k0_pay50 v w = up v w ∧ k0_pay51 v w = up v w ∧ k0_pay60 v w = up v w ∧ k0_pay61 v w = up v w := ⟨rfl, rfl, rfl, rfl, rfl, rfl, rfl, rfl⟩
theorem ups2 (v : FVec Ideal S256x1024 .bf16) (w : FVec Ideal S1024x256 .bf16) : k0_pay76 v w = up v w ∧ k0_pay77 v w = up v w ∧ k0_pay92 v w = up v w ∧ k0_pay93 v w = up v w
    ∧ k0_pay101 v w = up v w ∧ k0_pay102 v w = up v w ∧ k0_pay113 v w = up v w ∧ k0_pay114 v w = up v w := ⟨rfl, rfl, rfl, rfl, rfl, rfl, rfl, rfl⟩

theorem tails0 (x : FVec Ideal S1x256x1024 .f32) (w : FVec Ideal S1024x256 .bf16) : k0_pay14 (k0_pay13 x w) = tail (up (k0_pay4 x) w) := rfl
theorem tails1 (u : FVec Ideal S256x256 .f32) : k0_pay16 u = tail u ∧ k0_pay21 u = tail u ∧ k0_pay29 u = tail u ∧ k0_pay38 u = tail u ∧ k0_pay45 u = tail u ∧ k0_pay54 (k0_pay53 u) = tail u
    ∧ k0_pay58 (k0_pay57 u) = tail u ∧ k0_pay63 u = tail u ∧ k0_pay70 u = tail u ∧ k0_pay79 u = tail u ∧ k0_pay86 u = tail u := ⟨rfl, rfl, rfl, rfl, rfl, rfl, rfl, rfl, rfl, rfl, rfl⟩
theorem tails2 (u : FVec Ideal S256x256 .f32) : k0_pay95 u = tail u ∧ k0_pay99 (k0_pay98 u) = tail u ∧ k0_pay103 u = tail u ∧ k0_pay107 u = tail u ∧ k0_pay116 u = tail u
    ∧ k0_pay123 u = tail u ∧ k0_pay132 u = tail u ∧ k0_pay139 u = tail u ∧ k0_pay144 u = tail u ∧ k0_pay150 u = tail u := ⟨rfl, rfl, rfl, rfl, rfl, rfl, rfl, rfl, rfl, rfl⟩

theorem gate0 : k0_pay15 q u (k0_pay12 p) c = gate q u p c := rfl
theorem gate1 : k0_pay27 (k0_pay23 q u p c) (k0_pay24 u) (k0_pay25 q u p) (k0_pay26 c) = gate q u p c := rfl
theorem gate2 : k0_pay43 q u (k0_pay37 p) (k0_pay39 c) (k0_pay40 u c) (k0_pay41 u) (k0_pay42 q) 1#32 = gate q u p c := rfl
theorem gate3 : k0_pay55 q u (k0_pay52 p) c = gate q u p c := rfl
theorem gate4 : k0_pay68 (k0_pay65 q u p c) (k0_pay66 q u p) (k0_pay67 c) = gate q u p c := rfl
theorem gate5 : k0_pay84 q u (k0_pay78 p) (k0_pay80 c) (k0_pay81 u c) (k0_pay82 u) (k0_pay83 q u p) = gate q u p c := rfl
theorem gate6 : k0_pay96 q u (k0_pay94 p) c = gate q u p c := rfl
theorem gate7 : k0_pay105 (k0_pay104 q u p c) (Scalar.ofBits .f32 0x00000000#32) = gate q u p c := rfl
theorem gate8 : k0_pay121 q u (k0_pay115 p) (k0_pay117 c) (k0_pay118 u c) (k0_pay119 c) (k0_pay120 q u p) = gate q u p c := rfl
theorem gate9 : k0_pay137 q u (k0_pay131 p) (k0_pay133 c) (k0_pay134 u c) (k0_pay135 u) (k0_pay136 q) = gate q u p c := rfl
theorem gate10 : k0_pay148 q u (k0_pay143 p) (k0_pay145 c) (k0_pay146 c) (k0_pay147 u c) = gate q u p c := rfl

theorem add0 : k0_pay17 q f u a p c d = add q f a u p c d := rfl
theorem add1 : k0_pay34 f a (k0_pay28 p) (k0_pay30 c) (k0_pay31 q u p c) (k0_pay32 u) (k0_pay33 q) 2#32 d = add q f a u p c d := rfl
theorem add2 : k0_pay49 q u f a (k0_pay44 p) (k0_pay46 c) (k0_pay47 u c) (k0_pay48 u) d = add q f a u p c d := rfl
theorem add3 : k0_pay59 q u f a (k0_pay56 p) c d = add q f a u p c d := rfl
theorem add4 : k0_pay75 f a (k0_pay71 c) (k0_pay72 q u p c) (k0_pay73 u) (k0_pay74 q u p) d = add q f a u p c d := rfl
theorem add5 : k0_pay91 q u f a (k0_pay85 p) (k0_pay87 c) (k0_pay88 u c) (k0_pay89 u) (k0_pay90 q) d = add q f a u p c d := rfl
theorem add6 : k0_pay100 q u f a (k0_pay97 p) c d = add q f a u p c d := rfl
theorem add7 : k0_pay112 f a (k0_pay109 q u p c) (k0_pay110 c) (k0_pay111 q u p) d = add q f a u p c d := rfl
theorem add8 : k0_pay130 q u f a (k0_pay122 p) (k0_pay124 c) (k0_pay125 u c) (k0_pay126 u) (k0_pay127 q) (k0_pay128 p) (k0_pay129 u) d = add q f a u p c d := rfl
theorem add9 : k0_pay142 q u f a (k0_pay138 p) (k0_pay140 c) (k0_pay141 u c) 1#32 d = add q f a u p c d := rfl
theorem add10 : k0_pay152 x q u f a (k0_pay149 p) (k0_pay151 c) d = addf (mulf (broadcast S256x1024 (Scalar.ofBits .f32 0x3FB504F3#32)) x) (add q f a u p c d) := rfl
theorem add11 : k0_pay155 x q u f a (k0_pay149 p) (k0_pay151 c) d
    = multiReduction .add [1] S256 (addf (mulf (broadcast S256x1024 (Scalar.ofBits .f32 0x3FB504F3#32)) x) (add q f a u p c d)) 0x00000000#32 reduces_S256x1024_S256 (.inl rfl) rfl := rfl
end

/-- The residual's rows before the norm. -/
def total (h : FVec Ideal S1x256x1024 .f32) (f : FVec Ideal S256x1024 .f32) : FVec Ideal S256x1024 .f32 :=
  addf (mulf (broadcast S256x1024 (Scalar.ofBits .f32 0x3FB504F3#32)) (k0_pay3 h)) f

/-- The rows normalised. -/
def normed (x : FVec Ideal S256x1024 .f32) (g b : FVec Ideal S1x1024 .f32) : FVec Ideal S1x256x1024 .f32 :=
  k0_pay1 x (k0_pay153 g) (k0_pay154 b) (multiReduction .add [1] S256 x 0x00000000#32 reduces_S256x1024_S256 (.inl rfl) rfl)

section
variable (x0 : Vec Ideal S1x256x1024 .f32) (x1 : Vec Ideal S1024x5632 .bf16) (x2 : Vec Ideal S8x5632 .f32) (x3 : Vec Ideal S11x256x1024 .bf16)
  (x4 x5 : Vec Ideal S1x1024 .f32) (p : Fin 22 → Vec Ideal S1x8x256 .f32)

/-- The columns of a chunk. -/
def wcol (i : Fin 22) : FVec Ideal S1024x256 .bf16 :=
  View.ld x1 (Rect.unit (s := S1024x5632) ![0, 256 * i.val] S1024x256.size (fun a => match a with | ⟨0, _⟩ => Nat.le_refl _ | ⟨1, _⟩ => (by show 256 * i.val + 256 ≤ 5632; omega)))
def ccol (i : Fin 22) : FVec Ideal S8x256 .f32 :=
  View.ld x2 (Rect.unit (s := S8x5632) ![0, 256 * i.val] S8x256.size (fun a => match a with | ⟨0, _⟩ => Nat.le_refl _ | ⟨1, _⟩ => (by show 256 * i.val + 256 ≤ 5632; omega)))
/-- The rows of a chunk. -/
def drow (i : Fin 11) : FVec Ideal S1x256x1024 .bf16 :=
  View.ld x3 (Rect.unit (s := S11x256x1024) ![i.val, 0, 0] S1x256x1024.size (fun a => match a with
    | ⟨0, _⟩ => (by show i.val + 1 ≤ 11; omega) | ⟨1, _⟩ => Nat.le_refl _ | ⟨2, _⟩ => Nat.le_refl _))

/-- A chunk's step. -/
def chunk (f : FVec Ideal S256x1024 .f32) (i : Fin 11) : FVec Ideal S256x1024 .f32 :=
  add rows f (gate rows (up (k0_pay4 x0) (wcol x1 ⟨i.val, by omega⟩)) (p ⟨i.val, by omega⟩) (ccol x2 ⟨i.val, by omega⟩))
    (up (k0_pay4 x0) (wcol x1 ⟨11 + i.val, by omega⟩)) (p ⟨11 + i.val, by omega⟩) (ccol x2 ⟨11 + i.val, by omega⟩) (drow x3 i)

/-- The chunks' parts together. -/
def acc : FVec Ideal S256x1024 .f32 :=
  chunk x0 x1 x2 x3 p (chunk x0 x1 x2 x3 p (chunk x0 x1 x2 x3 p (chunk x0 x1 x2 x3 p (chunk x0 x1 x2 x3 p (chunk x0 x1 x2 x3 p (chunk x0 x1 x2 x3 p (chunk x0 x1 x2 x3 p
    (chunk x0 x1 x2 x3 p (chunk x0 x1 x2 x3 p (chunk x0 x1 x2 x3 p k0_pay5 0) 1) 2) 3) 4) 5) 6) 7) 8) 9) 10

/-- The block's result. -/
def block : FVec Ideal S1x256x1024 .f32 := normed (total x0 (acc x0 x1 x2 x3 p)) x4 x5

end

variable (m : (ℓ : Loc nD τ sig) → Buf (Elt Ideal) ℓ) (c : Dev nD) (t : Fin cfg0.N)

/-- A chunk's rows of the carry. -/
def crow (s : Vec Ideal S22x8x256 .f32) (i : Fin 22) : Vec Ideal S1x8x256 .f32 :=
  View.ld s (Rect.unit (s := S22x8x256) ![i.val, 0, 0] S1x8x256.size (fun a => match a with
    | ⟨0, _⟩ => (by show i.val + 1 ≤ 22; omega) | ⟨1, _⟩ => Nat.le_refl _ | ⟨2, _⟩ => Nat.le_refl _))

theorem block_B (h : ¬t.val % 32 = 0) : (outsAt0 m c t.val t.isLt).1
    = block (iblk m c 0 t) (iblk m c 1 t) (iblk m c 2 t) (iblk m c 3 t) (iblk m c 4 t) (iblk m c 5 t)
      (crow (outsAt0 m c (t.val - 1) (Nat.lt_of_le_of_lt (Nat.sub_le _ _) t.isLt)).2) := by
  rw [outsAt0_B m c t h]
  dsimp only
  frame_out
  simp only [read_unread_whole, gate0, gate1, gate2, gate3, gate4, gate5, gate6, gate7, gate8, gate9, gate10, add0, add1, add2, add3, add4, add5, add6, add7, add8, add9, add10, add11, ups0, ups1, ups2]
  simp only [block, normed, total, acc, chunk, wcol, ccol, drow, crow, rows, Fin.isValue, Fin.coe_ofNat_eq_mod, Nat.reduceMod, Nat.zero_mod, Nat.mul_zero, Nat.add_zero, Nat.reduceMul, Nat.reduceAdd]

theorem block_A (h : t.val % 32 = 0) : (outsAt0 m c t.val t.isLt).1
    = block (iblk m c 0 t) (iblk m c 1 t) (iblk m c 2 t) (iblk m c 3 t) (iblk m c 4 t) (iblk m c 5 t) (crow (k0_pay2 (F := Ideal))) := by
  rw [outsAt0_A m c t h]
  dsimp only
  frame_open
  simp (disch := decide) only [↓ View.readCov_skip, ↓ View.readCov_fill]
  frame_out
  simp only [gate0, gate1, gate2, gate3, gate4, gate5, gate6, gate7, gate8, gate9, gate10, add0, add1, add2, add3, add4, add5, add6, add7, add8, add9, add10, add11, ups0, ups1, ups2]
  simp only [block, normed, total, acc, chunk, wcol, ccol, drow, crow, rows, Fin.isValue, Fin.coe_ofNat_eq_mod, Nat.reduceMod, Nat.zero_mod, Nat.mul_zero, Nat.add_zero, Nat.reduceMul, Nat.reduceAdd]

/-- What is kept of a block for the next. -/
def kept (x0 : Vec Ideal S1x256x1024 .f32) (x1 : Vec Ideal S1024x5632 .bf16) : Vec Ideal S22x8x256 .f32 :=
  fun y => tail (up (k0_pay4 x0) (wcol x1 (y 0))) (ix3 0 (y 1) (y 2))

theorem kept_at (x0 : Vec Ideal S1x256x1024 .f32) (x1 : Vec Ideal S1024x5632 .bf16) (i : Fin 22) (inb) (x : S1x8x256.Idx) :
    tail (up (k0_pay4 x0) (wcol x1 i)) x = kept x0 x1 ((Rect.unit (s := S22x8x256) ![i.val, 0, 0] S1x8x256.size inb).emb x) := by
  obtain ⟨z, q, k, rfl⟩ : ∃ (z : Fin 1) (q : Fin 8) (k : Fin 256), x = ix3 z q k := ⟨x 0, x 1, x 2, by funext a; match a with | ⟨0, _⟩ => rfl | ⟨1, _⟩ => rfl | ⟨2, _⟩ => rfl⟩
  obtain rfl : z = 0 := Subsingleton.elim _ _
  have e : (Rect.unit (s := S22x8x256) ![i.val, 0, 0] S1x8x256.size inb).emb (ix3 0 q k : S1x8x256.Idx) = ix3 i q k := by
    funext a
    match a with
    | ⟨0, _⟩ => exact Fin.ext (by simp [ix3])
    | ⟨1, _⟩ => exact Fin.ext (by simp [ix3])
    | ⟨2, _⟩ => exact Fin.ext (by simp [ix3])
  rw [e]
  rfl

theorem kept_off (x0 : Vec Ideal S1x256x1024 .f32) (x1 : Vec Ideal S1024x5632 .bf16) (i o : ℕ) (hi : i < 22) (ho : o = 256 * i) (inb inw) (x : S1x8x256.Idx) :
    tail (up (k0_pay4 x0) (View.ld x1 (Rect.unit (s := S1024x5632) ![0, o] S1024x256.size inw))) x = kept x0 x1 ((Rect.unit (s := S22x8x256) ![i, 0, 0] S1x8x256.size inb).emb x) := by
  subst ho
  exact kept_at x0 x1 ⟨i, hi⟩ inb x

end Cert.Proof.Ffn

end
-- ==== Proof.Ffn.Kept.lean ====
/-
  What the feed-forward kernel keeps of a block for the next.
-/
module

public import proofs.«01_k».proof.Proof.Ffn.Body

@[expose] public section

set_option maxRecDepth 16384

noncomputable section

namespace Cert.Proof.Ffn

open Cert.FfnIdeal Cert.FfnIdeal.Gen
open Idealize.ShloMosaic Idealize.ShloMosaic.TcCoe Idealize.ShloMosaic.Tactic

variable (m : (ℓ : Loc nD τ sig) → Buf (Elt Ideal) ℓ) (c : Dev nD) (t : Fin cfg0.N)

/-- The pieces of a list's front decide where they cover. -/
theorem canon_front {s : Shape} {e : EltTy} (n : ℕ) (G : Vec Ideal s e) (L : List (View.Piece (Elt Ideal) s e)) (h : View.PiecesOf G (L.take n)) (y : s.Idx)
    (hc : ∃ p ∈ L.take n, y ∈ p.1.set) : View.canon L y = G y := by
  have := View.canon_append_of_piecesOf G (L.drop n) (L.take n) h y hc
  rwa [List.take_append_drop] at this

theorem kept_B (h : ¬t.val % 32 = 0) : (outsAt0 m c t.val t.isLt).2 = kept (iblk m c 0 t) (iblk m c 1 t) := by
  rw [outsAt0_B m c t h]
  dsimp only
  frame_open
  simp (disch := decide) only [↓ View.readCov_skip, ↓ View.readCov_fill]
  frame_out
  simp only [tails0, tails1, tails2, ups0, ups1, ups2]
  funext y
  obtain ⟨i, q, k, rfl⟩ : ∃ (i : Fin 22) (q : Fin 8) (k : Fin 256), y = ix3 i q k := ⟨y 0, y 1, y 2, by funext a; match a with | ⟨0, _⟩ => rfl | ⟨1, _⟩ => rfl | ⟨2, _⟩ => rfl⟩
  refine canon_front 22 _ _ ?_ _ ?_
  · simp only [List.take_succ_cons, List.take_zero, View.PiecesOf, and_true]
    repeat' apply And.intro
    all_goals exact fun x => kept_off _ _ _ _ (by decide) (by decide) _ _ x
  · simp only [List.take_succ_cons, List.take_zero]
    exact View.cover_of_tiledL (s := S22x8x256) _ S1x8x256.size (by sl_kernel_rfl) _

theorem kept_A (h : t.val % 32 = 0) : (outsAt0 m c t.val t.isLt).2 = kept (iblk m c 0 t) (iblk m c 1 t) := by
  rw [outsAt0_A m c t h]
  dsimp only
  frame_open
  simp (disch := decide) only [↓ View.readCov_skip, ↓ View.readCov_fill]
  frame_out
  simp only [tails0, tails1, tails2, ups0, ups1, ups2]
  funext y
  obtain ⟨i, q, k, rfl⟩ : ∃ (i : Fin 22) (q : Fin 8) (k : Fin 256), y = ix3 i q k := ⟨y 0, y 1, y 2, by funext a; match a with | ⟨0, _⟩ => rfl | ⟨1, _⟩ => rfl | ⟨2, _⟩ => rfl⟩
  refine canon_front 22 _ _ ?_ _ ?_
  · simp only [List.take_succ_cons, List.take_zero, View.PiecesOf, and_true]
    repeat' apply And.intro
    all_goals exact fun x => kept_off _ _ _ _ (by decide) (by decide) _ _ x
  · simp only [List.take_succ_cons, List.take_zero]
    exact View.cover_of_tiledL (s := S22x8x256) _ S1x8x256.size (by sl_kernel_rfl) _

end Cert.Proof.Ffn

end
-- ==== Proof.Ffn.Rows.lean ====
/-
  The feed-forward kernel's body at one row.
-/
module

public import proofs.«01_k».proof.Proof.Ffn.Kept

@[expose] public section

set_option maxRecDepth 16384

noncomputable section

namespace Cert.Proof.Ffn

open Cert.FfnIdeal Cert.FfnIdeal.Gen
open Idealize.ShloMosaic Idealize.ShloMosaic.TcCoe Idealize.ShloMosaic.Tactic
open Cert.Proof.Merge (centred logi)

/-- A column of a block's rows, so many rows back: the rows kept of the block before stand before the first. -/
def back (u : Fin 256 → EReal) (p : Fin 8 → EReal) (d : ℕ) (hd : d ≤ 8) (r : Fin 256) : EReal :=
  if h : r.val < d then p ⟨8 + r.val - d, by omega⟩ else u ⟨r.val - d, by omega⟩

/-- The convolution of a column over a block's rows. -/
def bconv (u : Fin 256 → EReal) (p : Fin 8 → EReal) (w : Fin 8 → EReal) (r : Fin 256) : EReal :=
  w 3 + w 2 * u r + w 1 * back u p 1 (by decide) r + w 0 * back u p 2 (by decide) r

theorem up_eq (v : FVec Ideal S256x1024 .bf16) (w : FVec Ideal S1024x256 .bf16) (r j : Fin 256) : up v w (ix2 r j) = ∑ k, v (ix2 r k) * w (ix2 k j) := by
  unfold up
  pointwise [k0_pay18]

theorem h_eq (x : FVec Ideal S1x256x1024 .f32) (r : Fin 256) (k : Fin 1024) : (k0_pay4 (F := Ideal) x (ix2 r k) : EReal) = x (ix3 0 r k) := by
  pointwise [k0_pay4, k0_pay3]

theorem tail_eq (u : FVec Ideal S256x256 .f32) (q : Fin 8) (j : Fin 256) : tail u (ix3 0 q j) = u (ix2 ⟨248 + q.val, by omega⟩ j) := by
  unfold tail
  pointwise [k0_pay58, k0_pay57]

theorem total_eq (h : FVec Ideal S1x256x1024 .f32) (f : FVec Ideal S256x1024 .f32) (r : Fin 256) (j : Fin 1024) : total h f (ix2 r j)
    = Ideal.ofBits .f32 0x3FB504F3#32 * h (ix3 0 r j) + f (ix2 r j) := by
  unfold total
  pointwise [k0_pay3]

theorem normed_eq (x : FVec Ideal S256x1024 .f32) (g b : FVec Ideal S1x1024 .f32) (r : Fin 256) (j : Fin 1024) : normed x g b (ix3 0 r j)
    = Merge.norm (fun k => x (ix2 r k)) (fun k => g (ix2 0 k)) (fun k => b (ix2 0 k)) j := by
  unfold normed Merge.norm centred
  pointwise [k0_pay1, k0_pay153, k0_pay154]

theorem before (d : ℕ) (hd : d = 1 ∨ d = 2) (u : Fin 256 → EReal) (p : Fin 8 → EReal) (r : Fin 256) (h1 h2 h3) :
    (if h : r.val < 8 then Scalar.select (IntOp.cmpi .slt (BitVec.ofNat 32 r.val) (BitVec.ofNat 32 d)) (p ⟨(r.val + 8 - d) % 8, h1⟩) (u ⟨(r.val + 256 - d) % 256, h2⟩)
      else u ⟨(8 + (r.val - 8) + 256 - d) % 256, h3⟩) = back u p d (by omega) r := by
  unfold back
  by_cases h8 : r.val < 8
  · rw [dif_pos h8]
    have e : IntOp.cmpi .slt (BitVec.ofNat 32 r.val) (BitVec.ofNat 32 d) = if r.val < d then 1#1 else 0#1 := by
      rcases hd with rfl | rfl
      · exact (by decide : ∀ q : Fin 8, IntOp.cmpi .slt (BitVec.ofNat 32 q.val) (BitVec.ofNat 32 1) = if q.val < 1 then 1#1 else 0#1) ⟨r.val, h8⟩
      · exact (by decide : ∀ q : Fin 8, IntOp.cmpi .slt (BitVec.ofNat 32 q.val) (BitVec.ofNat 32 2) = if q.val < 2 then 1#1 else 0#1) ⟨r.val, h8⟩
    rw [e]
    by_cases h : r.val < d
    · rw [if_pos h, dif_pos h]
      simp only [Scalar.select]
      exact congrArg p (Fin.ext (by show (r.val + 8 - d) % 8 = 8 + r.val - d; omega))
    · rw [if_neg h, dif_neg h]
      simp only [Scalar.select]
      exact congrArg u (Fin.ext (by show (r.val + 256 - d) % 256 = r.val - d; omega))
  · rw [dif_neg h8, dif_neg (by omega)]
    exact congrArg u (Fin.ext (by show (8 + (r.val - 8) + 256 - d) % 256 = r.val - d; omega))

theorem gate_eq (u : FVec Ideal S256x256 .f32) (p : FVec Ideal S1x8x256 .f32) (c : FVec Ideal S8x256 .f32) (r j : Fin 256) : gate rows u p c (ix2 r j)
    = bconv (fun r => u (ix2 r j)) (fun q => p (ix3 0 q j)) (fun a => c (ix2 a j)) r * logi (bconv (fun r => u (ix2 r j)) (fun q => p (ix3 0 q j)) (fun a => c (ix2 a j)) r) := by
  have e1 := before 1 (.inl rfl) (fun r => u (ix2 r j)) (fun q => p (ix3 0 q j)) r
  have e2 := before 2 (.inr rfl) (fun r => u (ix2 r j)) (fun q => p (ix3 0 q j)) r
  unfold gate logi bconv rows
  rw [← e1 (by omega) (by omega) (by omega), ← e2 (by omega) (by omega) (by omega)]
  pointwise [k0_pay55, k0_pay56]
  rw [zero_sub]

theorem add_eq (f : FVec Ideal S256x1024 .f32) (a u : FVec Ideal S256x256 .f32) (p : FVec Ideal S1x8x256 .f32) (c : FVec Ideal S8x256 .f32) (d : FVec Ideal S1x256x1024 .bf16)
    (r : Fin 256) (j : Fin 1024) : add rows f a u p c d (ix2 r j)
    = f (ix2 r j) + ∑ k, a (ix2 r k) * bconv (fun r => u (ix2 r k)) (fun q => p (ix3 0 q k)) (fun a => c (ix2 a k)) r * d (ix3 0 k j) := by
  have e1 := fun j => before 1 (.inl rfl) (fun r => u (ix2 r j)) (fun q => p (ix3 0 q j)) r
  have e2 := fun j => before 2 (.inr rfl) (fun r => u (ix2 r j)) (fun q => p (ix3 0 q j)) r
  unfold add rows
  pointwise [k0_pay59, k0_pay56]
  refine congrArg (f (ix2 r j) + ·) (Finset.sum_congr rfl fun k _ => ?_)
  unfold bconv
  rw [← e1 k (by omega) (by omega) (by omega), ← e2 k (by omega) (by omega) (by omega)]

/-! ## The chunks' columns -/

/-- A column of a chunk among all. -/
abbrev col (i : Fin 22) (k : Fin 256) : Fin 5632 := ⟨256 * i.val + k.val, by omega⟩

section
variable (x0 : Vec Ideal S1x256x1024 .f32) (x1 : Vec Ideal S1024x5632 .bf16) (x2 : Vec Ideal S8x5632 .f32) (x3 : Vec Ideal S11x256x1024 .bf16)
  (x4 x5 : Vec Ideal S1x1024 .f32) (p : Fin 22 → Vec Ideal S1x8x256 .f32)

theorem wcol_at (i : Fin 22) (k : Fin 1024) (j : Fin 256) : wcol x1 i (ix2 k j) = x1 (ix2 k (col i j)) := by
  refine congrArg x1 ?_
  funext a
  match a with
  | ⟨0, _⟩ => exact Fin.ext (by simp [ix2])
  | ⟨1, _⟩ => exact Fin.ext (by simp [ix2])
theorem ccol_at (i : Fin 22) (k : Fin 8) (j : Fin 256) : ccol x2 i (ix2 k j) = x2 (ix2 k (col i j)) := by
  refine congrArg x2 ?_
  funext a
  match a with
  | ⟨0, _⟩ => exact Fin.ext (by simp [ix2])
  | ⟨1, _⟩ => exact Fin.ext (by simp [ix2])
theorem drow_at (i : Fin 11) (k : Fin 256) (j : Fin 1024) : drow x3 i (ix3 0 k j) = x3 (ix3 i k j) := by
  refine congrArg x3 ?_
  funext a
  match a with
  | ⟨0, _⟩ => exact Fin.ext (by simp [ix3])
  | ⟨1, _⟩ => exact Fin.ext (by simp [ix3])
  | ⟨2, _⟩ => exact Fin.ext (by simp [ix3])
theorem crow_at (s : Vec Ideal S22x8x256 .f32) (i : Fin 22) (q : Fin 8) (k : Fin 256) : crow s i (ix3 0 q k) = s (ix3 i q k) := by
  refine congrArg s ?_
  funext a
  match a with
  | ⟨0, _⟩ => exact Fin.ext (by simp [ix3])
  | ⟨1, _⟩ => exact Fin.ext (by simp [ix3])
  | ⟨2, _⟩ => exact Fin.ext (by simp [ix3])

/-- A projected column at a row. -/
def ucol (n : Fin 5632) (r : Fin 256) : EReal := ∑ k, x0 (ix3 0 r k) * x1 (ix2 k n)

/-- It after the convolution. -/
def bcol (i : Fin 22) (k : Fin 256) (r : Fin 256) : EReal := bconv (ucol x0 x1 (col i k)) (fun q => p i (ix3 0 q k)) (fun a => x2 (ix2 a (col i k))) r

theorem ucol_eq (i : Fin 22) (r k : Fin 256) : up (k0_pay4 x0) (wcol x1 i) (ix2 r k) = ucol x0 x1 (col i k) r := by
  rw [up_eq]
  unfold ucol
  simp only [h_eq, wcol_at]

theorem kept_eq (i : Fin 22) (q : Fin 8) (k : Fin 256) : kept x0 x1 (ix3 i q k) = ucol x0 x1 (col i k) ⟨248 + q.val, by omega⟩ :=
  (tail_eq _ q k).trans (ucol_eq x0 x1 i _ k)

theorem chunk_eq (f : FVec Ideal S256x1024 .f32) (i : Fin 11) (r : Fin 256) (j : Fin 1024) : chunk x0 x1 x2 x3 p f i (ix2 r j)
    = f (ix2 r j) + ∑ k, act (bcol x0 x1 x2 p ⟨i.val, by omega⟩ k r) (bcol x0 x1 x2 p ⟨11 + i.val, by omega⟩ k r) * x3 (ix3 i k j) := by
  unfold chunk
  rw [add_eq]
  refine congrArg (f (ix2 r j) + ·) (Finset.sum_congr rfl fun k _ => ?_)
  rw [gate_eq, drow_at]
  simp only [ucol_eq, ccol_at]
  rfl

theorem acc_eq (r : Fin 256) (j : Fin 1024) : acc x0 x1 x2 x3 p (ix2 r j)
    = ∑ i : Fin 11, ∑ k, act (bcol x0 x1 x2 p ⟨i.val, by omega⟩ k r) (bcol x0 x1 x2 p ⟨11 + i.val, by omega⟩ k r) * x3 (ix3 i k j) := by
  have e : (k0_pay5 (F := Ideal) (ix2 r j) : EReal) = 0 := by pointwise [k0_pay5]
  unfold acc
  simp only [chunk_eq, e]
  generalize hS : (fun i : Fin 11 => ∑ k, act (bcol x0 x1 x2 p ⟨i.val, by omega⟩ k r) (bcol x0 x1 x2 p ⟨11 + i.val, by omega⟩ k r) * x3 (ix3 i k j)) = S
  have hS' := congrFun hS
  simp only [hS', Fin.sum_univ_castSucc, Finset.univ_eq_empty, Finset.sum_empty]
  rfl

theorem block_eq (r : Fin 256) (j : Fin 1024) : block x0 x1 x2 x3 x4 x5 p (ix3 0 r j)
    = Merge.norm (fun j => Ideal.ofBits .f32 0x3FB504F3#32 * x0 (ix3 0 r j)
        + ∑ i : Fin 11, ∑ k, act (bcol x0 x1 x2 p ⟨i.val, by omega⟩ k r) (bcol x0 x1 x2 p ⟨11 + i.val, by omega⟩ k r) * x3 (ix3 i k j))
      (fun k => x4 (ix2 0 k)) (fun k => x5 (ix2 0 k)) j := by
  unfold block
  rw [normed_eq]
  simp only [total_eq, acc_eq]

end

/-! ## A block's columns are the whole's -/

theorem chunks (F : Fin 2816 → EReal) : ∑ k, F k = ∑ i : Fin 11, ∑ k : Fin 256, F ⟨256 * i.val + k.val, by omega⟩ := by
  rw [← Equiv.sum_comp (finProdFinEquiv : Fin 11 × Fin 256 ≃ Fin (11 * 256)) F, Fintype.sum_prod_type]
  refine Finset.sum_congr rfl fun i _ => Finset.sum_congr rfl fun k _ => congrArg F (Fin.ext ?_)
  show k.val + 256 * i.val = 256 * i.val + k.val
  omega

theorem back_past (U : Fin 8192 → EReal) (n : ℕ) (hn : n < 32) (P : Fin 8 → EReal) (h0 : n = 0 → ∀ q, P q = 0)
    (h1 : ∀ (h : 0 < n) (q : Fin 8), P q = U ⟨256 * n + q.val - 8, by omega⟩) (d : ℕ) (hd : d ≤ 8) (r : Fin 256) :
    back (fun r => U ⟨256 * n + r.val, by omega⟩) P d hd r = past U d ⟨256 * n + r.val, by omega⟩ := by
  unfold back past
  by_cases h : r.val < d
  · rw [dif_pos h]
    by_cases hz : n = 0
    · rw [h0 hz, dif_neg (by show ¬ d ≤ 256 * n + r.val; omega)]
    · rw [h1 (by omega), dif_pos (by show d ≤ 256 * n + r.val; omega)]
      exact congrArg U (Fin.ext (by show 256 * n + (8 + r.val - d) - 8 = 256 * n + r.val - d; omega))
  · rw [dif_neg h, dif_pos (by show d ≤ 256 * n + r.val; omega)]
    exact congrArg U (Fin.ext (by show 256 * n + (r.val - d) = 256 * n + r.val - d; omega))

theorem bconv_conv (U : Fin 8192 → EReal) (n : ℕ) (hn : n < 32) (P : Fin 8 → EReal) (h0 : n = 0 → ∀ q, P q = 0)
    (h1 : ∀ (h : 0 < n) (q : Fin 8), P q = U ⟨256 * n + q.val - 8, by omega⟩) (w : Fin 8 → EReal) (r : Fin 256) :
    bconv (fun r => U ⟨256 * n + r.val, by omega⟩) P w r = conv U (w 0) (w 1) (w 2) (w 3) ⟨256 * n + r.val, by omega⟩ := by
  unfold bconv conv
  rw [back_past U n hn P h0 h1, back_past U n hn P h0 h1]
  have e : ∀ a b c d : EReal, a + b + c + d = a + d + c + b := fun a b c d => by rw [add_right_comm (a + b) c d, add_right_comm a b d, add_right_comm (a + d) b c]
  exact e _ _ _ _

end Cert.Proof.Ffn

end
-- ==== Proof.Ffn.Value.lean ====
/-
  The feed-forward kernel's result is the reference's.
-/
module

public import proofs.«01_k».proof.Proof.Ffn.Rows

@[expose] public section

set_option maxRecDepth 16384

noncomputable section

namespace Cert.Proof.Ffn

open Cert.FfnIdeal Cert.FfnIdeal.Gen
open Idealize.ShloMosaic Idealize.ShloMosaic.TcCoe Idealize.ShloMosaic.Tactic

variable (m : (ℓ : Loc nD τ sig) → Buf (Elt Ideal) ℓ) (c : Dev nD)

abbrev A0 : FVec Ideal S2x8192x1024 .f32 := m ((c : Thread nD τ).loc main_arg0)
abbrev A1 : FVec Ideal S1024x5632 .f32 := m ((c : Thread nD τ).loc main_arg1)
abbrev A2 : FVec Ideal S3x5632 .f32 := m ((c : Thread nD τ).loc main_arg2)
abbrev A3 : FVec Ideal S5632 .f32 := m ((c : Thread nD τ).loc main_arg3)
abbrev A4 : FVec Ideal S2816x1024 .f32 := m ((c : Thread nD τ).loc main_arg4)
abbrev A5 : FVec Ideal S1024 .f32 := m ((c : Thread nD τ).loc main_arg5)
abbrev A6 : FVec Ideal S1024 .f32 := m ((c : Thread nD τ).loc main_arg6)

/-! ## What the kernel finds in its operands -/

theorem v3 (k : Fin 1024) (j : Fin 5632) : (V m c main_v3 (ix2 k j) : EReal) = A1 m c (ix2 k j) := by
  unfold V
  after_reads_at
theorem v2_tap (a : Fin 3) (j : Fin 5632) : (V m c main_v2 (ix2 ⟨a.val, by omega⟩ j) : EReal) = A2 m c (ix2 a j) := by
  unfold V
  after_reads_at
theorem v2_bias (j : Fin 5632) : (V m c main_v2 (ix2 3 j) : EReal) = A3 m c (ix1 j) := by
  unfold V
  after_reads_at
  after_reads_at
theorem v5 (i : Fin 11) (k : Fin 256) (j : Fin 1024) : (V m c main_v5 (ix3 i k j) : EReal) = A4 m c (ix2 ⟨256 * i.val + k.val, by omega⟩ j) := by
  unfold V
  after_reads_at
  exact congrArg (fun n => A4 m c (ix2 n j)) (Fin.ext (by show i.val * 256 + k.val = 256 * i.val + k.val; omega))
theorem v6 (j : Fin 1024) : (V m c main_v6 (ix2 0 j) : EReal) = A5 m c (ix1 j) := by
  unfold V
  after_reads_at
theorem v7 (j : Fin 1024) : (V m c main_v7 (ix2 0 j) : EReal) = A6 m c (ix1 j) := by
  unfold V
  after_reads_at

theorem idx0 : ∀ t : Fin cfg0.N, win0_0.index t = ![t.val / 32, t.val % 32, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val / 32, t.val % 32, 0] := (by decide +kernel : ∀ t : Fin grid0.N, _)

theorem lt_N (t : Fin cfg0.N) : t.val < 64 := t.isLt

/-- The batch row and the token of a point's row. -/
abbrev bt (t : Fin cfg0.N) : Fin 2 := ⟨t.val / 32, by have := lt_N t; omega⟩
abbrev tok (t : Fin cfg0.N) (r : Fin 256) : Fin 8192 := ⟨256 * (t.val % 32) + r.val, by omega⟩

variable (t : Fin cfg0.N)

theorem b0 (r : Fin 256) (k : Fin 1024) : (iblk m c 0 t (ix3 0 r k) : EReal) = A0 m c (ix3 (bt t) (tok t r) k) := by
  refine Eq.trans ?_ (congrFun (V_main_arg0 m c) _)
  blk_ext [iblk, idx0 t]
theorem b1 (k : Fin 1024) (j : Fin 5632) : (iblk m c 1 t (ix2 k j) : EReal) = A1 m c (ix2 k j) := by
  rw [← v3]
  blk_ext [iblk, idx1 t]
theorem b2_tap (a : Fin 3) (j : Fin 5632) : (iblk m c 2 t (ix2 ⟨a.val, by omega⟩ j) : EReal) = A2 m c (ix2 a j) := by
  rw [← v2_tap]
  blk_ext [iblk, idx2 t]
theorem b2_bias (j : Fin 5632) : (iblk m c 2 t (ix2 3 j) : EReal) = A3 m c (ix1 j) := by
  rw [← v2_bias]
  blk_ext [iblk, idx2 t]
theorem b3 (i : Fin 11) (k : Fin 256) (j : Fin 1024) : (iblk m c 3 t (ix3 i k j) : EReal) = A4 m c (ix2 ⟨256 * i.val + k.val, by omega⟩ j) := by
  rw [← v5]
  blk_ext [iblk, idx3 t]
theorem b4 (j : Fin 1024) : (iblk m c 4 t (ix2 0 j) : EReal) = A5 m c (ix1 j) := by
  rw [← v6]
  blk_ext [iblk, idx4 t]
theorem b5 (j : Fin 1024) : (iblk m c 5 t (ix2 0 j) : EReal) = A6 m c (ix1 j) := by
  rw [← v7]
  blk_ext [iblk, idx5 t]

/-- The reference's result of the kernel's arguments. -/
def G : FVec Ideal S2x8192x1024 .f32 := Cert.FfnReferenceIdeal.Read.val_main_v56 (F := Ideal) (A0 m c) (A1 m c) (A2 m c) (A3 m c) (A4 m c) (A5 m c) (A6 m c)

/-- A projected column over the tokens, and after the convolution. -/
def U (b : Fin 2) (n : Fin 5632) (s : Fin 8192) : EReal := ∑ k, A0 m c (ix3 b s k) * A1 m c (ix2 k n)
def C (b : Fin 2) (n : Fin 5632) (s : Fin 8192) : EReal := conv (U m c b n) (A2 m c (ix2 0 n)) (A2 m c (ix2 1 n)) (A2 m c (ix2 2 n)) (A3 m c (ix1 n)) s

theorem G_at (b : Fin 2) (s : Fin 8192) (j : Fin 1024) : G m c (ix3 b s j) = Merge.norm (fun j => Ideal.ofBits .f32 0x3FB504F3#32 * A0 m c (ix3 b s j)
      + ∑ k : Fin 2816, act (C m c b ⟨k.val, by omega⟩ s) (C m c b ⟨2816 + k.val, by omega⟩ s) * A4 m c (ix2 k j))
    (fun k => A5 m c (ix1 k)) (fun k => A6 m c (ix1 k)) j := by
  unfold G C U
  rw [Ref.norm_at]
  simp only [Ref.resid_at, Ref.act_at, Ref.conv_at, Ref.up_at]

/-! ## What a point finds of the block before -/

theorem ucol_U (n : Fin 5632) (r : Fin 256) : ucol (iblk m c 0 t) (iblk m c 1 t) n r = U m c (bt t) n (tok t r) := by
  unfold ucol U
  simp only [b0, b1]

theorem kept_t : (outsAt0 m c t.val t.isLt).2 = kept (iblk m c 0 t) (iblk m c 1 t) := by
  by_cases h : t.val % 32 = 0
  · exact kept_A m c t h
  · exact kept_B m c t h

/-- The rows a point finds, by whether it is a batch row's first. -/
def found : Fin 22 → Vec Ideal S1x8x256 .f32 :=
  if t.val % 32 = 0 then crow (k0_pay2 (F := Ideal)) else crow (outsAt0 m c (t.val - 1) (Nat.lt_of_le_of_lt (Nat.sub_le _ _) t.isLt)).2

theorem found_zero (h : t.val % 32 = 0) (i : Fin 22) (q : Fin 8) (k : Fin 256) : found m c t i (ix3 0 q k) = 0 := by
  unfold found
  rw [if_pos h, crow_at]
  pointwise [k0_pay2]

theorem found_pos (h : 0 < t.val % 32) (i : Fin 22) (q : Fin 8) (k : Fin 256) : found m c t i (ix3 0 q k) = U m c (bt t) (col i k) ⟨256 * (t.val % 32) + q.val - 8, by omega⟩ := by
  unfold found
  rw [if_neg (by omega), crow_at]
  have e := kept_t m c ⟨t.val - 1, Nat.lt_of_le_of_lt (Nat.sub_le _ _) t.isLt⟩
  refine (congrFun e _).trans ?_
  rw [kept_eq, ucol_U]
  have hb : bt ⟨t.val - 1, Nat.lt_of_le_of_lt (Nat.sub_le _ _) t.isLt⟩ = bt t := Fin.ext (by show (t.val - 1) / 32 = t.val / 32; omega)
  have hs : tok ⟨t.val - 1, Nat.lt_of_le_of_lt (Nat.sub_le _ _) t.isLt⟩ ⟨248 + q.val, by omega⟩ = ⟨256 * (t.val % 32) + q.val - 8, by omega⟩ :=
    Fin.ext (by show 256 * ((t.val - 1) % 32) + (248 + q.val) = 256 * (t.val % 32) + q.val - 8; omega)
  rw [hb, hs]

theorem bcol_C (i : Fin 22) (k r : Fin 256) : bcol (iblk m c 0 t) (iblk m c 1 t) (iblk m c 2 t) (found m c t) i k r = C m c (bt t) (col i k) (tok t r) := by
  unfold bcol C
  have e : ucol (iblk m c 0 t) (iblk m c 1 t) (col i k) = fun r => U m c (bt t) (col i k) ⟨256 * (t.val % 32) + r.val, by omega⟩ := funext fun r => ucol_U m c t _ r
  rw [e, bconv_conv (U m c (bt t) (col i k)) (t.val % 32) (by omega) _ (fun h q => found_zero m c t h i q k) (fun h q => found_pos m c t h i q k)]
  have h0 := b2_tap m c t 0 (col i k)
  have h1 := b2_tap m c t 1 (col i k)
  have h2 := b2_tap m c t 2 (col i k)
  have h3 := b2_bias m c t (col i k)
  exact congr (congr (congr (congr (congrArg (conv (U m c (bt t) (col i k))) h0) h1) h2) h3) rfl

/-- The block a point leaves. -/
theorem after_eq (r : Fin 256) (j : Fin 1024) : ((dats m 0 c).after 6 t (ix3 0 r j) : EReal) = G m c (ix3 (bt t) (tok t r) j) := by
  have e : (outsAt0 m c t.val t.isLt).1 = block (iblk m c 0 t) (iblk m c 1 t) (iblk m c 2 t) (iblk m c 3 t) (iblk m c 4 t) (iblk m c 5 t) (found m c t) := by
    unfold found
    by_cases h : t.val % 32 = 0
    · rw [if_pos h]
      exact block_A m c t h
    · rw [if_neg h]
      exact block_B m c t h
  rw [after0_6, e, block_eq, G_at]
  simp only [bcol_C, b0, b3, b4, b5]
  congr 1
  funext j
  rw [chunks]
  refine congrArg (_ + ·) (Finset.sum_congr rfl fun i _ => Finset.sum_congr rfl fun k _ => ?_)
  have hc : col ⟨11 + i.val, by omega⟩ k = ⟨2816 + (256 * i.val + k.val), by omega⟩ := Fin.ext (by show 256 * (11 + i.val) + k.val = 2816 + (256 * i.val + k.val); omega)
  rw [hc]

theorem out_eq : (dats m 0 c).arrAt 6 cfg0.N = G m c := by
  refine (dats m 0 c).arrAt_eq_of_covers 6 (G m c) (by decide +kernel) fun t _ y => ?_
  blk_simp
  obtain ⟨z, r, j, rfl⟩ : ∃ (z : Fin 1) (r : Fin 256) (j : Fin 1024), y = ix3 z r j := ⟨y 0, y 1, y 2, by funext a; match a with | ⟨0, _⟩ => rfl | ⟨1, _⟩ => rfl | ⟨2, _⟩ => rfl⟩
  obtain rfl : z = 0 := Subsingleton.elim _ _
  refine (after_eq m c t r j).trans ?_
  blk_ext [idx6 t]

end Cert.Proof.Ffn

end
-- ==== Proof.Ffn.Claims.lean ====
/-
  The claims of the feed-forward call.
-/
module

public import proofs.«01_k».proof.Defs
public import proofs.«01_k».proof.Proof.Ffn.Value
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnReferenceIdeal
public import Idealize.ShloMosaic.Adequacy
public import Idealize.ShloMosaic.Init

@[expose] public section

noncomputable section

namespace Cert.Proof.Ffn

open Idealize.ShloMosaic Idealize.ShloMosaic.TcCoe Idealize.ShloMosaic.Tactic
open Idealize.SL.Sem

/-- The call at bit patterns terminates and keeps its arguments. -/
theorem frame_P : Cert.quiescent_Ffn := fun m g _ => Cert.Ffn.Gen.frame m g

/-- So does the call at extended reals. -/
theorem frame_PI : Cert.quiescent_FfnIdeal := fun m g _ => Cert.FfnIdeal.Gen.frame m g

/-- So does its reference. -/
theorem frame_R : Cert.quiescent_FfnReferenceIdeal := fun m g _ =>
  (θ_run _ _ _).mono (fun r h => ⟨fun c => (h c).2, sem_eq_zero_of_no_sems rfl _⟩) (Cert.FfnReferenceIdeal.Value.run m g)

/-- The call computes its reference's result at the extended reals. -/
theorem value : Cert.algebraic_FfnIdeal_FfnReferenceIdeal := fun m g m' g' _ ha =>
  ⟨fun c => G m c,
    (θ_run _ _ _).mono (fun _ h c => ⟨(h c).1.trans (out_eq m c), (h c).2⟩) (Cert.FfnIdeal.Value.run_blocks m g),
    (θ_run _ _ _).mono (fun _ h c => ⟨(h c).1.trans ((Cert.FfnReferenceIdeal.Read.val_main_v56_eq m' c).trans (by
        obtain ⟨h0, h1, h2, h3, h4, h5, h6⟩ := ha c
        rw [h0, h1, h2, h3, h4, h5, h6]
        rfl)), (h c).2⟩) (Cert.FfnReferenceIdeal.Value.run m' g')⟩

end Cert.Proof.Ffn

end
-- ==== Proof.lean ====
/-
  The claims of this directory: the sparse attention's programs, and with the merge's and the feed-forward's the whole.
-/
module

public import proofs.«01_k».proof.Defs
public import proofs.«01_k».proof.Proof.NSA.P.Run
public import proofs.«01_k».proof.Proof.NSA.PI.Run
public import proofs.«01_k».proof.Proof.NSA.V.Value
public import proofs.«01_k».proof.Proof.Gen.ReferenceIdeal
public import proofs.«01_k».proof.Proof.Gen.ReferenceIdeal.Run
public import proofs.«01_k».proof.Proof.Merge.Claims
public import proofs.«01_k».proof.Proof.Ffn.Claims
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.ShloMosaic.Tactic
open Idealize.SL.Sem

/-- The reference terminates and keeps its arguments. -/
theorem frame_R : Cert.quiescent_ReferenceIdeal := fun m g _ =>
  (θ_run _ _ _).mono (fun r h => ⟨fun c => (h c).2, sem_eq_zero_of_no_sems rfl _⟩) (Cert.ReferenceIdeal.Value.run m g)

/-- The kernel at bit patterns terminates and keeps its arguments. -/
theorem frame_P : Cert.quiescent_Kernel := fun m g _ => NSA.P.frame_run m g

/-- So does the kernel at extended reals. -/
theorem frame_PI : Cert.quiescent_KernelIdeal := fun m g _ => NSA.PI.frame_run m g

/-- The mask is the one constant named. -/
theorem named : Cert.preserves_Kernel_KernelIdeal :=
  IdealRules.named_const.statement Cert.KernelIdeal.κ "mask" .f32 0xF149F2CA#32 ⊥ rfl

/-- The reference's result depends on its arguments alone. -/
theorem same_args {q q' : FVec Ideal Cert.KernelIdeal.S2x2x4x8192x64 .f32} {k k' v v' : FVec Ideal Cert.KernelIdeal.S2x2x511x64 .f32}
    {g g' : FVec Ideal Cert.KernelIdeal.S2x2x4x8192x3 .f32} {b b' : FVec Ideal Cert.KernelIdeal.S32x8 .f32} {n n' : FVec Ideal Cert.KernelIdeal.S_ .f32}
    (hq : q = q') (hk : k = k') (hv : v = v') (hg : g = g') (hb : b = b') (hn : n = n') :
    NSA.V.Ref.outp g (NSA.V.Ref.probs NSA.V.Ref.dist (NSA.V.Ref.expo (NSA.V.Ref.logits NSA.V.Ref.dist q k (NSA.V.Ref.bias b (NSA.V.Ref.row (NSA.V.Ref.bucket NSA.V.Ref.dist))) n)
        (NSA.V.Ref.top (NSA.V.Ref.logits NSA.V.Ref.dist q k (NSA.V.Ref.bias b (NSA.V.Ref.row (NSA.V.Ref.bucket NSA.V.Ref.dist))) n)))) v
      = NSA.V.Ref.outp g' (NSA.V.Ref.probs NSA.V.Ref.dist (NSA.V.Ref.expo (NSA.V.Ref.logits NSA.V.Ref.dist q' k' (NSA.V.Ref.bias b' (NSA.V.Ref.row (NSA.V.Ref.bucket NSA.V.Ref.dist))) n')
        (NSA.V.Ref.top (NSA.V.Ref.logits NSA.V.Ref.dist q' k' (NSA.V.Ref.bias b' (NSA.V.Ref.row (NSA.V.Ref.bucket NSA.V.Ref.dist))) n')))) v' := by
  subst hq hk hv hg hb hn; rfl

/-- The kernel computes the reference's result at the extended reals, of finite inputs and an infinite mask. -/
theorem value : Cert.algebraic_KernelIdeal_ReferenceIdeal_pre_tame (hPre_tame := NSA.V.tame_facts) := fun m g m' g' hm ha =>
  ⟨fun c => NSA.V.G m c,
    (θ_run _ _ _).mono (fun _ h c => ⟨((h c).1 13).trans (NSA.V.out_eq m (NSA.V.G m) c),
      ((h c).2 Cert.KernelIdeal.main_arg0 (Pipeline.mem_restRefs_of Cert.KernelIdeal.main_arg0 (by decide) (by decide))).trans (Cert.KernelIdeal.Gen.V_main_arg0 m c),
      ((h c).2 Cert.KernelIdeal.main_arg1 (Pipeline.mem_restRefs_of Cert.KernelIdeal.main_arg1 (by decide) (by decide))).trans (Cert.KernelIdeal.Gen.V_main_arg1 m c),
      ((h c).2 Cert.KernelIdeal.main_arg2 (Pipeline.mem_restRefs_of Cert.KernelIdeal.main_arg2 (by decide) (by decide))).trans (Cert.KernelIdeal.Gen.V_main_arg2 m c),
      ((h c).2 Cert.KernelIdeal.main_arg3 (Pipeline.mem_restRefs_of Cert.KernelIdeal.main_arg3 (by decide) (by decide))).trans (Cert.KernelIdeal.Gen.V_main_arg3 m c),
      ((h c).2 Cert.KernelIdeal.main_arg4 (Pipeline.mem_restRefs_of Cert.KernelIdeal.main_arg4 (by decide) (by decide))).trans (Cert.KernelIdeal.Gen.V_main_arg4 m c),
      ((h c).2 Cert.KernelIdeal.main_arg5 (Pipeline.mem_restRefs_of Cert.KernelIdeal.main_arg5 (by decide) (by decide))).trans (Cert.KernelIdeal.Gen.V_main_arg5 m c),
      ((h c).2 Cert.KernelIdeal.main_arg6 (Pipeline.mem_restRefs_of Cert.KernelIdeal.main_arg6 (by decide) (by decide))).trans (Cert.KernelIdeal.Gen.V_main_arg6 m c),
      ((h c).2 Cert.KernelIdeal.main_arg7 (Pipeline.mem_restRefs_of Cert.KernelIdeal.main_arg7 (by decide) (by decide))).trans (Cert.KernelIdeal.Gen.V_main_arg7 m c),
      ((h c).2 Cert.KernelIdeal.main_arg8 (Pipeline.mem_restRefs_of Cert.KernelIdeal.main_arg8 (by decide) (by decide))).trans (Cert.KernelIdeal.Gen.V_main_arg8 m c),
      ((h c).2 Cert.KernelIdeal.main_arg9 (Pipeline.mem_restRefs_of Cert.KernelIdeal.main_arg9 (by decide) (by decide))).trans (Cert.KernelIdeal.Gen.V_main_arg9 m c)⟩)
      (NSA.V.run_exact m g (NSA.V.G m) (NSA.V.point m fun c => NSA.V.tame_of m hm c)),
    (θ_run _ _ _).mono (fun _ h c => ⟨(h c).1.trans ((NSA.V.Ref.res_eq m' c).trans
        (same_args (ha c).1 (ha c).2.1 (ha c).2.2.1 (ha c).2.2.2.2.2.2.2.1 (ha c).2.2.2.2.2.2.2.2.1 (ha c).2.2.2.2.2.2.2.2.2)), (h c).2⟩)
      (Cert.ReferenceIdeal.Value.run m' g')⟩

theorem claim : Cert.Claim :=
  ⟨Cert.Kernel.Gen.facts, Cert.KernelIdeal.Gen.facts, Cert.ReferenceIdeal.Gen.facts, Cert.Merge.Gen.facts, Cert.MergeIdeal.Gen.facts, Cert.MergeReferenceIdeal.Gen.facts,
    Cert.Ffn.Gen.facts, Cert.FfnIdeal.Gen.facts, Cert.FfnReferenceIdeal.Gen.facts, NSA.V.tame_facts, frame_P, frame_PI,
    fun m g _ => NSA.PI.frame_run m g, frame_R, fun m g _ => frame_R m g trivial, Merge.frame_P, Merge.frame_PI, Merge.frame_R, Ffn.frame_P, Ffn.frame_PI, Ffn.frame_R,
    named, value, trivial, Merge.value, trivial, Ffn.value⟩

end Cert.Proof

end
